-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v9_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
-- ==== Pre_finite_scores.lean ====
abbrev S2x4096x16x128 : Shape := ⟨4, ![2, 4096, 16, 128]⟩
abbrev S2x4096x16x64 : Shape := ⟨4, ![2, 4096, 16, 64]⟩
abbrev S2x4096x64 : Shape := ⟨3, ![2, 4096, 64]⟩
abbrev S_ : Shape := ⟨0, ![]⟩

class Facts : Prop where
  bcast_S_S2x4096x16x128 : S_.BroadcastsInDim S2x4096x16x128 (![] : Fin 0 → Fin S2x4096x16x128.rank)
  bcast_S_S2x4096x16x64 : S_.BroadcastsInDim S2x4096x16x64 (![] : Fin 0 → Fin S2x4096x16x64.rank)
  bcast_S_S2x4096x64 : S_.BroadcastsInDim S2x4096x64 (![] : Fin 0 → Fin S2x4096x64.rank)

variable [Facts]

def fn {F : FTy → Type} [FloatOps F] (main_arg0 : FVec F S2x4096x16x128 .f32) (main_arg1 : FVec F S2x4096x16x64 .f32) (main_arg2 : FVec F S2x4096x16x128 .f32) (main_arg3 : FVec F S2x4096x64 .f32) (main_arg4 : FVec F S2x4096x16x128 .f32) : IVec S2x4096x16x128 1 × IVec S2x4096x16x64 1 × IVec S2x4096x16x128 1 × IVec S2x4096x64 1 :=
  let main_v0 : FVec F S2x4096x16x128 .f32 := Host.absf main_arg0
  let main_cst : FVec F S_ .f32 := constant S_ .f32 0x7F800000#32
  let main_v1 : FVec F S2x4096x16x128 .f32 := broadcastInDim S2x4096x16x128 ![] bcast_S_S2x4096x16x128 main_cst
  let main_v2 : IVec S2x4096x16x128 1 := cmpf .olt main_v0 main_v1
  let main_v3 : FVec F S2x4096x16x64 .f32 := Host.absf main_arg1
  let main_cst_0 : FVec F S_ .f32 := constant S_ .f32 0x7F800000#32
  let main_v4 : FVec F S2x4096x16x64 .f32 := broadcastInDim S2x4096x16x64 ![] bcast_S_S2x4096x16x64 main_cst_0
  let main_v5 : IVec S2x4096x16x64 1 := cmpf .olt main_v3 main_v4
  let main_v6 : FVec F S2x4096x16x128 .f32 := Host.absf main_arg2
  let main_cst_1 : FVec F S_ .f32 := constant S_ .f32 0x7F800000#32
  let main_v7 : FVec F S2x4096x16x128 .f32 := broadcastInDim S2x4096x16x128 ![] bcast_S_S2x4096x16x128 main_cst_1
  let main_v8 : IVec S2x4096x16x128 1 := cmpf .olt main_v6 main_v7
  let main_v9 : FVec F S2x4096x64 .f32 := Host.absf main_arg3
  let main_cst_2 : FVec F S_ .f32 := constant S_ .f32 0x7F800000#32
  let main_v10 : FVec F S2x4096x64 .f32 := broadcastInDim S2x4096x64 ![] bcast_S_S2x4096x64 main_cst_2
  let main_v11 : IVec S2x4096x64 1 := cmpf .olt main_v9 main_v10
  (main_v2, main_v5, main_v8, main_v11)
-- ==== Kernel.lean ====
abbrev S2x4096x16x128 : Shape := ⟨4, ![2, 4096, 16, 128]⟩
abbrev S2x4096x16x64 : Shape := ⟨4, ![2, 4096, 16, 64]⟩
abbrev S2x4096x64 : Shape := ⟨3, ![2, 4096, 64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S2x4096x1x64 : Shape := ⟨4, ![2, 4096, 1, 64]⟩
abbrev S8192x64 : Shape := ⟨2, ![8192, 64]⟩
abbrev S8192x128 : Shape := ⟨2, ![8192, 128]⟩
abbrev S8192x16x64 : Shape := ⟨3, ![8192, 16, 64]⟩
abbrev S8192x16x128 : Shape := ⟨3, ![8192, 16, 128]⟩
abbrev S8192x16x32 : Shape := ⟨3, ![8192, 16, 32]⟩
abbrev S8192x1x128 : Shape := ⟨3, ![8192, 1, 128]⟩
abbrev S8192x16x256 : Shape := ⟨3, ![8192, 16, 256]⟩
abbrev S8192x4096 : Shape := ⟨2, ![8192, 4096]⟩
abbrev S2x4096x128 : Shape := ⟨3, ![2, 4096, 128]⟩
abbrev S2x4096x1x128 : Shape := ⟨4, ![2, 4096, 1, 128]⟩
abbrev S2x4096x16x256 : Shape := ⟨4, ![2, 4096, 16, 256]⟩
abbrev S2x8x512x16x128 : Shape := ⟨5, ![2, 8, 512, 16, 128]⟩
abbrev S2x8x16x128x512 : Shape := ⟨5, ![2, 8, 16, 128, 512]⟩
abbrev S2x8x16x16x512 : Shape := ⟨5, ![2, 8, 16, 16, 512]⟩
abbrev S2x8x16x144x512 : Shape := ⟨5, ![2, 8, 16, 144, 512]⟩
abbrev S2x8x2304x512 : Shape := ⟨4, ![2, 8, 2304, 512]⟩
abbrev S8192x2048 : Shape := ⟨2, ![8192, 2048]⟩
abbrev S512x1024 : Shape := ⟨2, ![512, 1024]⟩
abbrev S4096x1024 : Shape := ⟨2, ![4096, 1024]⟩
abbrev S1x8x576x512 : Shape := ⟨4, ![1, 8, 576, 512]⟩
abbrev S512x512 : Shape := ⟨2, ![512, 512]⟩
abbrev S4x1x512 : Shape := ⟨3, ![4, 1, 512]⟩
abbrev S4x144x512 : Shape := ⟨3, ![4, 144, 512]⟩
abbrev S4x512x512 : Shape := ⟨3, ![4, 512, 512]⟩
abbrev S1x512 : Shape := ⟨2, ![1, 512]⟩
abbrev S512x256 : Shape := ⟨2, ![512, 256]⟩
abbrev S1x512x512 : Shape := ⟨3, ![1, 512, 512]⟩
abbrev S1x1x512 : Shape := ⟨3, ![1, 1, 512]⟩
abbrev S512 : Shape := ⟨1, ![512]⟩
abbrev S1x1x144x512 : Shape := ⟨4, ![1, 1, 144, 512]⟩
abbrev S144x512 : Shape := ⟨2, ![144, 512]⟩
abbrev S1x144x512 : Shape := ⟨3, ![1, 144, 512]⟩
abbrev S512x1 : Shape := ⟨2, ![512, 1]⟩
abbrev S1x128x512 : Shape := ⟨3, ![1, 128, 512]⟩
abbrev S128x512 : Shape := ⟨2, ![128, 512]⟩
abbrev S512x128 : Shape := ⟨2, ![512, 128]⟩

abbrev nBuf : Space → Nat
  | .hbm => 69
  | .vmem => 12
  | .smem => 0
  | _ => 0

abbrev bufTy : (tb : Table) → Fin (tcTables nBuf tb) → BufTy
  | .hbm, ⟨0, _⟩ => ⟨S2x4096x16x128, .f32⟩
  | .hbm, ⟨1, _⟩ => ⟨S2x4096x16x64, .f32⟩
  | .hbm, ⟨2, _⟩ => ⟨S2x4096x16x128, .f32⟩
  | .hbm, ⟨3, _⟩ => ⟨S2x4096x64, .f32⟩
  | .hbm, ⟨4, _⟩ => ⟨S2x4096x16x128, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .f32⟩
  | .hbm, ⟨18, _⟩ => ⟨S4096x1, .f32⟩
  | .hbm, ⟨19, _⟩ => ⟨S1x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x64, .f32⟩
  | .hbm, ⟨26, _⟩ => ⟨S1x4096x1x64, .f32⟩
  | .hbm, ⟨27, _⟩ => ⟨S2x4096x1x64, .f32⟩
  | .hbm, ⟨28, _⟩ => ⟨S8192x64, .f32⟩
  | .hbm, ⟨29, _⟩ => ⟨S4096x32, .f32⟩
  | .hbm, ⟨30, _⟩ => ⟨S4096x64, .f32⟩
  | .hbm, ⟨31, _⟩ => ⟨S1x4096x1x64, .f32⟩
  | .hbm, ⟨32, _⟩ => ⟨S2x4096x1x64, .f32⟩
  | .hbm, ⟨33, _⟩ => ⟨S8192x64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S8192x16x64, .f32⟩
  | .hbm, ⟨42, _⟩ => ⟨S2x4096x16x128, .f32⟩
  | .hbm, ⟨43, _⟩ => ⟨S2x4096x16x128, .f32⟩
  | .hbm, ⟨44, _⟩ => ⟨S8192x16x128, .f32⟩
  | .hbm, ⟨45, _⟩ => ⟨S8192x16x32, .f32⟩
  | .hbm, ⟨46, _⟩ => ⟨S8192x16x32, .f32⟩
  | .hbm, ⟨47, _⟩ => ⟨S8192x16x64, .f32⟩
  | .hbm, ⟨48, _⟩ => ⟨S8192x16x128, .f32⟩
  | .hbm, ⟨49, _⟩ => ⟨S8192x1x128, .f32⟩
  | .hbm, ⟨50, _⟩ => ⟨S8192x16x128, .f32⟩
  | .hbm, ⟨51, _⟩ => ⟨S8192x16x128, .f32⟩
  | .hbm, ⟨52, _⟩ => ⟨S8192x16x256, .f32⟩
  | .hbm, ⟨53, _⟩ => ⟨S8192x4096, .f32⟩
  | .hbm, ⟨54, _⟩ => ⟨S8192x4096, .bf16⟩
  | .hbm, ⟨55, _⟩ => ⟨S2x4096x128, .f32⟩
  | .hbm, ⟨56, _⟩ => ⟨S2x4096x1x128, .f32⟩
  | .hbm, ⟨57, _⟩ => ⟨S2x4096x16x128, .f32⟩
  | .hbm, ⟨58, _⟩ => ⟨S2x4096x16x256, .f32⟩
  | .hbm, ⟨59, _⟩ => ⟨S8192x4096, .f32⟩
  | .hbm, ⟨60, _⟩ => ⟨S8192x4096, .bf16⟩
  | .hbm, ⟨61, _⟩ => ⟨S2x8x512x16x128, .f32⟩
  | .hbm, ⟨62, _⟩ => ⟨S2x8x16x128x512, .f32⟩
  | .hbm, ⟨63, _⟩ => ⟨S2x8x16x128x512, .bf16⟩
  | .hbm, ⟨64, _⟩ => ⟨S_, .bf16⟩
  | .hbm, ⟨65, _⟩ => ⟨S2x8x16x16x512, .bf16⟩
  | .hbm, ⟨66, _⟩ => ⟨S2x8x16x144x512, .bf16⟩
  | .hbm, ⟨67, _⟩ => ⟨S2x8x2304x512, .bf16⟩
  | .hbm, ⟨68, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x8x576x512, .bf16⟩
  | .local _ .vmem, ⟨5, _⟩ => ⟨S1x8x576x512, .bf16⟩
  | .local _ .vmem, ⟨6, _⟩ => ⟨S512x512, .bf16⟩
  | .local _ .vmem, ⟨7, _⟩ => ⟨S512x512, .bf16⟩
  | .local _ .vmem, ⟨8, _⟩ => ⟨S4x1x512, .f32⟩
  | .local _ .vmem, ⟨9, _⟩ => ⟨S4x144x512, .f32⟩
  | .local _ .vmem, ⟨10, _⟩ => ⟨S4x512x512, .f32⟩
  | .local _ .vmem, ⟨11, _⟩ => ⟨S4x512x512, .f32⟩
  | _, _ => ⟨S2x4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_3 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def k0_mult1 : BitVec 32 :=
  let c0_i32_47 : BitVec 32 := 0#32
  c0_i32_47
@[reducible] def k0_t1_loop (i : grid0.Coords) : Scf.Loop 32 :=
  let c0_i32_77 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v169 : BitVec 32 := Scalar.subi v168 c0_i32_77
  let c1_i32_78 : BitVec 32 := 1#32
  let v171 : BitVec 32 := Scalar.divsi v169 c1_i32_78
  let v172 : BitVec 32 := Scalar.muli v171 c1_i32_78
  let v173 : BitVec 32 := Scalar.addi c0_i32_77 v172
  let c1_i32_79 : BitVec 32 := 1#32
  ⟨c0_i32_77, v173, c1_i32_79⟩
def k0_mult2 (i : grid0.Coords) (k0_t1 : Fin (k0_t1_loop i).trips) : BitVec 32 :=
  let c2_i32_132 : BitVec 32 := 2#32
  let c0_i32_77 : BitVec 32 := 0#32
  let c1_i32_79 : BitVec 32 := 1#32
  let arg11 : BitVec 32 := Scf.iv c0_i32_77 c1_i32_79 k0_t1
  let v247 : BitVec 32 := Scalar.muli c2_i32_132 arg11
  let c1_i32_133 : BitVec 32 := 1#32
  let v248 : BitVec 32 := Scalar.addi v247 c1_i32_133
  let c512_i32_134 : BitVec 32 := 512#32
  let v249 : BitVec 32 := Scalar.muli v248 c512_i32_134
  v249
def k0_off1 (i : grid0.Coords) (k0_t1 : Fin (k0_t1_loop i).trips) : Fin 2 → Nat :=
  let c2_i32_132 : BitVec 32 := 2#32
  let c0_i32_77 : BitVec 32 := 0#32
  let c1_i32_79 : BitVec 32 := 1#32
  let arg11 : BitVec 32 := Scf.iv c0_i32_77 c1_i32_79 k0_t1
  let v247 : BitVec 32 := Scalar.muli c2_i32_132 arg11
  let c1_i32_133 : BitVec 32 := 1#32
  let v248 : BitVec 32 := Scalar.addi v247 c1_i32_133
  let c512_i32_134 : BitVec 32 := 512#32
  let v249 : BitVec 32 := Scalar.muli v248 c512_i32_134
  let v250 : BitVec 32 := v249
  let v251 : Index := Scalar.indexCast v250
  let c0_135 : Index := 0#32
  ![v251.toNat, 0]
def k0_off2 (i : grid0.Coords) (k0_t1 : Fin (k0_t1_loop i).trips) : Fin 2 → Nat :=
  let c2_i32_132 : BitVec 32 := 2#32
  let c0_i32_77 : BitVec 32 := 0#32
  let c1_i32_79 : BitVec 32 := 1#32
  let arg11 : BitVec 32 := Scf.iv c0_i32_77 c1_i32_79 k0_t1
  let v247 : BitVec 32 := Scalar.muli c2_i32_132 arg11
  let c1_i32_133 : BitVec 32 := 1#32
  let v248 : BitVec 32 := Scalar.addi v247 c1_i32_133
  let c512_i32_134 : BitVec 32 := 512#32
  let v249 : BitVec 32 := Scalar.muli v248 c512_i32_134
  let v250 : BitVec 32 := v249
  let v260 : Index := Scalar.indexCast v250
  let c256_142 : Index := 256#32
  ![v260.toNat, 256]
def k0_off3 (i : grid0.Coords) (k0_t1 : Fin (k0_t1_loop i).trips) : Fin 2 → Nat :=
  let c2_i32_132 : BitVec 32 := 2#32
  let c0_i32_77 : BitVec 32 := 0#32
  let c1_i32_79 : BitVec 32 := 1#32
  let arg11 : BitVec 32 := Scf.iv c0_i32_77 c1_i32_79 k0_t1
  let v247 : BitVec 32 := Scalar.muli c2_i32_132 arg11
  let c1_i32_133 : BitVec 32 := 1#32
  let v248 : BitVec 32 := Scalar.addi v247 c1_i32_133
  let c512_i32_134 : BitVec 32 := 512#32
  let v249 : BitVec 32 := Scalar.muli v248 c512_i32_134
  let v250 : BitVec 32 := v249
  let v269 : Index := Scalar.indexCast v250
  let c512_149 : Index := 512#32
  ![v269.toNat, 512]
def k0_off4 (i : grid0.Coords) (k0_t1 : Fin (k0_t1_loop i).trips) : Fin 2 → Nat :=
  let c2_i32_132 : BitVec 32 := 2#32
  let c0_i32_77 : BitVec 32 := 0#32
  let c1_i32_79 : BitVec 32 := 1#32
  let arg11 : BitVec 32 := Scf.iv c0_i32_77 c1_i32_79 k0_t1
  let v247 : BitVec 32 := Scalar.muli c2_i32_132 arg11
  let c1_i32_133 : BitVec 32 := 1#32
  let v248 : BitVec 32 := Scalar.addi v247 c1_i32_133
  let c512_i32_134 : BitVec 32 := 512#32
  let v249 : BitVec 32 := Scalar.muli v248 c512_i32_134
  let v250 : BitVec 32 := v249
  let v278 : Index := Scalar.indexCast v250
  let c768_156 : Index := 768#32
  ![v278.toNat, 768]
def k0_off5 (i : grid0.Coords) (k0_t1 : Fin (k0_t1_loop i).trips) : Fin 4 → Nat :=
  let c0_170 : Index := 0#32
  let c2_i32_132 : BitVec 32 := 2#32
  let c0_i32_77 : BitVec 32 := 0#32
  let c1_i32_79 : BitVec 32 := 1#32
  let arg11 : BitVec 32 := Scf.iv c0_i32_77 c1_i32_79 k0_t1
  let v247 : BitVec 32 := Scalar.muli c2_i32_132 arg11
  let v300 : Index := Scalar.indexCast v247
  let c0_171 : Index := 0#32
  let c0_172 : Index := 0#32
  ![0, v300.toNat, 0, 0]
def k0_off6 (i : grid0.Coords) (k0_t1 : Fin (k0_t1_loop i).trips) : Fin 4 → Nat :=
  let c0_190 : Index := 0#32
  let c2_i32_132 : BitVec 32 := 2#32
  let c0_i32_77 : BitVec 32 := 0#32
  let c1_i32_79 : BitVec 32 := 1#32
  let arg11 : BitVec 32 := Scf.iv c0_i32_77 c1_i32_79 k0_t1
  let v247 : BitVec 32 := Scalar.muli c2_i32_132 arg11
  let v328 : Index := Scalar.indexCast v247
  let c144 : Index := 144#32
  let c0_191 : Index := 0#32
  ![0, v328.toNat, 144, 0]
def k0_off7 (i : grid0.Coords) (k0_t1 : Fin (k0_t1_loop i).trips) : Fin 4 → Nat :=
  let c0_209 : Index := 0#32
  let c2_i32_132 : BitVec 32 := 2#32
  let c0_i32_77 : BitVec 32 := 0#32
  let c1_i32_79 : BitVec 32 := 1#32
  let arg11 : BitVec 32 := Scf.iv c0_i32_77 c1_i32_79 k0_t1
  let v247 : BitVec 32 := Scalar.muli c2_i32_132 arg11
  let v356 : Index := Scalar.indexCast v247
  let c288 : Index := 288#32
  let c0_210 : Index := 0#32
  ![0, v356.toNat, 288, 0]
def k0_off8 (i : grid0.Coords) (k0_t1 : Fin (k0_t1_loop i).trips) : Fin 4 → Nat :=
  let c0_228 : Index := 0#32
  let c2_i32_132 : BitVec 32 := 2#32
  let c0_i32_77 : BitVec 32 := 0#32
  let c1_i32_79 : BitVec 32 := 1#32
  let arg11 : BitVec 32 := Scf.iv c0_i32_77 c1_i32_79 k0_t1
  let v247 : BitVec 32 := Scalar.muli c2_i32_132 arg11
  let v384 : Index := Scalar.indexCast v247
  let c432 : Index := 432#32
  let c0_229 : Index := 0#32
  ![0, v384.toNat, 432, 0]
def k0_mult3 (i : grid0.Coords) (k0_t1 : Fin (k0_t1_loop i).trips) : BitVec 32 :=
  let c2_i32_132 : BitVec 32 := 2#32
  let c0_i32_77 : BitVec 32 := 0#32
  let c1_i32_79 : BitVec 32 := 1#32
  let arg11 : BitVec 32 := Scf.iv c0_i32_77 c1_i32_79 k0_t1
  let v247 : BitVec 32 := Scalar.muli c2_i32_132 arg11
  let c2_i32_240 : BitVec 32 := 2#32
  let v399 : BitVec 32 := Scalar.addi v247 c2_i32_240
  let c7_i32 : BitVec 32 := 7#32
  let v400 : BitVec 32 := Scalar.minsi v399 c7_i32
  let c512_i32_241 : BitVec 32 := 512#32
  let v401 : BitVec 32 := Scalar.muli v400 c512_i32_241
  v401
def k0_off9 (i : grid0.Coords) (k0_t1 : Fin (k0_t1_loop i).trips) : Fin 2 → Nat :=
  let c2_i32_132 : BitVec 32 := 2#32
  let c0_i32_77 : BitVec 32 := 0#32
  let c1_i32_79 : BitVec 32 := 1#32
  let arg11 : BitVec 32 := Scf.iv c0_i32_77 c1_i32_79 k0_t1
  let v247 : BitVec 32 := Scalar.muli c2_i32_132 arg11
  let c2_i32_240 : BitVec 32 := 2#32
  let v399 : BitVec 32 := Scalar.addi v247 c2_i32_240
  let c7_i32 : BitVec 32 := 7#32
  let v400 : BitVec 32 := Scalar.minsi v399 c7_i32
  let c512_i32_241 : BitVec 32 := 512#32
  let v401 : BitVec 32 := Scalar.muli v400 c512_i32_241
  let v402 : BitVec 32 := v401
  let v403 : Index := Scalar.indexCast v402
  let c0_242 : Index := 0#32
  ![v403.toNat, 0]
def k0_off10 (i : grid0.Coords) (k0_t1 : Fin (k0_t1_loop i).trips) : Fin 2 → Nat :=
  let c2_i32_132 : BitVec 32 := 2#32
  let c0_i32_77 : BitVec 32 := 0#32
  let c1_i32_79 : BitVec 32 := 1#32
  let arg11 : BitVec 32 := Scf.iv c0_i32_77 c1_i32_79 k0_t1
  let v247 : BitVec 32 := Scalar.muli c2_i32_132 arg11
  let c2_i32_240 : BitVec 32 := 2#32
  let v399 : BitVec 32 := Scalar.addi v247 c2_i32_240
  let c7_i32 : BitVec 32 := 7#32
  let v400 : BitVec 32 := Scalar.minsi v399 c7_i32
  let c512_i32_241 : BitVec 32 := 512#32
  let v401 : BitVec 32 := Scalar.muli v400 c512_i32_241
  let v402 : BitVec 32 := v401
  let v412 : Index := Scalar.indexCast v402
  let c256_249 : Index := 256#32
  ![v412.toNat, 256]
def k0_off11 (i : grid0.Coords) (k0_t1 : Fin (k0_t1_loop i).trips) : Fin 2 → Nat :=
  let c2_i32_132 : BitVec 32 := 2#32
  let c0_i32_77 : BitVec 32 := 0#32
  let c1_i32_79 : BitVec 32 := 1#32
  let arg11 : BitVec 32 := Scf.iv c0_i32_77 c1_i32_79 k0_t1
  let v247 : BitVec 32 := Scalar.muli c2_i32_132 arg11
  let c2_i32_240 : BitVec 32 := 2#32
  let v399 : BitVec 32 := Scalar.addi v247 c2_i32_240
  let c7_i32 : BitVec 32 := 7#32
  let v400 : BitVec 32 := Scalar.minsi v399 c7_i32
  let c512_i32_241 : BitVec 32 := 512#32
  let v401 : BitVec 32 := Scalar.muli v400 c512_i32_241
  let v402 : BitVec 32 := v401
  let v421 : Index := Scalar.indexCast v402
  let c512_256 : Index := 512#32
  ![v421.toNat, 512]
def k0_off12 (i : grid0.Coords) (k0_t1 : Fin (k0_t1_loop i).trips) : Fin 2 → Nat :=
  let c2_i32_132 : BitVec 32 := 2#32
  let c0_i32_77 : BitVec 32 := 0#32
  let c1_i32_79 : BitVec 32 := 1#32
  let arg11 : BitVec 32 := Scf.iv c0_i32_77 c1_i32_79 k0_t1
  let v247 : BitVec 32 := Scalar.muli c2_i32_132 arg11
  let c2_i32_240 : BitVec 32 := 2#32
  let v399 : BitVec 32 := Scalar.addi v247 c2_i32_240
  let c7_i32 : BitVec 32 := 7#32
  let v400 : BitVec 32 := Scalar.minsi v399 c7_i32
  let c512_i32_241 : BitVec 32 := 512#32
  let v401 : BitVec 32 := Scalar.muli v400 c512_i32_241
  let v402 : BitVec 32 := v401
  let v430 : Index := Scalar.indexCast v402
  let c768_263 : Index := 768#32
  ![v430.toNat, 768]
def k0_off13 (i : grid0.Coords) (k0_t1 : Fin (k0_t1_loop i).trips) : Fin 4 → Nat :=
  let c0_278 : Index := 0#32
  let c2_i32_132 : BitVec 32 := 2#32
  let c0_i32_77 : BitVec 32 := 0#32
  let c1_i32_79 : BitVec 32 := 1#32
  let arg11 : BitVec 32 := Scf.iv c0_i32_77 c1_i32_79 k0_t1
  let v247 : BitVec 32 := Scalar.muli c2_i32_132 arg11
  let c1_i32_270 : BitVec 32 := 1#32
  let v439 : BitVec 32 := Scalar.addi v247 c1_i32_270
  let v453 : Index := Scalar.indexCast v439
  let c0_279 : Index := 0#32
  let c0_280 : Index := 0#32
  ![0, v453.toNat, 0, 0]
def k0_off14 (i : grid0.Coords) (k0_t1 : Fin (k0_t1_loop i).trips) : Fin 4 → Nat :=
  let c0_298 : Index := 0#32
  let c2_i32_132 : BitVec 32 := 2#32
  let c0_i32_77 : BitVec 32 := 0#32
  let c1_i32_79 : BitVec 32 := 1#32
  let arg11 : BitVec 32 := Scf.iv c0_i32_77 c1_i32_79 k0_t1
  let v247 : BitVec 32 := Scalar.muli c2_i32_132 arg11
  let c1_i32_270 : BitVec 32 := 1#32
  let v439 : BitVec 32 := Scalar.addi v247 c1_i32_270
  let v481 : Index := Scalar.indexCast v439
  let c144_299 : Index := 144#32
  let c0_300 : Index := 0#32
  ![0, v481.toNat, 144, 0]
def k0_off15 (i : grid0.Coords) (k0_t1 : Fin (k0_t1_loop i).trips) : Fin 4 → Nat :=
  let c0_318 : Index := 0#32
  let c2_i32_132 : BitVec 32 := 2#32
  let c0_i32_77 : BitVec 32 := 0#32
  let c1_i32_79 : BitVec 32 := 1#32
  let arg11 : BitVec 32 := Scf.iv c0_i32_77 c1_i32_79 k0_t1
  let v247 : BitVec 32 := Scalar.muli c2_i32_132 arg11
  let c1_i32_270 : BitVec 32 := 1#32
  let v439 : BitVec 32 := Scalar.addi v247 c1_i32_270
  let v509 : Index := Scalar.indexCast v439
  let c288_319 : Index := 288#32
  let c0_320 : Index := 0#32
  ![0, v509.toNat, 288, 0]
def k0_off16 (i : grid0.Coords) (k0_t1 : Fin (k0_t1_loop i).trips) : Fin 4 → Nat :=
  let c0_338 : Index := 0#32
  let c2_i32_132 : BitVec 32 := 2#32
  let c0_i32_77 : BitVec 32 := 0#32
  let c1_i32_79 : BitVec 32 := 1#32
  let arg11 : BitVec 32 := Scf.iv c0_i32_77 c1_i32_79 k0_t1
  let v247 : BitVec 32 := Scalar.muli c2_i32_132 arg11
  let c1_i32_270 : BitVec 32 := 1#32
  let v439 : BitVec 32 := Scalar.addi v247 c1_i32_270
  let v537 : Index := Scalar.indexCast v439
  let c432_339 : Index := 432#32
  let c0_340 : Index := 0#32
  ![0, v537.toNat, 432, 0]
@[reducible] def k0_t2_loop (i : grid0.Coords) : Scf.Loop 32 :=
  let c0_i32_77 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v169 : BitVec 32 := Scalar.subi v168 c0_i32_77
  let c1_i32_78 : BitVec 32 := 1#32
  let v171 : BitVec 32 := Scalar.divsi v169 c1_i32_78
  let v172 : BitVec 32 := Scalar.muli v171 c1_i32_78
  let v173 : BitVec 32 := Scalar.addi c0_i32_77 v172
  let v170 : BitVec 32 := Scalar.addi c0_i32_77 v169
  let c1_i32_80 : BitVec 32 := 1#32
  ⟨v173, v170, c1_i32_80⟩
def k0_mult4 (i : grid0.Coords) (k0_t2 : Fin (k0_t2_loop i).trips) : BitVec 32 :=
  let c2_i32_132 : BitVec 32 := 2#32
  let c0_i32_77 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v169 : BitVec 32 := Scalar.subi v168 c0_i32_77
  let c1_i32_78 : BitVec 32 := 1#32
  let v171 : BitVec 32 := Scalar.divsi v169 c1_i32_78
  let v172 : BitVec 32 := Scalar.muli v171 c1_i32_78
  let v173 : BitVec 32 := Scalar.addi c0_i32_77 v172
  let c1_i32_80 : BitVec 32 := 1#32
  let arg11 : BitVec 32 := Scf.iv v173 c1_i32_80 k0_t2
  let v247 : BitVec 32 := Scalar.muli c2_i32_132 arg11
  let c1_i32_133 : BitVec 32 := 1#32
  let v248 : BitVec 32 := Scalar.addi v247 c1_i32_133
  let c512_i32_134 : BitVec 32 := 512#32
  let v249 : BitVec 32 := Scalar.muli v248 c512_i32_134
  v249
def k0_off17 (i : grid0.Coords) (k0_t2 : Fin (k0_t2_loop i).trips) : Fin 2 → Nat :=
  let c2_i32_132 : BitVec 32 := 2#32
  let c0_i32_77 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v169 : BitVec 32 := Scalar.subi v168 c0_i32_77
  let c1_i32_78 : BitVec 32 := 1#32
  let v171 : BitVec 32 := Scalar.divsi v169 c1_i32_78
  let v172 : BitVec 32 := Scalar.muli v171 c1_i32_78
  let v173 : BitVec 32 := Scalar.addi c0_i32_77 v172
  let c1_i32_80 : BitVec 32 := 1#32
  let arg11 : BitVec 32 := Scf.iv v173 c1_i32_80 k0_t2
  let v247 : BitVec 32 := Scalar.muli c2_i32_132 arg11
  let c1_i32_133 : BitVec 32 := 1#32
  let v248 : BitVec 32 := Scalar.addi v247 c1_i32_133
  let c512_i32_134 : BitVec 32 := 512#32
  let v249 : BitVec 32 := Scalar.muli v248 c512_i32_134
  let v250 : BitVec 32 := v249
  let v251 : Index := Scalar.indexCast v250
  let c0_135 : Index := 0#32
  ![v251.toNat, 0]
def k0_off18 (i : grid0.Coords) (k0_t2 : Fin (k0_t2_loop i).trips) : Fin 2 → Nat :=
  let c2_i32_132 : BitVec 32 := 2#32
  let c0_i32_77 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v169 : BitVec 32 := Scalar.subi v168 c0_i32_77
  let c1_i32_78 : BitVec 32 := 1#32
  let v171 : BitVec 32 := Scalar.divsi v169 c1_i32_78
  let v172 : BitVec 32 := Scalar.muli v171 c1_i32_78
  let v173 : BitVec 32 := Scalar.addi c0_i32_77 v172
  let c1_i32_80 : BitVec 32 := 1#32
  let arg11 : BitVec 32 := Scf.iv v173 c1_i32_80 k0_t2
  let v247 : BitVec 32 := Scalar.muli c2_i32_132 arg11
  let c1_i32_133 : BitVec 32 := 1#32
  let v248 : BitVec 32 := Scalar.addi v247 c1_i32_133
  let c512_i32_134 : BitVec 32 := 512#32
  let v249 : BitVec 32 := Scalar.muli v248 c512_i32_134
  let v250 : BitVec 32 := v249
  let v260 : Index := Scalar.indexCast v250
  let c256_142 : Index := 256#32
  ![v260.toNat, 256]
def k0_off19 (i : grid0.Coords) (k0_t2 : Fin (k0_t2_loop i).trips) : Fin 2 → Nat :=
  let c2_i32_132 : BitVec 32 := 2#32
  let c0_i32_77 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v169 : BitVec 32 := Scalar.subi v168 c0_i32_77
  let c1_i32_78 : BitVec 32 := 1#32
  let v171 : BitVec 32 := Scalar.divsi v169 c1_i32_78
  let v172 : BitVec 32 := Scalar.muli v171 c1_i32_78
  let v173 : BitVec 32 := Scalar.addi c0_i32_77 v172
  let c1_i32_80 : BitVec 32 := 1#32
  let arg11 : BitVec 32 := Scf.iv v173 c1_i32_80 k0_t2
  let v247 : BitVec 32 := Scalar.muli c2_i32_132 arg11
  let c1_i32_133 : BitVec 32 := 1#32
  let v248 : BitVec 32 := Scalar.addi v247 c1_i32_133
  let c512_i32_134 : BitVec 32 := 512#32
  let v249 : BitVec 32 := Scalar.muli v248 c512_i32_134
  let v250 : BitVec 32 := v249
  let v269 : Index := Scalar.indexCast v250
  let c512_149 : Index := 512#32
  ![v269.toNat, 512]
def k0_off20 (i : grid0.Coords) (k0_t2 : Fin (k0_t2_loop i).trips) : Fin 2 → Nat :=
  let c2_i32_132 : BitVec 32 := 2#32
  let c0_i32_77 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v169 : BitVec 32 := Scalar.subi v168 c0_i32_77
  let c1_i32_78 : BitVec 32 := 1#32
  let v171 : BitVec 32 := Scalar.divsi v169 c1_i32_78
  let v172 : BitVec 32 := Scalar.muli v171 c1_i32_78
  let v173 : BitVec 32 := Scalar.addi c0_i32_77 v172
  let c1_i32_80 : BitVec 32 := 1#32
  let arg11 : BitVec 32 := Scf.iv v173 c1_i32_80 k0_t2
  let v247 : BitVec 32 := Scalar.muli c2_i32_132 arg11
  let c1_i32_133 : BitVec 32 := 1#32
  let v248 : BitVec 32 := Scalar.addi v247 c1_i32_133
  let c512_i32_134 : BitVec 32 := 512#32
  let v249 : BitVec 32 := Scalar.muli v248 c512_i32_134
  let v250 : BitVec 32 := v249
  let v278 : Index := Scalar.indexCast v250
  let c768_156 : Index := 768#32
  ![v278.toNat, 768]
def k0_off21 (i : grid0.Coords) (k0_t2 : Fin (k0_t2_loop i).trips) : Fin 4 → Nat :=
  let c0_170 : Index := 0#32
  let c2_i32_132 : BitVec 32 := 2#32
  let c0_i32_77 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v169 : BitVec 32 := Scalar.subi v168 c0_i32_77
  let c1_i32_78 : BitVec 32 := 1#32
  let v171 : BitVec 32 := Scalar.divsi v169 c1_i32_78
  let v172 : BitVec 32 := Scalar.muli v171 c1_i32_78
  let v173 : BitVec 32 := Scalar.addi c0_i32_77 v172
  let c1_i32_80 : BitVec 32 := 1#32
  let arg11 : BitVec 32 := Scf.iv v173 c1_i32_80 k0_t2
  let v247 : BitVec 32 := Scalar.muli c2_i32_132 arg11
  let v300 : Index := Scalar.indexCast v247
  let c0_171 : Index := 0#32
  let c0_172 : Index := 0#32
  ![0, v300.toNat, 0, 0]
def k0_off22 (i : grid0.Coords) (k0_t2 : Fin (k0_t2_loop i).trips) : Fin 4 → Nat :=
  let c0_190 : Index := 0#32
  let c2_i32_132 : BitVec 32 := 2#32
  let c0_i32_77 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v169 : BitVec 32 := Scalar.subi v168 c0_i32_77
  let c1_i32_78 : BitVec 32 := 1#32
  let v171 : BitVec 32 := Scalar.divsi v169 c1_i32_78
  let v172 : BitVec 32 := Scalar.muli v171 c1_i32_78
  let v173 : BitVec 32 := Scalar.addi c0_i32_77 v172
  let c1_i32_80 : BitVec 32 := 1#32
  let arg11 : BitVec 32 := Scf.iv v173 c1_i32_80 k0_t2
  let v247 : BitVec 32 := Scalar.muli c2_i32_132 arg11
  let v328 : Index := Scalar.indexCast v247
  let c144 : Index := 144#32
  let c0_191 : Index := 0#32
  ![0, v328.toNat, 144, 0]
def k0_off23 (i : grid0.Coords) (k0_t2 : Fin (k0_t2_loop i).trips) : Fin 4 → Nat :=
  let c0_209 : Index := 0#32
  let c2_i32_132 : BitVec 32 := 2#32
  let c0_i32_77 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v169 : BitVec 32 := Scalar.subi v168 c0_i32_77
  let c1_i32_78 : BitVec 32 := 1#32
  let v171 : BitVec 32 := Scalar.divsi v169 c1_i32_78
  let v172 : BitVec 32 := Scalar.muli v171 c1_i32_78
  let v173 : BitVec 32 := Scalar.addi c0_i32_77 v172
  let c1_i32_80 : BitVec 32 := 1#32
  let arg11 : BitVec 32 := Scf.iv v173 c1_i32_80 k0_t2
  let v247 : BitVec 32 := Scalar.muli c2_i32_132 arg11
  let v356 : Index := Scalar.indexCast v247
  let c288 : Index := 288#32
  let c0_210 : Index := 0#32
  ![0, v356.toNat, 288, 0]
def k0_off24 (i : grid0.Coords) (k0_t2 : Fin (k0_t2_loop i).trips) : Fin 4 → Nat :=
  let c0_228 : Index := 0#32
  let c2_i32_132 : BitVec 32 := 2#32
  let c0_i32_77 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v169 : BitVec 32 := Scalar.subi v168 c0_i32_77
  let c1_i32_78 : BitVec 32 := 1#32
  let v171 : BitVec 32 := Scalar.divsi v169 c1_i32_78
  let v172 : BitVec 32 := Scalar.muli v171 c1_i32_78
  let v173 : BitVec 32 := Scalar.addi c0_i32_77 v172
  let c1_i32_80 : BitVec 32 := 1#32
  let arg11 : BitVec 32 := Scf.iv v173 c1_i32_80 k0_t2
  let v247 : BitVec 32 := Scalar.muli c2_i32_132 arg11
  let v384 : Index := Scalar.indexCast v247
  let c432 : Index := 432#32
  let c0_229 : Index := 0#32
  ![0, v384.toNat, 432, 0]
def k0_mult5 (i : grid0.Coords) (k0_t2 : Fin (k0_t2_loop i).trips) : BitVec 32 :=
  let c2_i32_132 : BitVec 32 := 2#32
  let c0_i32_77 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v169 : BitVec 32 := Scalar.subi v168 c0_i32_77
  let c1_i32_78 : BitVec 32 := 1#32
  let v171 : BitVec 32 := Scalar.divsi v169 c1_i32_78
  let v172 : BitVec 32 := Scalar.muli v171 c1_i32_78
  let v173 : BitVec 32 := Scalar.addi c0_i32_77 v172
  let c1_i32_80 : BitVec 32 := 1#32
  let arg11 : BitVec 32 := Scf.iv v173 c1_i32_80 k0_t2
  let v247 : BitVec 32 := Scalar.muli c2_i32_132 arg11
  let c2_i32_240 : BitVec 32 := 2#32
  let v399 : BitVec 32 := Scalar.addi v247 c2_i32_240
  let c7_i32 : BitVec 32 := 7#32
  let v400 : BitVec 32 := Scalar.minsi v399 c7_i32
  let c512_i32_241 : BitVec 32 := 512#32
  let v401 : BitVec 32 := Scalar.muli v400 c512_i32_241
  v401
def k0_off25 (i : grid0.Coords) (k0_t2 : Fin (k0_t2_loop i).trips) : Fin 2 → Nat :=
  let c2_i32_132 : BitVec 32 := 2#32
  let c0_i32_77 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v169 : BitVec 32 := Scalar.subi v168 c0_i32_77
  let c1_i32_78 : BitVec 32 := 1#32
  let v171 : BitVec 32 := Scalar.divsi v169 c1_i32_78
  let v172 : BitVec 32 := Scalar.muli v171 c1_i32_78
  let v173 : BitVec 32 := Scalar.addi c0_i32_77 v172
  let c1_i32_80 : BitVec 32 := 1#32
  let arg11 : BitVec 32 := Scf.iv v173 c1_i32_80 k0_t2
  let v247 : BitVec 32 := Scalar.muli c2_i32_132 arg11
  let c2_i32_240 : BitVec 32 := 2#32
  let v399 : BitVec 32 := Scalar.addi v247 c2_i32_240
  let c7_i32 : BitVec 32 := 7#32
  let v400 : BitVec 32 := Scalar.minsi v399 c7_i32
  let c512_i32_241 : BitVec 32 := 512#32
  let v401 : BitVec 32 := Scalar.muli v400 c512_i32_241
  let v402 : BitVec 32 := v401
  let v403 : Index := Scalar.indexCast v402
  let c0_242 : Index := 0#32
  ![v403.toNat, 0]
def k0_off26 (i : grid0.Coords) (k0_t2 : Fin (k0_t2_loop i).trips) : Fin 2 → Nat :=
  let c2_i32_132 : BitVec 32 := 2#32
  let c0_i32_77 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v169 : BitVec 32 := Scalar.subi v168 c0_i32_77
  let c1_i32_78 : BitVec 32 := 1#32
  let v171 : BitVec 32 := Scalar.divsi v169 c1_i32_78
  let v172 : BitVec 32 := Scalar.muli v171 c1_i32_78
  let v173 : BitVec 32 := Scalar.addi c0_i32_77 v172
  let c1_i32_80 : BitVec 32 := 1#32
  let arg11 : BitVec 32 := Scf.iv v173 c1_i32_80 k0_t2
  let v247 : BitVec 32 := Scalar.muli c2_i32_132 arg11
  let c2_i32_240 : BitVec 32 := 2#32
  let v399 : BitVec 32 := Scalar.addi v247 c2_i32_240
  let c7_i32 : BitVec 32 := 7#32
  let v400 : BitVec 32 := Scalar.minsi v399 c7_i32
  let c512_i32_241 : BitVec 32 := 512#32
  let v401 : BitVec 32 := Scalar.muli v400 c512_i32_241
  let v402 : BitVec 32 := v401
  let v412 : Index := Scalar.indexCast v402
  let c256_249 : Index := 256#32
  ![v412.toNat, 256]
def k0_off27 (i : grid0.Coords) (k0_t2 : Fin (k0_t2_loop i).trips) : Fin 2 → Nat :=
  let c2_i32_132 : BitVec 32 := 2#32
  let c0_i32_77 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v169 : BitVec 32 := Scalar.subi v168 c0_i32_77
  let c1_i32_78 : BitVec 32 := 1#32
  let v171 : BitVec 32 := Scalar.divsi v169 c1_i32_78
  let v172 : BitVec 32 := Scalar.muli v171 c1_i32_78
  let v173 : BitVec 32 := Scalar.addi c0_i32_77 v172
  let c1_i32_80 : BitVec 32 := 1#32
  let arg11 : BitVec 32 := Scf.iv v173 c1_i32_80 k0_t2
  let v247 : BitVec 32 := Scalar.muli c2_i32_132 arg11
  let c2_i32_240 : BitVec 32 := 2#32
  let v399 : BitVec 32 := Scalar.addi v247 c2_i32_240
  let c7_i32 : BitVec 32 := 7#32
  let v400 : BitVec 32 := Scalar.minsi v399 c7_i32
  let c512_i32_241 : BitVec 32 := 512#32
  let v401 : BitVec 32 := Scalar.muli v400 c512_i32_241
  let v402 : BitVec 32 := v401
  let v421 : Index := Scalar.indexCast v402
  let c512_256 : Index := 512#32
  ![v421.toNat, 512]
def k0_off28 (i : grid0.Coords) (k0_t2 : Fin (k0_t2_loop i).trips) : Fin 2 → Nat :=
  let c2_i32_132 : BitVec 32 := 2#32
  let c0_i32_77 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v169 : BitVec 32 := Scalar.subi v168 c0_i32_77
  let c1_i32_78 : BitVec 32 := 1#32
  let v171 : BitVec 32 := Scalar.divsi v169 c1_i32_78
  let v172 : BitVec 32 := Scalar.muli v171 c1_i32_78
  let v173 : BitVec 32 := Scalar.addi c0_i32_77 v172
  let c1_i32_80 : BitVec 32 := 1#32
  let arg11 : BitVec 32 := Scf.iv v173 c1_i32_80 k0_t2
  let v247 : BitVec 32 := Scalar.muli c2_i32_132 arg11
  let c2_i32_240 : BitVec 32 := 2#32
  let v399 : BitVec 32 := Scalar.addi v247 c2_i32_240
  let c7_i32 : BitVec 32 := 7#32
  let v400 : BitVec 32 := Scalar.minsi v399 c7_i32
  let c512_i32_241 : BitVec 32 := 512#32
  let v401 : BitVec 32 := Scalar.muli v400 c512_i32_241
  let v402 : BitVec 32 := v401
  let v430 : Index := Scalar.indexCast v402
  let c768_263 : Index := 768#32
  ![v430.toNat, 768]
def k0_off29 (i : grid0.Coords) (k0_t2 : Fin (k0_t2_loop i).trips) : Fin 4 → Nat :=
  let c0_278 : Index := 0#32
  let c2_i32_132 : BitVec 32 := 2#32
  let c0_i32_77 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v169 : BitVec 32 := Scalar.subi v168 c0_i32_77
  let c1_i32_78 : BitVec 32 := 1#32
  let v171 : BitVec 32 := Scalar.divsi v169 c1_i32_78
  let v172 : BitVec 32 := Scalar.muli v171 c1_i32_78
  let v173 : BitVec 32 := Scalar.addi c0_i32_77 v172
  let c1_i32_80 : BitVec 32 := 1#32
  let arg11 : BitVec 32 := Scf.iv v173 c1_i32_80 k0_t2
  let v247 : BitVec 32 := Scalar.muli c2_i32_132 arg11
  let c1_i32_270 : BitVec 32 := 1#32
  let v439 : BitVec 32 := Scalar.addi v247 c1_i32_270
  let v453 : Index := Scalar.indexCast v439
  let c0_279 : Index := 0#32
  let c0_280 : Index := 0#32
  ![0, v453.toNat, 0, 0]
def k0_off30 (i : grid0.Coords) (k0_t2 : Fin (k0_t2_loop i).trips) : Fin 4 → Nat :=
  let c0_298 : Index := 0#32
  let c2_i32_132 : BitVec 32 := 2#32
  let c0_i32_77 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v169 : BitVec 32 := Scalar.subi v168 c0_i32_77
  let c1_i32_78 : BitVec 32 := 1#32
  let v171 : BitVec 32 := Scalar.divsi v169 c1_i32_78
  let v172 : BitVec 32 := Scalar.muli v171 c1_i32_78
  let v173 : BitVec 32 := Scalar.addi c0_i32_77 v172
  let c1_i32_80 : BitVec 32 := 1#32
  let arg11 : BitVec 32 := Scf.iv v173 c1_i32_80 k0_t2
  let v247 : BitVec 32 := Scalar.muli c2_i32_132 arg11
  let c1_i32_270 : BitVec 32 := 1#32
  let v439 : BitVec 32 := Scalar.addi v247 c1_i32_270
  let v481 : Index := Scalar.indexCast v439
  let c144_299 : Index := 144#32
  let c0_300 : Index := 0#32
  ![0, v481.toNat, 144, 0]
def k0_off31 (i : grid0.Coords) (k0_t2 : Fin (k0_t2_loop i).trips) : Fin 4 → Nat :=
  let c0_318 : Index := 0#32
  let c2_i32_132 : BitVec 32 := 2#32
  let c0_i32_77 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v169 : BitVec 32 := Scalar.subi v168 c0_i32_77
  let c1_i32_78 : BitVec 32 := 1#32
  let v171 : BitVec 32 := Scalar.divsi v169 c1_i32_78
  let v172 : BitVec 32 := Scalar.muli v171 c1_i32_78
  let v173 : BitVec 32 := Scalar.addi c0_i32_77 v172
  let c1_i32_80 : BitVec 32 := 1#32
  let arg11 : BitVec 32 := Scf.iv v173 c1_i32_80 k0_t2
  let v247 : BitVec 32 := Scalar.muli c2_i32_132 arg11
  let c1_i32_270 : BitVec 32 := 1#32
  let v439 : BitVec 32 := Scalar.addi v247 c1_i32_270
  let v509 : Index := Scalar.indexCast v439
  let c288_319 : Index := 288#32
  let c0_320 : Index := 0#32
  ![0, v509.toNat, 288, 0]
def k0_off32 (i : grid0.Coords) (k0_t2 : Fin (k0_t2_loop i).trips) : Fin 4 → Nat :=
  let c0_338 : Index := 0#32
  let c2_i32_132 : BitVec 32 := 2#32
  let c0_i32_77 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v169 : BitVec 32 := Scalar.subi v168 c0_i32_77
  let c1_i32_78 : BitVec 32 := 1#32
  let v171 : BitVec 32 := Scalar.divsi v169 c1_i32_78
  let v172 : BitVec 32 := Scalar.muli v171 c1_i32_78
  let v173 : BitVec 32 := Scalar.addi c0_i32_77 v172
  let c1_i32_80 : BitVec 32 := 1#32
  let arg11 : BitVec 32 := Scf.iv v173 c1_i32_80 k0_t2
  let v247 : BitVec 32 := Scalar.muli c2_i32_132 arg11
  let c1_i32_270 : BitVec 32 := 1#32
  let v439 : BitVec 32 := Scalar.addi v247 c1_i32_270
  let v537 : Index := Scalar.indexCast v439
  let c432_339 : Index := 432#32
  let c0_340 : Index := 0#32
  ![0, v537.toNat, 432, 0]
@[reducible] def k0_t3_loop (i : grid0.Coords) : Scf.Loop 32 :=
  let c0_i32_90 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let c2_i32_81 : BitVec 32 := 2#32
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let v175 : BitVec 32 := Scalar.subi v42 v174
  let c0_i32_83 : BitVec 32 := 0#32
  let v177 : BitVec 1 := Scalar.cmpi .sgt v175 c0_i32_83
  let v178 : BitVec 32 := Scalar.extui v177
  let c0_i32_84 : BitVec 32 := 0#32
  let v179 : BitVec 1 := Scalar.cmpi .slt v175 c0_i32_84
  let v180 : BitVec 32 := Scalar.extui v179
  let v181 : BitVec 32 := Scalar.subi v178 v180
  let c2_i32_82 : BitVec 32 := 2#32
  let c0_i32_85 : BitVec 32 := 0#32
  let v182 : BitVec 1 := Scalar.cmpi .sgt c2_i32_82 c0_i32_85
  let v183 : BitVec 32 := Scalar.extui v182
  let c0_i32_86 : BitVec 32 := 0#32
  let v184 : BitVec 1 := Scalar.cmpi .slt c2_i32_82 c0_i32_86
  let v185 : BitVec 32 := Scalar.extui v184
  let v186 : BitVec 32 := Scalar.subi v183 v185
  let v187 : BitVec 1 := Scalar.cmpi .ne v181 v186
  let v188 : BitVec 32 := Scalar.remsi v175 c2_i32_82
  let c0_i32_87 : BitVec 32 := 0#32
  let v189 : BitVec 1 := Scalar.cmpi .ne v188 c0_i32_87
  let v190 : BitVec 1 := Scalar.andi v187 v189
  let v176 : BitVec 32 := Scalar.divsi v175 c2_i32_82
  let c1_i32_88 : BitVec 32 := 1#32
  let v191 : BitVec 32 := Scalar.subi v176 c1_i32_88
  let v192 : BitVec 32 := Scalar.select v190 v191 v176
  let v193 : BitVec 32 := Scalar.subi v192 c0_i32_90
  let c1_i32_91 : BitVec 32 := 1#32
  let v195 : BitVec 32 := Scalar.divsi v193 c1_i32_91
  let v196 : BitVec 32 := Scalar.muli v195 c1_i32_91
  let v197 : BitVec 32 := Scalar.addi c0_i32_90 v196
  let c1_i32_92 : BitVec 32 := 1#32
  ⟨c0_i32_90, v197, c1_i32_92⟩
def k0_mult6 (i : grid0.Coords) (k0_t3 : Fin (k0_t3_loop i).trips) : BitVec 32 :=
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let c1_i32_92 : BitVec 32 := 1#32
  let arg11 : BitVec 32 := Scf.iv c0_i32_90 c1_i32_92 k0_t3
  let v247 : BitVec 32 := Scalar.muli c2_i32_132 arg11
  let v248 : BitVec 32 := Scalar.addi v174 v247
  let c1_i32_133 : BitVec 32 := 1#32
  let v249 : BitVec 32 := Scalar.addi v248 c1_i32_133
  let c512_i32_134 : BitVec 32 := 512#32
  let v250 : BitVec 32 := Scalar.muli v249 c512_i32_134
  v250
def k0_off33 (i : grid0.Coords) (k0_t3 : Fin (k0_t3_loop i).trips) : Fin 2 → Nat :=
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let c1_i32_92 : BitVec 32 := 1#32
  let arg11 : BitVec 32 := Scf.iv c0_i32_90 c1_i32_92 k0_t3
  let v247 : BitVec 32 := Scalar.muli c2_i32_132 arg11
  let v248 : BitVec 32 := Scalar.addi v174 v247
  let c1_i32_133 : BitVec 32 := 1#32
  let v249 : BitVec 32 := Scalar.addi v248 c1_i32_133
  let c512_i32_134 : BitVec 32 := 512#32
  let v250 : BitVec 32 := Scalar.muli v249 c512_i32_134
  let v251 : BitVec 32 := v250
  let v252 : Index := Scalar.indexCast v251
  let c0_135 : Index := 0#32
  ![v252.toNat, 0]
def k0_off34 (i : grid0.Coords) (k0_t3 : Fin (k0_t3_loop i).trips) : Fin 2 → Nat :=
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let c1_i32_92 : BitVec 32 := 1#32
  let arg11 : BitVec 32 := Scf.iv c0_i32_90 c1_i32_92 k0_t3
  let v247 : BitVec 32 := Scalar.muli c2_i32_132 arg11
  let v248 : BitVec 32 := Scalar.addi v174 v247
  let c1_i32_133 : BitVec 32 := 1#32
  let v249 : BitVec 32 := Scalar.addi v248 c1_i32_133
  let c512_i32_134 : BitVec 32 := 512#32
  let v250 : BitVec 32 := Scalar.muli v249 c512_i32_134
  let v251 : BitVec 32 := v250
  let v261 : Index := Scalar.indexCast v251
  let c256_142 : Index := 256#32
  ![v261.toNat, 256]
def k0_off35 (i : grid0.Coords) (k0_t3 : Fin (k0_t3_loop i).trips) : Fin 2 → Nat :=
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let c1_i32_92 : BitVec 32 := 1#32
  let arg11 : BitVec 32 := Scf.iv c0_i32_90 c1_i32_92 k0_t3
  let v247 : BitVec 32 := Scalar.muli c2_i32_132 arg11
  let v248 : BitVec 32 := Scalar.addi v174 v247
  let c1_i32_133 : BitVec 32 := 1#32
  let v249 : BitVec 32 := Scalar.addi v248 c1_i32_133
  let c512_i32_134 : BitVec 32 := 512#32
  let v250 : BitVec 32 := Scalar.muli v249 c512_i32_134
  let v251 : BitVec 32 := v250
  let v270 : Index := Scalar.indexCast v251
  let c512_149 : Index := 512#32
  ![v270.toNat, 512]
def k0_off36 (i : grid0.Coords) (k0_t3 : Fin (k0_t3_loop i).trips) : Fin 2 → Nat :=
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let c1_i32_92 : BitVec 32 := 1#32
  let arg11 : BitVec 32 := Scf.iv c0_i32_90 c1_i32_92 k0_t3
  let v247 : BitVec 32 := Scalar.muli c2_i32_132 arg11
  let v248 : BitVec 32 := Scalar.addi v174 v247
  let c1_i32_133 : BitVec 32 := 1#32
  let v249 : BitVec 32 := Scalar.addi v248 c1_i32_133
  let c512_i32_134 : BitVec 32 := 512#32
  let v250 : BitVec 32 := Scalar.muli v249 c512_i32_134
  let v251 : BitVec 32 := v250
  let v279 : Index := Scalar.indexCast v251
  let c768_156 : Index := 768#32
  ![v279.toNat, 768]
def k0_off37 (i : grid0.Coords) (k0_t3 : Fin (k0_t3_loop i).trips) : Fin 4 → Nat :=
  let c0_179 : Index := 0#32
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let c1_i32_92 : BitVec 32 := 1#32
  let arg11 : BitVec 32 := Scf.iv c0_i32_90 c1_i32_92 k0_t3
  let v247 : BitVec 32 := Scalar.muli c2_i32_132 arg11
  let v248 : BitVec 32 := Scalar.addi v174 v247
  let v334 : Index := Scalar.indexCast v248
  let c0_180 : Index := 0#32
  let c0_181 : Index := 0#32
  ![0, v334.toNat, 0, 0]
def k0_off38 (i : grid0.Coords) (k0_t3 : Fin (k0_t3_loop i).trips) : Fin 4 → Nat :=
  let c0_208 : Index := 0#32
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let c1_i32_92 : BitVec 32 := 1#32
  let arg11 : BitVec 32 := Scf.iv c0_i32_90 c1_i32_92 k0_t3
  let v247 : BitVec 32 := Scalar.muli c2_i32_132 arg11
  let v248 : BitVec 32 := Scalar.addi v174 v247
  let v395 : Index := Scalar.indexCast v248
  let c144 : Index := 144#32
  let c0_209 : Index := 0#32
  ![0, v395.toNat, 144, 0]
def k0_off39 (i : grid0.Coords) (k0_t3 : Fin (k0_t3_loop i).trips) : Fin 4 → Nat :=
  let c0_236 : Index := 0#32
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let c1_i32_92 : BitVec 32 := 1#32
  let arg11 : BitVec 32 := Scf.iv c0_i32_90 c1_i32_92 k0_t3
  let v247 : BitVec 32 := Scalar.muli c2_i32_132 arg11
  let v248 : BitVec 32 := Scalar.addi v174 v247
  let v456 : Index := Scalar.indexCast v248
  let c288 : Index := 288#32
  let c0_237 : Index := 0#32
  ![0, v456.toNat, 288, 0]
def k0_off40 (i : grid0.Coords) (k0_t3 : Fin (k0_t3_loop i).trips) : Fin 4 → Nat :=
  let c0_264 : Index := 0#32
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let c1_i32_92 : BitVec 32 := 1#32
  let arg11 : BitVec 32 := Scf.iv c0_i32_90 c1_i32_92 k0_t3
  let v247 : BitVec 32 := Scalar.muli c2_i32_132 arg11
  let v248 : BitVec 32 := Scalar.addi v174 v247
  let v517 : Index := Scalar.indexCast v248
  let c432 : Index := 432#32
  let c0_265 : Index := 0#32
  ![0, v517.toNat, 432, 0]
def k0_mult7 (i : grid0.Coords) (k0_t3 : Fin (k0_t3_loop i).trips) : BitVec 32 :=
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let c1_i32_92 : BitVec 32 := 1#32
  let arg11 : BitVec 32 := Scf.iv c0_i32_90 c1_i32_92 k0_t3
  let v247 : BitVec 32 := Scalar.muli c2_i32_132 arg11
  let v248 : BitVec 32 := Scalar.addi v174 v247
  let c2_i32_276 : BitVec 32 := 2#32
  let v532 : BitVec 32 := Scalar.addi v248 c2_i32_276
  let c7_i32 : BitVec 32 := 7#32
  let v533 : BitVec 32 := Scalar.minsi v532 c7_i32
  let c512_i32_277 : BitVec 32 := 512#32
  let v534 : BitVec 32 := Scalar.muli v533 c512_i32_277
  v534
def k0_off41 (i : grid0.Coords) (k0_t3 : Fin (k0_t3_loop i).trips) : Fin 2 → Nat :=
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let c1_i32_92 : BitVec 32 := 1#32
  let arg11 : BitVec 32 := Scf.iv c0_i32_90 c1_i32_92 k0_t3
  let v247 : BitVec 32 := Scalar.muli c2_i32_132 arg11
  let v248 : BitVec 32 := Scalar.addi v174 v247
  let c2_i32_276 : BitVec 32 := 2#32
  let v532 : BitVec 32 := Scalar.addi v248 c2_i32_276
  let c7_i32 : BitVec 32 := 7#32
  let v533 : BitVec 32 := Scalar.minsi v532 c7_i32
  let c512_i32_277 : BitVec 32 := 512#32
  let v534 : BitVec 32 := Scalar.muli v533 c512_i32_277
  let v535 : BitVec 32 := v534
  let v536 : Index := Scalar.indexCast v535
  let c0_278 : Index := 0#32
  ![v536.toNat, 0]
def k0_off42 (i : grid0.Coords) (k0_t3 : Fin (k0_t3_loop i).trips) : Fin 2 → Nat :=
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let c1_i32_92 : BitVec 32 := 1#32
  let arg11 : BitVec 32 := Scf.iv c0_i32_90 c1_i32_92 k0_t3
  let v247 : BitVec 32 := Scalar.muli c2_i32_132 arg11
  let v248 : BitVec 32 := Scalar.addi v174 v247
  let c2_i32_276 : BitVec 32 := 2#32
  let v532 : BitVec 32 := Scalar.addi v248 c2_i32_276
  let c7_i32 : BitVec 32 := 7#32
  let v533 : BitVec 32 := Scalar.minsi v532 c7_i32
  let c512_i32_277 : BitVec 32 := 512#32
  let v534 : BitVec 32 := Scalar.muli v533 c512_i32_277
  let v535 : BitVec 32 := v534
  let v545 : Index := Scalar.indexCast v535
  let c256_285 : Index := 256#32
  ![v545.toNat, 256]
def k0_off43 (i : grid0.Coords) (k0_t3 : Fin (k0_t3_loop i).trips) : Fin 2 → Nat :=
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let c1_i32_92 : BitVec 32 := 1#32
  let arg11 : BitVec 32 := Scf.iv c0_i32_90 c1_i32_92 k0_t3
  let v247 : BitVec 32 := Scalar.muli c2_i32_132 arg11
  let v248 : BitVec 32 := Scalar.addi v174 v247
  let c2_i32_276 : BitVec 32 := 2#32
  let v532 : BitVec 32 := Scalar.addi v248 c2_i32_276
  let c7_i32 : BitVec 32 := 7#32
  let v533 : BitVec 32 := Scalar.minsi v532 c7_i32
  let c512_i32_277 : BitVec 32 := 512#32
  let v534 : BitVec 32 := Scalar.muli v533 c512_i32_277
  let v535 : BitVec 32 := v534
  let v554 : Index := Scalar.indexCast v535
  let c512_292 : Index := 512#32
  ![v554.toNat, 512]
def k0_off44 (i : grid0.Coords) (k0_t3 : Fin (k0_t3_loop i).trips) : Fin 2 → Nat :=
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let c1_i32_92 : BitVec 32 := 1#32
  let arg11 : BitVec 32 := Scf.iv c0_i32_90 c1_i32_92 k0_t3
  let v247 : BitVec 32 := Scalar.muli c2_i32_132 arg11
  let v248 : BitVec 32 := Scalar.addi v174 v247
  let c2_i32_276 : BitVec 32 := 2#32
  let v532 : BitVec 32 := Scalar.addi v248 c2_i32_276
  let c7_i32 : BitVec 32 := 7#32
  let v533 : BitVec 32 := Scalar.minsi v532 c7_i32
  let c512_i32_277 : BitVec 32 := 512#32
  let v534 : BitVec 32 := Scalar.muli v533 c512_i32_277
  let v535 : BitVec 32 := v534
  let v563 : Index := Scalar.indexCast v535
  let c768_299 : Index := 768#32
  ![v563.toNat, 768]
def k0_off45 (i : grid0.Coords) (k0_t3 : Fin (k0_t3_loop i).trips) : Fin 4 → Nat :=
  let c0_323 : Index := 0#32
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let c1_i32_92 : BitVec 32 := 1#32
  let arg11 : BitVec 32 := Scf.iv c0_i32_90 c1_i32_92 k0_t3
  let v247 : BitVec 32 := Scalar.muli c2_i32_132 arg11
  let v248 : BitVec 32 := Scalar.addi v174 v247
  let c1_i32_306 : BitVec 32 := 1#32
  let v572 : BitVec 32 := Scalar.addi v248 c1_i32_306
  let v619 : Index := Scalar.indexCast v572
  let c0_324 : Index := 0#32
  let c0_325 : Index := 0#32
  ![0, v619.toNat, 0, 0]
def k0_off46 (i : grid0.Coords) (k0_t3 : Fin (k0_t3_loop i).trips) : Fin 4 → Nat :=
  let c0_352 : Index := 0#32
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let c1_i32_92 : BitVec 32 := 1#32
  let arg11 : BitVec 32 := Scf.iv c0_i32_90 c1_i32_92 k0_t3
  let v247 : BitVec 32 := Scalar.muli c2_i32_132 arg11
  let v248 : BitVec 32 := Scalar.addi v174 v247
  let c1_i32_306 : BitVec 32 := 1#32
  let v572 : BitVec 32 := Scalar.addi v248 c1_i32_306
  let v680 : Index := Scalar.indexCast v572
  let c144_353 : Index := 144#32
  let c0_354 : Index := 0#32
  ![0, v680.toNat, 144, 0]
def k0_off47 (i : grid0.Coords) (k0_t3 : Fin (k0_t3_loop i).trips) : Fin 4 → Nat :=
  let c0_381 : Index := 0#32
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let c1_i32_92 : BitVec 32 := 1#32
  let arg11 : BitVec 32 := Scf.iv c0_i32_90 c1_i32_92 k0_t3
  let v247 : BitVec 32 := Scalar.muli c2_i32_132 arg11
  let v248 : BitVec 32 := Scalar.addi v174 v247
  let c1_i32_306 : BitVec 32 := 1#32
  let v572 : BitVec 32 := Scalar.addi v248 c1_i32_306
  let v741 : Index := Scalar.indexCast v572
  let c288_382 : Index := 288#32
  let c0_383 : Index := 0#32
  ![0, v741.toNat, 288, 0]
def k0_off48 (i : grid0.Coords) (k0_t3 : Fin (k0_t3_loop i).trips) : Fin 4 → Nat :=
  let c0_410 : Index := 0#32
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let c1_i32_92 : BitVec 32 := 1#32
  let arg11 : BitVec 32 := Scf.iv c0_i32_90 c1_i32_92 k0_t3
  let v247 : BitVec 32 := Scalar.muli c2_i32_132 arg11
  let v248 : BitVec 32 := Scalar.addi v174 v247
  let c1_i32_306 : BitVec 32 := 1#32
  let v572 : BitVec 32 := Scalar.addi v248 c1_i32_306
  let v802 : Index := Scalar.indexCast v572
  let c432_411 : Index := 432#32
  let c0_412 : Index := 0#32
  ![0, v802.toNat, 432, 0]
@[reducible] def k0_t4_loop (i : grid0.Coords) : Scf.Loop 32 :=
  let c0_i32_90 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let c2_i32_81 : BitVec 32 := 2#32
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let v175 : BitVec 32 := Scalar.subi v42 v174
  let c0_i32_83 : BitVec 32 := 0#32
  let v177 : BitVec 1 := Scalar.cmpi .sgt v175 c0_i32_83
  let v178 : BitVec 32 := Scalar.extui v177
  let c0_i32_84 : BitVec 32 := 0#32
  let v179 : BitVec 1 := Scalar.cmpi .slt v175 c0_i32_84
  let v180 : BitVec 32 := Scalar.extui v179
  let v181 : BitVec 32 := Scalar.subi v178 v180
  let c2_i32_82 : BitVec 32 := 2#32
  let c0_i32_85 : BitVec 32 := 0#32
  let v182 : BitVec 1 := Scalar.cmpi .sgt c2_i32_82 c0_i32_85
  let v183 : BitVec 32 := Scalar.extui v182
  let c0_i32_86 : BitVec 32 := 0#32
  let v184 : BitVec 1 := Scalar.cmpi .slt c2_i32_82 c0_i32_86
  let v185 : BitVec 32 := Scalar.extui v184
  let v186 : BitVec 32 := Scalar.subi v183 v185
  let v187 : BitVec 1 := Scalar.cmpi .ne v181 v186
  let v188 : BitVec 32 := Scalar.remsi v175 c2_i32_82
  let c0_i32_87 : BitVec 32 := 0#32
  let v189 : BitVec 1 := Scalar.cmpi .ne v188 c0_i32_87
  let v190 : BitVec 1 := Scalar.andi v187 v189
  let v176 : BitVec 32 := Scalar.divsi v175 c2_i32_82
  let c1_i32_88 : BitVec 32 := 1#32
  let v191 : BitVec 32 := Scalar.subi v176 c1_i32_88
  let v192 : BitVec 32 := Scalar.select v190 v191 v176
  let v193 : BitVec 32 := Scalar.subi v192 c0_i32_90
  let c1_i32_91 : BitVec 32 := 1#32
  let v195 : BitVec 32 := Scalar.divsi v193 c1_i32_91
  let v196 : BitVec 32 := Scalar.muli v195 c1_i32_91
  let v197 : BitVec 32 := Scalar.addi c0_i32_90 v196
  let v194 : BitVec 32 := Scalar.addi c0_i32_90 v193
  let c1_i32_93 : BitVec 32 := 1#32
  ⟨v197, v194, c1_i32_93⟩
def k0_mult8 (i : grid0.Coords) (k0_t4 : Fin (k0_t4_loop i).trips) : BitVec 32 :=
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let v175 : BitVec 32 := Scalar.subi v42 v174
  let c0_i32_83 : BitVec 32 := 0#32
  let v177 : BitVec 1 := Scalar.cmpi .sgt v175 c0_i32_83
  let v178 : BitVec 32 := Scalar.extui v177
  let c0_i32_84 : BitVec 32 := 0#32
  let v179 : BitVec 1 := Scalar.cmpi .slt v175 c0_i32_84
  let v180 : BitVec 32 := Scalar.extui v179
  let v181 : BitVec 32 := Scalar.subi v178 v180
  let c2_i32_82 : BitVec 32 := 2#32
  let c0_i32_85 : BitVec 32 := 0#32
  let v182 : BitVec 1 := Scalar.cmpi .sgt c2_i32_82 c0_i32_85
  let v183 : BitVec 32 := Scalar.extui v182
  let c0_i32_86 : BitVec 32 := 0#32
  let v184 : BitVec 1 := Scalar.cmpi .slt c2_i32_82 c0_i32_86
  let v185 : BitVec 32 := Scalar.extui v184
  let v186 : BitVec 32 := Scalar.subi v183 v185
  let v187 : BitVec 1 := Scalar.cmpi .ne v181 v186
  let v188 : BitVec 32 := Scalar.remsi v175 c2_i32_82
  let c0_i32_87 : BitVec 32 := 0#32
  let v189 : BitVec 1 := Scalar.cmpi .ne v188 c0_i32_87
  let v190 : BitVec 1 := Scalar.andi v187 v189
  let v176 : BitVec 32 := Scalar.divsi v175 c2_i32_82
  let c1_i32_88 : BitVec 32 := 1#32
  let v191 : BitVec 32 := Scalar.subi v176 c1_i32_88
  let v192 : BitVec 32 := Scalar.select v190 v191 v176
  let v193 : BitVec 32 := Scalar.subi v192 c0_i32_90
  let c1_i32_91 : BitVec 32 := 1#32
  let v195 : BitVec 32 := Scalar.divsi v193 c1_i32_91
  let v196 : BitVec 32 := Scalar.muli v195 c1_i32_91
  let v197 : BitVec 32 := Scalar.addi c0_i32_90 v196
  let c1_i32_93 : BitVec 32 := 1#32
  let arg11 : BitVec 32 := Scf.iv v197 c1_i32_93 k0_t4
  let v247 : BitVec 32 := Scalar.muli c2_i32_132 arg11
  let v248 : BitVec 32 := Scalar.addi v174 v247
  let c1_i32_133 : BitVec 32 := 1#32
  let v249 : BitVec 32 := Scalar.addi v248 c1_i32_133
  let c512_i32_134 : BitVec 32 := 512#32
  let v250 : BitVec 32 := Scalar.muli v249 c512_i32_134
  v250
def k0_off49 (i : grid0.Coords) (k0_t4 : Fin (k0_t4_loop i).trips) : Fin 2 → Nat :=
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let v175 : BitVec 32 := Scalar.subi v42 v174
  let c0_i32_83 : BitVec 32 := 0#32
  let v177 : BitVec 1 := Scalar.cmpi .sgt v175 c0_i32_83
  let v178 : BitVec 32 := Scalar.extui v177
  let c0_i32_84 : BitVec 32 := 0#32
  let v179 : BitVec 1 := Scalar.cmpi .slt v175 c0_i32_84
  let v180 : BitVec 32 := Scalar.extui v179
  let v181 : BitVec 32 := Scalar.subi v178 v180
  let c2_i32_82 : BitVec 32 := 2#32
  let c0_i32_85 : BitVec 32 := 0#32
  let v182 : BitVec 1 := Scalar.cmpi .sgt c2_i32_82 c0_i32_85
  let v183 : BitVec 32 := Scalar.extui v182
  let c0_i32_86 : BitVec 32 := 0#32
  let v184 : BitVec 1 := Scalar.cmpi .slt c2_i32_82 c0_i32_86
  let v185 : BitVec 32 := Scalar.extui v184
  let v186 : BitVec 32 := Scalar.subi v183 v185
  let v187 : BitVec 1 := Scalar.cmpi .ne v181 v186
  let v188 : BitVec 32 := Scalar.remsi v175 c2_i32_82
  let c0_i32_87 : BitVec 32 := 0#32
  let v189 : BitVec 1 := Scalar.cmpi .ne v188 c0_i32_87
  let v190 : BitVec 1 := Scalar.andi v187 v189
  let v176 : BitVec 32 := Scalar.divsi v175 c2_i32_82
  let c1_i32_88 : BitVec 32 := 1#32
  let v191 : BitVec 32 := Scalar.subi v176 c1_i32_88
  let v192 : BitVec 32 := Scalar.select v190 v191 v176
  let v193 : BitVec 32 := Scalar.subi v192 c0_i32_90
  let c1_i32_91 : BitVec 32 := 1#32
  let v195 : BitVec 32 := Scalar.divsi v193 c1_i32_91
  let v196 : BitVec 32 := Scalar.muli v195 c1_i32_91
  let v197 : BitVec 32 := Scalar.addi c0_i32_90 v196
  let c1_i32_93 : BitVec 32 := 1#32
  let arg11 : BitVec 32 := Scf.iv v197 c1_i32_93 k0_t4
  let v247 : BitVec 32 := Scalar.muli c2_i32_132 arg11
  let v248 : BitVec 32 := Scalar.addi v174 v247
  let c1_i32_133 : BitVec 32 := 1#32
  let v249 : BitVec 32 := Scalar.addi v248 c1_i32_133
  let c512_i32_134 : BitVec 32 := 512#32
  let v250 : BitVec 32 := Scalar.muli v249 c512_i32_134
  let v251 : BitVec 32 := v250
  let v252 : Index := Scalar.indexCast v251
  let c0_135 : Index := 0#32
  ![v252.toNat, 0]
def k0_off50 (i : grid0.Coords) (k0_t4 : Fin (k0_t4_loop i).trips) : Fin 2 → Nat :=
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let v175 : BitVec 32 := Scalar.subi v42 v174
  let c0_i32_83 : BitVec 32 := 0#32
  let v177 : BitVec 1 := Scalar.cmpi .sgt v175 c0_i32_83
  let v178 : BitVec 32 := Scalar.extui v177
  let c0_i32_84 : BitVec 32 := 0#32
  let v179 : BitVec 1 := Scalar.cmpi .slt v175 c0_i32_84
  let v180 : BitVec 32 := Scalar.extui v179
  let v181 : BitVec 32 := Scalar.subi v178 v180
  let c2_i32_82 : BitVec 32 := 2#32
  let c0_i32_85 : BitVec 32 := 0#32
  let v182 : BitVec 1 := Scalar.cmpi .sgt c2_i32_82 c0_i32_85
  let v183 : BitVec 32 := Scalar.extui v182
  let c0_i32_86 : BitVec 32 := 0#32
  let v184 : BitVec 1 := Scalar.cmpi .slt c2_i32_82 c0_i32_86
  let v185 : BitVec 32 := Scalar.extui v184
  let v186 : BitVec 32 := Scalar.subi v183 v185
  let v187 : BitVec 1 := Scalar.cmpi .ne v181 v186
  let v188 : BitVec 32 := Scalar.remsi v175 c2_i32_82
  let c0_i32_87 : BitVec 32 := 0#32
  let v189 : BitVec 1 := Scalar.cmpi .ne v188 c0_i32_87
  let v190 : BitVec 1 := Scalar.andi v187 v189
  let v176 : BitVec 32 := Scalar.divsi v175 c2_i32_82
  let c1_i32_88 : BitVec 32 := 1#32
  let v191 : BitVec 32 := Scalar.subi v176 c1_i32_88
  let v192 : BitVec 32 := Scalar.select v190 v191 v176
  let v193 : BitVec 32 := Scalar.subi v192 c0_i32_90
  let c1_i32_91 : BitVec 32 := 1#32
  let v195 : BitVec 32 := Scalar.divsi v193 c1_i32_91
  let v196 : BitVec 32 := Scalar.muli v195 c1_i32_91
  let v197 : BitVec 32 := Scalar.addi c0_i32_90 v196
  let c1_i32_93 : BitVec 32 := 1#32
  let arg11 : BitVec 32 := Scf.iv v197 c1_i32_93 k0_t4
  let v247 : BitVec 32 := Scalar.muli c2_i32_132 arg11
  let v248 : BitVec 32 := Scalar.addi v174 v247
  let c1_i32_133 : BitVec 32 := 1#32
  let v249 : BitVec 32 := Scalar.addi v248 c1_i32_133
  let c512_i32_134 : BitVec 32 := 512#32
  let v250 : BitVec 32 := Scalar.muli v249 c512_i32_134
  let v251 : BitVec 32 := v250
  let v261 : Index := Scalar.indexCast v251
  let c256_142 : Index := 256#32
  ![v261.toNat, 256]
def k0_off51 (i : grid0.Coords) (k0_t4 : Fin (k0_t4_loop i).trips) : Fin 2 → Nat :=
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let v175 : BitVec 32 := Scalar.subi v42 v174
  let c0_i32_83 : BitVec 32 := 0#32
  let v177 : BitVec 1 := Scalar.cmpi .sgt v175 c0_i32_83
  let v178 : BitVec 32 := Scalar.extui v177
  let c0_i32_84 : BitVec 32 := 0#32
  let v179 : BitVec 1 := Scalar.cmpi .slt v175 c0_i32_84
  let v180 : BitVec 32 := Scalar.extui v179
  let v181 : BitVec 32 := Scalar.subi v178 v180
  let c2_i32_82 : BitVec 32 := 2#32
  let c0_i32_85 : BitVec 32 := 0#32
  let v182 : BitVec 1 := Scalar.cmpi .sgt c2_i32_82 c0_i32_85
  let v183 : BitVec 32 := Scalar.extui v182
  let c0_i32_86 : BitVec 32 := 0#32
  let v184 : BitVec 1 := Scalar.cmpi .slt c2_i32_82 c0_i32_86
  let v185 : BitVec 32 := Scalar.extui v184
  let v186 : BitVec 32 := Scalar.subi v183 v185
  let v187 : BitVec 1 := Scalar.cmpi .ne v181 v186
  let v188 : BitVec 32 := Scalar.remsi v175 c2_i32_82
  let c0_i32_87 : BitVec 32 := 0#32
  let v189 : BitVec 1 := Scalar.cmpi .ne v188 c0_i32_87
  let v190 : BitVec 1 := Scalar.andi v187 v189
  let v176 : BitVec 32 := Scalar.divsi v175 c2_i32_82
  let c1_i32_88 : BitVec 32 := 1#32
  let v191 : BitVec 32 := Scalar.subi v176 c1_i32_88
  let v192 : BitVec 32 := Scalar.select v190 v191 v176
  let v193 : BitVec 32 := Scalar.subi v192 c0_i32_90
  let c1_i32_91 : BitVec 32 := 1#32
  let v195 : BitVec 32 := Scalar.divsi v193 c1_i32_91
  let v196 : BitVec 32 := Scalar.muli v195 c1_i32_91
  let v197 : BitVec 32 := Scalar.addi c0_i32_90 v196
  let c1_i32_93 : BitVec 32 := 1#32
  let arg11 : BitVec 32 := Scf.iv v197 c1_i32_93 k0_t4
  let v247 : BitVec 32 := Scalar.muli c2_i32_132 arg11
  let v248 : BitVec 32 := Scalar.addi v174 v247
  let c1_i32_133 : BitVec 32 := 1#32
  let v249 : BitVec 32 := Scalar.addi v248 c1_i32_133
  let c512_i32_134 : BitVec 32 := 512#32
  let v250 : BitVec 32 := Scalar.muli v249 c512_i32_134
  let v251 : BitVec 32 := v250
  let v270 : Index := Scalar.indexCast v251
  let c512_149 : Index := 512#32
  ![v270.toNat, 512]
def k0_off52 (i : grid0.Coords) (k0_t4 : Fin (k0_t4_loop i).trips) : Fin 2 → Nat :=
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let v175 : BitVec 32 := Scalar.subi v42 v174
  let c0_i32_83 : BitVec 32 := 0#32
  let v177 : BitVec 1 := Scalar.cmpi .sgt v175 c0_i32_83
  let v178 : BitVec 32 := Scalar.extui v177
  let c0_i32_84 : BitVec 32 := 0#32
  let v179 : BitVec 1 := Scalar.cmpi .slt v175 c0_i32_84
  let v180 : BitVec 32 := Scalar.extui v179
  let v181 : BitVec 32 := Scalar.subi v178 v180
  let c2_i32_82 : BitVec 32 := 2#32
  let c0_i32_85 : BitVec 32 := 0#32
  let v182 : BitVec 1 := Scalar.cmpi .sgt c2_i32_82 c0_i32_85
  let v183 : BitVec 32 := Scalar.extui v182
  let c0_i32_86 : BitVec 32 := 0#32
  let v184 : BitVec 1 := Scalar.cmpi .slt c2_i32_82 c0_i32_86
  let v185 : BitVec 32 := Scalar.extui v184
  let v186 : BitVec 32 := Scalar.subi v183 v185
  let v187 : BitVec 1 := Scalar.cmpi .ne v181 v186
  let v188 : BitVec 32 := Scalar.remsi v175 c2_i32_82
  let c0_i32_87 : BitVec 32 := 0#32
  let v189 : BitVec 1 := Scalar.cmpi .ne v188 c0_i32_87
  let v190 : BitVec 1 := Scalar.andi v187 v189
  let v176 : BitVec 32 := Scalar.divsi v175 c2_i32_82
  let c1_i32_88 : BitVec 32 := 1#32
  let v191 : BitVec 32 := Scalar.subi v176 c1_i32_88
  let v192 : BitVec 32 := Scalar.select v190 v191 v176
  let v193 : BitVec 32 := Scalar.subi v192 c0_i32_90
  let c1_i32_91 : BitVec 32 := 1#32
  let v195 : BitVec 32 := Scalar.divsi v193 c1_i32_91
  let v196 : BitVec 32 := Scalar.muli v195 c1_i32_91
  let v197 : BitVec 32 := Scalar.addi c0_i32_90 v196
  let c1_i32_93 : BitVec 32 := 1#32
  let arg11 : BitVec 32 := Scf.iv v197 c1_i32_93 k0_t4
  let v247 : BitVec 32 := Scalar.muli c2_i32_132 arg11
  let v248 : BitVec 32 := Scalar.addi v174 v247
  let c1_i32_133 : BitVec 32 := 1#32
  let v249 : BitVec 32 := Scalar.addi v248 c1_i32_133
  let c512_i32_134 : BitVec 32 := 512#32
  let v250 : BitVec 32 := Scalar.muli v249 c512_i32_134
  let v251 : BitVec 32 := v250
  let v279 : Index := Scalar.indexCast v251
  let c768_156 : Index := 768#32
  ![v279.toNat, 768]
def k0_off53 (i : grid0.Coords) (k0_t4 : Fin (k0_t4_loop i).trips) : Fin 4 → Nat :=
  let c0_179 : Index := 0#32
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let v175 : BitVec 32 := Scalar.subi v42 v174
  let c0_i32_83 : BitVec 32 := 0#32
  let v177 : BitVec 1 := Scalar.cmpi .sgt v175 c0_i32_83
  let v178 : BitVec 32 := Scalar.extui v177
  let c0_i32_84 : BitVec 32 := 0#32
  let v179 : BitVec 1 := Scalar.cmpi .slt v175 c0_i32_84
  let v180 : BitVec 32 := Scalar.extui v179
  let v181 : BitVec 32 := Scalar.subi v178 v180
  let c2_i32_82 : BitVec 32 := 2#32
  let c0_i32_85 : BitVec 32 := 0#32
  let v182 : BitVec 1 := Scalar.cmpi .sgt c2_i32_82 c0_i32_85
  let v183 : BitVec 32 := Scalar.extui v182
  let c0_i32_86 : BitVec 32 := 0#32
  let v184 : BitVec 1 := Scalar.cmpi .slt c2_i32_82 c0_i32_86
  let v185 : BitVec 32 := Scalar.extui v184
  let v186 : BitVec 32 := Scalar.subi v183 v185
  let v187 : BitVec 1 := Scalar.cmpi .ne v181 v186
  let v188 : BitVec 32 := Scalar.remsi v175 c2_i32_82
  let c0_i32_87 : BitVec 32 := 0#32
  let v189 : BitVec 1 := Scalar.cmpi .ne v188 c0_i32_87
  let v190 : BitVec 1 := Scalar.andi v187 v189
  let v176 : BitVec 32 := Scalar.divsi v175 c2_i32_82
  let c1_i32_88 : BitVec 32 := 1#32
  let v191 : BitVec 32 := Scalar.subi v176 c1_i32_88
  let v192 : BitVec 32 := Scalar.select v190 v191 v176
  let v193 : BitVec 32 := Scalar.subi v192 c0_i32_90
  let c1_i32_91 : BitVec 32 := 1#32
  let v195 : BitVec 32 := Scalar.divsi v193 c1_i32_91
  let v196 : BitVec 32 := Scalar.muli v195 c1_i32_91
  let v197 : BitVec 32 := Scalar.addi c0_i32_90 v196
  let c1_i32_93 : BitVec 32 := 1#32
  let arg11 : BitVec 32 := Scf.iv v197 c1_i32_93 k0_t4
  let v247 : BitVec 32 := Scalar.muli c2_i32_132 arg11
  let v248 : BitVec 32 := Scalar.addi v174 v247
  let v334 : Index := Scalar.indexCast v248
  let c0_180 : Index := 0#32
  let c0_181 : Index := 0#32
  ![0, v334.toNat, 0, 0]
def k0_off54 (i : grid0.Coords) (k0_t4 : Fin (k0_t4_loop i).trips) : Fin 4 → Nat :=
  let c0_208 : Index := 0#32
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let v175 : BitVec 32 := Scalar.subi v42 v174
  let c0_i32_83 : BitVec 32 := 0#32
  let v177 : BitVec 1 := Scalar.cmpi .sgt v175 c0_i32_83
  let v178 : BitVec 32 := Scalar.extui v177
  let c0_i32_84 : BitVec 32 := 0#32
  let v179 : BitVec 1 := Scalar.cmpi .slt v175 c0_i32_84
  let v180 : BitVec 32 := Scalar.extui v179
  let v181 : BitVec 32 := Scalar.subi v178 v180
  let c2_i32_82 : BitVec 32 := 2#32
  let c0_i32_85 : BitVec 32 := 0#32
  let v182 : BitVec 1 := Scalar.cmpi .sgt c2_i32_82 c0_i32_85
  let v183 : BitVec 32 := Scalar.extui v182
  let c0_i32_86 : BitVec 32 := 0#32
  let v184 : BitVec 1 := Scalar.cmpi .slt c2_i32_82 c0_i32_86
  let v185 : BitVec 32 := Scalar.extui v184
  let v186 : BitVec 32 := Scalar.subi v183 v185
  let v187 : BitVec 1 := Scalar.cmpi .ne v181 v186
  let v188 : BitVec 32 := Scalar.remsi v175 c2_i32_82
  let c0_i32_87 : BitVec 32 := 0#32
  let v189 : BitVec 1 := Scalar.cmpi .ne v188 c0_i32_87
  let v190 : BitVec 1 := Scalar.andi v187 v189
  let v176 : BitVec 32 := Scalar.divsi v175 c2_i32_82
  let c1_i32_88 : BitVec 32 := 1#32
  let v191 : BitVec 32 := Scalar.subi v176 c1_i32_88
  let v192 : BitVec 32 := Scalar.select v190 v191 v176
  let v193 : BitVec 32 := Scalar.subi v192 c0_i32_90
  let c1_i32_91 : BitVec 32 := 1#32
  let v195 : BitVec 32 := Scalar.divsi v193 c1_i32_91
  let v196 : BitVec 32 := Scalar.muli v195 c1_i32_91
  let v197 : BitVec 32 := Scalar.addi c0_i32_90 v196
  let c1_i32_93 : BitVec 32 := 1#32
  let arg11 : BitVec 32 := Scf.iv v197 c1_i32_93 k0_t4
  let v247 : BitVec 32 := Scalar.muli c2_i32_132 arg11
  let v248 : BitVec 32 := Scalar.addi v174 v247
  let v395 : Index := Scalar.indexCast v248
  let c144 : Index := 144#32
  let c0_209 : Index := 0#32
  ![0, v395.toNat, 144, 0]
def k0_off55 (i : grid0.Coords) (k0_t4 : Fin (k0_t4_loop i).trips) : Fin 4 → Nat :=
  let c0_236 : Index := 0#32
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let v175 : BitVec 32 := Scalar.subi v42 v174
  let c0_i32_83 : BitVec 32 := 0#32
  let v177 : BitVec 1 := Scalar.cmpi .sgt v175 c0_i32_83
  let v178 : BitVec 32 := Scalar.extui v177
  let c0_i32_84 : BitVec 32 := 0#32
  let v179 : BitVec 1 := Scalar.cmpi .slt v175 c0_i32_84
  let v180 : BitVec 32 := Scalar.extui v179
  let v181 : BitVec 32 := Scalar.subi v178 v180
  let c2_i32_82 : BitVec 32 := 2#32
  let c0_i32_85 : BitVec 32 := 0#32
  let v182 : BitVec 1 := Scalar.cmpi .sgt c2_i32_82 c0_i32_85
  let v183 : BitVec 32 := Scalar.extui v182
  let c0_i32_86 : BitVec 32 := 0#32
  let v184 : BitVec 1 := Scalar.cmpi .slt c2_i32_82 c0_i32_86
  let v185 : BitVec 32 := Scalar.extui v184
  let v186 : BitVec 32 := Scalar.subi v183 v185
  let v187 : BitVec 1 := Scalar.cmpi .ne v181 v186
  let v188 : BitVec 32 := Scalar.remsi v175 c2_i32_82
  let c0_i32_87 : BitVec 32 := 0#32
  let v189 : BitVec 1 := Scalar.cmpi .ne v188 c0_i32_87
  let v190 : BitVec 1 := Scalar.andi v187 v189
  let v176 : BitVec 32 := Scalar.divsi v175 c2_i32_82
  let c1_i32_88 : BitVec 32 := 1#32
  let v191 : BitVec 32 := Scalar.subi v176 c1_i32_88
  let v192 : BitVec 32 := Scalar.select v190 v191 v176
  let v193 : BitVec 32 := Scalar.subi v192 c0_i32_90
  let c1_i32_91 : BitVec 32 := 1#32
  let v195 : BitVec 32 := Scalar.divsi v193 c1_i32_91
  let v196 : BitVec 32 := Scalar.muli v195 c1_i32_91
  let v197 : BitVec 32 := Scalar.addi c0_i32_90 v196
  let c1_i32_93 : BitVec 32 := 1#32
  let arg11 : BitVec 32 := Scf.iv v197 c1_i32_93 k0_t4
  let v247 : BitVec 32 := Scalar.muli c2_i32_132 arg11
  let v248 : BitVec 32 := Scalar.addi v174 v247
  let v456 : Index := Scalar.indexCast v248
  let c288 : Index := 288#32
  let c0_237 : Index := 0#32
  ![0, v456.toNat, 288, 0]
def k0_off56 (i : grid0.Coords) (k0_t4 : Fin (k0_t4_loop i).trips) : Fin 4 → Nat :=
  let c0_264 : Index := 0#32
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let v175 : BitVec 32 := Scalar.subi v42 v174
  let c0_i32_83 : BitVec 32 := 0#32
  let v177 : BitVec 1 := Scalar.cmpi .sgt v175 c0_i32_83
  let v178 : BitVec 32 := Scalar.extui v177
  let c0_i32_84 : BitVec 32 := 0#32
  let v179 : BitVec 1 := Scalar.cmpi .slt v175 c0_i32_84
  let v180 : BitVec 32 := Scalar.extui v179
  let v181 : BitVec 32 := Scalar.subi v178 v180
  let c2_i32_82 : BitVec 32 := 2#32
  let c0_i32_85 : BitVec 32 := 0#32
  let v182 : BitVec 1 := Scalar.cmpi .sgt c2_i32_82 c0_i32_85
  let v183 : BitVec 32 := Scalar.extui v182
  let c0_i32_86 : BitVec 32 := 0#32
  let v184 : BitVec 1 := Scalar.cmpi .slt c2_i32_82 c0_i32_86
  let v185 : BitVec 32 := Scalar.extui v184
  let v186 : BitVec 32 := Scalar.subi v183 v185
  let v187 : BitVec 1 := Scalar.cmpi .ne v181 v186
  let v188 : BitVec 32 := Scalar.remsi v175 c2_i32_82
  let c0_i32_87 : BitVec 32 := 0#32
  let v189 : BitVec 1 := Scalar.cmpi .ne v188 c0_i32_87
  let v190 : BitVec 1 := Scalar.andi v187 v189
  let v176 : BitVec 32 := Scalar.divsi v175 c2_i32_82
  let c1_i32_88 : BitVec 32 := 1#32
  let v191 : BitVec 32 := Scalar.subi v176 c1_i32_88
  let v192 : BitVec 32 := Scalar.select v190 v191 v176
  let v193 : BitVec 32 := Scalar.subi v192 c0_i32_90
  let c1_i32_91 : BitVec 32 := 1#32
  let v195 : BitVec 32 := Scalar.divsi v193 c1_i32_91
  let v196 : BitVec 32 := Scalar.muli v195 c1_i32_91
  let v197 : BitVec 32 := Scalar.addi c0_i32_90 v196
  let c1_i32_93 : BitVec 32 := 1#32
  let arg11 : BitVec 32 := Scf.iv v197 c1_i32_93 k0_t4
  let v247 : BitVec 32 := Scalar.muli c2_i32_132 arg11
  let v248 : BitVec 32 := Scalar.addi v174 v247
  let v517 : Index := Scalar.indexCast v248
  let c432 : Index := 432#32
  let c0_265 : Index := 0#32
  ![0, v517.toNat, 432, 0]
def k0_mult9 (i : grid0.Coords) (k0_t4 : Fin (k0_t4_loop i).trips) : BitVec 32 :=
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let v175 : BitVec 32 := Scalar.subi v42 v174
  let c0_i32_83 : BitVec 32 := 0#32
  let v177 : BitVec 1 := Scalar.cmpi .sgt v175 c0_i32_83
  let v178 : BitVec 32 := Scalar.extui v177
  let c0_i32_84 : BitVec 32 := 0#32
  let v179 : BitVec 1 := Scalar.cmpi .slt v175 c0_i32_84
  let v180 : BitVec 32 := Scalar.extui v179
  let v181 : BitVec 32 := Scalar.subi v178 v180
  let c2_i32_82 : BitVec 32 := 2#32
  let c0_i32_85 : BitVec 32 := 0#32
  let v182 : BitVec 1 := Scalar.cmpi .sgt c2_i32_82 c0_i32_85
  let v183 : BitVec 32 := Scalar.extui v182
  let c0_i32_86 : BitVec 32 := 0#32
  let v184 : BitVec 1 := Scalar.cmpi .slt c2_i32_82 c0_i32_86
  let v185 : BitVec 32 := Scalar.extui v184
  let v186 : BitVec 32 := Scalar.subi v183 v185
  let v187 : BitVec 1 := Scalar.cmpi .ne v181 v186
  let v188 : BitVec 32 := Scalar.remsi v175 c2_i32_82
  let c0_i32_87 : BitVec 32 := 0#32
  let v189 : BitVec 1 := Scalar.cmpi .ne v188 c0_i32_87
  let v190 : BitVec 1 := Scalar.andi v187 v189
  let v176 : BitVec 32 := Scalar.divsi v175 c2_i32_82
  let c1_i32_88 : BitVec 32 := 1#32
  let v191 : BitVec 32 := Scalar.subi v176 c1_i32_88
  let v192 : BitVec 32 := Scalar.select v190 v191 v176
  let v193 : BitVec 32 := Scalar.subi v192 c0_i32_90
  let c1_i32_91 : BitVec 32 := 1#32
  let v195 : BitVec 32 := Scalar.divsi v193 c1_i32_91
  let v196 : BitVec 32 := Scalar.muli v195 c1_i32_91
  let v197 : BitVec 32 := Scalar.addi c0_i32_90 v196
  let c1_i32_93 : BitVec 32 := 1#32
  let arg11 : BitVec 32 := Scf.iv v197 c1_i32_93 k0_t4
  let v247 : BitVec 32 := Scalar.muli c2_i32_132 arg11
  let v248 : BitVec 32 := Scalar.addi v174 v247
  let c2_i32_276 : BitVec 32 := 2#32
  let v532 : BitVec 32 := Scalar.addi v248 c2_i32_276
  let c7_i32 : BitVec 32 := 7#32
  let v533 : BitVec 32 := Scalar.minsi v532 c7_i32
  let c512_i32_277 : BitVec 32 := 512#32
  let v534 : BitVec 32 := Scalar.muli v533 c512_i32_277
  v534
def k0_off57 (i : grid0.Coords) (k0_t4 : Fin (k0_t4_loop i).trips) : Fin 2 → Nat :=
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let v175 : BitVec 32 := Scalar.subi v42 v174
  let c0_i32_83 : BitVec 32 := 0#32
  let v177 : BitVec 1 := Scalar.cmpi .sgt v175 c0_i32_83
  let v178 : BitVec 32 := Scalar.extui v177
  let c0_i32_84 : BitVec 32 := 0#32
  let v179 : BitVec 1 := Scalar.cmpi .slt v175 c0_i32_84
  let v180 : BitVec 32 := Scalar.extui v179
  let v181 : BitVec 32 := Scalar.subi v178 v180
  let c2_i32_82 : BitVec 32 := 2#32
  let c0_i32_85 : BitVec 32 := 0#32
  let v182 : BitVec 1 := Scalar.cmpi .sgt c2_i32_82 c0_i32_85
  let v183 : BitVec 32 := Scalar.extui v182
  let c0_i32_86 : BitVec 32 := 0#32
  let v184 : BitVec 1 := Scalar.cmpi .slt c2_i32_82 c0_i32_86
  let v185 : BitVec 32 := Scalar.extui v184
  let v186 : BitVec 32 := Scalar.subi v183 v185
  let v187 : BitVec 1 := Scalar.cmpi .ne v181 v186
  let v188 : BitVec 32 := Scalar.remsi v175 c2_i32_82
  let c0_i32_87 : BitVec 32 := 0#32
  let v189 : BitVec 1 := Scalar.cmpi .ne v188 c0_i32_87
  let v190 : BitVec 1 := Scalar.andi v187 v189
  let v176 : BitVec 32 := Scalar.divsi v175 c2_i32_82
  let c1_i32_88 : BitVec 32 := 1#32
  let v191 : BitVec 32 := Scalar.subi v176 c1_i32_88
  let v192 : BitVec 32 := Scalar.select v190 v191 v176
  let v193 : BitVec 32 := Scalar.subi v192 c0_i32_90
  let c1_i32_91 : BitVec 32 := 1#32
  let v195 : BitVec 32 := Scalar.divsi v193 c1_i32_91
  let v196 : BitVec 32 := Scalar.muli v195 c1_i32_91
  let v197 : BitVec 32 := Scalar.addi c0_i32_90 v196
  let c1_i32_93 : BitVec 32 := 1#32
  let arg11 : BitVec 32 := Scf.iv v197 c1_i32_93 k0_t4
  let v247 : BitVec 32 := Scalar.muli c2_i32_132 arg11
  let v248 : BitVec 32 := Scalar.addi v174 v247
  let c2_i32_276 : BitVec 32 := 2#32
  let v532 : BitVec 32 := Scalar.addi v248 c2_i32_276
  let c7_i32 : BitVec 32 := 7#32
  let v533 : BitVec 32 := Scalar.minsi v532 c7_i32
  let c512_i32_277 : BitVec 32 := 512#32
  let v534 : BitVec 32 := Scalar.muli v533 c512_i32_277
  let v535 : BitVec 32 := v534
  let v536 : Index := Scalar.indexCast v535
  let c0_278 : Index := 0#32
  ![v536.toNat, 0]
def k0_off58 (i : grid0.Coords) (k0_t4 : Fin (k0_t4_loop i).trips) : Fin 2 → Nat :=
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let v175 : BitVec 32 := Scalar.subi v42 v174
  let c0_i32_83 : BitVec 32 := 0#32
  let v177 : BitVec 1 := Scalar.cmpi .sgt v175 c0_i32_83
  let v178 : BitVec 32 := Scalar.extui v177
  let c0_i32_84 : BitVec 32 := 0#32
  let v179 : BitVec 1 := Scalar.cmpi .slt v175 c0_i32_84
  let v180 : BitVec 32 := Scalar.extui v179
  let v181 : BitVec 32 := Scalar.subi v178 v180
  let c2_i32_82 : BitVec 32 := 2#32
  let c0_i32_85 : BitVec 32 := 0#32
  let v182 : BitVec 1 := Scalar.cmpi .sgt c2_i32_82 c0_i32_85
  let v183 : BitVec 32 := Scalar.extui v182
  let c0_i32_86 : BitVec 32 := 0#32
  let v184 : BitVec 1 := Scalar.cmpi .slt c2_i32_82 c0_i32_86
  let v185 : BitVec 32 := Scalar.extui v184
  let v186 : BitVec 32 := Scalar.subi v183 v185
  let v187 : BitVec 1 := Scalar.cmpi .ne v181 v186
  let v188 : BitVec 32 := Scalar.remsi v175 c2_i32_82
  let c0_i32_87 : BitVec 32 := 0#32
  let v189 : BitVec 1 := Scalar.cmpi .ne v188 c0_i32_87
  let v190 : BitVec 1 := Scalar.andi v187 v189
  let v176 : BitVec 32 := Scalar.divsi v175 c2_i32_82
  let c1_i32_88 : BitVec 32 := 1#32
  let v191 : BitVec 32 := Scalar.subi v176 c1_i32_88
  let v192 : BitVec 32 := Scalar.select v190 v191 v176
  let v193 : BitVec 32 := Scalar.subi v192 c0_i32_90
  let c1_i32_91 : BitVec 32 := 1#32
  let v195 : BitVec 32 := Scalar.divsi v193 c1_i32_91
  let v196 : BitVec 32 := Scalar.muli v195 c1_i32_91
  let v197 : BitVec 32 := Scalar.addi c0_i32_90 v196
  let c1_i32_93 : BitVec 32 := 1#32
  let arg11 : BitVec 32 := Scf.iv v197 c1_i32_93 k0_t4
  let v247 : BitVec 32 := Scalar.muli c2_i32_132 arg11
  let v248 : BitVec 32 := Scalar.addi v174 v247
  let c2_i32_276 : BitVec 32 := 2#32
  let v532 : BitVec 32 := Scalar.addi v248 c2_i32_276
  let c7_i32 : BitVec 32 := 7#32
  let v533 : BitVec 32 := Scalar.minsi v532 c7_i32
  let c512_i32_277 : BitVec 32 := 512#32
  let v534 : BitVec 32 := Scalar.muli v533 c512_i32_277
  let v535 : BitVec 32 := v534
  let v545 : Index := Scalar.indexCast v535
  let c256_285 : Index := 256#32
  ![v545.toNat, 256]
def k0_off59 (i : grid0.Coords) (k0_t4 : Fin (k0_t4_loop i).trips) : Fin 2 → Nat :=
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let v175 : BitVec 32 := Scalar.subi v42 v174
  let c0_i32_83 : BitVec 32 := 0#32
  let v177 : BitVec 1 := Scalar.cmpi .sgt v175 c0_i32_83
  let v178 : BitVec 32 := Scalar.extui v177
  let c0_i32_84 : BitVec 32 := 0#32
  let v179 : BitVec 1 := Scalar.cmpi .slt v175 c0_i32_84
  let v180 : BitVec 32 := Scalar.extui v179
  let v181 : BitVec 32 := Scalar.subi v178 v180
  let c2_i32_82 : BitVec 32 := 2#32
  let c0_i32_85 : BitVec 32 := 0#32
  let v182 : BitVec 1 := Scalar.cmpi .sgt c2_i32_82 c0_i32_85
  let v183 : BitVec 32 := Scalar.extui v182
  let c0_i32_86 : BitVec 32 := 0#32
  let v184 : BitVec 1 := Scalar.cmpi .slt c2_i32_82 c0_i32_86
  let v185 : BitVec 32 := Scalar.extui v184
  let v186 : BitVec 32 := Scalar.subi v183 v185
  let v187 : BitVec 1 := Scalar.cmpi .ne v181 v186
  let v188 : BitVec 32 := Scalar.remsi v175 c2_i32_82
  let c0_i32_87 : BitVec 32 := 0#32
  let v189 : BitVec 1 := Scalar.cmpi .ne v188 c0_i32_87
  let v190 : BitVec 1 := Scalar.andi v187 v189
  let v176 : BitVec 32 := Scalar.divsi v175 c2_i32_82
  let c1_i32_88 : BitVec 32 := 1#32
  let v191 : BitVec 32 := Scalar.subi v176 c1_i32_88
  let v192 : BitVec 32 := Scalar.select v190 v191 v176
  let v193 : BitVec 32 := Scalar.subi v192 c0_i32_90
  let c1_i32_91 : BitVec 32 := 1#32
  let v195 : BitVec 32 := Scalar.divsi v193 c1_i32_91
  let v196 : BitVec 32 := Scalar.muli v195 c1_i32_91
  let v197 : BitVec 32 := Scalar.addi c0_i32_90 v196
  let c1_i32_93 : BitVec 32 := 1#32
  let arg11 : BitVec 32 := Scf.iv v197 c1_i32_93 k0_t4
  let v247 : BitVec 32 := Scalar.muli c2_i32_132 arg11
  let v248 : BitVec 32 := Scalar.addi v174 v247
  let c2_i32_276 : BitVec 32 := 2#32
  let v532 : BitVec 32 := Scalar.addi v248 c2_i32_276
  let c7_i32 : BitVec 32 := 7#32
  let v533 : BitVec 32 := Scalar.minsi v532 c7_i32
  let c512_i32_277 : BitVec 32 := 512#32
  let v534 : BitVec 32 := Scalar.muli v533 c512_i32_277
  let v535 : BitVec 32 := v534
  let v554 : Index := Scalar.indexCast v535
  let c512_292 : Index := 512#32
  ![v554.toNat, 512]
def k0_off60 (i : grid0.Coords) (k0_t4 : Fin (k0_t4_loop i).trips) : Fin 2 → Nat :=
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let v175 : BitVec 32 := Scalar.subi v42 v174
  let c0_i32_83 : BitVec 32 := 0#32
  let v177 : BitVec 1 := Scalar.cmpi .sgt v175 c0_i32_83
  let v178 : BitVec 32 := Scalar.extui v177
  let c0_i32_84 : BitVec 32 := 0#32
  let v179 : BitVec 1 := Scalar.cmpi .slt v175 c0_i32_84
  let v180 : BitVec 32 := Scalar.extui v179
  let v181 : BitVec 32 := Scalar.subi v178 v180
  let c2_i32_82 : BitVec 32 := 2#32
  let c0_i32_85 : BitVec 32 := 0#32
  let v182 : BitVec 1 := Scalar.cmpi .sgt c2_i32_82 c0_i32_85
  let v183 : BitVec 32 := Scalar.extui v182
  let c0_i32_86 : BitVec 32 := 0#32
  let v184 : BitVec 1 := Scalar.cmpi .slt c2_i32_82 c0_i32_86
  let v185 : BitVec 32 := Scalar.extui v184
  let v186 : BitVec 32 := Scalar.subi v183 v185
  let v187 : BitVec 1 := Scalar.cmpi .ne v181 v186
  let v188 : BitVec 32 := Scalar.remsi v175 c2_i32_82
  let c0_i32_87 : BitVec 32 := 0#32
  let v189 : BitVec 1 := Scalar.cmpi .ne v188 c0_i32_87
  let v190 : BitVec 1 := Scalar.andi v187 v189
  let v176 : BitVec 32 := Scalar.divsi v175 c2_i32_82
  let c1_i32_88 : BitVec 32 := 1#32
  let v191 : BitVec 32 := Scalar.subi v176 c1_i32_88
  let v192 : BitVec 32 := Scalar.select v190 v191 v176
  let v193 : BitVec 32 := Scalar.subi v192 c0_i32_90
  let c1_i32_91 : BitVec 32 := 1#32
  let v195 : BitVec 32 := Scalar.divsi v193 c1_i32_91
  let v196 : BitVec 32 := Scalar.muli v195 c1_i32_91
  let v197 : BitVec 32 := Scalar.addi c0_i32_90 v196
  let c1_i32_93 : BitVec 32 := 1#32
  let arg11 : BitVec 32 := Scf.iv v197 c1_i32_93 k0_t4
  let v247 : BitVec 32 := Scalar.muli c2_i32_132 arg11
  let v248 : BitVec 32 := Scalar.addi v174 v247
  let c2_i32_276 : BitVec 32 := 2#32
  let v532 : BitVec 32 := Scalar.addi v248 c2_i32_276
  let c7_i32 : BitVec 32 := 7#32
  let v533 : BitVec 32 := Scalar.minsi v532 c7_i32
  let c512_i32_277 : BitVec 32 := 512#32
  let v534 : BitVec 32 := Scalar.muli v533 c512_i32_277
  let v535 : BitVec 32 := v534
  let v563 : Index := Scalar.indexCast v535
  let c768_299 : Index := 768#32
  ![v563.toNat, 768]
def k0_off61 (i : grid0.Coords) (k0_t4 : Fin (k0_t4_loop i).trips) : Fin 4 → Nat :=
  let c0_323 : Index := 0#32
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let v175 : BitVec 32 := Scalar.subi v42 v174
  let c0_i32_83 : BitVec 32 := 0#32
  let v177 : BitVec 1 := Scalar.cmpi .sgt v175 c0_i32_83
  let v178 : BitVec 32 := Scalar.extui v177
  let c0_i32_84 : BitVec 32 := 0#32
  let v179 : BitVec 1 := Scalar.cmpi .slt v175 c0_i32_84
  let v180 : BitVec 32 := Scalar.extui v179
  let v181 : BitVec 32 := Scalar.subi v178 v180
  let c2_i32_82 : BitVec 32 := 2#32
  let c0_i32_85 : BitVec 32 := 0#32
  let v182 : BitVec 1 := Scalar.cmpi .sgt c2_i32_82 c0_i32_85
  let v183 : BitVec 32 := Scalar.extui v182
  let c0_i32_86 : BitVec 32 := 0#32
  let v184 : BitVec 1 := Scalar.cmpi .slt c2_i32_82 c0_i32_86
  let v185 : BitVec 32 := Scalar.extui v184
  let v186 : BitVec 32 := Scalar.subi v183 v185
  let v187 : BitVec 1 := Scalar.cmpi .ne v181 v186
  let v188 : BitVec 32 := Scalar.remsi v175 c2_i32_82
  let c0_i32_87 : BitVec 32 := 0#32
  let v189 : BitVec 1 := Scalar.cmpi .ne v188 c0_i32_87
  let v190 : BitVec 1 := Scalar.andi v187 v189
  let v176 : BitVec 32 := Scalar.divsi v175 c2_i32_82
  let c1_i32_88 : BitVec 32 := 1#32
  let v191 : BitVec 32 := Scalar.subi v176 c1_i32_88
  let v192 : BitVec 32 := Scalar.select v190 v191 v176
  let v193 : BitVec 32 := Scalar.subi v192 c0_i32_90
  let c1_i32_91 : BitVec 32 := 1#32
  let v195 : BitVec 32 := Scalar.divsi v193 c1_i32_91
  let v196 : BitVec 32 := Scalar.muli v195 c1_i32_91
  let v197 : BitVec 32 := Scalar.addi c0_i32_90 v196
  let c1_i32_93 : BitVec 32 := 1#32
  let arg11 : BitVec 32 := Scf.iv v197 c1_i32_93 k0_t4
  let v247 : BitVec 32 := Scalar.muli c2_i32_132 arg11
  let v248 : BitVec 32 := Scalar.addi v174 v247
  let c1_i32_306 : BitVec 32 := 1#32
  let v572 : BitVec 32 := Scalar.addi v248 c1_i32_306
  let v619 : Index := Scalar.indexCast v572
  let c0_324 : Index := 0#32
  let c0_325 : Index := 0#32
  ![0, v619.toNat, 0, 0]
def k0_off62 (i : grid0.Coords) (k0_t4 : Fin (k0_t4_loop i).trips) : Fin 4 → Nat :=
  let c0_352 : Index := 0#32
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let v175 : BitVec 32 := Scalar.subi v42 v174
  let c0_i32_83 : BitVec 32 := 0#32
  let v177 : BitVec 1 := Scalar.cmpi .sgt v175 c0_i32_83
  let v178 : BitVec 32 := Scalar.extui v177
  let c0_i32_84 : BitVec 32 := 0#32
  let v179 : BitVec 1 := Scalar.cmpi .slt v175 c0_i32_84
  let v180 : BitVec 32 := Scalar.extui v179
  let v181 : BitVec 32 := Scalar.subi v178 v180
  let c2_i32_82 : BitVec 32 := 2#32
  let c0_i32_85 : BitVec 32 := 0#32
  let v182 : BitVec 1 := Scalar.cmpi .sgt c2_i32_82 c0_i32_85
  let v183 : BitVec 32 := Scalar.extui v182
  let c0_i32_86 : BitVec 32 := 0#32
  let v184 : BitVec 1 := Scalar.cmpi .slt c2_i32_82 c0_i32_86
  let v185 : BitVec 32 := Scalar.extui v184
  let v186 : BitVec 32 := Scalar.subi v183 v185
  let v187 : BitVec 1 := Scalar.cmpi .ne v181 v186
  let v188 : BitVec 32 := Scalar.remsi v175 c2_i32_82
  let c0_i32_87 : BitVec 32 := 0#32
  let v189 : BitVec 1 := Scalar.cmpi .ne v188 c0_i32_87
  let v190 : BitVec 1 := Scalar.andi v187 v189
  let v176 : BitVec 32 := Scalar.divsi v175 c2_i32_82
  let c1_i32_88 : BitVec 32 := 1#32
  let v191 : BitVec 32 := Scalar.subi v176 c1_i32_88
  let v192 : BitVec 32 := Scalar.select v190 v191 v176
  let v193 : BitVec 32 := Scalar.subi v192 c0_i32_90
  let c1_i32_91 : BitVec 32 := 1#32
  let v195 : BitVec 32 := Scalar.divsi v193 c1_i32_91
  let v196 : BitVec 32 := Scalar.muli v195 c1_i32_91
  let v197 : BitVec 32 := Scalar.addi c0_i32_90 v196
  let c1_i32_93 : BitVec 32 := 1#32
  let arg11 : BitVec 32 := Scf.iv v197 c1_i32_93 k0_t4
  let v247 : BitVec 32 := Scalar.muli c2_i32_132 arg11
  let v248 : BitVec 32 := Scalar.addi v174 v247
  let c1_i32_306 : BitVec 32 := 1#32
  let v572 : BitVec 32 := Scalar.addi v248 c1_i32_306
  let v680 : Index := Scalar.indexCast v572
  let c144_353 : Index := 144#32
  let c0_354 : Index := 0#32
  ![0, v680.toNat, 144, 0]
def k0_off63 (i : grid0.Coords) (k0_t4 : Fin (k0_t4_loop i).trips) : Fin 4 → Nat :=
  let c0_381 : Index := 0#32
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let v175 : BitVec 32 := Scalar.subi v42 v174
  let c0_i32_83 : BitVec 32 := 0#32
  let v177 : BitVec 1 := Scalar.cmpi .sgt v175 c0_i32_83
  let v178 : BitVec 32 := Scalar.extui v177
  let c0_i32_84 : BitVec 32 := 0#32
  let v179 : BitVec 1 := Scalar.cmpi .slt v175 c0_i32_84
  let v180 : BitVec 32 := Scalar.extui v179
  let v181 : BitVec 32 := Scalar.subi v178 v180
  let c2_i32_82 : BitVec 32 := 2#32
  let c0_i32_85 : BitVec 32 := 0#32
  let v182 : BitVec 1 := Scalar.cmpi .sgt c2_i32_82 c0_i32_85
  let v183 : BitVec 32 := Scalar.extui v182
  let c0_i32_86 : BitVec 32 := 0#32
  let v184 : BitVec 1 := Scalar.cmpi .slt c2_i32_82 c0_i32_86
  let v185 : BitVec 32 := Scalar.extui v184
  let v186 : BitVec 32 := Scalar.subi v183 v185
  let v187 : BitVec 1 := Scalar.cmpi .ne v181 v186
  let v188 : BitVec 32 := Scalar.remsi v175 c2_i32_82
  let c0_i32_87 : BitVec 32 := 0#32
  let v189 : BitVec 1 := Scalar.cmpi .ne v188 c0_i32_87
  let v190 : BitVec 1 := Scalar.andi v187 v189
  let v176 : BitVec 32 := Scalar.divsi v175 c2_i32_82
  let c1_i32_88 : BitVec 32 := 1#32
  let v191 : BitVec 32 := Scalar.subi v176 c1_i32_88
  let v192 : BitVec 32 := Scalar.select v190 v191 v176
  let v193 : BitVec 32 := Scalar.subi v192 c0_i32_90
  let c1_i32_91 : BitVec 32 := 1#32
  let v195 : BitVec 32 := Scalar.divsi v193 c1_i32_91
  let v196 : BitVec 32 := Scalar.muli v195 c1_i32_91
  let v197 : BitVec 32 := Scalar.addi c0_i32_90 v196
  let c1_i32_93 : BitVec 32 := 1#32
  let arg11 : BitVec 32 := Scf.iv v197 c1_i32_93 k0_t4
  let v247 : BitVec 32 := Scalar.muli c2_i32_132 arg11
  let v248 : BitVec 32 := Scalar.addi v174 v247
  let c1_i32_306 : BitVec 32 := 1#32
  let v572 : BitVec 32 := Scalar.addi v248 c1_i32_306
  let v741 : Index := Scalar.indexCast v572
  let c288_382 : Index := 288#32
  let c0_383 : Index := 0#32
  ![0, v741.toNat, 288, 0]
def k0_off64 (i : grid0.Coords) (k0_t4 : Fin (k0_t4_loop i).trips) : Fin 4 → Nat :=
  let c0_410 : Index := 0#32
  let c2_i32_81 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let c2_i32_132 : BitVec 32 := 2#32
  let c0_i32_90 : BitVec 32 := 0#32
  let v175 : BitVec 32 := Scalar.subi v42 v174
  let c0_i32_83 : BitVec 32 := 0#32
  let v177 : BitVec 1 := Scalar.cmpi .sgt v175 c0_i32_83
  let v178 : BitVec 32 := Scalar.extui v177
  let c0_i32_84 : BitVec 32 := 0#32
  let v179 : BitVec 1 := Scalar.cmpi .slt v175 c0_i32_84
  let v180 : BitVec 32 := Scalar.extui v179
  let v181 : BitVec 32 := Scalar.subi v178 v180
  let c2_i32_82 : BitVec 32 := 2#32
  let c0_i32_85 : BitVec 32 := 0#32
  let v182 : BitVec 1 := Scalar.cmpi .sgt c2_i32_82 c0_i32_85
  let v183 : BitVec 32 := Scalar.extui v182
  let c0_i32_86 : BitVec 32 := 0#32
  let v184 : BitVec 1 := Scalar.cmpi .slt c2_i32_82 c0_i32_86
  let v185 : BitVec 32 := Scalar.extui v184
  let v186 : BitVec 32 := Scalar.subi v183 v185
  let v187 : BitVec 1 := Scalar.cmpi .ne v181 v186
  let v188 : BitVec 32 := Scalar.remsi v175 c2_i32_82
  let c0_i32_87 : BitVec 32 := 0#32
  let v189 : BitVec 1 := Scalar.cmpi .ne v188 c0_i32_87
  let v190 : BitVec 1 := Scalar.andi v187 v189
  let v176 : BitVec 32 := Scalar.divsi v175 c2_i32_82
  let c1_i32_88 : BitVec 32 := 1#32
  let v191 : BitVec 32 := Scalar.subi v176 c1_i32_88
  let v192 : BitVec 32 := Scalar.select v190 v191 v176
  let v193 : BitVec 32 := Scalar.subi v192 c0_i32_90
  let c1_i32_91 : BitVec 32 := 1#32
  let v195 : BitVec 32 := Scalar.divsi v193 c1_i32_91
  let v196 : BitVec 32 := Scalar.muli v195 c1_i32_91
  let v197 : BitVec 32 := Scalar.addi c0_i32_90 v196
  let c1_i32_93 : BitVec 32 := 1#32
  let arg11 : BitVec 32 := Scf.iv v197 c1_i32_93 k0_t4
  let v247 : BitVec 32 := Scalar.muli c2_i32_132 arg11
  let v248 : BitVec 32 := Scalar.addi v174 v247
  let c1_i32_306 : BitVec 32 := 1#32
  let v572 : BitVec 32 := Scalar.addi v248 c1_i32_306
  let v802 : Index := Scalar.indexCast v572
  let c432_411 : Index := 432#32
  let c0_412 : Index := 0#32
  ![0, v802.toNat, 432, 0]
def k0_cond1 (i : grid0.Coords) : BitVec 1 :=
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let c2_i32_81 : BitVec 32 := 2#32
  let c0_i32_19 : BitVec 32 := 0#32
  let v44 : BitVec 1 := Scalar.cmpi .sgt v1 c0_i32_19
  let v45 : BitVec 32 := Scalar.extui v44
  let c0_i32_20 : BitVec 32 := 0#32
  let v46 : BitVec 1 := Scalar.cmpi .slt v1 c0_i32_20
  let v47 : BitVec 32 := Scalar.extui v46
  let v48 : BitVec 32 := Scalar.subi v45 v47
  let c64_i32_18 : BitVec 32 := 64#32
  let c0_i32_21 : BitVec 32 := 0#32
  let v49 : BitVec 1 := Scalar.cmpi .sgt c64_i32_18 c0_i32_21
  let v50 : BitVec 32 := Scalar.extui v49
  let c0_i32_22 : BitVec 32 := 0#32
  let v51 : BitVec 1 := Scalar.cmpi .slt c64_i32_18 c0_i32_22
  let v52 : BitVec 32 := Scalar.extui v51
  let v53 : BitVec 32 := Scalar.subi v50 v52
  let v54 : BitVec 1 := Scalar.cmpi .ne v48 v53
  let v55 : BitVec 32 := Scalar.remsi v1 c64_i32_18
  let c0_i32_23 : BitVec 32 := 0#32
  let v56 : BitVec 1 := Scalar.cmpi .ne v55 c0_i32_23
  let v57 : BitVec 1 := Scalar.andi v54 v56
  let v43 : BitVec 32 := Scalar.divsi v1 c64_i32_18
  let c1_i32_24 : BitVec 32 := 1#32
  let v58 : BitVec 32 := Scalar.subi v43 c1_i32_24
  let v59 : BitVec 32 := Scalar.select v57 v58 v43
  let c1_i32_25 : BitVec 32 := 1#32
  let v60 : BitVec 32 := Scalar.addi v59 c1_i32_25
  let c64_i32_26 : BitVec 32 := 64#32
  let v61 : BitVec 32 := Scalar.muli v60 c64_i32_26
  let c0_i32_28 : BitVec 32 := 0#32
  let v63 : BitVec 1 := Scalar.cmpi .sgt v61 c0_i32_28
  let v64 : BitVec 32 := Scalar.extui v63
  let c0_i32_29 : BitVec 32 := 0#32
  let v65 : BitVec 1 := Scalar.cmpi .slt v61 c0_i32_29
  let v66 : BitVec 32 := Scalar.extui v65
  let v67 : BitVec 32 := Scalar.subi v64 v66
  let c512_i32_27 : BitVec 32 := 512#32
  let c0_i32_30 : BitVec 32 := 0#32
  let v68 : BitVec 1 := Scalar.cmpi .sgt c512_i32_27 c0_i32_30
  let v69 : BitVec 32 := Scalar.extui v68
  let c0_i32_31 : BitVec 32 := 0#32
  let v70 : BitVec 1 := Scalar.cmpi .slt c512_i32_27 c0_i32_31
  let v71 : BitVec 32 := Scalar.extui v70
  let v72 : BitVec 32 := Scalar.subi v69 v71
  let v73 : BitVec 1 := Scalar.cmpi .ne v67 v72
  let v74 : BitVec 32 := Scalar.remsi v61 c512_i32_27
  let c0_i32_32 : BitVec 32 := 0#32
  let v75 : BitVec 1 := Scalar.cmpi .ne v74 c0_i32_32
  let v76 : BitVec 1 := Scalar.andi v73 v75
  let v62 : BitVec 32 := Scalar.divsi v61 c512_i32_27
  let c1_i32_33 : BitVec 32 := 1#32
  let v77 : BitVec 32 := Scalar.subi v62 c1_i32_33
  let v78 : BitVec 32 := Scalar.select v76 v77 v62
  let v79 : BitVec 32 := Scalar.minsi v78 v42
  let c0_i32_70 : BitVec 32 := 0#32
  let v153 : BitVec 1 := Scalar.cmpi .sgt v79 c0_i32_70
  let v154 : BitVec 32 := Scalar.extui v153
  let c0_i32_71 : BitVec 32 := 0#32
  let v155 : BitVec 1 := Scalar.cmpi .slt v79 c0_i32_71
  let v156 : BitVec 32 := Scalar.extui v155
  let v157 : BitVec 32 := Scalar.subi v154 v156
  let c2_i32 : BitVec 32 := 2#32
  let c0_i32_72 : BitVec 32 := 0#32
  let v158 : BitVec 1 := Scalar.cmpi .sgt c2_i32 c0_i32_72
  let v159 : BitVec 32 := Scalar.extui v158
  let c0_i32_73 : BitVec 32 := 0#32
  let v160 : BitVec 1 := Scalar.cmpi .slt c2_i32 c0_i32_73
  let v161 : BitVec 32 := Scalar.extui v160
  let v162 : BitVec 32 := Scalar.subi v159 v161
  let v163 : BitVec 1 := Scalar.cmpi .ne v157 v162
  let v164 : BitVec 32 := Scalar.remsi v79 c2_i32
  let c0_i32_74 : BitVec 32 := 0#32
  let v165 : BitVec 1 := Scalar.cmpi .ne v164 c0_i32_74
  let v166 : BitVec 1 := Scalar.andi v163 v165
  let v152 : BitVec 32 := Scalar.divsi v79 c2_i32
  let c1_i32_75 : BitVec 32 := 1#32
  let v167 : BitVec 32 := Scalar.subi v152 c1_i32_75
  let v168 : BitVec 32 := Scalar.select v166 v167 v152
  let v174 : BitVec 32 := Scalar.muli c2_i32_81 v168
  let v175 : BitVec 32 := Scalar.subi v42 v174
  let c2_i32_94 : BitVec 32 := 2#32
  let c0_i32_95 : BitVec 32 := 0#32
  let v198 : BitVec 1 := Scalar.cmpi .eq c2_i32_94 c0_i32_95
  let c1_i32_96 : BitVec 32 := 1#32
  let v199 : BitVec 32 := Scalar.select v198 c1_i32_96 c2_i32_94
  let v200 : BitVec 32 := Scalar.remsi v175 v199
  let c0_i32_98 : BitVec 32 := 0#32
  let v202 : BitVec 1 := Scalar.cmpi .slt v200 c0_i32_98
  let c0_i32_99 : BitVec 32 := 0#32
  let v203 : BitVec 1 := Scalar.cmpi .slt v199 c0_i32_99
  let v204 : BitVec 1 := Scalar.xori v202 v203
  let c0_i32_97 : BitVec 32 := 0#32
  let v201 : BitVec 1 := Scalar.cmpi .ne v200 c0_i32_97
  let v205 : BitVec 1 := Scalar.andi v204 v201
  let v206 : BitVec 32 := Scalar.addi v200 v199
  let v207 : BitVec 32 := Scalar.select v205 v206 v200
  let c1_i32_100 : BitVec 32 := 1#32
  let v208 : BitVec 1 := Scalar.cmpi .eq v207 c1_i32_100
  let v209 : BitVec 32 := Scalar.extui v208
  let c0_i32_101 : BitVec 32 := 0#32
  let v210 : BitVec 1 := Scalar.cmpi .ne v209 c0_i32_101
  v210

def k0_off65 (i : grid0.Coords) : Fin 4 → Nat :=
  let c0_149 : Index := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let c1_i32_132 : BitVec 32 := 1#32
  let v247 : BitVec 32 := Scalar.subi v42 c1_i32_132
  let v294 : Index := Scalar.indexCast v247
  let c0_150 : Index := 0#32
  let c0_151 : Index := 0#32
  ![0, v294.toNat, 0, 0]
def k0_off66 (i : grid0.Coords) : Fin 4 → Nat :=
  let c0_178 : Index := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let c1_i32_132 : BitVec 32 := 1#32
  let v247 : BitVec 32 := Scalar.subi v42 c1_i32_132
  let v355 : Index := Scalar.indexCast v247
  let c144 : Index := 144#32
  let c0_179 : Index := 0#32
  ![0, v355.toNat, 144, 0]
def k0_off67 (i : grid0.Coords) : Fin 4 → Nat :=
  let c0_206 : Index := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let c1_i32_132 : BitVec 32 := 1#32
  let v247 : BitVec 32 := Scalar.subi v42 c1_i32_132
  let v416 : Index := Scalar.indexCast v247
  let c288 : Index := 288#32
  let c0_207 : Index := 0#32
  ![0, v416.toNat, 288, 0]
def k0_off68 (i : grid0.Coords) : Fin 4 → Nat :=
  let c0_234 : Index := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c512_i32_0 : BitVec 32 := 512#32
  let v2 : BitVec 32 := Scalar.addi v1 c512_i32_0
  let c1_i32 : BitVec 32 := 1#32
  let v3 : BitVec 32 := Scalar.subi v2 c1_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c64_i32 : BitVec 32 := 64#32
  let c0_i32_3 : BitVec 32 := 0#32
  let v10 : BitVec 1 := Scalar.cmpi .sgt c64_i32 c0_i32_3
  let v11 : BitVec 32 := Scalar.extui v10
  let c0_i32_4 : BitVec 32 := 0#32
  let v12 : BitVec 1 := Scalar.cmpi .slt c64_i32 c0_i32_4
  let v13 : BitVec 32 := Scalar.extui v12
  let v14 : BitVec 32 := Scalar.subi v11 v13
  let v15 : BitVec 1 := Scalar.cmpi .ne v9 v14
  let v16 : BitVec 32 := Scalar.remsi v3 c64_i32
  let c0_i32_5 : BitVec 32 := 0#32
  let v17 : BitVec 1 := Scalar.cmpi .ne v16 c0_i32_5
  let v18 : BitVec 1 := Scalar.andi v15 v17
  let v4 : BitVec 32 := Scalar.divsi v3 c64_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c64_i32_8 : BitVec 32 := 64#32
  let v22 : BitVec 32 := Scalar.muli v21 c64_i32_8
  let c512_i32_9 : BitVec 32 := 512#32
  let v23 : BitVec 32 := Scalar.addi v22 c512_i32_9
  let c1_i32_10 : BitVec 32 := 1#32
  let v24 : BitVec 32 := Scalar.subi v23 c1_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c8_i32 : BitVec 32 := 8#32
  let v42 : BitVec 32 := Scalar.minsi v41 c8_i32
  let c1_i32_132 : BitVec 32 := 1#32
  let v247 : BitVec 32 := Scalar.subi v42 c1_i32_132
  let v477 : Index := Scalar.indexCast v247
  let c432 : Index := 432#32
  let c0_235 : Index := 0#32
  ![0, v477.toNat, 432, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x576x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x4096x16x128 : Shape := ⟨4, ![2, 4096, 16, 128]⟩
abbrev S2x4096x16x64 : Shape := ⟨4, ![2, 4096, 16, 64]⟩
abbrev S2x4096x64 : Shape := ⟨3, ![2, 4096, 64]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S2x4096x16x32 : Shape := ⟨4, ![2, 4096, 16, 32]⟩
abbrev S2x16x4096x4096 : Shape := ⟨4, ![2, 16, 4096, 4096]⟩
abbrev S2x4096x4096x16 : Shape := ⟨4, ![2, 4096, 4096, 16]⟩
abbrev S1x4096 : Shape := ⟨2, ![1, 4096]⟩
abbrev S4096x4096 : Shape := ⟨2, ![4096, 4096]⟩
abbrev S1x1x4096x4096 : Shape := ⟨4, ![1, 1, 4096, 4096]⟩
abbrev S2x16x4096 : Shape := ⟨3, ![2, 16, 4096]⟩
abbrev S2x16x4096x1 : Shape := ⟨4, ![2, 16, 4096, 1]⟩
abbrev S2x16x128x4096 : Shape := ⟨4, ![2, 16, 128, 4096]⟩
abbrev S8192x2048 : Shape := ⟨2, ![8192, 2048]⟩

abbrev nBuf : Space → Nat
  | .hbm => 109
  | .vmem => 0
  | .smem => 0
  | _ => 0

abbrev bufTy : (tb : Table) → Fin (tcTables nBuf tb) → BufTy
  | .hbm, ⟨0, _⟩ => ⟨S2x4096x16x128, .f32⟩
  | .hbm, ⟨1, _⟩ => ⟨S2x4096x16x64, .f32⟩
  | .hbm, ⟨2, _⟩ => ⟨S2x4096x16x128, .f32⟩
  | .hbm, ⟨3, _⟩ => ⟨S2x4096x64, .f32⟩
  | .hbm, ⟨4, _⟩ => ⟨S2x4096x16x128, .f32⟩
  | .hbm, ⟨5, _⟩ => ⟨S4096, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S4096, .f32⟩
  | .hbm, ⟨15, _⟩ => ⟨S4096x1, .f32⟩
  | .hbm, ⟨16, _⟩ => ⟨S1x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S1x4096x1x32, .f32⟩
  | .hbm, ⟨22, _⟩ => ⟨S4096x32, .f32⟩
  | .hbm, ⟨23, _⟩ => ⟨S1x4096x1x32, .f32⟩
  | .hbm, ⟨24, _⟩ => ⟨S2x4096x16x32, .f32⟩
  | .hbm, ⟨25, _⟩ => ⟨S2x4096x16x32, .f32⟩
  | .hbm, ⟨26, _⟩ => ⟨S2x4096x16x32, .f32⟩
  | .hbm, ⟨27, _⟩ => ⟨S2x4096x16x32, .f32⟩
  | .hbm, ⟨28, _⟩ => ⟨S2x4096x16x32, .f32⟩
  | .hbm, ⟨29, _⟩ => ⟨S2x4096x16x32, .f32⟩
  | .hbm, ⟨30, _⟩ => ⟨S2x4096x16x32, .f32⟩
  | .hbm, ⟨31, _⟩ => ⟨S2x4096x16x32, .f32⟩
  | .hbm, ⟨32, _⟩ => ⟨S2x4096x16x32, .f32⟩
  | .hbm, ⟨33, _⟩ => ⟨S2x4096x16x32, .f32⟩
  | .hbm, ⟨34, _⟩ => ⟨S2x4096x16x32, .f32⟩
  | .hbm, ⟨35, _⟩ => ⟨S2x4096x16x32, .f32⟩
  | .hbm, ⟨36, _⟩ => ⟨S2x4096x16x64, .f32⟩
  | .hbm, ⟨37, _⟩ => ⟨S2x16x4096x4096, .f32⟩
  | .hbm, ⟨38, _⟩ => ⟨S2x4096x4096x16, .f32⟩
  | .hbm, ⟨39, _⟩ => ⟨S2x16x4096x4096, .f32⟩
  | .hbm, ⟨40, _⟩ => ⟨S2x16x4096x4096, .f32⟩
  | .hbm, ⟨41, _⟩ => ⟨S_, .f32⟩
  | .hbm, ⟨42, _⟩ => ⟨S2x16x4096x4096, .f32⟩
  | .hbm, ⟨43, _⟩ => ⟨S2x16x4096x4096, .f32⟩
  | .hbm, ⟨44, _⟩ => ⟨S1x4096, .i32⟩
  | .hbm, ⟨45, _⟩ => ⟨S_, .i32⟩
  | .hbm, ⟨46, _⟩ => ⟨S_, .i32⟩
  | .hbm, ⟨47, _⟩ => ⟨S1x4096, .i32⟩
  | .hbm, ⟨48, _⟩ => ⟨S1x4096, .i32⟩
  | .hbm, ⟨49, _⟩ => ⟨S1x4096, .i32⟩
  | .hbm, ⟨50, _⟩ => ⟨S_, .i32⟩
  | .hbm, ⟨51, _⟩ => ⟨S1x4096, .i32⟩
  | .hbm, ⟨52, _⟩ => ⟨S1x4096, .i1⟩
  | .hbm, ⟨53, _⟩ => ⟨S1x4096, .i32⟩
  | .hbm, ⟨54, _⟩ => ⟨S1x4096, .i32⟩
  | .hbm, ⟨55, _⟩ => ⟨S_, .i32⟩
  | .hbm, ⟨56, _⟩ => ⟨S1x4096, .i32⟩
  | .hbm, ⟨57, _⟩ => ⟨S1x4096, .i1⟩
  | .hbm, ⟨58, _⟩ => ⟨S1x4096, .i1⟩
  | .hbm, ⟨59, _⟩ => ⟨S_, .i32⟩
  | .hbm, ⟨60, _⟩ => ⟨S1x4096, .i32⟩
  | .hbm, ⟨61, _⟩ => ⟨S1x4096, .i32⟩
  | .hbm, ⟨62, _⟩ => ⟨S1x4096, .i32⟩
  | .hbm, ⟨63, _⟩ => ⟨S4096x1, .i32⟩
  | .hbm, ⟨64, _⟩ => ⟨S_, .i32⟩
  | .hbm, ⟨65, _⟩ => ⟨S_, .i32⟩
  | .hbm, ⟨66, _⟩ => ⟨S4096x1, .i32⟩
  | .hbm, ⟨67, _⟩ => ⟨S4096x1, .i32⟩
  | .hbm, ⟨68, _⟩ => ⟨S4096x1, .i32⟩
  | .hbm, ⟨69, _⟩ => ⟨S_, .i32⟩
  | .hbm, ⟨70, _⟩ => ⟨S4096x1, .i32⟩
  | .hbm, ⟨71, _⟩ => ⟨S4096x1, .i1⟩
  | .hbm, ⟨72, _⟩ => ⟨S4096x1, .i32⟩
  | .hbm, ⟨73, _⟩ => ⟨S4096x1, .i32⟩
  | .hbm, ⟨74, _⟩ => ⟨S_, .i32⟩
  | .hbm, ⟨75, _⟩ => ⟨S4096x1, .i32⟩
  | .hbm, ⟨76, _⟩ => ⟨S4096x1, .i1⟩
  | .hbm, ⟨77, _⟩ => ⟨S4096x1, .i1⟩
  | .hbm, ⟨78, _⟩ => ⟨S_, .i32⟩
  | .hbm, ⟨79, _⟩ => ⟨S4096x1, .i32⟩
  | .hbm, ⟨80, _⟩ => ⟨S4096x1, .i32⟩
  | .hbm, ⟨81, _⟩ => ⟨S4096x1, .i32⟩
  | .hbm, ⟨82, _⟩ => ⟨S4096x4096, .i32⟩
  | .hbm, ⟨83, _⟩ => ⟨S4096x4096, .i32⟩
  | .hbm, ⟨84, _⟩ => ⟨S4096x4096, .i1⟩
  | .hbm, ⟨85, _⟩ => ⟨S1x1x4096x4096, .i1⟩
  | .hbm, ⟨86, _⟩ => ⟨S_, .f32⟩
  | .hbm, ⟨87, _⟩ => ⟨S_, .f32⟩
  | .hbm, ⟨88, _⟩ => ⟨S2x16x4096x4096, .i1⟩
  | .hbm, ⟨89, _⟩ => ⟨S2x16x4096x4096, .f32⟩
  | .hbm, ⟨90, _⟩ => ⟨S2x16x4096x4096, .f32⟩
  | .hbm, ⟨91, _⟩ => ⟨S_, .f32⟩
  | .hbm, ⟨92, _⟩ => ⟨S2x16x4096, .f32⟩
  | .hbm, ⟨93, _⟩ => ⟨S_, .f32⟩
  | .hbm, ⟨94, _⟩ => ⟨S2x16x4096, .f32⟩
  | .hbm, ⟨95, _⟩ => ⟨S2x16x4096, .f32⟩
  | .hbm, ⟨96, _⟩ => ⟨S2x16x4096x1, .f32⟩
  | .hbm, ⟨97, _⟩ => ⟨S2x16x4096x4096, .f32⟩
  | .hbm, ⟨98, _⟩ => ⟨S2x16x4096x4096, .f32⟩
  | .hbm, ⟨99, _⟩ => ⟨S2x16x4096x4096, .f32⟩
  | .hbm, ⟨100, _⟩ => ⟨S_, .f32⟩
  | .hbm, ⟨101, _⟩ => ⟨S2x16x4096, .f32⟩
  | .hbm, ⟨102, _⟩ => ⟨S2x16x4096x1, .f32⟩
  | .hbm, ⟨103, _⟩ => ⟨S2x16x4096x4096, .f32⟩
  | .hbm, ⟨104, _⟩ => ⟨S2x16x4096x4096, .f32⟩
  | .hbm, ⟨105, _⟩ => ⟨S2x16x128x4096, .f32⟩
  | .hbm, ⟨106, _⟩ => ⟨S2x4096x16x128, .f32⟩
  | .hbm, ⟨107, _⟩ => ⟨S8192x2048, .f32⟩
  | .hbm, ⟨108, _⟩ => ⟨S8192x2048, .bf16⟩
  | _, _ => ⟨S2x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_1 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_c : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_0 : Ref sig .tc := ⟨.hbm, 59, rfl⟩
abbrev main_call0_v12 : Ref sig .tc := ⟨.hbm, 60, rfl⟩
abbrev main_call0_v13 : Ref sig .tc := ⟨.hbm, 61, rfl⟩
abbrev main_v37 : Ref sig .tc := ⟨.hbm, 62, rfl⟩
abbrev main_v38 : Ref sig .tc := ⟨.hbm, 63, rfl⟩
abbrev main_c_2 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_c : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_0 : Ref sig .tc := ⟨.hbm, 78, rfl⟩
abbrev main_call1_v12 : Ref sig .tc := ⟨.hbm, 79, rfl⟩
abbrev main_call1_v13 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_cst_3 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v44 : Ref sig .tc := ⟨.hbm, 90, rfl⟩
abbrev main_cst_4 : Ref sig .tc := ⟨.hbm, 91, rfl⟩
abbrev main_v45 : Ref sig .tc := ⟨.hbm, 92, rfl⟩
abbrev main_cst_5 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_cst_6 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩

abbrev nD : Nat := 1
abbrev τ : Topo := Topo.v7x

variable {F : FTy → Type} [FloatOps F]
-- ==== Kernel2.lean ====
abbrev S2x4096x2048 : Shape := ⟨3, ![2, 4096, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2x2x11264 : Shape := ⟨3, ![2, 2, 11264]⟩
abbrev S2048x5632 : Shape := ⟨2, ![2048, 5632]⟩
abbrev S1x2048 : Shape := ⟨2, ![1, 2048]⟩
abbrev S3x2x5632 : Shape := ⟨3, ![3, 2, 5632]⟩
abbrev S1x2x5632 : Shape := ⟨3, ![1, 2, 5632]⟩
abbrev S2x2x2x5632 : Shape := ⟨4, ![2, 2, 2, 5632]⟩
abbrev S2x8x2x2x5632 : Shape := ⟨5, ![2, 8, 2, 2, 5632]⟩
abbrev S1x512x2048 : Shape := ⟨3, ![1, 512, 2048]⟩
abbrev S1x16x2048 : Shape := ⟨3, ![1, 16, 2048]⟩
abbrev S2048x512 : Shape := ⟨2, ![2048, 512]⟩
abbrev S3x2x512 : Shape := ⟨3, ![3, 2, 512]⟩
abbrev S1x2x512 : Shape := ⟨3, ![1, 2, 512]⟩
abbrev S512x2048 : Shape := ⟨2, ![512, 2048]⟩
abbrev S1x2x2x512 : Shape := ⟨4, ![1, 2, 2, 512]⟩
abbrev S1x1x2x2x512 : Shape := ⟨5, ![1, 1, 2, 2, 512]⟩
abbrev S1x528x2048 : Shape := ⟨3, ![1, 528, 2048]⟩
abbrev S1x528x512 : Shape := ⟨3, ![1, 528, 512]⟩
abbrev S1x16 : Shape := ⟨2, ![1, 16]⟩
abbrev S1x16x1 : Shape := ⟨3, ![1, 16, 1]⟩
abbrev S1x1x2048 : Shape := ⟨3, ![1, 1, 2048]⟩
abbrev S1x512 : Shape := ⟨2, ![1, 512]⟩
abbrev S1x512x1 : Shape := ⟨3, ![1, 512, 1]⟩
abbrev S528x2048 : Shape := ⟨2, ![528, 2048]⟩
abbrev S528x512 : Shape := ⟨2, ![528, 512]⟩
abbrev S1x2x1x512 : Shape := ⟨4, ![1, 2, 1, 512]⟩
abbrev S1x1x512 : Shape := ⟨3, ![1, 1, 512]⟩
abbrev S1x512x512 : Shape := ⟨3, ![1, 512, 512]⟩
abbrev S1x1x2x1x512 : Shape := ⟨5, ![1, 1, 2, 1, 512]⟩
abbrev S512x512 : Shape := ⟨2, ![512, 512]⟩

abbrev nBuf : Space → Nat
  | .hbm => 18
  | .vmem => 24
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S11264, .f32⟩
  | .hbm, ⟨5, _⟩ => ⟨S5632x2048, .f32⟩
  | .hbm, ⟨6, _⟩ => ⟨S2x2x11264, .f32⟩
  | .hbm, ⟨7, _⟩ => ⟨S2048x5632, .f32⟩
  | .hbm, ⟨8, _⟩ => ⟨S2048x5632, .bf16⟩
  | .hbm, ⟨9, _⟩ => ⟨S2048x5632, .f32⟩
  | .hbm, ⟨10, _⟩ => ⟨S2048x5632, .bf16⟩
  | .hbm, ⟨11, _⟩ => ⟨S5632x2048, .bf16⟩
  | .hbm, ⟨12, _⟩ => ⟨S1x2048, .f32⟩
  | .hbm, ⟨13, _⟩ => ⟨S3x2x5632, .f32⟩
  | .hbm, ⟨14, _⟩ => ⟨S1x2x5632, .f32⟩
  | .hbm, ⟨15, _⟩ => ⟨S2x2x2x5632, .f32⟩
  | .hbm, ⟨16, _⟩ => ⟨S2x4096x2048, .f32⟩
  | .hbm, ⟨17, _⟩ => ⟨S2x8x2x2x5632, .f32⟩
  | .local _ .vmem, ⟨0, _⟩ => ⟨S1x512x2048, .f32⟩
  | .local _ .vmem, ⟨1, _⟩ => ⟨S1x512x2048, .f32⟩
  | .local _ .vmem, ⟨2, _⟩ => ⟨S1x16x2048, .f32⟩
  | .local _ .vmem, ⟨3, _⟩ => ⟨S1x16x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S3x2x512, .f32⟩
  | .local _ .vmem, ⟨10, _⟩ => ⟨S3x2x512, .f32⟩
  | .local _ .vmem, ⟨11, _⟩ => ⟨S1x2x512, .f32⟩
  | .local _ .vmem, ⟨12, _⟩ => ⟨S1x2x512, .f32⟩
  | .local _ .vmem, ⟨13, _⟩ => ⟨S512x2048, .bf16⟩
  | .local _ .vmem, ⟨14, _⟩ => ⟨S512x2048, .bf16⟩
  | .local _ .vmem, ⟨15, _⟩ => ⟨S1x2x2x512, .f32⟩
  | .local _ .vmem, ⟨16, _⟩ => ⟨S1x2x2x512, .f32⟩
  | .local _ .vmem, ⟨17, _⟩ => ⟨S1x512x2048, .f32⟩
  | .local _ .vmem, ⟨18, _⟩ => ⟨S1x512x2048, .f32⟩
  | .local _ .vmem, ⟨19, _⟩ => ⟨S1x1x2x2x512, .f32⟩
  | .local _ .vmem, ⟨20, _⟩ => ⟨S1x1x2x2x512, .f32⟩
  | .local _ .vmem, ⟨21, _⟩ => ⟨S1x528x2048, .bf16⟩
  | .local _ .vmem, ⟨22, _⟩ => ⟨S1x528x512, .f32⟩
  | .local _ .vmem, ⟨23, _⟩ => ⟨S1x528x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![2, 8, 11], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_10 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S3x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x2x2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x2x2x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Reference2Ideal.lean ====
abbrev S2x4096x2048 : Shape := ⟨3, ![2, 4096, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2x2x11264 : Shape := ⟨3, ![2, 2, 11264]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x11264 : Shape := ⟨3, ![2, 4096, 11264]⟩
abbrev S2x4098x11264 : Shape := ⟨3, ![2, 4098, 11264]⟩
abbrev S1x11264 : Shape := ⟨2, ![1, 11264]⟩
abbrev S1x1x11264 : Shape := ⟨3, ![1, 1, 11264]⟩
abbrev S2x4096x5632 : Shape := ⟨3, ![2, 4096, 5632]⟩

abbrev nBuf : Space → Nat
  | .hbm => 62
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S11264, .f32⟩
  | .hbm, ⟨5, _⟩ => ⟨S5632x2048, .f32⟩
  | .hbm, ⟨6, _⟩ => ⟨S2x2x11264, .f32⟩
  | .hbm, ⟨7, _⟩ => ⟨S2x4096x2048, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S2x4096x11264, .f32⟩
  | .hbm, ⟨24, _⟩ => ⟨S2x4098x11264, .f32⟩
  | .hbm, ⟨25, _⟩ => ⟨S1x11264, .f32⟩
  | .hbm, ⟨26, _⟩ => ⟨S11264, .f32⟩
  | .hbm, ⟨27, _⟩ => ⟨S2x4096x11264, .f32⟩
  | .hbm, ⟨28, _⟩ => ⟨S1x1x11264, .f32⟩
  | .hbm, ⟨29, _⟩ => ⟨S2x4096x11264, .f32⟩
  | .hbm, ⟨30, _⟩ => ⟨S2x4096x11264, .f32⟩
  | .hbm, ⟨31, _⟩ => ⟨S1x1x11264, .f32⟩
  | .hbm, ⟨32, _⟩ => ⟨S2x4096x11264, .f32⟩
  | .hbm, ⟨33, _⟩ => ⟨S2x4096x11264, .f32⟩
  | .hbm, ⟨34, _⟩ => ⟨S1x11264, .f32⟩
  | .hbm, ⟨35, _⟩ => ⟨S11264, .f32⟩
  | .hbm, ⟨36, _⟩ => ⟨S2x4096x11264, .f32⟩
  | .hbm, ⟨37, _⟩ => ⟨S1x1x11264, .f32⟩
  | .hbm, ⟨38, _⟩ => ⟨S2x4096x11264, .f32⟩
  | .hbm, ⟨39, _⟩ => ⟨S2x4096x11264, .f32⟩
  | .hbm, ⟨40, _⟩ => ⟨S2x4096x11264, .f32⟩
  | .hbm, ⟨41, _⟩ => ⟨S1x11264, .f32⟩
  | .hbm, ⟨42, _⟩ => ⟨S11264, .f32⟩
  | .hbm, ⟨43, _⟩ => ⟨S2x4096x11264, .f32⟩
  | .hbm, ⟨44, _⟩ => ⟨S1x1x11264, .f32⟩
  | .hbm, ⟨45, _⟩ => ⟨S2x4096x11264, .f32⟩
  | .hbm, ⟨46, _⟩ => ⟨S2x4096x11264, .f32⟩
  | .hbm, ⟨47, _⟩ => ⟨S2x4096x11264, .f32⟩
  | .hbm, ⟨48, _⟩ => ⟨S2x4096x5632, .f32⟩
  | .hbm, ⟨49, _⟩ => ⟨S2x4096x5632, .f32⟩
  | .hbm, ⟨50, _⟩ => ⟨S2x4096x5632, .f32⟩
  | .hbm, ⟨51, _⟩ => ⟨S2x4096x5632, .f32⟩
  | .hbm, ⟨52, _⟩ => ⟨S_, .f32⟩
  | .hbm, ⟨53, _⟩ => ⟨S2x4096x5632, .f32⟩
  | .hbm, ⟨54, _⟩ => ⟨S2x4096x5632, .f32⟩
  | .hbm, ⟨55, _⟩ => ⟨S_, .f32⟩
  | .hbm, ⟨56, _⟩ => ⟨S2x4096x5632, .f32⟩
  | .hbm, ⟨57, _⟩ => ⟨S2x4096x5632, .f32⟩
  | .hbm, ⟨58, _⟩ => ⟨S2x4096x5632, .f32⟩
  | .hbm, ⟨59, _⟩ => ⟨S2x4096x5632, .f32⟩
  | .hbm, ⟨60, _⟩ => ⟨S2x4096x2048, .f32⟩
  | .hbm, ⟨61, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Proof.Machine.lean ====
/- The attention kernel over machine floats: every run ends and keeps its arguments. Nothing is said of the block a grid point
   leaves, so the body's run only hands its buffers back. -/
module

public import proofs.«01_k».proof.Proof.Gen.Kernel.Frame.Runs
public import Idealize.ShloMosaic.Lib.Claim

@[expose] public section

set_option maxRecDepth 16384

noncomputable section

namespace Cert.Flash.Machine

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords)
  (arg3 : Memref sig .tc .vmem S512x1024 .bf16) (harg3 : arg3.IsWhole) (arg4 : Memref sig .tc .vmem S4096x1024 .bf16) (harg4 : arg4.IsWhole)
  (arg5 : Memref sig .tc .vmem S1x8x576x512 .bf16) (harg5 : arg5.IsWhole) (arg6 : Memref sig .tc .vmem S512x512 .bf16) (harg6 : arg6.IsWhole)
  (arg7 : Memref sig .tc .vmem S4x1x512 .f32) (harg7 : arg7.IsWhole) (arg8 : Memref sig .tc .vmem S4x144x512 .f32) (harg8 : arg8.IsWhole)
  (arg9 : Memref sig .tc .vmem S4x512x512 .f32) (harg9 : arg9.IsWhole) (arg10 : Memref sig .tc .vmem S4x512x512 .f32) (harg10 : arg10.IsWhole)

set_option maxHeartbeats 4000000 in
/-- The body where its last conditional is taken, from any contents of its buffers: the inputs stay. -/
theorem runA (hc0 : cond0_0 i) (X3 : BufTy.Contents (Elt F) arg3.view.ty) (X4 : BufTy.Contents (Elt F) arg4.view.ty)
    (X5 : BufTy.Contents (Elt F) arg5.view.ty) (f7 : BufTy.Contents (Elt F) arg7.view.ty) (f8 : BufTy.Contents (Elt F) arg8.view.ty)
    (f9 : BufTy.Contents (Elt F) arg9.view.ty) (f10 : BufTy.Contents (Elt F) arg10.view.ty) (f6 : BufTy.Contents (Elt F) arg6.view.ty)
    (E : Set ℕ) (K : PUnit → sProp 𝕄) :
    iprop((arg3.view.loc (c : Thread nD τ) ↦[arg3.view.set]{fullShare} X3)
        ∗ (arg4.view.loc (c : Thread nD τ) ↦[arg4.view.set]{fullShare} X4)
        ∗ (arg5.view.loc (c : Thread nD τ) ↦[arg5.view.set]{fullShare} X5)
        ∗ (arg6.view.loc (c : Thread nD τ) ↦[arg6.view.set]{fullShare} f6)
        ∗ (arg7.view.loc (c : Thread nD τ) ↦[arg7.view.set]{fullShare} f7) ∗ (arg8.view.loc (c : Thread nD τ) ↦[arg8.view.set]{fullShare} f8)
        ∗ (arg9.view.loc (c : Thread nD τ) ↦[arg9.view.set]{fullShare} f9) ∗ (arg10.view.loc (c : Thread nD τ) ↦[arg10.view.set]{fullShare} f10)
        ∗ (iprop((∃ f, arg6.view.loc (c : Thread nD τ) ↦[arg6.view.set]{fullShare} f)
          ∗ (arg3.view.loc (c : Thread nD τ) ↦[arg3.view.set]{fullShare} X3)
          ∗ (arg4.view.loc (c : Thread nD τ) ↦[arg4.view.set]{fullShare} X4)
          ∗ (arg5.view.loc (c : Thread nD τ) ↦[arg5.view.set]{fullShare} X5)
          ∗ (∃ f, arg7.view.loc (c : Thread nD τ) ↦[arg7.view.set]{fullShare} f) ∗ (∃ f, arg8.view.loc (c : Thread nD τ) ↦[arg8.view.set]{fullShare} f)
          ∗ (∃ f, arg9.view.loc (c : Thread nD τ) ↦[arg9.view.set]{fullShare} f) ∗ (∃ f, arg10.view.loc (c : Thread nD τ) ↦[arg10.view.set]{fullShare} f)) -∗ K ⟨⟩))
      ⊢ wp frame (wpE (defs₀ (F := F)) Variants.none c none) E (cc0_mla_attention i arg3 harg3 arg4 harg4 arg5 harg5 arg6 harg6 arg7 harg7 arg8 harg8 arg9 harg9 arg10 harg10) K := by
  simp only [cc0_mla_attention_eq_skeleton]; unfold cc0_mla_attention_skel
  simp only [k0_part55_eq_skeleton, k0_part56_eq_skeleton, k0_part57_eq_skeleton, k0_part58_eq_skeleton, k0_part59_eq_skeleton, k0_part60_eq_skeleton, k0_part49_eq_skeleton, k0_part50_eq_skeleton, k0_part51_eq_skeleton, k0_part52_eq_skeleton, k0_part53_eq_skeleton, k0_part54_eq_skeleton]
  iintro ⟨H0, H1, H2, H3, HS0, HS1, HS2, HS3, Hk⟩
  sl_exec (disch := first | sl_exact hc0)
  sl_step
  iapply Hk
  isplitl [H3]; · iexists _; iexact H3
  isplitl [H0]; · iexact H0
  isplitl [H1]; · iexact H1
  isplitl [H2]; · iexact H2
  isplitl [HS0]; · iexists _; iexact HS0
  isplitl [HS1]; · iexists _; iexact HS1
  isplitl [HS2]; · iexists _; iexact HS2
  iexists _; iexact HS3

set_option maxHeartbeats 4000000 in
/-- The body where its last conditional is not taken, from any contents of its buffers: the inputs stay. -/
theorem runB (hc0 : ¬cond0_0 i) (X3 : BufTy.Contents (Elt F) arg3.view.ty) (X4 : BufTy.Contents (Elt F) arg4.view.ty)
    (X5 : BufTy.Contents (Elt F) arg5.view.ty) (f7 : BufTy.Contents (Elt F) arg7.view.ty) (f8 : BufTy.Contents (Elt F) arg8.view.ty)
    (f9 : BufTy.Contents (Elt F) arg9.view.ty) (f10 : BufTy.Contents (Elt F) arg10.view.ty) (f6 : BufTy.Contents (Elt F) arg6.view.ty)
    (E : Set ℕ) (K : PUnit → sProp 𝕄) :
    iprop((arg3.view.loc (c : Thread nD τ) ↦[arg3.view.set]{fullShare} X3)
        ∗ (arg4.view.loc (c : Thread nD τ) ↦[arg4.view.set]{fullShare} X4)
        ∗ (arg5.view.loc (c : Thread nD τ) ↦[arg5.view.set]{fullShare} X5)
        ∗ (arg6.view.loc (c : Thread nD τ) ↦[arg6.view.set]{fullShare} f6)
        ∗ (arg7.view.loc (c : Thread nD τ) ↦[arg7.view.set]{fullShare} f7) ∗ (arg8.view.loc (c : Thread nD τ) ↦[arg8.view.set]{fullShare} f8)
        ∗ (arg9.view.loc (c : Thread nD τ) ↦[arg9.view.set]{fullShare} f9) ∗ (arg10.view.loc (c : Thread nD τ) ↦[arg10.view.set]{fullShare} f10)
        ∗ (iprop((∃ f, arg6.view.loc (c : Thread nD τ) ↦[arg6.view.set]{fullShare} f)
          ∗ (arg3.view.loc (c : Thread nD τ) ↦[arg3.view.set]{fullShare} X3)
          ∗ (arg4.view.loc (c : Thread nD τ) ↦[arg4.view.set]{fullShare} X4)
          ∗ (arg5.view.loc (c : Thread nD τ) ↦[arg5.view.set]{fullShare} X5)
          ∗ (∃ f, arg7.view.loc (c : Thread nD τ) ↦[arg7.view.set]{fullShare} f) ∗ (∃ f, arg8.view.loc (c : Thread nD τ) ↦[arg8.view.set]{fullShare} f)
          ∗ (∃ f, arg9.view.loc (c : Thread nD τ) ↦[arg9.view.set]{fullShare} f) ∗ (∃ f, arg10.view.loc (c : Thread nD τ) ↦[arg10.view.set]{fullShare} f)) -∗ K ⟨⟩))
      ⊢ wp frame (wpE (defs₀ (F := F)) Variants.none c none) E (cc0_mla_attention i arg3 harg3 arg4 harg4 arg5 harg5 arg6 harg6 arg7 harg7 arg8 harg8 arg9 harg9 arg10 harg10) K := by
  simp only [cc0_mla_attention_eq_skeleton]; unfold cc0_mla_attention_skel
  simp only [k0_part55_eq_skeleton, k0_part56_eq_skeleton, k0_part57_eq_skeleton, k0_part58_eq_skeleton, k0_part59_eq_skeleton, k0_part60_eq_skeleton, k0_part49_eq_skeleton, k0_part50_eq_skeleton, k0_part51_eq_skeleton, k0_part52_eq_skeleton, k0_part53_eq_skeleton, k0_part54_eq_skeleton]
  iintro ⟨H0, H1, H2, H3, HS0, HS1, HS2, HS3, Hk⟩
  sl_exec (disch := first | sl_exact hc0)
  sl_step
  iapply Hk
  isplitl [H3]; · iexists _; iexact H3
  isplitl [H0]; · iexact H0
  isplitl [H1]; · iexact H1
  isplitl [H2]; · iexact H2
  isplitl [HS0]; · iexists _; iexact HS0
  isplitl [HS1]; · iexists _; iexact HS1
  isplitl [HS2]; · iexists _; iexact HS2
  iexists _; iexact HS3

/-- The body, given the blocks and the scratch at any contents, keeps the blocks. -/
theorem body_run (xq : Vec F S512x1024 .bf16) (xk : Vec F S4096x1024 .bf16) (xv : Vec F S1x8x576x512 .bf16) (E : Set ℕ) (K : PUnit → sProp 𝕄) :
    iprop(owns (c : Thread nD τ) arg3 fullShare xq ∗ owns (c : Thread nD τ) arg4 fullShare xk ∗ owns (c : Thread nD τ) arg5 fullShare xv
        ∗ (∃ d, owns (c : Thread nD τ) arg6 fullShare d)
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg3 fullShare xq ∗ owns (c : Thread nD τ) arg4 fullShare xk ∗ owns (c : Thread nD τ) arg5 fullShare xv
          ∗ (∃ d, owns (c : Thread nD τ) arg6 fullShare d)
          ∗ (∃ d, owns (c : Thread nD τ) arg7 fullShare d) ∗ (∃ d, owns (c : Thread nD τ) arg8 fullShare d)
          ∗ (∃ d, owns (c : Thread nD τ) arg9 fullShare d) ∗ (∃ d, owns (c : Thread nD τ) arg10 fullShare d)) -∗ K ⟨⟩))
      ⊢ wp frame (wpE (defs₀ (F := F)) Variants.none c none) E (cc0_mla_attention i arg3 harg3 arg4 harg4 arg5 harg5 arg6 harg6 arg7 harg7 arg8 harg8 arg9 harg9 arg10 harg10) K := by
  by_cases hc0 : cond0_0 i
  · unfold owns
    iintro ⟨⟨%f3, %h3, H0⟩, ⟨%f4, %h4, H1⟩, ⟨%f5, %h5, H2⟩, ⟨%d6, %f6, %h6, H3⟩, ⟨%d7, %f7, %h7, HS0⟩, ⟨%d8, %f8, %h8, HS1⟩, ⟨%d9, %f9, %h9, HS2⟩, ⟨%d10, %f10, %h10, HS3⟩, Hk⟩
    iapply (runA c i arg3 harg3 arg4 harg4 arg5 harg5 arg6 harg6 arg7 harg7 arg8 harg8 arg9 harg9 arg10 harg10 hc0 f3 f4 f5 f7 f8 f9 f10 f6 E K)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨⟨%g6, H3⟩, H0, H1, H2, ⟨%g7, HS0⟩, ⟨%g8, HS1⟩, ⟨%g9, HS2⟩, ⟨%g10, HS3⟩⟩
    iapply Hk
    isplitl [H0]
    · iexists _; isplitr
      swap; · iexact H0
      ipureintro; exact h3
    isplitl [H1]
    · iexists _; isplitr
      swap; · iexact H1
      ipureintro; exact h4
    isplitl [H2]
    · iexists _; isplitr
      swap; · iexact H2
      ipureintro; exact h5
    isplitl [H3]
    · iexists _; iexists _; isplitr
      swap; · iexact H3
      ipureintro; exact rfl
    isplitl [HS0]
    · iexists _; iexists _; isplitr
      swap; · iexact HS0
      ipureintro; exact rfl
    isplitl [HS1]
    · iexists _; iexists _; isplitr
      swap; · iexact HS1
      ipureintro; exact rfl
    isplitl [HS2]
    · iexists _; iexists _; isplitr
      swap; · iexact HS2
      ipureintro; exact rfl
    iexists _; iexists _; isplitr
    swap; · iexact HS3
    ipureintro; exact rfl
  · unfold owns
    iintro ⟨⟨%f3, %h3, H0⟩, ⟨%f4, %h4, H1⟩, ⟨%f5, %h5, H2⟩, ⟨%d6, %f6, %h6, H3⟩, ⟨%d7, %f7, %h7, HS0⟩, ⟨%d8, %f8, %h8, HS1⟩, ⟨%d9, %f9, %h9, HS2⟩, ⟨%d10, %f10, %h10, HS3⟩, Hk⟩
    iapply (runB c i arg3 harg3 arg4 harg4 arg5 harg5 arg6 harg6 arg7 harg7 arg8 harg8 arg9 harg9 arg10 harg10 hc0 f3 f4 f5 f7 f8 f9 f10 f6 E K)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨⟨%g6, H3⟩, H0, H1, H2, ⟨%g7, HS0⟩, ⟨%g8, HS1⟩, ⟨%g9, HS2⟩, ⟨%g10, HS3⟩⟩
    iapply Hk
    isplitl [H0]
    · iexists _; isplitr
      swap; · iexact H0
      ipureintro; exact h3
    isplitl [H1]
    · iexists _; isplitr
      swap; · iexact H1
      ipureintro; exact h4
    isplitl [H2]
    · iexists _; isplitr
      swap; · iexact H2
      ipureintro; exact h5
    isplitl [H3]
    · iexists _; iexists _; isplitr
      swap; · iexact H3
      ipureintro; exact rfl
    isplitl [HS0]
    · iexists _; iexists _; isplitr
      swap; · iexact HS0
      ipureintro; exact rfl
    isplitl [HS1]
    · iexists _; iexists _; isplitr
      swap; · iexact HS1
      ipureintro; exact rfl
    isplitl [HS2]
    · iexists _; iexists _; isplitr
      swap; · iexact HS2
      ipureintro; exact rfl
    iexists _; iexists _; isplitr
    swap; · iexact HS3
    ipureintro; exact rfl

end Body

/-! ### The pipeline's proof data and the body at every point -/

variable (m : (ℓ : Loc nD τ sig) → Buf (Elt F) ℓ) (ρ : Dev nD → PrngReg)

/-- The output's window, of which nothing is said. -/
def out3 : Fin 4 → Bool := fun w => w.val == 3

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d))

theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩⟩
  iapply (body_run c (grid0.coords t) _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  iexact H3

theorem body_row (t : Fin cfg0.N) :
    defs₀ (F := F) .tc cfg0.body (cfg0.bodyArgs t (cfg0.slots t)) = bodyAt0 t := by
  unfold defs₀; rw [Defs.onTc_tc]

theorem body_all (c : Dev nD) : BodyObligation (dats (F := F) m 0 c) (defs₀ (F := F)) Variants.none () Set.univ out3 := fun t => by
  rw [bigSep_W0, bigSep_W0, body_row]
  exact triple_restated (body_sound m c t) rfl .rfl fun _ => .rfl

/-! ### The run -/

set_option backward.isDefEq.respectTransparency.types false in
/-- Every fair run of the kernel ends, with the pipeline's inputs kept and every counter at zero. -/
theorem run_all : θ_run defs (onTc (τ := τ) (main (F := F))) (s₀ m ρ) (fun r => (Pipeline.RDat.FramePost (cfgs 0) (fun c => (dats m 0 c).toRForget out3) (V m)) r ∧ r.2.sem = fun _ => 0) :=
  Pipeline.θ_run_frame_forget (Q' := _) cfgs (dats m) (0 : Fin 1) launch0 defs₀ Variants.none out3 m ρ main
    (hbody := fun c => (body_all m c).loose) (hshare := fun c => (dats m 0 c).share_full fun _ => rfl)
    (howed := fun _ _ => rfl) (V := V m) (hmain := hmain m Variants.none) (hA := A_eq m) (hΦ := fun _ _ => rfl)

/-- The kernel leaves its arguments as they were, and every counter at zero. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_all m ρ)

end Cert.Flash.Machine

end
-- ==== Proof.Finite.lean ====
/- What the precondition says: every query and key is a real number. -/
module

public import proofs.«01_k».proof.Pre_finite_scores
public import Idealize.ShloMosaic.PureOps.Ideal
public import Idealize.ShloMosaic.PureOps.Ideal.Laws

@[expose] public section

noncomputable section

namespace Cert.Flash

open Idealize.ShloMosaic Cert.Pre_finite_scores

theorem pre_facts : Cert.Pre_finite_scores.Facts where
  bcast_S_S2x4096x16x128 := by decide
  bcast_S_S2x4096x16x64 := by decide
  bcast_S_S2x4096x64 := by decide

theorem infinity : Ideal.ofBits .f32 0x7F800000#32 = ⊤ := by simp [Ideal.ofBits, Ideal.ieee]

/-- A number less than infinity in magnitude is real. -/
theorem real_of_lt {s : Shape} {x : FVec Ideal s .f32} {h : S_.BroadcastsInDim s (![] : Fin 0 → Fin s.rank)}
    (e : cmpf .olt (Host.absf x) (broadcastInDim s ![] h (constant S_ .f32 0x7F800000#32)) = fun _ => 1#1) (i : s.Idx) :
    ∃ r : ℝ, x i = (r : EReal) := by
  have e := congrFun e i
  change Ideal.cmp .olt (max (x i) (-x i)) (Ideal.ofBits .f32 0x7F800000#32) = 1#1 at e
  rw [infinity] at e
  generalize x i = y at e
  induction y using EReal.rec with
  | bot => simp [Ideal.cmp] at e
  | top => simp [Ideal.cmp] at e
  | coe r => exact ⟨r, rfl⟩

end Cert.Flash

end
-- ==== Proof.Softmax.lean ====
/- The running softmax of one query column over the extended reals: a maximum, a sum of weights and a weighted sum of
   values are kept while the keys come in tiles of 512, everything kept being rescaled when the maximum grows. What is
   kept after `n` tiles in closed form, and the quotient of the two sums as the softmax over all 4096 keys at once. -/
module

public import Idealize.ShloMosaic.PureOps.Ideal
public import Idealize.ShloMosaic.PureOps.Ideal.Laws

@[expose] public section

noncomputable section

namespace Cert.Flash

open Idealize.ShloMosaic

/-- The greatest score of a tile. -/
def tmax {n : ℕ} (s : Fin n → EReal) : EReal := Finset.univ.fold max ⊥ s

/-- The running maximum after `n` tiles. -/
def mx (s : ℕ → Fin 512 → EReal) : ℕ → EReal
  | 0 => ⊥
  | n + 1 => max (mx s n) (tmax (s n))

/-- The running weighted sum after `n` tiles, in weights `2 ^ (score - maximum)`. -/
def ac (s v : ℕ → Fin 512 → EReal) : ℕ → EReal
  | 0 => 0
  | n + 1 => Ideal.exp2 (mx s n - mx s (n + 1)) * ac s v n + ∑ r, v n r * Ideal.exp2 (s n r - mx s (n + 1))

theorem le_tmax {n : ℕ} (s : Fin n → EReal) (r : Fin n) : s r ≤ tmax s := by
  rw [tmax, Finset.le_fold_max]
  exact Or.inr ⟨r, Finset.mem_univ r, le_rfl⟩

theorem tmax_le {n : ℕ} {s : Fin n → EReal} {b : EReal} (h : ∀ r, s r ≤ b) : tmax s ≤ b := by
  rw [tmax, Finset.fold_max_le]
  exact ⟨bot_le, fun r _ => h r⟩

theorem tmax_lt_top {n : ℕ} {s : Fin n → EReal} (h : ∀ r, s r ≠ ⊤) : tmax s < ⊤ := by
  rw [tmax, Finset.fold_max_lt]
  exact ⟨bot_lt_top, fun r _ => lt_top_iff_ne_top.mpr (h r)⟩

theorem mx_le_succ (s : ℕ → Fin 512 → EReal) (n : ℕ) : mx s n ≤ mx s (n + 1) := le_max_left _ _

theorem le_mx (s : ℕ → Fin 512 → EReal) {t n : ℕ} (h : t < n) (r : Fin 512) : s t r ≤ mx s n := by
  induction n with
  | zero => omega
  | succ n ih =>
    rcases Nat.lt_succ_iff_lt_or_eq.mp h with h | rfl
    · exact (ih h).trans (mx_le_succ s n)
    · exact (le_tmax _ r).trans (le_max_right _ _)

theorem mx_le {s : ℕ → Fin 512 → EReal} {n : ℕ} {b : EReal} (h : ∀ t < n, ∀ r, s t r ≤ b) : mx s n ≤ b := by
  induction n with
  | zero => exact bot_le
  | succ n ih =>
    exact max_le (ih fun t ht r => h t (ht.trans n.lt_succ_self) r) (tmax_le fun r => h n n.lt_succ_self r)

theorem mx_lt_top {s : ℕ → Fin 512 → EReal} (h : ∀ t r, s t r ≠ ⊤) (n : ℕ) : mx s n < ⊤ := by
  induction n with
  | zero => exact bot_lt_top
  | succ n ih => exact max_lt ih (tmax_lt_top (h n))

theorem exp2_nonneg (x : EReal) : 0 ≤ Ideal.exp2 x := by
  induction x with
  | bot => exact le_rfl
  | top => exact le_top
  | coe r => exact EReal.coe_nonneg.mpr (Real.rpow_nonneg (by norm_num) r)

theorem exp2_ne_top {x : EReal} (h : x ≠ ⊤) : Ideal.exp2 x ≠ ⊤ := by
  induction x with
  | bot => exact EReal.zero_ne_top
  | top => exact absurd rfl h
  | coe r => exact EReal.coe_ne_top _

theorem sub_ne_top {x y : EReal} (h : x ≠ ⊤) (hxy : x ≤ y) : x - y ≠ ⊤ := by
  induction y with
  | bot => rw [le_bot_iff.mp hxy]; simp
  | top => simp [sub_eq_add_neg]
  | coe r =>
    induction x with
    | bot => simp [sub_eq_add_neg]
    | top => exact absurd rfl h
    | coe q => rw [← EReal.coe_sub]; exact EReal.coe_ne_top _

/-- A change of reference point of the weights. -/
theorem exp2_rebase {x y z : EReal} (hxy : x ≤ y) (hyz : y ≤ z) (hz : z < ⊤) :
    Ideal.exp2 (y - z) * Ideal.exp2 (x - y) = Ideal.exp2 (x - z) := by
  induction z with
  | top => exact absurd hz (lt_irrefl _)
  | bot =>
    have hy := le_bot_iff.mp hyz
    have hx := le_bot_iff.mp (hxy.trans hyz)
    subst hy hx; simp [sub_eq_add_neg]
  | coe c =>
    induction y with
    | top => exact absurd (lt_of_le_of_lt hyz hz) (lt_irrefl _)
    | bot =>
      have hx := le_bot_iff.mp hxy
      subst hx; simp [sub_eq_add_neg]
    | coe b =>
      induction x with
      | top => exact absurd (lt_of_le_of_lt (hxy.trans hyz) hz) (lt_irrefl _)
      | bot => simp [sub_eq_add_neg]
      | coe a =>
        rw [← EReal.coe_sub, ← EReal.coe_sub, ← EReal.coe_sub, Ideal.exp2_coe, Ideal.exp2_coe, Ideal.exp2_coe, ← EReal.coe_mul]
        congr 1
        show (2 : ℝ) ^ (b - c) * (2 : ℝ) ^ (a - b) = (2 : ℝ) ^ (a - c)
        rw [← Real.rpow_add (by norm_num)]
        congr 1; ring

/-- A nonnegative real factor goes into a sum of extended reals. -/
theorem mul_sum_nonneg {ι : Type*} (A : Finset ι) (f : ι → EReal) {c : EReal} (h0 : 0 ≤ c) (ht : c ≠ ⊤) :
    c * ∑ i ∈ A, f i = ∑ i ∈ A, c * f i := by
  classical
  induction A using Finset.induction_on with
  | empty => simp
  | insert a A ha ih => rw [Finset.sum_insert ha, Finset.sum_insert ha, EReal.left_distrib_of_nonneg_of_ne_top h0 ht, ih]

/-- What is kept after `n` tiles: the weighted sum of all values so far. -/
theorem ac_eq {s : ℕ → Fin 512 → EReal} (hs : ∀ t r, s t r ≠ ⊤) (v : ℕ → Fin 512 → EReal) (n : ℕ) :
    ac s v n = ∑ t ∈ Finset.range n, ∑ r, v t r * Ideal.exp2 (s t r - mx s n) := by
  induction n with
  | zero => rfl
  | succ n ih =>
    have ht : Ideal.exp2 (mx s n - mx s (n + 1)) ≠ ⊤ :=
      exp2_ne_top (sub_ne_top (mx_lt_top hs n).ne (mx_le_succ s n))
    rw [Finset.sum_range_succ, ac, ih, mul_sum_nonneg _ _ (exp2_nonneg _) ht]
    refine congrArg₂ (· + ·) (Finset.sum_congr rfl fun t h => ?_) rfl
    rw [mul_sum_nonneg _ _ (exp2_nonneg _) ht]
    refine Finset.sum_congr rfl fun r _ => ?_
    rw [mul_left_comm, exp2_rebase (le_mx s (Finset.mem_range.mp h) r) (mx_le_succ s n) (mx_lt_top hs (n + 1))]

/-- `2 ^ (x - y)` as a power of `e`, for a score that may be `-∞`. -/
theorem exp_scaled (x : EReal) (hx : x ≠ ⊤) (y : ℝ) :
    Ideal.exp (((Real.log 2 : ℝ) : EReal) * x - ((Real.log 2 : ℝ) : EReal) * (y : EReal)) = Ideal.exp2 (x - y) := by
  have hl : 0 < Real.log 2 := Real.log_pos (by norm_num)
  induction x with
  | top => exact absurd rfl hx
  | bot => rw [EReal.coe_mul_bot_of_pos hl, ← EReal.coe_mul]; simp [sub_eq_add_neg]
  | coe a =>
    rw [← EReal.coe_mul, ← EReal.coe_mul, ← EReal.coe_sub, ← EReal.coe_sub, Ideal.exp_coe, Ideal.exp2_coe]
    congr 1
    show Real.exp _ = (2 : ℝ) ^ (a - y)
    rw [Real.rpow_def_of_pos (by norm_num)]
    congr 1; ring

/-- Multiplying by a positive real keeps the order. -/
theorem scaled_le {x y : EReal} {c : ℝ} (hc : 0 < c) (h : x ≤ y) : (c : EReal) * x ≤ (c : EReal) * y :=
  mul_le_mul_of_nonneg_left h (EReal.coe_nonneg.mpr hc.le)

/-- The key a tile and a row name. -/
def key (t : Fin 8) (r : Fin 512) : Fin 4096 := ⟨512 * t.val + r.val, by omega⟩

theorem key_of (k : Fin 4096) : key ⟨k.val / 512, by omega⟩ ⟨k.val % 512, by omega⟩ = k := by
  apply Fin.ext; simp only [key]; omega

theorem sum_keys (f : Fin 4096 → EReal) : ∑ k, f k = ∑ t : Fin 8, ∑ r : Fin 512, f (key t r) := by
  rw [← Finset.sum_product' Finset.univ Finset.univ fun t r => f (key t r)]
  refine (Finset.sum_bij (fun p _ => key p.1 p.2) (fun _ _ => Finset.mem_univ _) ?_ ?_ (fun _ _ => rfl)).symm
  · rintro ⟨t, r⟩ _ ⟨t', r'⟩ _ h
    have h := congrArg Fin.val h
    simp only [key] at h
    exact Prod.ext (Fin.ext (by show t.val = t'.val; omega)) (Fin.ext (by show r.val = r'.val; omega))
  · intro k _
    exact ⟨(⟨k.val / 512, by omega⟩, ⟨k.val % 512, by omega⟩), by simp, key_of k⟩

theorem sum_tiles (f : ℕ → EReal) {n : ℕ} (hn : n ≤ 8) (h0 : ∀ t, n ≤ t → f t = 0) :
    ∑ t ∈ Finset.range n, f t = ∑ t : Fin 8, f t.val := by
  rw [Fin.sum_univ_eq_sum_range f 8]
  refine Finset.sum_subset (fun t h => ?_) fun t _ h => h0 t ?_
  · rw [Finset.mem_range] at h ⊢; omega
  · rw [Finset.mem_range] at h; omega

/-- The quotient of the two kept sums is the softmax over all keys at once, where the scores of the tiles not visited
    are `-∞` and some score is not: `σ` holds the scores with the factor `log 2` that turns powers of `2` into powers
    of `e`. -/
theorem softmax_eq {s : ℕ → Fin 512 → EReal} (hs : ∀ t r, s t r ≠ ⊤) {n : ℕ} (hn : n ≤ 8)
    (hmask : ∀ t r, n ≤ t → s t r = ⊥) (hvis : ∃ t < n, ∃ r, s t r ≠ ⊥)
    (w : Fin 4096 → EReal) (v : ℕ → Fin 512 → EReal) (hv : ∀ (t : Fin 8) r, v t.val r = w (key t r))
    (σ : Fin 4096 → EReal) (hσ : ∀ (t : Fin 8) r, σ (key t r) = ((Real.log 2 : ℝ) : EReal) * s t.val r) :
    Ideal.div (ac s v n) (ac s (fun _ _ => 1) n)
      = ∑ k, w k * Ideal.div (Ideal.exp (σ k - tmax σ)) (∑ k, Ideal.exp (σ k - tmax σ)) := by
  have hl : 0 < Real.log 2 := Real.log_pos (by norm_num)
  obtain ⟨t₀, ht₀, r₀, hr₀⟩ := hvis
  have hlo : ⊥ < mx s n := lt_of_lt_of_le (bot_lt_iff_ne_bot.mpr hr₀) (le_mx s ht₀ r₀)
  obtain ⟨M, hM⟩ : ∃ M : ℝ, mx s n = (M : EReal) :=
    ⟨(mx s n).toReal, (EReal.coe_toReal (mx_lt_top hs n).ne hlo.ne').symm⟩
  have hle : ∀ (t : Fin 8) r, s t.val r ≤ mx s n := by
    intro t r
    rcases lt_or_ge t.val n with h | h
    · exact le_mx s h r
    · rw [hmask _ _ h]; exact bot_le
  have hmax : tmax σ = ((Real.log 2 : ℝ) : EReal) * (M : EReal) := by
    apply le_antisymm
    · refine tmax_le fun k => ?_
      rw [← key_of k, hσ]
      exact scaled_le hl (by rw [← hM]; exact hle _ _)
    · have hinv : ∀ x : EReal, ((Real.log 2 : ℝ) : EReal) * ((((Real.log 2)⁻¹ : ℝ) : EReal) * x) = x := fun x => by
        rw [← mul_assoc, ← EReal.coe_mul, mul_inv_cancel₀ hl.ne', EReal.coe_one, one_mul]
      have hinv' : ∀ x : EReal, (((Real.log 2)⁻¹ : ℝ) : EReal) * (((Real.log 2 : ℝ) : EReal) * x) = x := fun x => by
        rw [← mul_assoc, ← EReal.coe_mul, inv_mul_cancel₀ hl.ne', EReal.coe_one, one_mul]
      rw [← hM, ← hinv (tmax σ)]
      refine scaled_le hl (mx_le fun t ht r => ?_)
      rw [← hinv' (s t r)]
      have h := hσ ⟨t, by omega⟩ r
      rw [show s t r = s (⟨t, by omega⟩ : Fin 8).val r from rfl, ← h]
      exact scaled_le (inv_pos.mpr hl) (le_tmax σ _)
  have hexp : ∀ (t : Fin 8) r, Ideal.exp (σ (key t r) - tmax σ) = Ideal.exp2 (s t.val r - mx s n) := by
    intro t r
    rw [hσ, hmax, hM]
    exact exp_scaled _ (hs _ _) M
  have hzero : ∀ (v : ℕ → Fin 512 → EReal) t, n ≤ t → ∑ r, v t r * Ideal.exp2 (s t r - mx s n) = 0 := by
    intro v t h
    refine Finset.sum_eq_zero fun r _ => ?_
    rw [hmask t r h, hM]; simp [sub_eq_add_neg]
  have hreal : ∀ t r, s t r ≤ mx s n → ∃ x : ℝ, 0 ≤ x ∧ Ideal.exp2 (s t r - mx s n) = (x : EReal) := fun t r h =>
    ⟨_, EReal.toReal_nonneg (exp2_nonneg _),
      (EReal.coe_toReal (exp2_ne_top (sub_ne_top (hs t r) h)) (lt_of_lt_of_le EReal.bot_lt_zero (exp2_nonneg _)).ne').symm⟩
  have hden : ∑ k, Ideal.exp (σ k - tmax σ) = ac s (fun _ _ => 1) n := by
    rw [ac_eq hs, sum_tiles _ hn (hzero _), sum_keys]
    simp only [hexp, one_mul]
  have hnum : ac s v n = ∑ k, w k * Ideal.exp (σ k - tmax σ) := by
    rw [ac_eq hs, sum_tiles _ hn (hzero _), sum_keys]
    simp only [hexp, hv]
  obtain ⟨D, hD, hDe⟩ : ∃ D : ℝ, 0 < D ∧ ∑ k, Ideal.exp (σ k - tmax σ) = (D : EReal) := by
    have hx : ∀ k, ∃ x : ℝ, 0 ≤ x ∧ Ideal.exp (σ k - tmax σ) = (x : EReal) := fun k => by
      obtain ⟨x, h0, hx⟩ := hreal _ _ (hle ⟨k.val / 512, by omega⟩ ⟨k.val % 512, by omega⟩)
      refine ⟨x, h0, ?_⟩
      rw [← key_of k, hexp]; exact hx
    choose x h0 hx using hx
    refine ⟨∑ k, x k, ?_, ?_⟩
    · refine Finset.sum_pos' (fun k _ => h0 k) ⟨key ⟨t₀, by omega⟩ r₀, Finset.mem_univ _, ?_⟩
      have h := hx (key ⟨t₀, by omega⟩ r₀)
      rw [hexp] at h
      have hs₀ : s t₀ r₀ = ((s t₀ r₀).toReal : EReal) := (EReal.coe_toReal (hs _ _) hr₀).symm
      rw [show s (⟨t₀, by omega⟩ : Fin 8).val r₀ = s t₀ r₀ from rfl, hs₀, hM, ← EReal.coe_sub, Ideal.exp2_coe] at h
      have h := EReal.coe_injective h
      rw [← h]
      exact Real.rpow_pos_of_pos (by norm_num) _
    · simp only [hx]
      exact (map_sum (⟨⟨fun r : ℝ => (r : EReal), EReal.coe_zero⟩, EReal.coe_add⟩ : ℝ →+ EReal) _ _).symm
  rw [← hden, hnum, hDe, Ideal.div_coe hD.ne', mul_comm, mul_sum_nonneg _ _ (EReal.coe_nonneg.mpr (by positivity)) (EReal.coe_ne_top _)]
  refine Finset.sum_congr rfl fun k _ => ?_
  rw [Ideal.div_coe hD.ne', mul_left_comm, mul_comm (Ideal.exp _)]

end Cert.Flash

end
-- ==== Proof.Ref.lean ====
/- The reference's attention read at an index: the array it returns, cut into the stages its source has (angles, rotated
   queries, scores, mask, exponentials, weights), and each stage at a point of its index set. -/
module

public import proofs.«01_k».proof.Proof.Gen.ReferenceIdeal.Run
public import proofs.«01_k».proof.Proof.Softmax
public import Idealize.ShloMosaic.Lib.Pointwise

@[expose] public section

set_option maxRecDepth 16384

noncomputable section

namespace Cert.Flash.Ref

open Idealize.ShloMosaic Idealize.ShloMosaic.TcCoe Cert.ReferenceIdeal
open Cert.ReferenceIdeal.Facts₀ Cert.ReferenceIdeal.Facts

def angT : FVec Ideal S4096x32 .f32 :=
  (mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))

def ropeT (A1 : FVec Ideal S2x4096x16x64 .f32) : FVec Ideal S2x4096x16x64 .f32 :=
  (concatenate S2x4096x16x64 3 [⟨S2x4096x16x32, (subf (mulf (extractStridedSlice S2x4096x16x32 ![0, 0, 0, 0] (A1) slices_S2x4096x16x64_S2x4096x16x32_0_0_0_0) (broadcastInDim S2x4096x16x32 ![0, 1, 2, 3] bcast_S1x4096x1x32_S2x4096x16x32_0_1_2_3 (shapeCast _ (Host.cos angT) shapeCasts_S4096x32_S1x4096x1x32))) (mulf (extractStridedSlice S2x4096x16x32 ![0, 0, 0, 32] (A1) slices_S2x4096x16x64_S2x4096x16x32_0_0_0_32) (broadcastInDim S2x4096x16x32 ![0, 1, 2, 3] bcast_S1x4096x1x32_S2x4096x16x32_0_1_2_3 (shapeCast _ (Host.sin angT) shapeCasts_S4096x32_S1x4096x1x32))))⟩, ⟨S2x4096x16x32, (addf (mulf (extractStridedSlice S2x4096x16x32 ![0, 0, 0, 0] (A1) slices_S2x4096x16x64_S2x4096x16x32_0_0_0_0) (broadcastInDim S2x4096x16x32 ![0, 1, 2, 3] bcast_S1x4096x1x32_S2x4096x16x32_0_1_2_3 (shapeCast _ (Host.sin angT) shapeCasts_S4096x32_S1x4096x1x32))) (mulf (extractStridedSlice S2x4096x16x32 ![0, 0, 0, 32] (A1) slices_S2x4096x16x64_S2x4096x16x32_0_0_0_32) (broadcastInDim S2x4096x16x32 ![0, 1, 2, 3] bcast_S1x4096x1x32_S2x4096x16x32_0_1_2_3 (shapeCast _ (Host.cos angT) shapeCasts_S4096x32_S1x4096x1x32))))⟩] concatenates_S2x4096x16x32_S2x4096x16x32_S2x4096x16x64_d3)

def scoreT (A0 : FVec Ideal S2x4096x16x128 .f32) (A1 : FVec Ideal S2x4096x16x64 .f32) (A2 : FVec Ideal S2x4096x16x128 .f32)
    (A3 : FVec Ideal S2x4096x64 .f32) : FVec Ideal S2x16x4096x4096 .f32 :=
  (mulf (addf (Host.dotGeneral dot_S2x4096x16x128_S2x4096x16x128_S2x16x4096x4096_3_3_1_1_02_02 none (A0) (A2)) (transpose S2x16x4096x4096 [0, 3, 2, 1] (Host.dotGeneral dot_S2x4096x64_S2x4096x16x64_S2x4096x4096x16_2_3_1_12_0_0 none (A3) (ropeT A1)) transposes_S2x4096x4096x16_S2x16x4096x4096_0_3_2_1)) (broadcastInDim S2x16x4096x4096 ![] bcast_S_S2x16x4096x4096 (constant S_ .f32 0x3D93CD3A#32)))

def chunkK : IVec S1x4096 32 :=
  (select (andi (cmpi .ne (signi (broadcastInDim S1x4096 ![1] bcast_S4096_S1x4096_1 (iotaInDim S4096 32 0))) (broadcastInDim S1x4096 ![] bcast_S_S1x4096 (signi (id (constantI S_ 32 64#32))))) (cmpi .ne (Host.remsi (broadcastInDim S1x4096 ![1] bcast_S4096_S1x4096_1 (iotaInDim S4096 32 0)) (broadcastInDim S1x4096 ![] bcast_S_S1x4096 (id (constantI S_ 32 64#32)))) (broadcastInDim S1x4096 ![] bcast_S_S1x4096 (constantI S_ 32 0#32)))) (subi (Host.divsi (broadcastInDim S1x4096 ![1] bcast_S4096_S1x4096_1 (iotaInDim S4096 32 0)) (broadcastInDim S1x4096 ![] bcast_S_S1x4096 (id (constantI S_ 32 64#32)))) (broadcastInDim S1x4096 ![] bcast_S_S1x4096 (constantI S_ 32 1#32))) (Host.divsi (broadcastInDim S1x4096 ![1] bcast_S4096_S1x4096_1 (iotaInDim S4096 32 0)) (broadcastInDim S1x4096 ![] bcast_S_S1x4096 (id (constantI S_ 32 64#32)))))

def chunkQ : IVec S4096x1 32 :=
  (select (andi (cmpi .ne (signi (broadcastInDim S4096x1 ![0] bcast_S4096_S4096x1_0 (iotaInDim S4096 32 0))) (broadcastInDim S4096x1 ![] bcast_S_S4096x1 (signi (id (constantI S_ 32 64#32))))) (cmpi .ne (Host.remsi (broadcastInDim S4096x1 ![0] bcast_S4096_S4096x1_0 (iotaInDim S4096 32 0)) (broadcastInDim S4096x1 ![] bcast_S_S4096x1 (id (constantI S_ 32 64#32)))) (broadcastInDim S4096x1 ![] bcast_S_S4096x1 (constantI S_ 32 0#32)))) (subi (Host.divsi (broadcastInDim S4096x1 ![0] bcast_S4096_S4096x1_0 (iotaInDim S4096 32 0)) (broadcastInDim S4096x1 ![] bcast_S_S4096x1 (id (constantI S_ 32 64#32)))) (broadcastInDim S4096x1 ![] bcast_S_S4096x1 (constantI S_ 32 1#32))) (Host.divsi (broadcastInDim S4096x1 ![0] bcast_S4096_S4096x1_0 (iotaInDim S4096 32 0)) (broadcastInDim S4096x1 ![] bcast_S_S4096x1 (id (constantI S_ 32 64#32)))))

def maskT (S : FVec Ideal S2x16x4096x4096 .f32) : FVec Ideal S2x16x4096x4096 .f32 :=
  (select (broadcastInDim S2x16x4096x4096 ![0, 1, 2, 3] bcast_S1x1x4096x4096_S2x16x4096x4096_0_1_2_3 (broadcastInDim S1x1x4096x4096 ![2, 3] bcast_S4096x4096_S1x1x4096x4096_2_3 (cmpi .sle (broadcastInDim S4096x4096 ![0, 1] bcast_S1x4096_S4096x4096_0_1 chunkK) (broadcastInDim S4096x4096 ![0, 1] bcast_S4096x1_S4096x4096_0_1 chunkQ)))) S (broadcastInDim S2x16x4096x4096 ![] bcast_S_S2x16x4096x4096 (id (constant S_ .f32 0xFF800000#32))))

/-- The largest score of each row. -/
def maxT (S : FVec Ideal S2x16x4096x4096 .f32) : FVec Ideal S2x16x4096 .f32 :=
  Host.reduce FloatOps.maximumf S (constant S_ .f32 0xFF800000#32) reducesTo_S2x16x4096x4096_S2x16x4096_d3 h_S_

def expT (S : FVec Ideal S2x16x4096x4096 .f32) : FVec Ideal S2x16x4096x4096 .f32 :=
  (Host.exp (subf S (broadcastInDim S2x16x4096x4096 ![0, 1, 2, 3] bcast_S2x16x4096x1_S2x16x4096x4096_0_1_2_3 (broadcastInDim S2x16x4096x1 ![0, 1, 2] bcast_S2x16x4096_S2x16x4096x1_0_1_2 (maximumf (broadcastInDim S2x16x4096 ![] bcast_S_S2x16x4096 (constant S_ .f32 0xFF800000#32)) (maxT S))))))

def softT (E : FVec Ideal S2x16x4096x4096 .f32) : FVec Ideal S2x16x4096x4096 .f32 :=
  (Host.divf E (broadcastInDim S2x16x4096x4096 ![0, 1, 2, 3] bcast_S2x16x4096x1_S2x16x4096x4096_0_1_2_3 (broadcastInDim S2x16x4096x1 ![0, 1, 2] bcast_S2x16x4096_S2x16x4096x1_0_1_2 (Host.reduceAdd E (constant S_ .f32 0x00000000#32) reducesTo_S2x16x4096x4096_S2x16x4096_d3 h_S_))))

def outT (A0 : FVec Ideal S2x4096x16x128 .f32) (A1 : FVec Ideal S2x4096x16x64 .f32) (A2 : FVec Ideal S2x4096x16x128 .f32)
    (A3 : FVec Ideal S2x4096x64 .f32) (A4 : FVec Ideal S2x4096x16x128 .f32) : FVec Ideal S8192x2048 .bf16 :=
  truncf .bf16 (shapeCast _ (transpose S2x4096x16x128 [0, 3, 1, 2] (Host.dotGeneral dot_S2x4096x16x128_S2x16x4096x4096_S2x16x128x4096_1_3_3_2_02_01 none (A4) (softT (expT (maskT (scoreT A0 A1 A2 A3))))) transposes_S2x16x128x4096_S2x4096x16x128_0_3_1_2) shapeCasts_S2x4096x16x128_S8192x2048) bitsLt_bf16_f32

theorem res_eq (m : (ℓ : Loc nD τ sig) → Buf (Elt Ideal) ℓ) (c : Dev nD) :
    Value.res_out0 m c = outT (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.Flash.Ref

end
-- ==== Proof.RefAt.lean ====
/- The reference's stages at a point of their index sets, and the whole of it: a softmax over the keys' scores, weighting the
   values. -/
module

public import proofs.«01_k».proof.Proof.Ref

@[expose] public section

set_option maxRecDepth 16384

noncomputable section

namespace Cert.Flash.Ref

open Idealize.ShloMosaic Idealize.ShloMosaic.TcCoe Cert.ReferenceIdeal
open Cert.ReferenceIdeal.Facts₀ Cert.ReferenceIdeal.Facts

theorem negInf : Ideal.ofBits .f32 0xFF800000#32 = ⊥ := by simp [Ideal.ofBits, Ideal.ieee]

/-! ### Angles and rotated queries -/

/-- The angle of pair `j` at position `q`. -/
def ang (q : Fin 4096) (j : Fin 32) : EReal :=
  FloatOps.sitofp (F := Ideal) .f32 (BitVec.ofNat 32 ↑q) * Ideal.pow (Ideal.ofBits .f32 1176256512#32)
    (Ideal.div (-FloatOps.sitofp (F := Ideal) .f32 (BitVec.ofNat 32 ↑j)) (Ideal.ofBits .f32 1107296256#32))

theorem angT_at (q : Fin 4096) (j : Fin 32) : angT (ix2 q j) = ang q j := by
  pointwise [angT]
  rfl

/-- A query's rotary part, rotated: halves `e < 32` and `32 ≤ e`. -/
theorem ropeT_lo (A1 : FVec Ideal S2x4096x16x64 .f32) (b : Fin 2) (q : Fin 4096) (h : Fin 16) (e : Fin 32) :
    ropeT A1 (ix4 b q h ⟨e, by omega⟩) = A1 (ix4 b q h ⟨e, by omega⟩) * Ideal.cos (ang q e)
      - A1 (ix4 b q h ⟨32 + e, by omega⟩) * Ideal.sin (ang q e) := by
  pointwise [ropeT]
  simp only [angT_at]

theorem ropeT_hi (A1 : FVec Ideal S2x4096x16x64 .f32) (b : Fin 2) (q : Fin 4096) (h : Fin 16) (e : Fin 32) :
    ropeT A1 (ix4 b q h ⟨32 + e, by omega⟩) = A1 (ix4 b q h ⟨e, by omega⟩) * Ideal.sin (ang q e)
      + A1 (ix4 b q h ⟨32 + e, by omega⟩) * Ideal.cos (ang q e) := by
  pointwise [ropeT]
  simp only [angT_at]

/-! ### Scores and their mask -/

/-- The score of key `k` at query `q`. -/
def score (A0 : FVec Ideal S2x4096x16x128 .f32) (A1 : FVec Ideal S2x4096x16x64 .f32) (A2 : FVec Ideal S2x4096x16x128 .f32)
    (A3 : FVec Ideal S2x4096x64 .f32) (b : Fin 2) (h : Fin 16) (q k : Fin 4096) : EReal :=
  (∑ x, A0 (ix4 b q h x) * A2 (ix4 b k h x) + ∑ x, A3 (ix3 b k x) * ropeT A1 (ix4 b q h x)) * Ideal.ofBits .f32 1033096506#32

theorem scoreT_at (A0 : FVec Ideal S2x4096x16x128 .f32) (A1 : FVec Ideal S2x4096x16x64 .f32) (A2 : FVec Ideal S2x4096x16x128 .f32)
    (A3 : FVec Ideal S2x4096x64 .f32) (b : Fin 2) (q k : Fin 4096) (h : Fin 16) :
    scoreT A0 A1 A2 A3 (ix4 b h q k) = score A0 A1 A2 A3 b h q k := by
  pointwise [scoreT]
  rfl

theorem chunk_word : ∀ k : Fin 4096,
    Scalar.select
      (IntOp.andi
        (IntOp.cmpi CmpIPredicate.ne
          (if BitVec.ofNat 32 k.val = 0 then (0 : BitVec 32) else if (BitVec.ofNat 32 k.val).msb = true then -1 else 1)
          (if 64#32 = 0 then (0 : BitVec 32) else if (64#32).msb = true then -1 else 1))
        (IntOp.cmpi CmpIPredicate.ne (IntOp.remsi ArithUnit.host (BitVec.ofNat 32 k.val) 64#32) 0#32))
      (IntOp.subi (IntOp.divsi ArithUnit.host (BitVec.ofNat 32 k.val) 64#32) 1#32)
      (IntOp.divsi ArithUnit.host (BitVec.ofNat 32 k.val) 64#32) = BitVec.ofNat 32 (k.val / 64) := by
  decide +kernel

theorem chunkK_at (k : Fin 4096) : chunkK (ix2 0 k) = BitVec.ofNat 32 (k.val / 64) := by
  pointwise [chunkK]
  exact chunk_word k

theorem chunkQ_at (q : Fin 4096) : chunkQ (ix2 q 0) = BitVec.ofNat 32 (q.val / 64) := by
  pointwise [chunkQ]
  exact chunk_word q

theorem chunk_le : ∀ a b : Fin 64, IntOp.cmpi .sle (BitVec.ofNat 32 a.val) (BitVec.ofNat 32 b.val) = if a.val ≤ b.val then 1#1 else 0#1 := by
  decide +kernel

theorem maskT_at (S : FVec Ideal S2x16x4096x4096 .f32) (b : Fin 2) (q k : Fin 4096) (h : Fin 16) :
    maskT S (ix4 b h q k) = if k.val / 64 ≤ q.val / 64 then S (ix4 b h q k) else ⊥ := by
  pointwise [maskT]
  rw [chunkK_at, chunkQ_at, chunk_le ⟨k.val / 64, by omega⟩ ⟨q.val / 64, by omega⟩]
  split
  · rfl
  · exact negInf

/-! ### The softmax -/

/-- A maximum over the last of four axes. -/
theorem reduce_max_last {n0 n1 n2 n3 : ℕ} {u : Shape} (x : (⟨4, ![n0, n1, n2, n3]⟩ : Shape).Idx → EReal) (init : u.Idx → EReal)
    (h : (⟨4, ![n0, n1, n2, n3]⟩ : Shape).ReducesTo [3] ⟨3, ![n0, n1, n2]⟩) (hu : 0 < u.numel) (a : Fin n0) (b : Fin n1) (d : Fin n2) :
    Host.reduce max x init h hu (ix3 a b d) = Finset.univ.fold max (init (Shape.Idx.first hu)) (fun k => x (ix4 a b d k)) := by
  rw [Host.reduce_eq_fold, Shape.ReducesTo.fold_fiber_r4_a3]
  rfl

theorem maxT_at (S : FVec Ideal S2x16x4096x4096 .f32) (b : Fin 2) (h : Fin 16) (q : Fin 4096) :
    maxT S (ix3 b h q) = tmax fun k => S (ix4 b h q k) :=
  (reduce_max_last S _ _ _ b h q).trans (congrArg (fun z => Finset.univ.fold max z fun k => S (ix4 b h q k)) negInf)

/-- A row's number spread over its keys. -/
theorem spread_at (M : FVec Ideal S2x16x4096 .f32) (b : Fin 2) (q k : Fin 4096) (h : Fin 16) :
    broadcastInDim S2x16x4096x4096 ![0, 1, 2, 3] bcast_S2x16x4096x1_S2x16x4096x4096_0_1_2_3
      (broadcastInDim S2x16x4096x1 ![0, 1, 2] bcast_S2x16x4096_S2x16x4096x1_0_1_2 M) (ix4 b h q k) = M (ix3 b h q) := by
  pointwise

theorem floor_at (M : FVec Ideal S2x16x4096 .f32) (b : Fin 2) (q : Fin 4096) (h : Fin 16) :
    maximumf (broadcastInDim S2x16x4096 ![] bcast_S_S2x16x4096 (constant S_ .f32 0xFF800000#32)) M (ix3 b h q) = M (ix3 b h q) := by
  pointwise
  rw [negInf, max_eq_right bot_le]

theorem exp_sub_at {s : Shape} (x y : FVec Ideal s .f32) (j : s.Idx) : Host.exp (subf x y) j = Ideal.exp (x j - y j) := rfl

theorem expT_at (S : FVec Ideal S2x16x4096x4096 .f32) (b : Fin 2) (q k : Fin 4096) (h : Fin 16) :
    expT S (ix4 b h q k) = Ideal.exp (S (ix4 b h q k) - tmax fun x => S (ix4 b h q x)) := by
  unfold expT
  rw [exp_sub_at, spread_at, floor_at, maxT_at]

theorem softT_at (E : FVec Ideal S2x16x4096x4096 .f32) (b : Fin 2) (q k : Fin 4096) (h : Fin 16) :
    softT E (ix4 b h q k) = Ideal.div (E (ix4 b h q k)) (∑ x, E (ix4 b h q x)) := by
  pointwise [softT]

/-- The masked score of key `k` at query `q`: nothing past the query's chunk of 64. -/
def sig (A0 : FVec Ideal S2x4096x16x128 .f32) (A1 : FVec Ideal S2x4096x16x64 .f32) (A2 : FVec Ideal S2x4096x16x128 .f32)
    (A3 : FVec Ideal S2x4096x64 .f32) (b : Fin 2) (h : Fin 16) (q k : Fin 4096) : EReal :=
  if k.val / 64 ≤ q.val / 64 then score A0 A1 A2 A3 b h q k else ⊥

/-- THE REFERENCE AT AN INDEX: row `4096 b + q`, column `128 h + d` of the result. -/
theorem outT_at (A0 : FVec Ideal S2x4096x16x128 .f32) (A1 : FVec Ideal S2x4096x16x64 .f32) (A2 : FVec Ideal S2x4096x16x128 .f32)
    (A3 : FVec Ideal S2x4096x64 .f32) (A4 : FVec Ideal S2x4096x16x128 .f32) (b : Fin 2) (h : Fin 16) (q : Fin 4096) (d : Fin 128) :
    outT A0 A1 A2 A3 A4 (ix2 ⟨4096 * b.val + q.val, by omega⟩ ⟨128 * h.val + d.val, by omega⟩)
      = ∑ k, A4 (ix4 b k h d) * Ideal.div (Ideal.exp (sig A0 A1 A2 A3 b h q k - tmax (sig A0 A1 A2 A3 b h q)))
          (∑ k, Ideal.exp (sig A0 A1 A2 A3 b h q k - tmax (sig A0 A1 A2 A3 b h q))) := by
  have e1 : (4096 * b.val + q.val) / 4096 = b.val := by omega
  have e2 : (4096 * b.val + q.val) % 4096 = q.val := by omega
  have e3 : (128 * h.val + d.val) / 128 = h.val := by omega
  have e4 : (128 * h.val + d.val) % 128 = d.val := by omega
  pointwise [outT]
  simp only [e1, e2, e3, e4, Fin.eta, softT_at, expT_at, maskT_at, scoreT_at]
  rfl

end Cert.Flash.Ref

end
-- ==== Proof.Run.lean ====
/- One grid point of the attention kernel, run once per case of its last conditional: the pieces the body leaves in its output
   block, as functions of the contents it finds in its four scratch buffers. -/
module

public import proofs.«01_k».proof.Proof.Gen.KernelIdeal.Frame.Runs

@[expose] public section

set_option maxRecDepth 16384

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg3 : Memref sig .tc .vmem S512x1024 .bf16) (harg3 : arg3.IsWhole) (arg4 : Memref sig .tc .vmem S4096x1024 .bf16) (harg4 : arg4.IsWhole)
  (arg5 : Memref sig .tc .vmem S1x8x576x512 .bf16) (harg5 : arg5.IsWhole) (arg6 : Memref sig .tc .vmem S512x512 .bf16) (harg6 : arg6.IsWhole)
  (arg7 : Memref sig .tc .vmem S4x1x512 .f32) (harg7 : arg7.IsWhole) (arg8 : Memref sig .tc .vmem S4x144x512 .f32) (harg8 : arg8.IsWhole)
  (arg9 : Memref sig .tc .vmem S4x512x512 .f32) (harg9 : arg9.IsWhole) (arg10 : Memref sig .tc .vmem S4x512x512 .f32) (harg10 : arg10.IsWhole)

set_option maxHeartbeats 4000000 in
/-- The body where its last conditional is taken: the pieces of the output block it ends with, given what the scratch held. -/
def runA (hc0 : cond0_0 i) (X3 : BufTy.Contents (Elt F) arg3.view.ty)
    (X4 : BufTy.Contents (Elt F) arg4.view.ty) (X5 : BufTy.Contents (Elt F) arg5.view.ty) :
    { L : BufTy.Contents (Elt F) arg7.view.ty → BufTy.Contents (Elt F) arg8.view.ty → BufTy.Contents (Elt F) arg9.view.ty →
        BufTy.Contents (Elt F) arg10.view.ty → List (View.Piece (Elt F) S512x512 .bf16) //
      ∀ (E : Set ℕ) (K : PUnit → sProp 𝕄) (f7 : BufTy.Contents (Elt F) arg7.view.ty) (f8 : BufTy.Contents (Elt F) arg8.view.ty)
          (f9 : BufTy.Contents (Elt F) arg9.view.ty) (f10 : BufTy.Contents (Elt F) arg10.view.ty) (f6 : BufTy.Contents (Elt F) arg6.view.ty),
        iprop((arg3.view.loc (c : Thread nD τ) ↦[arg3.view.set]{fullShare} X3)
            ∗ (arg4.view.loc (c : Thread nD τ) ↦[arg4.view.set]{fullShare} X4)
            ∗ (arg5.view.loc (c : Thread nD τ) ↦[arg5.view.set]{fullShare} X5)
            ∗ (arg6.view.loc (c : Thread nD τ) ↦[arg6.view.set]{fullShare} f6)
            ∗ (arg7.view.loc (c : Thread nD τ) ↦[arg7.view.set]{fullShare} f7) ∗ (arg8.view.loc (c : Thread nD τ) ↦[arg8.view.set]{fullShare} f8)
            ∗ (arg9.view.loc (c : Thread nD τ) ↦[arg9.view.set]{fullShare} f9) ∗ (arg10.view.loc (c : Thread nD τ) ↦[arg10.view.set]{fullShare} f10)
            ∗ (iprop((arg6.view.loc (c : Thread nD τ) ↦[arg6.view.set]{fullShare} arg6.view.writes (Elt F) f6 (L f7 f8 f9 f10))
              ∗ (arg3.view.loc (c : Thread nD τ) ↦[arg3.view.set]{fullShare} X3)
              ∗ (arg4.view.loc (c : Thread nD τ) ↦[arg4.view.set]{fullShare} X4)
              ∗ (arg5.view.loc (c : Thread nD τ) ↦[arg5.view.set]{fullShare} X5)
              ∗ (∃ f, arg7.view.loc (c : Thread nD τ) ↦[arg7.view.set]{fullShare} f) ∗ (∃ f, arg8.view.loc (c : Thread nD τ) ↦[arg8.view.set]{fullShare} f)
              ∗ (∃ f, arg9.view.loc (c : Thread nD τ) ↦[arg9.view.set]{fullShare} f) ∗ (∃ f, arg10.view.loc (c : Thread nD τ) ↦[arg10.view.set]{fullShare} f)) -∗ K ⟨⟩))
          ⊢ wp frame (wpE (defs₀ (F := F)) Variants.none c none) E (cc0_mla_attention i arg3 harg3 arg4 harg4 arg5 harg5 arg6 harg6 arg7 harg7 arg8 harg8 arg9 harg9 arg10 harg10) K } := by
  refine ⟨?_, fun E K f7 f8 f9 f10 f6 => ?run⟩
  case run =>
    simp only [cc0_mla_attention_eq_skeleton]; unfold cc0_mla_attention_skel
    simp only [k0_part55_eq_skeleton, k0_part56_eq_skeleton, k0_part57_eq_skeleton, k0_part58_eq_skeleton, k0_part59_eq_skeleton, k0_part60_eq_skeleton, k0_part49_eq_skeleton, k0_part50_eq_skeleton, k0_part51_eq_skeleton, k0_part52_eq_skeleton, k0_part53_eq_skeleton, k0_part54_eq_skeleton]
    iintro ⟨H0, H1, H2, H3, HS0, HS1, HS2, HS3, Hk⟩
    sl_exec (disch := first | sl_exact hc0)
    sl_step
    iapply Hk
    isplitl [H3]; · iexact H3
    isplitl [H0]; · iexact H0
    isplitl [H1]; · iexact H1
    isplitl [H2]; · iexact H2
    isplitl [HS0]; · iexists _; iexact HS0
    isplitl [HS1]; · iexists _; iexact HS1
    isplitl [HS2]; · iexists _; iexact HS2
    iexists _; iexact HS3

set_option maxHeartbeats 4000000 in
/-- The body where its last conditional is not taken: the pieces of the output block it ends with, given what the scratch held. -/
def runB (hc0 : ¬cond0_0 i) (X3 : BufTy.Contents (Elt F) arg3.view.ty)
    (X4 : BufTy.Contents (Elt F) arg4.view.ty) (X5 : BufTy.Contents (Elt F) arg5.view.ty) :
    { L : BufTy.Contents (Elt F) arg7.view.ty → BufTy.Contents (Elt F) arg8.view.ty → BufTy.Contents (Elt F) arg9.view.ty →
        BufTy.Contents (Elt F) arg10.view.ty → List (View.Piece (Elt F) S512x512 .bf16) //
      ∀ (E : Set ℕ) (K : PUnit → sProp 𝕄) (f7 : BufTy.Contents (Elt F) arg7.view.ty) (f8 : BufTy.Contents (Elt F) arg8.view.ty)
          (f9 : BufTy.Contents (Elt F) arg9.view.ty) (f10 : BufTy.Contents (Elt F) arg10.view.ty) (f6 : BufTy.Contents (Elt F) arg6.view.ty),
        iprop((arg3.view.loc (c : Thread nD τ) ↦[arg3.view.set]{fullShare} X3)
            ∗ (arg4.view.loc (c : Thread nD τ) ↦[arg4.view.set]{fullShare} X4)
            ∗ (arg5.view.loc (c : Thread nD τ) ↦[arg5.view.set]{fullShare} X5)
            ∗ (arg6.view.loc (c : Thread nD τ) ↦[arg6.view.set]{fullShare} f6)
            ∗ (arg7.view.loc (c : Thread nD τ) ↦[arg7.view.set]{fullShare} f7) ∗ (arg8.view.loc (c : Thread nD τ) ↦[arg8.view.set]{fullShare} f8)
            ∗ (arg9.view.loc (c : Thread nD τ) ↦[arg9.view.set]{fullShare} f9) ∗ (arg10.view.loc (c : Thread nD τ) ↦[arg10.view.set]{fullShare} f10)
            ∗ (iprop((arg6.view.loc (c : Thread nD τ) ↦[arg6.view.set]{fullShare} arg6.view.writes (Elt F) f6 (L f7 f8 f9 f10))
              ∗ (arg3.view.loc (c : Thread nD τ) ↦[arg3.view.set]{fullShare} X3)
              ∗ (arg4.view.loc (c : Thread nD τ) ↦[arg4.view.set]{fullShare} X4)
              ∗ (arg5.view.loc (c : Thread nD τ) ↦[arg5.view.set]{fullShare} X5)
              ∗ (∃ f, arg7.view.loc (c : Thread nD τ) ↦[arg7.view.set]{fullShare} f) ∗ (∃ f, arg8.view.loc (c : Thread nD τ) ↦[arg8.view.set]{fullShare} f)
              ∗ (∃ f, arg9.view.loc (c : Thread nD τ) ↦[arg9.view.set]{fullShare} f) ∗ (∃ f, arg10.view.loc (c : Thread nD τ) ↦[arg10.view.set]{fullShare} f)) -∗ K ⟨⟩))
          ⊢ wp frame (wpE (defs₀ (F := F)) Variants.none c none) E (cc0_mla_attention i arg3 harg3 arg4 harg4 arg5 harg5 arg6 harg6 arg7 harg7 arg8 harg8 arg9 harg9 arg10 harg10) K } := by
  refine ⟨?_, fun E K f7 f8 f9 f10 f6 => ?run⟩
  case run =>
    simp only [cc0_mla_attention_eq_skeleton]; unfold cc0_mla_attention_skel
    simp only [k0_part55_eq_skeleton, k0_part56_eq_skeleton, k0_part57_eq_skeleton, k0_part58_eq_skeleton, k0_part59_eq_skeleton, k0_part60_eq_skeleton, k0_part49_eq_skeleton, k0_part50_eq_skeleton, k0_part51_eq_skeleton, k0_part52_eq_skeleton, k0_part53_eq_skeleton, k0_part54_eq_skeleton]
    iintro ⟨H0, H1, H2, H3, HS0, HS1, HS2, HS3, Hk⟩
    sl_exec (disch := first | sl_exact hc0)
    sl_step
    iapply Hk
    isplitl [H3]; · iexact H3
    isplitl [H0]; · iexact H0
    isplitl [H1]; · iexact H1
    isplitl [H2]; · iexact H2
    isplitl [HS0]; · iexists _; iexact HS0
    isplitl [HS1]; · iexists _; iexact HS1
    isplitl [HS2]; · iexists _; iexact HS2
    iexists _; iexact HS3

end Cert.Flash

end
-- ==== Proof.Tile.lean ====
/- One key tile of the attention kernel as vectors: its scores, its mask, and what folding it in makes of the running maximum and
   of the running sums. Each is read at an index, and one fold is one step of the running softmax. -/
module

public import proofs.«01_k».proof.Proof.Gen.KernelIdeal.Skeleton
public import proofs.«01_k».proof.Proof.Softmax
public import Idealize.ShloMosaic.Lib.Pointwise
public import Idealize.ShloMosaic.Lib.WritesUnit

@[expose] public section

set_option maxRecDepth 16384

noncomputable section

namespace Cert.Flash

open Idealize.ShloMosaic Idealize.ShloMosaic.TcCoe Cert.KernelIdeal Cert.KernelIdeal.Gen

/-- The scores of a tile of keys against a block of queries. -/
def scoreV (K Q : FVec Ideal S512x256 .bf16) : FVec Ideal S1x512x512 .f32 := k0_pay4 K Q

/-- A stored tile of scores as a matrix. -/
def castS (x : FVec Ideal S1x512x512 .f32) : FVec Ideal S512x512 .f32 := shapeCast S512x512 x shapeCasts_S1x512x512_S512x512

/-- The mask: a score stays where its key's chunk is at most its query's, and is `-∞` elsewhere. -/
def maskV (t : BitVec 32) (qc : IVec S1x512 32) (x : FVec Ideal S512x512 .f32) : FVec Ideal S512x512 .f32 :=
  k0_pay115 x (k0_pay113 t) (k0_pay114 qc)

/-- The maximum after a tile. -/
def maxV (x : FVec Ideal S512x512 .f32) (m : FVec Ideal S1x1x512 .f32) : FVec Ideal S1x512 .f32 :=
  maximumf (shapeCast S1x512 m shapeCasts_S1x1x512_S1x512)
    (shapeCast S1x512 (multiReduction .maximumf [0] S512 x 0xFF800000#32 reduces_S512x512_S512 (.inl rfl) rfl) shapeCasts_S512_S1x512)

/-- The same, as stored. -/
def newM (x : FVec Ideal S512x512 .f32) (m : FVec Ideal S1x1x512 .f32) : FVec Ideal S1x1x512 .f32 :=
  shapeCast S1x1x512 (maxV x m) shapeCasts_S1x512_S1x1x512

/-- The sums after a tile. -/
def newA (x : FVec Ideal S512x512 .f32) (m : FVec Ideal S1x1x512 .f32) (v : FVec Ideal S1x1x144x512 .bf16)
    (a : FVec Ideal S1x144x512 .f32) : FVec Ideal S1x144x512 .f32 :=
  shapeCast S1x144x512
    (addf
      (mulf (broadcastTo S144x512 (exp2 (subf (shapeCast S1x512 m shapeCasts_S1x1x512_S1x512) (maxV x m))) broadcasts_S1x512_S144x512)
        (shapeCast S144x512 a shapeCasts_S1x144x512_S144x512))
      (matmul dot_S144x512_S512x512_S144x512_1_0_0_1_n_n none (shapeCast S144x512 v shapeCasts_S1x1x144x512_S144x512)
        (truncf .bf16 (exp2 (subf x (broadcastTo S512x512 (maxV x m) broadcasts_S1x512_S512x512))) bitsLt_bf16_f32)
        (constant S144x512 .f32 0x00000000#32)))
    shapeCasts_S144x512_S1x144x512

theorem negInf : Ideal.ofBits .f32 0xFF800000#32 = ⊥ := by simp [Ideal.ofBits, Ideal.ieee]
theorem zeroF : Ideal.ofBits .f32 0x00000000#32 = 0 := by simp [Ideal.ofBits, Ideal.ieee]

theorem scoreV_at (K Q : FVec Ideal S512x256 .bf16) (r c : Fin 512) :
    scoreV K Q (ix3 0 r c) = ∑ j : Fin 256, K (ix2 r j) * Q (ix2 c j) := by
  pointwise [scoreV, k0_pay4]
  try rw [zeroF, zero_add]

theorem castS_at (x : FVec Ideal S1x512x512 .f32) (r c : Fin 512) : castS x (ix2 r c) = x (ix3 0 r c) := by
  pointwise [castS]

theorem reduce_max_first (x : FVec Ideal S512x512 .f32) (c : Fin 512) :
    multiReduction .maximumf [0] S512 x 0xFF800000#32 reduces_S512x512_S512 (.inl rfl) rfl (ix1 c) = tmax fun r => x (ix2 r c) := by
  refine (multiReduction_maximumf_eq_fold x _ reduces_S512x512_S512 _ _ (ix1 c)).trans ?_
  rw [Shape.Reduces.fold_fiber_r2_a0]
  exact congrArg (fun z => Finset.univ.fold max z fun r => x (ix2 r c)) negInf

theorem maxV_at (x : FVec Ideal S512x512 .f32) (m : FVec Ideal S1x1x512 .f32) (c : Fin 512) :
    maxV x m (ix2 0 c) = max (m (ix3 0 0 c)) (tmax fun r => x (ix2 r c)) := by
  rw [← reduce_max_first]
  unfold maxV
  generalize multiReduction .maximumf [0] S512 x 0xFF800000#32 reduces_S512x512_S512 (.inl rfl) rfl = M
  pointwise

theorem newM_at (x : FVec Ideal S512x512 .f32) (m : FVec Ideal S1x1x512 .f32) (c : Fin 512) :
    newM x m (ix3 0 0 c) = max (m (ix3 0 0 c)) (tmax fun r => x (ix2 r c)) := by
  rw [← maxV_at]
  unfold newM
  generalize maxV x m = M
  pointwise

theorem newA_at (x : FVec Ideal S512x512 .f32) (m : FVec Ideal S1x1x512 .f32) (v : FVec Ideal S1x1x144x512 .bf16)
    (a : FVec Ideal S1x144x512 .f32) (d : Fin 144) (c : Fin 512) :
    newA x m v a (ix3 0 d c) = Ideal.exp2 (m (ix3 0 0 c) - newM x m (ix3 0 0 c)) * a (ix3 0 d c)
      + ∑ r : Fin 512, v (ix4 0 0 d r) * Ideal.exp2 (x (ix2 r c) - newM x m (ix3 0 0 c)) := by
  rw [newM_at, ← maxV_at]
  unfold newA
  generalize maxV x m = M
  pointwise
  rfl

/-! ### The mask -/

/-- The kernel's spelling of a position over 64, rounded down. -/
def chunkW (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32) (IntOp.divsi ArithUnit.vector w 64#32)

theorem chunkW_eq : ∀ k : Fin 4096, chunkW (BitVec.ofNat 32 k.val) = BitVec.ofNat 32 (k.val / 64) := by
  decide +kernel

theorem chunk_le : ∀ a b : Fin 64, IntOp.cmpi CmpIPredicate.sle (BitVec.ofNat 32 a.val) (BitVec.ofNat 32 b.val)
    = BitVec.ofBool (decide (a ≤ b)) := by decide +kernel

theorem key_word (T : ℕ) (r : Fin 512) : IntOp.addi (Scalar.muli (BitVec.ofNat 32 T) 512#32) (BitVec.ofNat 32 r.val)
    = BitVec.ofNat 32 (512 * T + r.val) := by
  show BitVec.ofNat 32 T * BitVec.ofNat 32 512 + BitVec.ofNat 32 r.val = _
  rw [← BitVec.ofNat_mul, ← BitVec.ofNat_add, Nat.mul_comm]

theorem query_word (I : ℕ) (c : Fin 512) : IntOp.addi (BitVec.ofNat 32 (512 * I)) (BitVec.ofNat 32 c.val)
    = BitVec.ofNat 32 (512 * I + c.val) := by
  show BitVec.ofNat 32 (512 * I) + BitVec.ofNat 32 c.val = _
  rw [← BitVec.ofNat_add]

theorem keyChunk_at (T : ℕ) (hT : T < 8) (r c : Fin 512) :
    k0_pay113 (BitVec.ofNat 32 T) (ix2 r c) = BitVec.ofNat 32 ((512 * T + r.val) / 64) := by
  pointwise [k0_pay113]
  rw [key_word]
  exact chunkW_eq ⟨512 * T + r.val, by omega⟩

theorem queryChunk_at (I : ℕ) (hI : I < 8) (c : Fin 512) :
    k0_pay293 (BitVec.ofNat 32 (512 * I)) (ix2 0 c) = BitVec.ofNat 32 ((512 * I + c.val) / 64) := by
  pointwise [k0_pay293]
  rw [query_word]
  exact chunkW_eq ⟨512 * I + c.val, by omega⟩

theorem maskV_at (T I : ℕ) (hT : T < 8) (hI : I < 8) (x : FVec Ideal S512x512 .f32) (r c : Fin 512) :
    maskV (BitVec.ofNat 32 T) (k0_pay293 (BitVec.ofNat 32 (512 * I))) x (ix2 r c)
      = if (512 * T + r.val) / 64 ≤ (512 * I + c.val) / 64 then x (ix2 r c) else ⊥ := by
  pointwise [maskV, k0_pay114, k0_pay115]
  rw [keyChunk_at T hT, queryChunk_at I hI, negInf]
  have h := chunk_le ⟨(512 * T + r.val) / 64, by omega⟩ ⟨(512 * I + c.val) / 64, by omega⟩
  dsimp only at h
  rw [h]
  by_cases hle : (512 * T + r.val) / 64 ≤ (512 * I + c.val) / 64
  · rw [if_pos hle]
    have : decide ((⟨(512 * T + r.val) / 64, by omega⟩ : Fin 64) ≤ ⟨(512 * I + c.val) / 64, by omega⟩) = true := decide_eq_true hle
    rw [this]; rfl
  · rw [if_neg hle]
    have : decide ((⟨(512 * T + r.val) / 64, by omega⟩ : Fin 64) ≤ ⟨(512 * I + c.val) / 64, by omega⟩) = false := decide_eq_false hle
    rw [this]; rfl

/-! ### One fold is one step -/

theorem newM_step {s : ℕ → Fin 512 → EReal} {n : ℕ} {c : Fin 512} {x : FVec Ideal S512x512 .f32} {m : FVec Ideal S1x1x512 .f32}
    (hx : ∀ r, x (ix2 r c) = s n r) (hm : m (ix3 0 0 c) = mx s n) : newM x m (ix3 0 0 c) = mx s (n + 1) := by
  rw [newM_at, hm]
  simp only [hx]
  rfl

theorem newA_step {s v : ℕ → Fin 512 → EReal} {n : ℕ} {c : Fin 512} {d : Fin 144} {x : FVec Ideal S512x512 .f32}
    {m : FVec Ideal S1x1x512 .f32} {w : FVec Ideal S1x1x144x512 .bf16} {a : FVec Ideal S1x144x512 .f32}
    (hx : ∀ r, x (ix2 r c) = s n r) (hm : m (ix3 0 0 c) = mx s n) (hw : ∀ r, w (ix4 0 0 d r) = v n r)
    (ha : a (ix3 0 d c) = ac s v n) : newA x m w a (ix3 0 d c) = ac s v (n + 1) := by
  rw [newA_at, newM_step hx hm, hm, ha]
  simp only [hx, hw]
  rfl

/-! ### Loads and stores of a head's share of a buffer -/

section Views

variable {sig : RefSig} {κ : Kind} {sp : Space}

/-- A load of head `h`, at an index. -/
theorem readAt_head {R C : ℕ} {e : EltTy} (v : View sig κ sp ⟨3, ![4, R, C]⟩ e) (f : v.ty.Contents (Elt Ideal)) (h : Fin 4)
    (off : Fin 3 → ℕ) (inb : ∀ a, off a + (![1, R, C] : Fin 3 → ℕ) a ≤ (![4, R, C] : Fin 3 → ℕ) a) (hoff : off = ![h.val, 0, 0]) (r : Fin R) (c : Fin C) :
    v.readAt (Elt Ideal) (Rect.unit (s := ⟨3, ![4, R, C]⟩) off ![1, R, C] inb).toLoadRect f (ix3 0 r c) = v.read (Elt Ideal) f (ix3 h r c) := by
  subst hoff
  refine congrArg (v.read (Elt Ideal) f) (funext fun a => Fin.ext ?_)
  match a with
  | ⟨0, _⟩ => exact (by simp : h.val + 1 * 0 = h.val)
  | ⟨1, _⟩ => exact (by simp : 0 + 1 * r.val = r.val)
  | ⟨2, _⟩ => exact (by simp : 0 + 1 * c.val = c.val)

/-- The newest store, of head `h` whole, read there. -/
theorem writes_hit {R C : ℕ} {e : EltTy} (v : View sig κ sp ⟨3, ![4, R, C]⟩ e) (f : v.ty.Contents (Elt Ideal)) (h : Fin 4)
    (off : Fin 3 → ℕ) (inb : ∀ a, off a + (![1, R, C] : Fin 3 → ℕ) a ≤ (![4, R, C] : Fin 3 → ℕ) a) (w : (⟨3, ![1, R, C]⟩ : Shape).Idx → Elt Ideal e) (L : List (View.Piece (Elt Ideal) ⟨3, ![4, R, C]⟩ e)) (hoff : off = ![h.val, 0, 0]) (r : Fin R) (c : Fin C) :
    v.read (Elt Ideal) (v.writes (Elt Ideal) f ((⟨Rect.unit (s := ⟨3, ![4, R, C]⟩) off ![1, R, C] inb, w⟩ : View.Piece (Elt Ideal) ⟨3, ![4, R, C]⟩ e) :: L)) (ix3 h r c) = w (ix3 0 r c) := by
  refine View.read_writes_cons_unit_of_mem v f inb w L (ix3 h r c) (ix3 0 r c) hoff fun a => ?_
  match a with
  | ⟨0, _⟩ => exact (by simp : h.val = h.val + 0)
  | ⟨1, _⟩ => exact (by simp : r.val = 0 + r.val)
  | ⟨2, _⟩ => exact (by simp : c.val = 0 + c.val)

/-- The newest store, of another head, read past. -/
theorem writes_skip {R C : ℕ} {e : EltTy} (v : View sig κ sp ⟨3, ![4, R, C]⟩ e) (f : v.ty.Contents (Elt Ideal)) (h g : Fin 4)
    (off : Fin 3 → ℕ) (inb : ∀ a, off a + (![1, R, C] : Fin 3 → ℕ) a ≤ (![4, R, C] : Fin 3 → ℕ) a) (w : (⟨3, ![1, R, C]⟩ : Shape).Idx → Elt Ideal e) (L : List (View.Piece (Elt Ideal) ⟨3, ![4, R, C]⟩ e)) (hoff : off = ![g.val, 0, 0]) (hg : g ≠ h) (r : Fin R) (c : Fin C) :
    v.read (Elt Ideal) (v.writes (Elt Ideal) f ((⟨Rect.unit (s := ⟨3, ![4, R, C]⟩) off ![1, R, C] inb, w⟩ : View.Piece (Elt Ideal) ⟨3, ![4, R, C]⟩ e) :: L)) (ix3 h r c)
      = v.read (Elt Ideal) (v.writes (Elt Ideal) f L) (ix3 h r c) := by
  refine View.read_writes_cons_unit_of_not_mem v f inb w L (ix3 h r c) hoff 0 ?_
  have : g.val ≠ h.val := fun e => hg (Fin.ext e)
  show h.val < g.val ∨ g.val + 1 ≤ h.val
  omega

/-- A load of a block of a matrix, at an index. -/
theorem readAt_mat {M N m n : ℕ} {e : EltTy} (v : View sig κ sp ⟨2, ![M, N]⟩ e) (f : v.ty.Contents (Elt Ideal)) (o p : ℕ)
    (off : Fin 2 → ℕ) (inb : ∀ a, off a + (![m, n] : Fin 2 → ℕ) a ≤ (![M, N] : Fin 2 → ℕ) a) (hoff : off = ![o, p]) (r : Fin m) (c : Fin n) (ho : o + r.val < M) (hp : p + c.val < N) :
    v.readAt (Elt Ideal) (Rect.unit (s := ⟨2, ![M, N]⟩) off ![m, n] inb).toLoadRect f (ix2 r c) = v.read (Elt Ideal) f (ix2 ⟨o + r.val, ho⟩ ⟨p + c.val, hp⟩) := by
  subst hoff
  refine congrArg (v.read (Elt Ideal) f) (funext fun a => Fin.ext ?_)
  match a with
  | ⟨0, _⟩ => exact (by simp : o + 1 * r.val = o + r.val)
  | ⟨1, _⟩ => exact (by simp : p + 1 * c.val = p + c.val)

/-- A load of a tile's values for one head, at an index. -/
theorem readAt_val {T M N m : ℕ} {e : EltTy} (v : View sig κ sp ⟨4, ![1, T, M, N]⟩ e) (f : v.ty.Contents (Elt Ideal)) (t : Fin T) (o : ℕ)
    (off : Fin 4 → ℕ) (inb : ∀ a, off a + (![1, 1, m, N] : Fin 4 → ℕ) a ≤ (![1, T, M, N] : Fin 4 → ℕ) a) (hoff : off = ![0, t.val, o, 0]) (d : Fin m) (r : Fin N) (ho : o + d.val < M) :
    v.readAt (Elt Ideal) (Rect.unit (s := ⟨4, ![1, T, M, N]⟩) off ![1, 1, m, N] inb).toLoadRect f (ix4 0 0 d r) = v.read (Elt Ideal) f (ix4 0 t ⟨o + d.val, ho⟩ r) := by
  subst hoff
  refine congrArg (v.read (Elt Ideal) f) (funext fun a => Fin.ext ?_)
  match a with
  | ⟨0, _⟩ => rfl
  | ⟨1, _⟩ => exact (by simp : t.val + 1 * 0 = t.val)
  | ⟨2, _⟩ => exact (by simp : o + 1 * d.val = o + d.val)
  | ⟨3, _⟩ => exact (by simp : 0 + 1 * r.val = r.val)

end Views

end Cert.Flash

end
-- ==== Proof.Offs.lean ====
/- Where each trip of the attention kernel's loops reads, and how many trips each loop makes. -/
module

public import proofs.«01_k».proof.Proof.Gen.KernelIdeal.Skeleton

@[expose] public section

set_option maxRecDepth 16384

namespace Cert.Flash

open Idealize.ShloMosaic Cert.KernelIdeal Cert.KernelIdeal.Gen

theorem trips1 : ∀ i : grid0.Coords, (k0_t1_loop i).trips = (i 2).val / 2 := by decide +kernel
theorem trips2 : ∀ i : grid0.Coords, (k0_t2_loop i).trips = 0 := by decide +kernel
theorem trips3 : ∀ i : grid0.Coords, (k0_t3_loop i).trips = (i 2).val % 2 := by decide +kernel
theorem trips4 : ∀ i : grid0.Coords, (k0_t4_loop i).trips = 0 := by decide +kernel

theorem off1 : ∀ (i : grid0.Coords) (k : Fin (k0_t1_loop i).trips), k0_off1 i k = ![512 * (2 * k.val + 1), 0] := by decide +kernel
theorem off5 : ∀ (i : grid0.Coords) (k : Fin (k0_t1_loop i).trips), k0_off5 i k = ![0, 2 * k.val, 0, 0] := by decide +kernel
theorem off9 : ∀ (i : grid0.Coords) (k : Fin (k0_t1_loop i).trips), k0_off9 i k = ![512 * min (2 * k.val + 2) 7, 0] := by decide +kernel
theorem off13 : ∀ (i : grid0.Coords) (k : Fin (k0_t1_loop i).trips), k0_off13 i k = ![0, 2 * k.val + 1, 0, 0] := by decide +kernel
theorem off33 : ∀ (i : grid0.Coords) (k : Fin (k0_t3_loop i).trips), k0_off33 i k = ![512 * (2 * ((i 2).val / 2) + 2 * k.val + 1), 0] := by decide +kernel
theorem off37 : ∀ (i : grid0.Coords) (k : Fin (k0_t3_loop i).trips), k0_off37 i k = ![0, 2 * ((i 2).val / 2) + 2 * k.val, 0, 0] := by decide +kernel
theorem off41 : ∀ (i : grid0.Coords) (k : Fin (k0_t3_loop i).trips), k0_off41 i k = ![512 * min (2 * ((i 2).val / 2) + 2 * k.val + 2) 7, 0] := by decide +kernel
theorem off45 : ∀ (i : grid0.Coords) (k : Fin (k0_t3_loop i).trips), k0_off45 i k = ![0, 2 * ((i 2).val / 2) + 2 * k.val + 1, 0, 0] := by decide +kernel
theorem off2 : ∀ (i : grid0.Coords) (k : Fin (k0_t1_loop i).trips), k0_off2 i k = ![512 * (2 * k.val + 1), 256] := by decide +kernel
theorem off6 : ∀ (i : grid0.Coords) (k : Fin (k0_t1_loop i).trips), k0_off6 i k = ![0, 2 * k.val, 144, 0] := by decide +kernel
theorem off10 : ∀ (i : grid0.Coords) (k : Fin (k0_t1_loop i).trips), k0_off10 i k = ![512 * min (2 * k.val + 2) 7, 256] := by decide +kernel
theorem off14 : ∀ (i : grid0.Coords) (k : Fin (k0_t1_loop i).trips), k0_off14 i k = ![0, 2 * k.val + 1, 144, 0] := by decide +kernel
theorem off34 : ∀ (i : grid0.Coords) (k : Fin (k0_t3_loop i).trips), k0_off34 i k = ![512 * (2 * ((i 2).val / 2) + 2 * k.val + 1), 256] := by decide +kernel
theorem off38 : ∀ (i : grid0.Coords) (k : Fin (k0_t3_loop i).trips), k0_off38 i k = ![0, 2 * ((i 2).val / 2) + 2 * k.val, 144, 0] := by decide +kernel
theorem off42 : ∀ (i : grid0.Coords) (k : Fin (k0_t3_loop i).trips), k0_off42 i k = ![512 * min (2 * ((i 2).val / 2) + 2 * k.val + 2) 7, 256] := by decide +kernel
theorem off46 : ∀ (i : grid0.Coords) (k : Fin (k0_t3_loop i).trips), k0_off46 i k = ![0, 2 * ((i 2).val / 2) + 2 * k.val + 1, 144, 0] := by decide +kernel
theorem off3 : ∀ (i : grid0.Coords) (k : Fin (k0_t1_loop i).trips), k0_off3 i k = ![512 * (2 * k.val + 1), 512] := by decide +kernel
theorem off7 : ∀ (i : grid0.Coords) (k : Fin (k0_t1_loop i).trips), k0_off7 i k = ![0, 2 * k.val, 288, 0] := by decide +kernel
theorem off11 : ∀ (i : grid0.Coords) (k : Fin (k0_t1_loop i).trips), k0_off11 i k = ![512 * min (2 * k.val + 2) 7, 512] := by decide +kernel
theorem off15 : ∀ (i : grid0.Coords) (k : Fin (k0_t1_loop i).trips), k0_off15 i k = ![0, 2 * k.val + 1, 288, 0] := by decide +kernel
theorem off35 : ∀ (i : grid0.Coords) (k : Fin (k0_t3_loop i).trips), k0_off35 i k = ![512 * (2 * ((i 2).val / 2) + 2 * k.val + 1), 512] := by decide +kernel
theorem off39 : ∀ (i : grid0.Coords) (k : Fin (k0_t3_loop i).trips), k0_off39 i k = ![0, 2 * ((i 2).val / 2) + 2 * k.val, 288, 0] := by decide +kernel
theorem off43 : ∀ (i : grid0.Coords) (k : Fin (k0_t3_loop i).trips), k0_off43 i k = ![512 * min (2 * ((i 2).val / 2) + 2 * k.val + 2) 7, 512] := by decide +kernel
theorem off47 : ∀ (i : grid0.Coords) (k : Fin (k0_t3_loop i).trips), k0_off47 i k = ![0, 2 * ((i 2).val / 2) + 2 * k.val + 1, 288, 0] := by decide +kernel
theorem off4 : ∀ (i : grid0.Coords) (k : Fin (k0_t1_loop i).trips), k0_off4 i k = ![512 * (2 * k.val + 1), 768] := by decide +kernel
theorem off8 : ∀ (i : grid0.Coords) (k : Fin (k0_t1_loop i).trips), k0_off8 i k = ![0, 2 * k.val, 432, 0] := by decide +kernel
theorem off12 : ∀ (i : grid0.Coords) (k : Fin (k0_t1_loop i).trips), k0_off12 i k = ![512 * min (2 * k.val + 2) 7, 768] := by decide +kernel
theorem off16 : ∀ (i : grid0.Coords) (k : Fin (k0_t1_loop i).trips), k0_off16 i k = ![0, 2 * k.val + 1, 432, 0] := by decide +kernel
theorem off36 : ∀ (i : grid0.Coords) (k : Fin (k0_t3_loop i).trips), k0_off36 i k = ![512 * (2 * ((i 2).val / 2) + 2 * k.val + 1), 768] := by decide +kernel
theorem off40 : ∀ (i : grid0.Coords) (k : Fin (k0_t3_loop i).trips), k0_off40 i k = ![0, 2 * ((i 2).val / 2) + 2 * k.val, 432, 0] := by decide +kernel
theorem off44 : ∀ (i : grid0.Coords) (k : Fin (k0_t3_loop i).trips), k0_off44 i k = ![512 * min (2 * ((i 2).val / 2) + 2 * k.val + 2) 7, 768] := by decide +kernel
theorem off48 : ∀ (i : grid0.Coords) (k : Fin (k0_t3_loop i).trips), k0_off48 i k = ![0, 2 * ((i 2).val / 2) + 2 * k.val + 1, 432, 0] := by decide +kernel

end Cert.Flash

end
-- ==== Proof.Carry.lean ====
/- What the attention kernel's buffers hold after some of the key tiles, in terms of the running softmax, and how one tile's loads
   and stores read against it. -/
module

public import proofs.«01_k».proof.Proof.Tile
public import proofs.«01_k».proof.Proof.Offs
public import Idealize.ShloMosaic.Lib.Pipeline.ReadBack

@[expose] public section

set_option maxRecDepth 16384

noncomputable section

namespace Cert.Flash

open Idealize.ShloMosaic Idealize.ShloMosaic.TcCoe Cert.KernelIdeal Cert.KernelIdeal.Gen

/-- The loaded share of head `h` of a buffer. -/
def ldHead {sig : RefSig} {κ : Kind} {sp : Space} {R C : ℕ} {e : EltTy} (v : View sig κ sp ⟨3, ![4, R, C]⟩ e)
    (f : v.ty.Contents (Elt Ideal)) (h : Fin 4) : (⟨3, ![1, R, C]⟩ : Shape).Idx → Elt Ideal e :=
  v.readAt (Elt Ideal) (Rect.unit (s := ⟨3, ![4, R, C]⟩) ![h.val, 0, 0] ![1, R, C]
    (fun a => match a with
      | ⟨0, _⟩ => (by have := h.isLt; change h.val + 1 ≤ 4; omega)
      | ⟨1, _⟩ => (Nat.zero_add R).le
      | ⟨2, _⟩ => (Nat.zero_add C).le)).toLoadRect f

theorem ldHead_at {sig : RefSig} {κ : Kind} {sp : Space} {R C : ℕ} {e : EltTy} (v : View sig κ sp ⟨3, ![4, R, C]⟩ e)
    (f : v.ty.Contents (Elt Ideal)) (h : Fin 4) (r : Fin R) (c : Fin C) :
    ldHead v f h (ix3 0 r c) = v.read (Elt Ideal) f (ix3 h r c) := readAt_head v f h _ _ rfl r c

variable (i : grid0.Coords)
  (arg3 : Memref sig .tc .vmem S512x1024 .bf16) (arg4 : Memref sig .tc .vmem S4096x1024 .bf16) (arg5 : Memref sig .tc .vmem S1x8x576x512 .bf16)
  (arg7 : Memref sig .tc .vmem S4x1x512 .f32) (arg8 : Memref sig .tc .vmem S4x144x512 .f32) (arg9 : Memref sig .tc .vmem S4x512x512 .f32)
  (X3 : BufTy.Contents (Elt Ideal) arg3.view.ty) (X4 : BufTy.Contents (Elt Ideal) arg4.view.ty) (X5 : BufTy.Contents (Elt Ideal) arg5.view.ty)
  (f7 : BufTy.Contents (Elt Ideal) arg7.view.ty) (f8 : BufTy.Contents (Elt Ideal) arg8.view.ty) (f9 : BufTy.Contents (Elt Ideal) arg9.view.ty)

/-- The score of key `r` of tile `t` against query `q` for head `h`, before the mask; past the last tile, the last tile's. -/
def rawS (h : Fin 4) (q : Fin 512) (t : ℕ) (r : Fin 512) : EReal :=
  ∑ j : Fin 256, arg4.view.read (Elt Ideal) X4 (ix2 ⟨512 * min t 7 + r.val, by omega⟩ ⟨256 * h.val + j.val, by omega⟩)
    * arg3.view.read (Elt Ideal) X3 (ix2 q ⟨256 * h.val + j.val, by omega⟩)

/-- The same under the mask, for the query block of this grid step. -/
def curS (h : Fin 4) (q : Fin 512) (t : ℕ) (r : Fin 512) : EReal :=
  if (512 * t + r.val) / 64 ≤ (512 * (i 2).val + q.val) / 64 then rawS arg3 arg4 X3 X4 h q t r else ⊥

/-- Row `d` of head `h`'s values for key `r` of tile `t`. -/
def curV (h : Fin 4) (d : Fin 144) (t : ℕ) (r : Fin 512) : EReal :=
  arg5.view.read (Elt Ideal) X5 (ix4 0 ⟨min t 7, by omega⟩ ⟨144 * h.val + d.val, by omega⟩ r)

/-- The buffers after the first `n` key tiles: running maxima, running sums, and the scores of the next tile. -/
structure Good (n : ℕ) : Prop where
  m : ∀ h q, arg7.view.read (Elt Ideal) f7 (ix3 h 0 q) = mx (curS i arg3 arg4 X3 X4 h q) n
  a : ∀ h d q, arg8.view.read (Elt Ideal) f8 (ix3 h d q) = ac (curS i arg3 arg4 X3 X4 h q) (curV arg5 X5 h d) n
  x : ∀ h r q, arg9.view.read (Elt Ideal) f9 (ix3 h r q) = rawS arg3 arg4 X3 X4 h q n r

variable {i arg3 arg4 arg5 arg7 arg8 arg9 X3 X4 X5 f7 f8 f9}

/-- Tiles before the query block's own are visible whole. -/
theorem curS_of_lt {h : Fin 4} {q : Fin 512} {t : ℕ} {r : Fin 512} (ht : t < (i 2).val) :
    curS i arg3 arg4 X3 X4 h q t r = rawS arg3 arg4 X3 X4 h q t r := by
  unfold curS
  exact if_pos (by omega)

/-- A tile's scores, from the loads that make them. -/
theorem score_ld (h : Fin 4) (q : Fin 512) (t : ℕ) (r : Fin 512) (off : Fin 2 → ℕ)
    (inb : ∀ a, off a + (![512, 256] : Fin 2 → ℕ) a ≤ (![4096, 1024] : Fin 2 → ℕ) a) (offq : Fin 2 → ℕ)
    (inbq : ∀ a, offq a + (![512, 256] : Fin 2 → ℕ) a ≤ (![512, 1024] : Fin 2 → ℕ) a)
    (ho : off = ![512 * min t 7, 256 * h.val]) (hq : offq = ![0, 256 * h.val]) :
    scoreV (arg4.view.readAt (Elt Ideal) (Rect.unit (s := S4096x1024) off S512x256.size inb).toLoadRect X4)
      (arg3.view.readAt (Elt Ideal) (Rect.unit (s := S512x1024) offq S512x256.size inbq).toLoadRect X3) (ix3 0 r q)
      = rawS arg3 arg4 X3 X4 h q t r := by
  rw [scoreV_at]
  unfold rawS
  refine Finset.sum_congr rfl fun j _ => ?_
  refine congrArg₂ (· * ·) (readAt_mat arg4.view X4 _ _ off inb ho r j (by omega) (by omega)) ?_
  refine (readAt_mat arg3.view X3 _ _ offq inbq hq q j (by omega) (by omega)).trans ?_
  exact congrArg (arg3.view.read (Elt Ideal) X3) (congrArg (fun z => ix2 z _) (Fin.ext (Nat.zero_add _)))

/-- A tile's values, from the load that brings them. -/
theorem val_ld (h : Fin 4) (d : Fin 144) (t : ℕ) (r : Fin 512) (off : Fin 4 → ℕ)
    (inb : ∀ a, off a + (![1, 1, 144, 512] : Fin 4 → ℕ) a ≤ (![1, 8, 576, 512] : Fin 4 → ℕ) a) (ho : off = ![0, min t 7, 144 * h.val, 0]) :
    arg5.view.readAt (Elt Ideal) (Rect.unit (s := S1x8x576x512) off S1x1x144x512.size inb).toLoadRect X5 (ix4 0 0 d r) = curV arg5 X5 h d t r :=
  readAt_val arg5.view X5 ⟨min t 7, by omega⟩ (144 * h.val) off inb ho d r (by omega)

end Cert.Flash

end
-- ==== Proof.Trip1.lean ====
/- One trip of the attention kernel's unmasked loop: what it leaves in the buffers, as two folds of a key tile. -/
module

public import proofs.«01_k».proof.Proof.Gen.KernelIdeal.Loops
public import proofs.«01_k».proof.Proof.Carry
public import Idealize.ShloMosaic.Lib.Pipeline.ReadBack

@[expose] public section

set_option maxRecDepth 16384

noncomputable section

namespace Cert.Flash

open Idealize.ShloMosaic Idealize.ShloMosaic.TcCoe Cert.KernelIdeal Cert.KernelIdeal.Gen

variable (𝒱 : Variants) (dv : Dev nD) (bd : Option 𝒱.V) (i : grid0.Coords)
  (arg3 : Memref sig .tc .vmem S512x1024 .bf16) (harg3 : arg3.IsWhole) (arg4 : Memref sig .tc .vmem S4096x1024 .bf16) (harg4 : arg4.IsWhole)
  (arg5 : Memref sig .tc .vmem S1x8x576x512 .bf16) (harg5 : arg5.IsWhole) (arg6 : Memref sig .tc .vmem S512x512 .bf16) (harg6 : arg6.IsWhole)
  (arg7 : Memref sig .tc .vmem S4x1x512 .f32) (harg7 : arg7.IsWhole) (arg8 : Memref sig .tc .vmem S4x144x512 .f32) (harg8 : arg8.IsWhole)
  (arg9 : Memref sig .tc .vmem S4x512x512 .f32) (harg9 : arg9.IsWhole) (arg10 : Memref sig .tc .vmem S4x512x512 .f32) (harg10 : arg10.IsWhole)
  (v42 v79 : BitVec 32) (v148 : FVec Ideal S512x512 .f32)
  (X3 : BufTy.Contents (Elt Ideal) arg3.view.ty) (X4 : BufTy.Contents (Elt Ideal) arg4.view.ty) (X5 : BufTy.Contents (Elt Ideal) arg5.view.ty)
  (f7 : BufTy.Contents (Elt Ideal) arg7.view.ty) (f8 : BufTy.Contents (Elt Ideal) arg8.view.ty)
  (f9 : BufTy.Contents (Elt Ideal) arg9.view.ty) (f10 : BufTy.Contents (Elt Ideal) arg10.view.ty)

theorem t1_m0 (k : Fin (k0_t1_loop i).trips) (q : Fin 512) :
    arg7.view.read (Elt Ideal) (arg7.view.writes (Elt Ideal) f7 ((trip_k0_t1 (F := Ideal) 𝒱 dv bd i arg3 harg3 arg4 harg4 arg5 harg5 arg6 harg6 arg7 harg7 arg8 harg8 arg9 harg9 arg10 harg10 v42 v79 v148 X3 X4 X5 k).1 f7 f8 f9 f10)) (ix3 0 0 q)
      = newM (castS
      (scoreV (arg4.view.readAt (Elt Ideal) (Rect.unit (s := S4096x1024) (k0_off1 i k) S512x256.size (k0_off1_inb i k)).toLoadRect X4)
        (arg3.view.readAt (Elt Ideal) (Rect.unit (s := S512x1024) ![0, 0] S512x256.size inb_S512x1024_S512x256_0_0).toLoadRect X3)))
      (newM (castS (ldHead arg9.view f9 0))
      (ldHead arg7.view f7 0)) (ix3 0 0 q) := by
  unfold trip_k0_t1
  dsimp only
  refine (writes_skip (R := 1) (C := 512) arg7.view f7 0 3 _ _ _ _ rfl (by decide) 0 q).trans ?_
  unfold trip_k0_t1.sl.HW_arg7_7
  refine (writes_skip (R := 1) (C := 512) arg7.view f7 0 2 _ _ _ _ rfl (by decide) 0 q).trans ?_
  unfold trip_k0_t1.sl.HW_arg7_6
  refine (writes_skip (R := 1) (C := 512) arg7.view f7 0 1 _ _ _ _ rfl (by decide) 0 q).trans ?_
  unfold trip_k0_t1.sl.HW_arg7_5
  refine (writes_hit (R := 1) (C := 512) arg7.view f7 0 _ _ _ _ rfl 0 q).trans ?_
  unfold trip_k0_t1.sl.v442 trip_k0_t1.sl.r_5 trip_k0_t1.sl.v440
  unfold trip_k0_t1.sl.HW_arg10_4 trip_k0_t1.sl.HW_arg7_4
  simp (disch := decide) only [↓ View.readCov_skip, ↓ View.readCov_cons_toLoadRect, ↓ View.readCov_fill]
  rfl

theorem t1_a0 (k : Fin (k0_t1_loop i).trips) (d : Fin 144) (q : Fin 512) :
    arg8.view.read (Elt Ideal) (arg8.view.writes (Elt Ideal) f8 ((trip_k0_t1 (F := Ideal) 𝒱 dv bd i arg3 harg3 arg4 harg4 arg5 harg5 arg6 harg6 arg7 harg7 arg8 harg8 arg9 harg9 arg10 harg10 v42 v79 v148 X3 X4 X5 k).2.1 f7 f8 f9 f10)) (ix3 0 d q)
      = newA (castS
      (scoreV (arg4.view.readAt (Elt Ideal) (Rect.unit (s := S4096x1024) (k0_off1 i k) S512x256.size (k0_off1_inb i k)).toLoadRect X4)
        (arg3.view.readAt (Elt Ideal) (Rect.unit (s := S512x1024) ![0, 0] S512x256.size inb_S512x1024_S512x256_0_0).toLoadRect X3)))
      (newM (castS (ldHead arg9.view f9 0))
      (ldHead arg7.view f7 0))
      (arg5.view.readAt (Elt Ideal) (Rect.unit (s := S1x8x576x512) (k0_off13 i k) S1x1x144x512.size (k0_off13_inb i k)).toLoadRect X5)
      (newA (castS (ldHead arg9.view f9 0)) (ldHead arg7.view f7 0)
      (arg5.view.readAt (Elt Ideal) (Rect.unit (s := S1x8x576x512) (k0_off5 i k) S1x1x144x512.size (k0_off5_inb i k)).toLoadRect X5) (ldHead arg8.view f8 0)) (ix3 0 d q) := by
  unfold trip_k0_t1
  dsimp only
  refine (writes_skip (R := 144) (C := 512) arg8.view f8 0 3 _ _ _ _ rfl (by decide) d q).trans ?_
  unfold trip_k0_t1.sl.HW_arg8_7
  refine (writes_skip (R := 144) (C := 512) arg8.view f8 0 2 _ _ _ _ rfl (by decide) d q).trans ?_
  unfold trip_k0_t1.sl.HW_arg8_6
  refine (writes_skip (R := 144) (C := 512) arg8.view f8 0 1 _ _ _ _ rfl (by decide) d q).trans ?_
  unfold trip_k0_t1.sl.HW_arg8_5
  refine (writes_hit (R := 144) (C := 512) arg8.view f8 0 _ _ _ _ rfl d q).trans ?_
  unfold trip_k0_t1.sl.v457 trip_k0_t1.sl.v442 trip_k0_t1.sl.r_5 trip_k0_t1.sl.v440
  unfold trip_k0_t1.sl.HW_arg10_4 trip_k0_t1.sl.HW_arg7_4 trip_k0_t1.sl.HW_arg8_4
  simp (disch := decide) only [↓ View.readCov_skip, ↓ View.readCov_cons_toLoadRect, ↓ View.readCov_fill]
  rfl

theorem t1_m1 (k : Fin (k0_t1_loop i).trips) (q : Fin 512) :
    arg7.view.read (Elt Ideal) (arg7.view.writes (Elt Ideal) f7 ((trip_k0_t1 (F := Ideal) 𝒱 dv bd i arg3 harg3 arg4 harg4 arg5 harg5 arg6 harg6 arg7 harg7 arg8 harg8 arg9 harg9 arg10 harg10 v42 v79 v148 X3 X4 X5 k).1 f7 f8 f9 f10)) (ix3 1 0 q)
      = newM (castS
      (scoreV (arg4.view.readAt (Elt Ideal) (Rect.unit (s := S4096x1024) (k0_off2 i k) S512x256.size (k0_off2_inb i k)).toLoadRect X4)
        (arg3.view.readAt (Elt Ideal) (Rect.unit (s := S512x1024) ![0, 256] S512x256.size inb_S512x1024_S512x256_0_256).toLoadRect X3)))
      (newM (castS (ldHead arg9.view f9 1))
      (ldHead arg7.view f7 1)) (ix3 0 0 q) := by
  unfold trip_k0_t1
  dsimp only
  refine (writes_skip (R := 1) (C := 512) arg7.view f7 1 3 _ _ _ _ rfl (by decide) 0 q).trans ?_
  unfold trip_k0_t1.sl.HW_arg7_7
  refine (writes_skip (R := 1) (C := 512) arg7.view f7 1 2 _ _ _ _ rfl (by decide) 0 q).trans ?_
  unfold trip_k0_t1.sl.HW_arg7_6
  refine (writes_hit (R := 1) (C := 512) arg7.view f7 1 _ _ _ _ rfl 0 q).trans ?_
  unfold trip_k0_t1.sl.r_7 trip_k0_t1.sl.v470 trip_k0_t1.sl.v468
  unfold trip_k0_t1.sl.HW_arg10_4 trip_k0_t1.sl.HW_arg7_5 trip_k0_t1.sl.HW_arg7_4
  simp (disch := decide) only [↓ View.readCov_skip, ↓ View.readCov_cons_toLoadRect, ↓ View.readCov_fill]
  rfl

theorem t1_a1 (k : Fin (k0_t1_loop i).trips) (d : Fin 144) (q : Fin 512) :
    arg8.view.read (Elt Ideal) (arg8.view.writes (Elt Ideal) f8 ((trip_k0_t1 (F := Ideal) 𝒱 dv bd i arg3 harg3 arg4 harg4 arg5 harg5 arg6 harg6 arg7 harg7 arg8 harg8 arg9 harg9 arg10 harg10 v42 v79 v148 X3 X4 X5 k).2.1 f7 f8 f9 f10)) (ix3 1 d q)
      = newA (castS
      (scoreV (arg4.view.readAt (Elt Ideal) (Rect.unit (s := S4096x1024) (k0_off2 i k) S512x256.size (k0_off2_inb i k)).toLoadRect X4)
        (arg3.view.readAt (Elt Ideal) (Rect.unit (s := S512x1024) ![0, 256] S512x256.size inb_S512x1024_S512x256_0_256).toLoadRect X3)))
      (newM (castS (ldHead arg9.view f9 1))
      (ldHead arg7.view f7 1))
      (arg5.view.readAt (Elt Ideal) (Rect.unit (s := S1x8x576x512) (k0_off14 i k) S1x1x144x512.size (k0_off14_inb i k)).toLoadRect X5)
      (newA (castS (ldHead arg9.view f9 1)) (ldHead arg7.view f7 1)
      (arg5.view.readAt (Elt Ideal) (Rect.unit (s := S1x8x576x512) (k0_off6 i k) S1x1x144x512.size (k0_off6_inb i k)).toLoadRect X5) (ldHead arg8.view f8 1)) (ix3 0 d q) := by
  unfold trip_k0_t1
  dsimp only
  refine (writes_skip (R := 144) (C := 512) arg8.view f8 1 3 _ _ _ _ rfl (by decide) d q).trans ?_
  unfold trip_k0_t1.sl.HW_arg8_7
  refine (writes_skip (R := 144) (C := 512) arg8.view f8 1 2 _ _ _ _ rfl (by decide) d q).trans ?_
  unfold trip_k0_t1.sl.HW_arg8_6
  refine (writes_hit (R := 144) (C := 512) arg8.view f8 1 _ _ _ _ rfl d q).trans ?_
  unfold trip_k0_t1.sl.v485 trip_k0_t1.sl.r_9 trip_k0_t1.sl.r_8 trip_k0_t1.sl.v470 trip_k0_t1.sl.r_6 trip_k0_t1.sl.v468
  unfold trip_k0_t1.sl.HW_arg10_4 trip_k0_t1.sl.HW_arg7_5 trip_k0_t1.sl.HW_arg7_4 trip_k0_t1.sl.HW_arg8_5 trip_k0_t1.sl.HW_arg8_4
  simp (disch := decide) only [↓ View.readCov_skip, ↓ View.readCov_cons_toLoadRect, ↓ View.readCov_fill]
  rfl

theorem t1_m2 (k : Fin (k0_t1_loop i).trips) (q : Fin 512) :
    arg7.view.read (Elt Ideal) (arg7.view.writes (Elt Ideal) f7 ((trip_k0_t1 (F := Ideal) 𝒱 dv bd i arg3 harg3 arg4 harg4 arg5 harg5 arg6 harg6 arg7 harg7 arg8 harg8 arg9 harg9 arg10 harg10 v42 v79 v148 X3 X4 X5 k).1 f7 f8 f9 f10)) (ix3 2 0 q)
      = newM (castS
      (scoreV (arg4.view.readAt (Elt Ideal) (Rect.unit (s := S4096x1024) (k0_off3 i k) S512x256.size (k0_off3_inb i k)).toLoadRect X4)
        (arg3.view.readAt (Elt Ideal) (Rect.unit (s := S512x1024) ![0, 512] S512x256.size inb_S512x1024_S512x256_0_512).toLoadRect X3)))
      (newM (castS (ldHead arg9.view f9 2))
      (ldHead arg7.view f7 2)) (ix3 0 0 q) := by
  unfold trip_k0_t1
  dsimp only
  refine (writes_skip (R := 1) (C := 512) arg7.view f7 2 3 _ _ _ _ rfl (by decide) 0 q).trans ?_
  unfold trip_k0_t1.sl.HW_arg7_7
  refine (writes_hit (R := 1) (C := 512) arg7.view f7 2 _ _ _ _ rfl 0 q).trans ?_
  unfold trip_k0_t1.sl.r_10 trip_k0_t1.sl.v498 trip_k0_t1.sl.v496
  unfold trip_k0_t1.sl.HW_arg10_4 trip_k0_t1.sl.HW_arg7_6 trip_k0_t1.sl.HW_arg7_5 trip_k0_t1.sl.HW_arg7_4
  simp (disch := decide) only [↓ View.readCov_skip, ↓ View.readCov_cons_toLoadRect, ↓ View.readCov_fill]
  rfl

theorem t1_a2 (k : Fin (k0_t1_loop i).trips) (d : Fin 144) (q : Fin 512) :
    arg8.view.read (Elt Ideal) (arg8.view.writes (Elt Ideal) f8 ((trip_k0_t1 (F := Ideal) 𝒱 dv bd i arg3 harg3 arg4 harg4 arg5 harg5 arg6 harg6 arg7 harg7 arg8 harg8 arg9 harg9 arg10 harg10 v42 v79 v148 X3 X4 X5 k).2.1 f7 f8 f9 f10)) (ix3 2 d q)
      = newA (castS
      (scoreV (arg4.view.readAt (Elt Ideal) (Rect.unit (s := S4096x1024) (k0_off3 i k) S512x256.size (k0_off3_inb i k)).toLoadRect X4)
        (arg3.view.readAt (Elt Ideal) (Rect.unit (s := S512x1024) ![0, 512] S512x256.size inb_S512x1024_S512x256_0_512).toLoadRect X3)))
      (newM (castS (ldHead arg9.view f9 2))
      (ldHead arg7.view f7 2))
      (arg5.view.readAt (Elt Ideal) (Rect.unit (s := S1x8x576x512) (k0_off15 i k) S1x1x144x512.size (k0_off15_inb i k)).toLoadRect X5)
      (newA (castS (ldHead arg9.view f9 2)) (ldHead arg7.view f7 2)
      (arg5.view.readAt (Elt Ideal) (Rect.unit (s := S1x8x576x512) (k0_off7 i k) S1x1x144x512.size (k0_off7_inb i k)).toLoadRect X5) (ldHead arg8.view f8 2)) (ix3 0 d q) := by
  unfold trip_k0_t1
  dsimp only
  refine (writes_skip (R := 144) (C := 512) arg8.view f8 2 3 _ _ _ _ rfl (by decide) d q).trans ?_
  unfold trip_k0_t1.sl.HW_arg8_7
  refine (writes_hit (R := 144) (C := 512) arg8.view f8 2 _ _ _ _ rfl d q).trans ?_
  unfold trip_k0_t1.sl.v513 trip_k0_t1.sl.r_12 trip_k0_t1.sl.r_11 trip_k0_t1.sl.v498 trip_k0_t1.sl.v496
  unfold trip_k0_t1.sl.HW_arg10_4 trip_k0_t1.sl.HW_arg7_6 trip_k0_t1.sl.HW_arg7_5 trip_k0_t1.sl.HW_arg7_4 trip_k0_t1.sl.HW_arg8_6 trip_k0_t1.sl.HW_arg8_5 trip_k0_t1.sl.HW_arg8_4
  simp (disch := decide) only [↓ View.readCov_skip, ↓ View.readCov_cons_toLoadRect, ↓ View.readCov_fill]
  rfl

theorem t1_m3 (k : Fin (k0_t1_loop i).trips) (q : Fin 512) :
    arg7.view.read (Elt Ideal) (arg7.view.writes (Elt Ideal) f7 ((trip_k0_t1 (F := Ideal) 𝒱 dv bd i arg3 harg3 arg4 harg4 arg5 harg5 arg6 harg6 arg7 harg7 arg8 harg8 arg9 harg9 arg10 harg10 v42 v79 v148 X3 X4 X5 k).1 f7 f8 f9 f10)) (ix3 3 0 q)
      = newM (castS
      (scoreV (arg4.view.readAt (Elt Ideal) (Rect.unit (s := S4096x1024) (k0_off4 i k) S512x256.size (k0_off4_inb i k)).toLoadRect X4)
        (arg3.view.readAt (Elt Ideal) (Rect.unit (s := S512x1024) ![0, 768] S512x256.size inb_S512x1024_S512x256_0_768).toLoadRect X3)))
      (newM (castS (ldHead arg9.view f9 3))
      (ldHead arg7.view f7 3)) (ix3 0 0 q) := by
  unfold trip_k0_t1
  dsimp only
  refine (writes_hit (R := 1) (C := 512) arg7.view f7 3 _ _ _ _ rfl 0 q).trans ?_
  unfold trip_k0_t1.sl.r_14 trip_k0_t1.sl.v526 trip_k0_t1.sl.v524
  unfold trip_k0_t1.sl.HW_arg10_4 trip_k0_t1.sl.HW_arg7_7 trip_k0_t1.sl.HW_arg7_6 trip_k0_t1.sl.HW_arg7_5 trip_k0_t1.sl.HW_arg7_4
  simp (disch := decide) only [↓ View.readCov_skip, ↓ View.readCov_cons_toLoadRect, ↓ View.readCov_fill]
  rfl

theorem t1_a3 (k : Fin (k0_t1_loop i).trips) (d : Fin 144) (q : Fin 512) :
    arg8.view.read (Elt Ideal) (arg8.view.writes (Elt Ideal) f8 ((trip_k0_t1 (F := Ideal) 𝒱 dv bd i arg3 harg3 arg4 harg4 arg5 harg5 arg6 harg6 arg7 harg7 arg8 harg8 arg9 harg9 arg10 harg10 v42 v79 v148 X3 X4 X5 k).2.1 f7 f8 f9 f10)) (ix3 3 d q)
      = newA (castS
      (scoreV (arg4.view.readAt (Elt Ideal) (Rect.unit (s := S4096x1024) (k0_off4 i k) S512x256.size (k0_off4_inb i k)).toLoadRect X4)
        (arg3.view.readAt (Elt Ideal) (Rect.unit (s := S512x1024) ![0, 768] S512x256.size inb_S512x1024_S512x256_0_768).toLoadRect X3)))
      (newM (castS (ldHead arg9.view f9 3))
      (ldHead arg7.view f7 3))
      (arg5.view.readAt (Elt Ideal) (Rect.unit (s := S1x8x576x512) (k0_off16 i k) S1x1x144x512.size (k0_off16_inb i k)).toLoadRect X5)
      (newA (castS (ldHead arg9.view f9 3)) (ldHead arg7.view f7 3)
      (arg5.view.readAt (Elt Ideal) (Rect.unit (s := S1x8x576x512) (k0_off8 i k) S1x1x144x512.size (k0_off8_inb i k)).toLoadRect X5) (ldHead arg8.view f8 3)) (ix3 0 d q) := by
  unfold trip_k0_t1
  dsimp only
  refine (writes_hit (R := 144) (C := 512) arg8.view f8 3 _ _ _ _ rfl d q).trans ?_
  unfold trip_k0_t1.sl.r_15 trip_k0_t1.sl.v541 trip_k0_t1.sl.v526 trip_k0_t1.sl.v524
  unfold trip_k0_t1.sl.HW_arg10_4 trip_k0_t1.sl.HW_arg7_7 trip_k0_t1.sl.HW_arg7_6 trip_k0_t1.sl.HW_arg7_5 trip_k0_t1.sl.HW_arg7_4 trip_k0_t1.sl.HW_arg8_7 trip_k0_t1.sl.HW_arg8_6 trip_k0_t1.sl.HW_arg8_5 trip_k0_t1.sl.HW_arg8_4
  simp (disch := decide) only [↓ View.readCov_skip, ↓ View.readCov_cons_toLoadRect, ↓ View.readCov_fill]
  rfl

theorem t1_x0 (k : Fin (k0_t1_loop i).trips) (r q : Fin 512) :
    arg9.view.read (Elt Ideal) (arg9.view.writes (Elt Ideal) f9 ((trip_k0_t1 (F := Ideal) 𝒱 dv bd i arg3 harg3 arg4 harg4 arg5 harg5 arg6 harg6 arg7 harg7 arg8 harg8 arg9 harg9 arg10 harg10 v42 v79 v148 X3 X4 X5 k).2.2.1 f7 f8 f9 f10)) (ix3 0 r q)
      = (scoreV (arg4.view.readAt (Elt Ideal) (Rect.unit (s := S4096x1024) (k0_off9 i k) S512x256.size (k0_off9_inb i k)).toLoadRect X4)
        (arg3.view.readAt (Elt Ideal) (Rect.unit (s := S512x1024) ![0, 0] S512x256.size inb_S512x1024_S512x256_0_0).toLoadRect X3)) (ix3 0 r q) := by
  unfold trip_k0_t1
  dsimp only
  refine (writes_skip (R := 512) (C := 512) arg9.view f9 0 3 _ _ _ _ rfl (by decide) r q).trans ?_
  refine (writes_skip (R := 512) (C := 512) arg9.view f9 0 2 _ _ _ _ rfl (by decide) r q).trans ?_
  refine (writes_skip (R := 512) (C := 512) arg9.view f9 0 1 _ _ _ _ rfl (by decide) r q).trans ?_
  exact (writes_hit (R := 512) (C := 512) arg9.view f9 0 _ _ _ _ rfl r q).trans rfl

theorem t1_x1 (k : Fin (k0_t1_loop i).trips) (r q : Fin 512) :
    arg9.view.read (Elt Ideal) (arg9.view.writes (Elt Ideal) f9 ((trip_k0_t1 (F := Ideal) 𝒱 dv bd i arg3 harg3 arg4 harg4 arg5 harg5 arg6 harg6 arg7 harg7 arg8 harg8 arg9 harg9 arg10 harg10 v42 v79 v148 X3 X4 X5 k).2.2.1 f7 f8 f9 f10)) (ix3 1 r q)
      = (scoreV (arg4.view.readAt (Elt Ideal) (Rect.unit (s := S4096x1024) (k0_off10 i k) S512x256.size (k0_off10_inb i k)).toLoadRect X4)
        (arg3.view.readAt (Elt Ideal) (Rect.unit (s := S512x1024) ![0, 256] S512x256.size inb_S512x1024_S512x256_0_256).toLoadRect X3)) (ix3 0 r q) := by
  unfold trip_k0_t1
  dsimp only
  refine (writes_skip (R := 512) (C := 512) arg9.view f9 1 3 _ _ _ _ rfl (by decide) r q).trans ?_
  refine (writes_skip (R := 512) (C := 512) arg9.view f9 1 2 _ _ _ _ rfl (by decide) r q).trans ?_
  exact (writes_hit (R := 512) (C := 512) arg9.view f9 1 _ _ _ _ rfl r q).trans rfl

theorem t1_x2 (k : Fin (k0_t1_loop i).trips) (r q : Fin 512) :
    arg9.view.read (Elt Ideal) (arg9.view.writes (Elt Ideal) f9 ((trip_k0_t1 (F := Ideal) 𝒱 dv bd i arg3 harg3 arg4 harg4 arg5 harg5 arg6 harg6 arg7 harg7 arg8 harg8 arg9 harg9 arg10 harg10 v42 v79 v148 X3 X4 X5 k).2.2.1 f7 f8 f9 f10)) (ix3 2 r q)
      = (scoreV (arg4.view.readAt (Elt Ideal) (Rect.unit (s := S4096x1024) (k0_off11 i k) S512x256.size (k0_off11_inb i k)).toLoadRect X4)
        (arg3.view.readAt (Elt Ideal) (Rect.unit (s := S512x1024) ![0, 512] S512x256.size inb_S512x1024_S512x256_0_512).toLoadRect X3)) (ix3 0 r q) := by
  unfold trip_k0_t1
  dsimp only
  refine (writes_skip (R := 512) (C := 512) arg9.view f9 2 3 _ _ _ _ rfl (by decide) r q).trans ?_
  exact (writes_hit (R := 512) (C := 512) arg9.view f9 2 _ _ _ _ rfl r q).trans rfl

theorem t1_x3 (k : Fin (k0_t1_loop i).trips) (r q : Fin 512) :
    arg9.view.read (Elt Ideal) (arg9.view.writes (Elt Ideal) f9 ((trip_k0_t1 (F := Ideal) 𝒱 dv bd i arg3 harg3 arg4 harg4 arg5 harg5 arg6 harg6 arg7 harg7 arg8 harg8 arg9 harg9 arg10 harg10 v42 v79 v148 X3 X4 X5 k).2.2.1 f7 f8 f9 f10)) (ix3 3 r q)
      = (scoreV (arg4.view.readAt (Elt Ideal) (Rect.unit (s := S4096x1024) (k0_off12 i k) S512x256.size (k0_off12_inb i k)).toLoadRect X4)
        (arg3.view.readAt (Elt Ideal) (Rect.unit (s := S512x1024) ![0, 768] S512x256.size inb_S512x1024_S512x256_0_768).toLoadRect X3)) (ix3 0 r q) := by
  unfold trip_k0_t1
  dsimp only
  exact (writes_hit (R := 512) (C := 512) arg9.view f9 3 _ _ _ _ rfl r q).trans rfl

end Cert.Flash

end
-- ==== Proof.Loop1.lean ====
/- The unmasked loop of the attention kernel folds in its key tiles. -/
module

public import proofs.«01_k».proof.Proof.Gen.KernelIdeal.Loops
public import proofs.«01_k».proof.Proof.Trip1
public import Idealize.ShloMosaic.Lib.Pipeline.ReadBack

@[expose] public section

set_option maxRecDepth 16384

noncomputable section

namespace Cert.Flash

open Idealize.ShloMosaic Idealize.ShloMosaic.TcCoe Cert.KernelIdeal Cert.KernelIdeal.Gen

variable (𝒱 : Variants) (dv : Dev nD) (bd : Option 𝒱.V) (i : grid0.Coords)
  (arg3 : Memref sig .tc .vmem S512x1024 .bf16) (harg3 : arg3.IsWhole) (arg4 : Memref sig .tc .vmem S4096x1024 .bf16) (harg4 : arg4.IsWhole)
  (arg5 : Memref sig .tc .vmem S1x8x576x512 .bf16) (harg5 : arg5.IsWhole) (arg6 : Memref sig .tc .vmem S512x512 .bf16) (harg6 : arg6.IsWhole)
  (arg7 : Memref sig .tc .vmem S4x1x512 .f32) (harg7 : arg7.IsWhole) (arg8 : Memref sig .tc .vmem S4x144x512 .f32) (harg8 : arg8.IsWhole)
  (arg9 : Memref sig .tc .vmem S4x512x512 .f32) (harg9 : arg9.IsWhole) (arg10 : Memref sig .tc .vmem S4x512x512 .f32) (harg10 : arg10.IsWhole)
  (v42 v79 : BitVec 32) (v148 : FVec Ideal S512x512 .f32)
  (X3 : BufTy.Contents (Elt Ideal) arg3.view.ty) (X4 : BufTy.Contents (Elt Ideal) arg4.view.ty) (X5 : BufTy.Contents (Elt Ideal) arg5.view.ty)
  (f7 : BufTy.Contents (Elt Ideal) arg7.view.ty) (f8 : BufTy.Contents (Elt Ideal) arg8.view.ty)
  (f9 : BufTy.Contents (Elt Ideal) arg9.view.ty) (f10 : BufTy.Contents (Elt Ideal) arg10.view.ty)

section

variable {i arg3 arg4 arg5 arg7 arg8 arg9 X3 X4 X5 f7 f8 f9}

theorem t1_first0 (k : Fin (k0_t1_loop i).trips) (hg : Good i arg3 arg4 arg5 arg7 arg8 arg9 X3 X4 X5 f7 f8 f9 (2 * k.val)) (r q : Fin 512) :
    (castS (ldHead arg9.view f9 0)) (ix2 r q) = curS i arg3 arg4 X3 X4 0 q (2 * k.val) r := by
  have hk : k.val < (i 2).val / 2 := lt_of_lt_of_eq k.isLt (trips1 i)
  have hi : (i 2).val < 8 := (i 2).isLt
  rw [castS_at, ldHead_at, hg.x, curS_of_lt (by omega)]

theorem t1_second0 (k : Fin (k0_t1_loop i).trips) (r q : Fin 512) :
    (castS (scoreV (arg4.view.readAt (Elt Ideal) (Rect.unit (s := S4096x1024) (k0_off1 i k) S512x256.size (k0_off1_inb i k)).toLoadRect X4)
      (arg3.view.readAt (Elt Ideal) (Rect.unit (s := S512x1024) ![0, 0] S512x256.size inb_S512x1024_S512x256_0_0).toLoadRect X3))) (ix2 r q) = curS i arg3 arg4 X3 X4 0 q (2 * k.val + 1) r := by
  have hk : k.val < (i 2).val / 2 := lt_of_lt_of_eq k.isLt (trips1 i)
  have hi : (i 2).val < 8 := (i 2).isLt
  rw [castS_at, curS_of_lt (by omega)]
  exact score_ld 0 q (2 * k.val + 1) r _ _ _ _ (by rw [off1 i k, Nat.min_eq_left (by omega)]; rfl) rfl

theorem t1_valA0 (k : Fin (k0_t1_loop i).trips) (d : Fin 144) (r : Fin 512) :
    arg5.view.readAt (Elt Ideal) (Rect.unit (s := S1x8x576x512) (k0_off5 i k) S1x1x144x512.size (k0_off5_inb i k)).toLoadRect X5 (ix4 0 0 d r)
      = curV arg5 X5 0 d (2 * k.val) r := by
  have hk : k.val < (i 2).val / 2 := lt_of_lt_of_eq k.isLt (trips1 i)
  have hi : (i 2).val < 8 := (i 2).isLt
  exact val_ld 0 d (2 * k.val) r _ _ (by rw [off5 i k, Nat.min_eq_left (by omega)]; rfl)

theorem t1_valB0 (k : Fin (k0_t1_loop i).trips) (d : Fin 144) (r : Fin 512) :
    arg5.view.readAt (Elt Ideal) (Rect.unit (s := S1x8x576x512) (k0_off13 i k) S1x1x144x512.size (k0_off13_inb i k)).toLoadRect X5 (ix4 0 0 d r)
      = curV arg5 X5 0 d (2 * k.val + 1) r := by
  have hk : k.val < (i 2).val / 2 := lt_of_lt_of_eq k.isLt (trips1 i)
  have hi : (i 2).val < 8 := (i 2).isLt
  exact val_ld 0 d (2 * k.val + 1) r _ _ (by rw [off13 i k, Nat.min_eq_left (by omega)]; rfl)

theorem t1_first1 (k : Fin (k0_t1_loop i).trips) (hg : Good i arg3 arg4 arg5 arg7 arg8 arg9 X3 X4 X5 f7 f8 f9 (2 * k.val)) (r q : Fin 512) :
    (castS (ldHead arg9.view f9 1)) (ix2 r q) = curS i arg3 arg4 X3 X4 1 q (2 * k.val) r := by
  have hk : k.val < (i 2).val / 2 := lt_of_lt_of_eq k.isLt (trips1 i)
  have hi : (i 2).val < 8 := (i 2).isLt
  rw [castS_at, ldHead_at, hg.x, curS_of_lt (by omega)]

theorem t1_second1 (k : Fin (k0_t1_loop i).trips) (r q : Fin 512) :
    (castS (scoreV (arg4.view.readAt (Elt Ideal) (Rect.unit (s := S4096x1024) (k0_off2 i k) S512x256.size (k0_off2_inb i k)).toLoadRect X4)
      (arg3.view.readAt (Elt Ideal) (Rect.unit (s := S512x1024) ![0, 256] S512x256.size inb_S512x1024_S512x256_0_256).toLoadRect X3))) (ix2 r q) = curS i arg3 arg4 X3 X4 1 q (2 * k.val + 1) r := by
  have hk : k.val < (i 2).val / 2 := lt_of_lt_of_eq k.isLt (trips1 i)
  have hi : (i 2).val < 8 := (i 2).isLt
  rw [castS_at, curS_of_lt (by omega)]
  exact score_ld 1 q (2 * k.val + 1) r _ _ _ _ (by rw [off2 i k, Nat.min_eq_left (by omega)]; rfl) rfl

theorem t1_valA1 (k : Fin (k0_t1_loop i).trips) (d : Fin 144) (r : Fin 512) :
    arg5.view.readAt (Elt Ideal) (Rect.unit (s := S1x8x576x512) (k0_off6 i k) S1x1x144x512.size (k0_off6_inb i k)).toLoadRect X5 (ix4 0 0 d r)
      = curV arg5 X5 1 d (2 * k.val) r := by
  have hk : k.val < (i 2).val / 2 := lt_of_lt_of_eq k.isLt (trips1 i)
  have hi : (i 2).val < 8 := (i 2).isLt
  exact val_ld 1 d (2 * k.val) r _ _ (by rw [off6 i k, Nat.min_eq_left (by omega)]; rfl)

theorem t1_valB1 (k : Fin (k0_t1_loop i).trips) (d : Fin 144) (r : Fin 512) :
    arg5.view.readAt (Elt Ideal) (Rect.unit (s := S1x8x576x512) (k0_off14 i k) S1x1x144x512.size (k0_off14_inb i k)).toLoadRect X5 (ix4 0 0 d r)
      = curV arg5 X5 1 d (2 * k.val + 1) r := by
  have hk : k.val < (i 2).val / 2 := lt_of_lt_of_eq k.isLt (trips1 i)
  have hi : (i 2).val < 8 := (i 2).isLt
  exact val_ld 1 d (2 * k.val + 1) r _ _ (by rw [off14 i k, Nat.min_eq_left (by omega)]; rfl)

theorem t1_first2 (k : Fin (k0_t1_loop i).trips) (hg : Good i arg3 arg4 arg5 arg7 arg8 arg9 X3 X4 X5 f7 f8 f9 (2 * k.val)) (r q : Fin 512) :
    (castS (ldHead arg9.view f9 2)) (ix2 r q) = curS i arg3 arg4 X3 X4 2 q (2 * k.val) r := by
  have hk : k.val < (i 2).val / 2 := lt_of_lt_of_eq k.isLt (trips1 i)
  have hi : (i 2).val < 8 := (i 2).isLt
  rw [castS_at, ldHead_at, hg.x, curS_of_lt (by omega)]

theorem t1_second2 (k : Fin (k0_t1_loop i).trips) (r q : Fin 512) :
    (castS (scoreV (arg4.view.readAt (Elt Ideal) (Rect.unit (s := S4096x1024) (k0_off3 i k) S512x256.size (k0_off3_inb i k)).toLoadRect X4)
      (arg3.view.readAt (Elt Ideal) (Rect.unit (s := S512x1024) ![0, 512] S512x256.size inb_S512x1024_S512x256_0_512).toLoadRect X3))) (ix2 r q) = curS i arg3 arg4 X3 X4 2 q (2 * k.val + 1) r := by
  have hk : k.val < (i 2).val / 2 := lt_of_lt_of_eq k.isLt (trips1 i)
  have hi : (i 2).val < 8 := (i 2).isLt
  rw [castS_at, curS_of_lt (by omega)]
  exact score_ld 2 q (2 * k.val + 1) r _ _ _ _ (by rw [off3 i k, Nat.min_eq_left (by omega)]; rfl) rfl

theorem t1_valA2 (k : Fin (k0_t1_loop i).trips) (d : Fin 144) (r : Fin 512) :
    arg5.view.readAt (Elt Ideal) (Rect.unit (s := S1x8x576x512) (k0_off7 i k) S1x1x144x512.size (k0_off7_inb i k)).toLoadRect X5 (ix4 0 0 d r)
      = curV arg5 X5 2 d (2 * k.val) r := by
  have hk : k.val < (i 2).val / 2 := lt_of_lt_of_eq k.isLt (trips1 i)
  have hi : (i 2).val < 8 := (i 2).isLt
  exact val_ld 2 d (2 * k.val) r _ _ (by rw [off7 i k, Nat.min_eq_left (by omega)]; rfl)

theorem t1_valB2 (k : Fin (k0_t1_loop i).trips) (d : Fin 144) (r : Fin 512) :
    arg5.view.readAt (Elt Ideal) (Rect.unit (s := S1x8x576x512) (k0_off15 i k) S1x1x144x512.size (k0_off15_inb i k)).toLoadRect X5 (ix4 0 0 d r)
      = curV arg5 X5 2 d (2 * k.val + 1) r := by
  have hk : k.val < (i 2).val / 2 := lt_of_lt_of_eq k.isLt (trips1 i)
  have hi : (i 2).val < 8 := (i 2).isLt
  exact val_ld 2 d (2 * k.val + 1) r _ _ (by rw [off15 i k, Nat.min_eq_left (by omega)]; rfl)

theorem t1_first3 (k : Fin (k0_t1_loop i).trips) (hg : Good i arg3 arg4 arg5 arg7 arg8 arg9 X3 X4 X5 f7 f8 f9 (2 * k.val)) (r q : Fin 512) :
    (castS (ldHead arg9.view f9 3)) (ix2 r q) = curS i arg3 arg4 X3 X4 3 q (2 * k.val) r := by
  have hk : k.val < (i 2).val / 2 := lt_of_lt_of_eq k.isLt (trips1 i)
  have hi : (i 2).val < 8 := (i 2).isLt
  rw [castS_at, ldHead_at, hg.x, curS_of_lt (by omega)]

theorem t1_second3 (k : Fin (k0_t1_loop i).trips) (r q : Fin 512) :
    (castS (scoreV (arg4.view.readAt (Elt Ideal) (Rect.unit (s := S4096x1024) (k0_off4 i k) S512x256.size (k0_off4_inb i k)).toLoadRect X4)
      (arg3.view.readAt (Elt Ideal) (Rect.unit (s := S512x1024) ![0, 768] S512x256.size inb_S512x1024_S512x256_0_768).toLoadRect X3))) (ix2 r q) = curS i arg3 arg4 X3 X4 3 q (2 * k.val + 1) r := by
  have hk : k.val < (i 2).val / 2 := lt_of_lt_of_eq k.isLt (trips1 i)
  have hi : (i 2).val < 8 := (i 2).isLt
  rw [castS_at, curS_of_lt (by omega)]
  exact score_ld 3 q (2 * k.val + 1) r _ _ _ _ (by rw [off4 i k, Nat.min_eq_left (by omega)]; rfl) rfl

theorem t1_valA3 (k : Fin (k0_t1_loop i).trips) (d : Fin 144) (r : Fin 512) :
    arg5.view.readAt (Elt Ideal) (Rect.unit (s := S1x8x576x512) (k0_off8 i k) S1x1x144x512.size (k0_off8_inb i k)).toLoadRect X5 (ix4 0 0 d r)
      = curV arg5 X5 3 d (2 * k.val) r := by
  have hk : k.val < (i 2).val / 2 := lt_of_lt_of_eq k.isLt (trips1 i)
  have hi : (i 2).val < 8 := (i 2).isLt
  exact val_ld 3 d (2 * k.val) r _ _ (by rw [off8 i k, Nat.min_eq_left (by omega)]; rfl)

theorem t1_valB3 (k : Fin (k0_t1_loop i).trips) (d : Fin 144) (r : Fin 512) :
    arg5.view.readAt (Elt Ideal) (Rect.unit (s := S1x8x576x512) (k0_off16 i k) S1x1x144x512.size (k0_off16_inb i k)).toLoadRect X5 (ix4 0 0 d r)
      = curV arg5 X5 3 d (2 * k.val + 1) r := by
  have hk : k.val < (i 2).val / 2 := lt_of_lt_of_eq k.isLt (trips1 i)
  have hi : (i 2).val < 8 := (i 2).isLt
  exact val_ld 3 d (2 * k.val + 1) r _ _ (by rw [off16 i k, Nat.min_eq_left (by omega)]; rfl)

end

/-- One trip is two tiles. -/
theorem t1_step (k : Fin (k0_t1_loop i).trips) (hg : Good i arg3 arg4 arg5 arg7 arg8 arg9 X3 X4 X5 f7 f8 f9 (2 * k.val)) :
    Good i arg3 arg4 arg5 arg7 arg8 arg9 X3 X4 X5
      (arg7.view.writes (Elt Ideal) f7 (tripL_k0_t1 (F := Ideal) 𝒱 dv bd i arg3 harg3 arg4 harg4 arg5 harg5 arg6 harg6 arg7 harg7 arg8 harg8 arg9 harg9 arg10 harg10 v42 v79 v148 X3 X4 X5 k f7 f8 f9 f10).1) (arg8.view.writes (Elt Ideal) f8 (tripL_k0_t1 (F := Ideal) 𝒱 dv bd i arg3 harg3 arg4 harg4 arg5 harg5 arg6 harg6 arg7 harg7 arg8 harg8 arg9 harg9 arg10 harg10 v42 v79 v148 X3 X4 X5 k f7 f8 f9 f10).2.1)
      (arg9.view.writes (Elt Ideal) f9 (tripL_k0_t1 (F := Ideal) 𝒱 dv bd i arg3 harg3 arg4 harg4 arg5 harg5 arg6 harg6 arg7 harg7 arg8 harg8 arg9 harg9 arg10 harg10 v42 v79 v148 X3 X4 X5 k f7 f8 f9 f10).2.2.1) (2 * k.val + 2) where
  m h q := by
    match h with
    | ⟨0, _⟩ => exact (t1_m0 𝒱 dv bd i arg3 harg3 arg4 harg4 arg5 harg5 arg6 harg6 arg7 harg7 arg8 harg8 arg9 harg9 arg10 harg10 v42 v79 v148 X3 X4 X5 f7 f8 f9 f10 k q).trans (newM_step (fun r => t1_second0 k r q) (newM_step (fun r => t1_first0 k hg r q) ((ldHead_at arg7.view f7 0 0 q).trans (hg.m 0 q))))
    | ⟨1, _⟩ => exact (t1_m1 𝒱 dv bd i arg3 harg3 arg4 harg4 arg5 harg5 arg6 harg6 arg7 harg7 arg8 harg8 arg9 harg9 arg10 harg10 v42 v79 v148 X3 X4 X5 f7 f8 f9 f10 k q).trans (newM_step (fun r => t1_second1 k r q) (newM_step (fun r => t1_first1 k hg r q) ((ldHead_at arg7.view f7 1 0 q).trans (hg.m 1 q))))
    | ⟨2, _⟩ => exact (t1_m2 𝒱 dv bd i arg3 harg3 arg4 harg4 arg5 harg5 arg6 harg6 arg7 harg7 arg8 harg8 arg9 harg9 arg10 harg10 v42 v79 v148 X3 X4 X5 f7 f8 f9 f10 k q).trans (newM_step (fun r => t1_second2 k r q) (newM_step (fun r => t1_first2 k hg r q) ((ldHead_at arg7.view f7 2 0 q).trans (hg.m 2 q))))
    | ⟨3, _⟩ => exact (t1_m3 𝒱 dv bd i arg3 harg3 arg4 harg4 arg5 harg5 arg6 harg6 arg7 harg7 arg8 harg8 arg9 harg9 arg10 harg10 v42 v79 v148 X3 X4 X5 f7 f8 f9 f10 k q).trans (newM_step (fun r => t1_second3 k r q) (newM_step (fun r => t1_first3 k hg r q) ((ldHead_at arg7.view f7 3 0 q).trans (hg.m 3 q))))
  a h d q := by
    match h with
    | ⟨0, _⟩ => exact (t1_a0 𝒱 dv bd i arg3 harg3 arg4 harg4 arg5 harg5 arg6 harg6 arg7 harg7 arg8 harg8 arg9 harg9 arg10 harg10 v42 v79 v148 X3 X4 X5 f7 f8 f9 f10 k d q).trans (newA_step (fun r => t1_second0 k r q) (newM_step (fun r => t1_first0 k hg r q) ((ldHead_at arg7.view f7 0 0 q).trans (hg.m 0 q)))
        (fun r => t1_valB0 k d r) (newA_step (fun r => t1_first0 k hg r q) ((ldHead_at arg7.view f7 0 0 q).trans (hg.m 0 q)) (fun r => t1_valA0 k d r) ((ldHead_at arg8.view f8 0 d q).trans (hg.a 0 d q))))
    | ⟨1, _⟩ => exact (t1_a1 𝒱 dv bd i arg3 harg3 arg4 harg4 arg5 harg5 arg6 harg6 arg7 harg7 arg8 harg8 arg9 harg9 arg10 harg10 v42 v79 v148 X3 X4 X5 f7 f8 f9 f10 k d q).trans (newA_step (fun r => t1_second1 k r q) (newM_step (fun r => t1_first1 k hg r q) ((ldHead_at arg7.view f7 1 0 q).trans (hg.m 1 q)))
        (fun r => t1_valB1 k d r) (newA_step (fun r => t1_first1 k hg r q) ((ldHead_at arg7.view f7 1 0 q).trans (hg.m 1 q)) (fun r => t1_valA1 k d r) ((ldHead_at arg8.view f8 1 d q).trans (hg.a 1 d q))))
    | ⟨2, _⟩ => exact (t1_a2 𝒱 dv bd i arg3 harg3 arg4 harg4 arg5 harg5 arg6 harg6 arg7 harg7 arg8 harg8 arg9 harg9 arg10 harg10 v42 v79 v148 X3 X4 X5 f7 f8 f9 f10 k d q).trans (newA_step (fun r => t1_second2 k r q) (newM_step (fun r => t1_first2 k hg r q) ((ldHead_at arg7.view f7 2 0 q).trans (hg.m 2 q)))
        (fun r => t1_valB2 k d r) (newA_step (fun r => t1_first2 k hg r q) ((ldHead_at arg7.view f7 2 0 q).trans (hg.m 2 q)) (fun r => t1_valA2 k d r) ((ldHead_at arg8.view f8 2 d q).trans (hg.a 2 d q))))
    | ⟨3, _⟩ => exact (t1_a3 𝒱 dv bd i arg3 harg3 arg4 harg4 arg5 harg5 arg6 harg6 arg7 harg7 arg8 harg8 arg9 harg9 arg10 harg10 v42 v79 v148 X3 X4 X5 f7 f8 f9 f10 k d q).trans (newA_step (fun r => t1_second3 k r q) (newM_step (fun r => t1_first3 k hg r q) ((ldHead_at arg7.view f7 3 0 q).trans (hg.m 3 q)))
        (fun r => t1_valB3 k d r) (newA_step (fun r => t1_first3 k hg r q) ((ldHead_at arg7.view f7 3 0 q).trans (hg.m 3 q)) (fun r => t1_valA3 k d r) ((ldHead_at arg8.view f8 3 d q).trans (hg.a 3 d q))))
  x h r q := by
    match h with
    | ⟨0, _⟩ => exact (t1_x0 𝒱 dv bd i arg3 harg3 arg4 harg4 arg5 harg5 arg6 harg6 arg7 harg7 arg8 harg8 arg9 harg9 arg10 harg10 v42 v79 v148 X3 X4 X5 f7 f8 f9 f10 k r q).trans (score_ld 0 q (2 * k.val + 2) r _ _ _ _ (by rw [off9 i k]; rfl) rfl)
    | ⟨1, _⟩ => exact (t1_x1 𝒱 dv bd i arg3 harg3 arg4 harg4 arg5 harg5 arg6 harg6 arg7 harg7 arg8 harg8 arg9 harg9 arg10 harg10 v42 v79 v148 X3 X4 X5 f7 f8 f9 f10 k r q).trans (score_ld 1 q (2 * k.val + 2) r _ _ _ _ (by rw [off10 i k]; rfl) rfl)
    | ⟨2, _⟩ => exact (t1_x2 𝒱 dv bd i arg3 harg3 arg4 harg4 arg5 harg5 arg6 harg6 arg7 harg7 arg8 harg8 arg9 harg9 arg10 harg10 v42 v79 v148 X3 X4 X5 f7 f8 f9 f10 k r q).trans (score_ld 2 q (2 * k.val + 2) r _ _ _ _ (by rw [off11 i k]; rfl) rfl)
    | ⟨3, _⟩ => exact (t1_x3 𝒱 dv bd i arg3 harg3 arg4 harg4 arg5 harg5 arg6 harg6 arg7 harg7 arg8 harg8 arg9 harg9 arg10 harg10 v42 v79 v148 X3 X4 X5 f7 f8 f9 f10 k r q).trans (score_ld 3 q (2 * k.val + 2) r _ _ _ _ (by rw [off12 i k]; rfl) rfl)

/-- The loop's trips, one after another. -/
theorem t1_all (g7 : BufTy.Contents (Elt Ideal) arg7.view.ty) (g8 : BufTy.Contents (Elt Ideal) arg8.view.ty)
    (g9 : BufTy.Contents (Elt Ideal) arg9.view.ty) (g10 : BufTy.Contents (Elt Ideal) arg10.view.ty)
    (hg : Good i arg3 arg4 arg5 arg7 arg8 arg9 X3 X4 X5 g7 g8 g9 (0)) (t : ℕ) (ht : t ≤ (k0_t1_loop i).trips) :
    Good i arg3 arg4 arg5 arg7 arg8 arg9 X3 X4 X5
      (arg7.view.writes (Elt Ideal) g7 (pb_k0_t1 (F := Ideal) 𝒱 dv bd i arg3 harg3 arg4 harg4 arg5 harg5 arg6 harg6 arg7 harg7 arg8 harg8 arg9 harg9 arg10 harg10 v42 v79 v148 X3 X4 X5 g7 g8 g9 g10 t).1) (arg8.view.writes (Elt Ideal) g8 (pb_k0_t1 (F := Ideal) 𝒱 dv bd i arg3 harg3 arg4 harg4 arg5 harg5 arg6 harg6 arg7 harg7 arg8 harg8 arg9 harg9 arg10 harg10 v42 v79 v148 X3 X4 X5 g7 g8 g9 g10 t).2.1)
      (arg9.view.writes (Elt Ideal) g9 (pb_k0_t1 (F := Ideal) 𝒱 dv bd i arg3 harg3 arg4 harg4 arg5 harg5 arg6 harg6 arg7 harg7 arg8 harg8 arg9 harg9 arg10 harg10 v42 v79 v148 X3 X4 X5 g7 g8 g9 g10 t).2.2.1) (2 * t) := by
  induction t with
  | zero => exact hg
  | succ t ih =>
    have h := ih (by omega)
    rw [pb_k0_t1_succ 𝒱 dv bd i arg3 harg3 arg4 harg4 arg5 harg5 arg6 harg6 arg7 harg7 arg8 harg8 arg9 harg9 arg10 harg10 v42 v79 v148 X3 X4 X5 g7 g8 g9 g10 ⟨t, by omega⟩]
    dsimp only
    rw [View.writes_append, View.writes_append, View.writes_append]
    exact t1_step (k := ⟨t, by omega⟩) 𝒱 dv bd i arg3 harg3 arg4 harg4 arg5 harg5 arg6 harg6 arg7 harg7 arg8 harg8 arg9 harg9 arg10 harg10 v42 v79 v148 X3 X4 X5 _ _ _ _ h

end Cert.Flash

end
-- ==== Proof.Trip3.lean ====
/- One trip of the attention kernel's masked loop: what it leaves in the buffers, as two folds of a masked key tile. -/
module

public import proofs.«01_k».proof.Proof.Gen.KernelIdeal.Loops
public import proofs.«01_k».proof.Proof.Carry
public import Idealize.ShloMosaic.Lib.Pipeline.ReadBack

@[expose] public section

set_option maxRecDepth 16384

noncomputable section

namespace Cert.Flash

open Idealize.ShloMosaic Idealize.ShloMosaic.TcCoe Cert.KernelIdeal Cert.KernelIdeal.Gen

variable (𝒱 : Variants) (dv : Dev nD) (bd : Option 𝒱.V) (i : grid0.Coords)
  (arg3 : Memref sig .tc .vmem S512x1024 .bf16) (harg3 : arg3.IsWhole) (arg4 : Memref sig .tc .vmem S4096x1024 .bf16) (harg4 : arg4.IsWhole)
  (arg5 : Memref sig .tc .vmem S1x8x576x512 .bf16) (harg5 : arg5.IsWhole) (arg6 : Memref sig .tc .vmem S512x512 .bf16) (harg6 : arg6.IsWhole)
  (arg7 : Memref sig .tc .vmem S4x1x512 .f32) (harg7 : arg7.IsWhole) (arg8 : Memref sig .tc .vmem S4x144x512 .f32) (harg8 : arg8.IsWhole)
  (arg9 : Memref sig .tc .vmem S4x512x512 .f32) (harg9 : arg9.IsWhole) (arg10 : Memref sig .tc .vmem S4x512x512 .f32) (harg10 : arg10.IsWhole)
  (v42 : BitVec 32) (v106 : IVec S1x512 32) (v174 v175 c2w v176 : BitVec 32) (v187 : BitVec 1)
  (X3 : BufTy.Contents (Elt Ideal) arg3.view.ty) (X4 : BufTy.Contents (Elt Ideal) arg4.view.ty) (X5 : BufTy.Contents (Elt Ideal) arg5.view.ty)
  (f7 : BufTy.Contents (Elt Ideal) arg7.view.ty) (f8 : BufTy.Contents (Elt Ideal) arg8.view.ty)
  (f9 : BufTy.Contents (Elt Ideal) arg9.view.ty) (f10 : BufTy.Contents (Elt Ideal) arg10.view.ty)

theorem t3_m0 (k : Fin (k0_t3_loop i).trips) (q : Fin 512) :
    arg7.view.read (Elt Ideal) (arg7.view.writes (Elt Ideal) f7 ((trip_k0_t3 (F := Ideal) 𝒱 dv bd i arg3 harg3 arg4 harg4 arg5 harg5 arg6 harg6 arg7 harg7 arg8 harg8 arg9 harg9 arg10 harg10 v42 v106 v174 v175 c2w v176 v187 X3 X4 X5 k).1 f7 f8 f9 f10)) (ix3 0 0 q)
      = newM (maskV (trip_k0_t3.sl.v249 i v174 k) v106 (castS
      (scoreV (arg4.view.readAt (Elt Ideal) (Rect.unit (s := S4096x1024) (k0_off33 i k) S512x256.size (k0_off33_inb i k)).toLoadRect X4)
        (arg3.view.readAt (Elt Ideal) (Rect.unit (s := S512x1024) ![0, 0] S512x256.size inb_S512x1024_S512x256_0_0).toLoadRect X3))))
      (newM (maskV (trip_k0_t3.sl.v248 i v174 k) v106 (castS (ldHead arg9.view f9 0)))
      (ldHead arg7.view f7 0)) (ix3 0 0 q) := by
  unfold trip_k0_t3
  dsimp only
  refine (writes_skip (R := 1) (C := 512) arg7.view f7 0 3 _ _ _ _ rfl (by decide) 0 q).trans ?_
  unfold trip_k0_t3.sl.HW_arg7_7
  refine (writes_skip (R := 1) (C := 512) arg7.view f7 0 2 _ _ _ _ rfl (by decide) 0 q).trans ?_
  unfold trip_k0_t3.sl.HW_arg7_6
  refine (writes_skip (R := 1) (C := 512) arg7.view f7 0 1 _ _ _ _ rfl (by decide) 0 q).trans ?_
  unfold trip_k0_t3.sl.HW_arg7_5
  refine (writes_hit (R := 1) (C := 512) arg7.view f7 0 _ _ _ _ rfl 0 q).trans ?_
  unfold trip_k0_t3.sl.r_20 trip_k0_t3.sl.v608 trip_k0_t3.sl.r_16 trip_k0_t3.sl.v573
  unfold trip_k0_t3.sl.HW_arg10_4 trip_k0_t3.sl.HW_arg7_4
  simp (disch := decide) only [↓ View.readCov_skip, ↓ View.readCov_cons_toLoadRect, ↓ View.readCov_fill]
  rfl

theorem t3_a0 (k : Fin (k0_t3_loop i).trips) (d : Fin 144) (q : Fin 512) :
    arg8.view.read (Elt Ideal) (arg8.view.writes (Elt Ideal) f8 ((trip_k0_t3 (F := Ideal) 𝒱 dv bd i arg3 harg3 arg4 harg4 arg5 harg5 arg6 harg6 arg7 harg7 arg8 harg8 arg9 harg9 arg10 harg10 v42 v106 v174 v175 c2w v176 v187 X3 X4 X5 k).2.1 f7 f8 f9 f10)) (ix3 0 d q)
      = newA (maskV (trip_k0_t3.sl.v249 i v174 k) v106 (castS
      (scoreV (arg4.view.readAt (Elt Ideal) (Rect.unit (s := S4096x1024) (k0_off33 i k) S512x256.size (k0_off33_inb i k)).toLoadRect X4)
        (arg3.view.readAt (Elt Ideal) (Rect.unit (s := S512x1024) ![0, 0] S512x256.size inb_S512x1024_S512x256_0_0).toLoadRect X3))))
      (newM (maskV (trip_k0_t3.sl.v248 i v174 k) v106 (castS (ldHead arg9.view f9 0)))
      (ldHead arg7.view f7 0))
      (arg5.view.readAt (Elt Ideal) (Rect.unit (s := S1x8x576x512) (k0_off45 i k) S1x1x144x512.size (k0_off45_inb i k)).toLoadRect X5)
      (newA (maskV (trip_k0_t3.sl.v248 i v174 k) v106 (castS (ldHead arg9.view f9 0))) (ldHead arg7.view f7 0)
      (arg5.view.readAt (Elt Ideal) (Rect.unit (s := S1x8x576x512) (k0_off37 i k) S1x1x144x512.size (k0_off37_inb i k)).toLoadRect X5) (ldHead arg8.view f8 0)) (ix3 0 d q) := by
  unfold trip_k0_t3
  dsimp only
  refine (writes_skip (R := 144) (C := 512) arg8.view f8 0 3 _ _ _ _ rfl (by decide) d q).trans ?_
  unfold trip_k0_t3.sl.HW_arg8_7
  refine (writes_skip (R := 144) (C := 512) arg8.view f8 0 2 _ _ _ _ rfl (by decide) d q).trans ?_
  unfold trip_k0_t3.sl.HW_arg8_6
  refine (writes_skip (R := 144) (C := 512) arg8.view f8 0 1 _ _ _ _ rfl (by decide) d q).trans ?_
  unfold trip_k0_t3.sl.HW_arg8_5
  refine (writes_hit (R := 144) (C := 512) arg8.view f8 0 _ _ _ _ rfl d q).trans ?_
  unfold trip_k0_t3.sl.r_21 trip_k0_t3.sl.v623 trip_k0_t3.sl.v608 trip_k0_t3.sl.r_16 trip_k0_t3.sl.v573
  unfold trip_k0_t3.sl.HW_arg10_4 trip_k0_t3.sl.HW_arg7_4 trip_k0_t3.sl.HW_arg8_4
  simp (disch := decide) only [↓ View.readCov_skip, ↓ View.readCov_cons_toLoadRect, ↓ View.readCov_fill]
  rfl

theorem t3_m1 (k : Fin (k0_t3_loop i).trips) (q : Fin 512) :
    arg7.view.read (Elt Ideal) (arg7.view.writes (Elt Ideal) f7 ((trip_k0_t3 (F := Ideal) 𝒱 dv bd i arg3 harg3 arg4 harg4 arg5 harg5 arg6 harg6 arg7 harg7 arg8 harg8 arg9 harg9 arg10 harg10 v42 v106 v174 v175 c2w v176 v187 X3 X4 X5 k).1 f7 f8 f9 f10)) (ix3 1 0 q)
      = newM (maskV (trip_k0_t3.sl.v249 i v174 k) v106 (castS
      (scoreV (arg4.view.readAt (Elt Ideal) (Rect.unit (s := S4096x1024) (k0_off34 i k) S512x256.size (k0_off34_inb i k)).toLoadRect X4)
        (arg3.view.readAt (Elt Ideal) (Rect.unit (s := S512x1024) ![0, 256] S512x256.size inb_S512x1024_S512x256_0_256).toLoadRect X3))))
      (newM (maskV (trip_k0_t3.sl.v248 i v174 k) v106 (castS (ldHead arg9.view f9 1)))
      (ldHead arg7.view f7 1)) (ix3 0 0 q) := by
  unfold trip_k0_t3
  dsimp only
  refine (writes_skip (R := 1) (C := 512) arg7.view f7 1 3 _ _ _ _ rfl (by decide) 0 q).trans ?_
  unfold trip_k0_t3.sl.HW_arg7_7
  refine (writes_skip (R := 1) (C := 512) arg7.view f7 1 2 _ _ _ _ rfl (by decide) 0 q).trans ?_
  unfold trip_k0_t3.sl.HW_arg7_6
  refine (writes_hit (R := 1) (C := 512) arg7.view f7 1 _ _ _ _ rfl 0 q).trans ?_
  unfold trip_k0_t3.sl.v669 trip_k0_t3.sl.r_22 trip_k0_t3.sl.v634
  unfold trip_k0_t3.sl.HW_arg10_4 trip_k0_t3.sl.HW_arg7_5 trip_k0_t3.sl.HW_arg7_4
  simp (disch := decide) only [↓ View.readCov_skip, ↓ View.readCov_cons_toLoadRect, ↓ View.readCov_fill]
  rfl

theorem t3_a1 (k : Fin (k0_t3_loop i).trips) (d : Fin 144) (q : Fin 512) :
    arg8.view.read (Elt Ideal) (arg8.view.writes (Elt Ideal) f8 ((trip_k0_t3 (F := Ideal) 𝒱 dv bd i arg3 harg3 arg4 harg4 arg5 harg5 arg6 harg6 arg7 harg7 arg8 harg8 arg9 harg9 arg10 harg10 v42 v106 v174 v175 c2w v176 v187 X3 X4 X5 k).2.1 f7 f8 f9 f10)) (ix3 1 d q)
      = newA (maskV (trip_k0_t3.sl.v249 i v174 k) v106 (castS
      (scoreV (arg4.view.readAt (Elt Ideal) (Rect.unit (s := S4096x1024) (k0_off34 i k) S512x256.size (k0_off34_inb i k)).toLoadRect X4)
        (arg3.view.readAt (Elt Ideal) (Rect.unit (s := S512x1024) ![0, 256] S512x256.size inb_S512x1024_S512x256_0_256).toLoadRect X3))))
      (newM (maskV (trip_k0_t3.sl.v248 i v174 k) v106 (castS (ldHead arg9.view f9 1)))
      (ldHead arg7.view f7 1))
      (arg5.view.readAt (Elt Ideal) (Rect.unit (s := S1x8x576x512) (k0_off46 i k) S1x1x144x512.size (k0_off46_inb i k)).toLoadRect X5)
      (newA (maskV (trip_k0_t3.sl.v248 i v174 k) v106 (castS (ldHead arg9.view f9 1))) (ldHead arg7.view f7 1)
      (arg5.view.readAt (Elt Ideal) (Rect.unit (s := S1x8x576x512) (k0_off38 i k) S1x1x144x512.size (k0_off38_inb i k)).toLoadRect X5) (ldHead arg8.view f8 1)) (ix3 0 d q) := by
  unfold trip_k0_t3
  dsimp only
  refine (writes_skip (R := 144) (C := 512) arg8.view f8 1 3 _ _ _ _ rfl (by decide) d q).trans ?_
  unfold trip_k0_t3.sl.HW_arg8_7
  refine (writes_skip (R := 144) (C := 512) arg8.view f8 1 2 _ _ _ _ rfl (by decide) d q).trans ?_
  unfold trip_k0_t3.sl.HW_arg8_6
  refine (writes_hit (R := 144) (C := 512) arg8.view f8 1 _ _ _ _ rfl d q).trans ?_
  unfold trip_k0_t3.sl.v684 trip_k0_t3.sl.v669 trip_k0_t3.sl.r_22 trip_k0_t3.sl.v634
  unfold trip_k0_t3.sl.HW_arg10_4 trip_k0_t3.sl.HW_arg7_5 trip_k0_t3.sl.HW_arg7_4 trip_k0_t3.sl.HW_arg8_5 trip_k0_t3.sl.HW_arg8_4
  simp (disch := decide) only [↓ View.readCov_skip, ↓ View.readCov_cons_toLoadRect, ↓ View.readCov_fill]
  rfl

theorem t3_m2 (k : Fin (k0_t3_loop i).trips) (q : Fin 512) :
    arg7.view.read (Elt Ideal) (arg7.view.writes (Elt Ideal) f7 ((trip_k0_t3 (F := Ideal) 𝒱 dv bd i arg3 harg3 arg4 harg4 arg5 harg5 arg6 harg6 arg7 harg7 arg8 harg8 arg9 harg9 arg10 harg10 v42 v106 v174 v175 c2w v176 v187 X3 X4 X5 k).1 f7 f8 f9 f10)) (ix3 2 0 q)
      = newM (maskV (trip_k0_t3.sl.v249 i v174 k) v106 (castS
      (scoreV (arg4.view.readAt (Elt Ideal) (Rect.unit (s := S4096x1024) (k0_off35 i k) S512x256.size (k0_off35_inb i k)).toLoadRect X4)
        (arg3.view.readAt (Elt Ideal) (Rect.unit (s := S512x1024) ![0, 512] S512x256.size inb_S512x1024_S512x256_0_512).toLoadRect X3))))
      (newM (maskV (trip_k0_t3.sl.v248 i v174 k) v106 (castS (ldHead arg9.view f9 2)))
      (ldHead arg7.view f7 2)) (ix3 0 0 q) := by
  unfold trip_k0_t3
  dsimp only
  refine (writes_skip (R := 1) (C := 512) arg7.view f7 2 3 _ _ _ _ rfl (by decide) 0 q).trans ?_
  unfold trip_k0_t3.sl.HW_arg7_7
  refine (writes_hit (R := 1) (C := 512) arg7.view f7 2 _ _ _ _ rfl 0 q).trans ?_
  unfold trip_k0_t3.sl.r_27 trip_k0_t3.sl.v730 trip_k0_t3.sl.r_24 trip_k0_t3.sl.v695
  unfold trip_k0_t3.sl.HW_arg10_4 trip_k0_t3.sl.HW_arg7_6 trip_k0_t3.sl.HW_arg7_5 trip_k0_t3.sl.HW_arg7_4
  simp (disch := decide) only [↓ View.readCov_skip, ↓ View.readCov_cons_toLoadRect, ↓ View.readCov_fill]
  rfl

theorem t3_a2 (k : Fin (k0_t3_loop i).trips) (d : Fin 144) (q : Fin 512) :
    arg8.view.read (Elt Ideal) (arg8.view.writes (Elt Ideal) f8 ((trip_k0_t3 (F := Ideal) 𝒱 dv bd i arg3 harg3 arg4 harg4 arg5 harg5 arg6 harg6 arg7 harg7 arg8 harg8 arg9 harg9 arg10 harg10 v42 v106 v174 v175 c2w v176 v187 X3 X4 X5 k).2.1 f7 f8 f9 f10)) (ix3 2 d q)
      = newA (maskV (trip_k0_t3.sl.v249 i v174 k) v106 (castS
      (scoreV (arg4.view.readAt (Elt Ideal) (Rect.unit (s := S4096x1024) (k0_off35 i k) S512x256.size (k0_off35_inb i k)).toLoadRect X4)
        (arg3.view.readAt (Elt Ideal) (Rect.unit (s := S512x1024) ![0, 512] S512x256.size inb_S512x1024_S512x256_0_512).toLoadRect X3))))
      (newM (maskV (trip_k0_t3.sl.v248 i v174 k) v106 (castS (ldHead arg9.view f9 2)))
      (ldHead arg7.view f7 2))
      (arg5.view.readAt (Elt Ideal) (Rect.unit (s := S1x8x576x512) (k0_off47 i k) S1x1x144x512.size (k0_off47_inb i k)).toLoadRect X5)
      (newA (maskV (trip_k0_t3.sl.v248 i v174 k) v106 (castS (ldHead arg9.view f9 2))) (ldHead arg7.view f7 2)
      (arg5.view.readAt (Elt Ideal) (Rect.unit (s := S1x8x576x512) (k0_off39 i k) S1x1x144x512.size (k0_off39_inb i k)).toLoadRect X5) (ldHead arg8.view f8 2)) (ix3 0 d q) := by
  unfold trip_k0_t3
  dsimp only
  refine (writes_skip (R := 144) (C := 512) arg8.view f8 2 3 _ _ _ _ rfl (by decide) d q).trans ?_
  unfold trip_k0_t3.sl.HW_arg8_7
  refine (writes_hit (R := 144) (C := 512) arg8.view f8 2 _ _ _ _ rfl d q).trans ?_
  unfold trip_k0_t3.sl.v745 trip_k0_t3.sl.r_29 trip_k0_t3.sl.r_28 trip_k0_t3.sl.v730 trip_k0_t3.sl.r_24 trip_k0_t3.sl.v695
  unfold trip_k0_t3.sl.HW_arg10_4 trip_k0_t3.sl.HW_arg7_6 trip_k0_t3.sl.HW_arg7_5 trip_k0_t3.sl.HW_arg7_4 trip_k0_t3.sl.HW_arg8_6 trip_k0_t3.sl.HW_arg8_5 trip_k0_t3.sl.HW_arg8_4
  simp (disch := decide) only [↓ View.readCov_skip, ↓ View.readCov_cons_toLoadRect, ↓ View.readCov_fill]
  rfl

theorem t3_m3 (k : Fin (k0_t3_loop i).trips) (q : Fin 512) :
    arg7.view.read (Elt Ideal) (arg7.view.writes (Elt Ideal) f7 ((trip_k0_t3 (F := Ideal) 𝒱 dv bd i arg3 harg3 arg4 harg4 arg5 harg5 arg6 harg6 arg7 harg7 arg8 harg8 arg9 harg9 arg10 harg10 v42 v106 v174 v175 c2w v176 v187 X3 X4 X5 k).1 f7 f8 f9 f10)) (ix3 3 0 q)
      = newM (maskV (trip_k0_t3.sl.v249 i v174 k) v106 (castS
      (scoreV (arg4.view.readAt (Elt Ideal) (Rect.unit (s := S4096x1024) (k0_off36 i k) S512x256.size (k0_off36_inb i k)).toLoadRect X4)
        (arg3.view.readAt (Elt Ideal) (Rect.unit (s := S512x1024) ![0, 768] S512x256.size inb_S512x1024_S512x256_0_768).toLoadRect X3))))
      (newM (maskV (trip_k0_t3.sl.v248 i v174 k) v106 (castS (ldHead arg9.view f9 3)))
      (ldHead arg7.view f7 3)) (ix3 0 0 q) := by
  unfold trip_k0_t3
  dsimp only
  refine (writes_hit (R := 1) (C := 512) arg7.view f7 3 _ _ _ _ rfl 0 q).trans ?_
  unfold trip_k0_t3.sl.r_32 trip_k0_t3.sl.v791 trip_k0_t3.sl.r_30 trip_k0_t3.sl.v756
  unfold trip_k0_t3.sl.HW_arg10_4 trip_k0_t3.sl.HW_arg7_7 trip_k0_t3.sl.HW_arg7_6 trip_k0_t3.sl.HW_arg7_5 trip_k0_t3.sl.HW_arg7_4
  simp (disch := decide) only [↓ View.readCov_skip, ↓ View.readCov_cons_toLoadRect, ↓ View.readCov_fill]
  rfl

theorem t3_a3 (k : Fin (k0_t3_loop i).trips) (d : Fin 144) (q : Fin 512) :
    arg8.view.read (Elt Ideal) (arg8.view.writes (Elt Ideal) f8 ((trip_k0_t3 (F := Ideal) 𝒱 dv bd i arg3 harg3 arg4 harg4 arg5 harg5 arg6 harg6 arg7 harg7 arg8 harg8 arg9 harg9 arg10 harg10 v42 v106 v174 v175 c2w v176 v187 X3 X4 X5 k).2.1 f7 f8 f9 f10)) (ix3 3 d q)
      = newA (maskV (trip_k0_t3.sl.v249 i v174 k) v106 (castS
      (scoreV (arg4.view.readAt (Elt Ideal) (Rect.unit (s := S4096x1024) (k0_off36 i k) S512x256.size (k0_off36_inb i k)).toLoadRect X4)
        (arg3.view.readAt (Elt Ideal) (Rect.unit (s := S512x1024) ![0, 768] S512x256.size inb_S512x1024_S512x256_0_768).toLoadRect X3))))
      (newM (maskV (trip_k0_t3.sl.v248 i v174 k) v106 (castS (ldHead arg9.view f9 3)))
      (ldHead arg7.view f7 3))
      (arg5.view.readAt (Elt Ideal) (Rect.unit (s := S1x8x576x512) (k0_off48 i k) S1x1x144x512.size (k0_off48_inb i k)).toLoadRect X5)
      (newA (maskV (trip_k0_t3.sl.v248 i v174 k) v106 (castS (ldHead arg9.view f9 3))) (ldHead arg7.view f7 3)
      (arg5.view.readAt (Elt Ideal) (Rect.unit (s := S1x8x576x512) (k0_off40 i k) S1x1x144x512.size (k0_off40_inb i k)).toLoadRect X5) (ldHead arg8.view f8 3)) (ix3 0 d q) := by
  unfold trip_k0_t3
  dsimp only
  refine (writes_hit (R := 144) (C := 512) arg8.view f8 3 _ _ _ _ rfl d q).trans ?_
  unfold trip_k0_t3.sl.v806 trip_k0_t3.sl.v791 trip_k0_t3.sl.r_30 trip_k0_t3.sl.v756
  unfold trip_k0_t3.sl.HW_arg10_4 trip_k0_t3.sl.HW_arg7_7 trip_k0_t3.sl.HW_arg7_6 trip_k0_t3.sl.HW_arg7_5 trip_k0_t3.sl.HW_arg7_4 trip_k0_t3.sl.HW_arg8_7 trip_k0_t3.sl.HW_arg8_6 trip_k0_t3.sl.HW_arg8_5 trip_k0_t3.sl.HW_arg8_4
  simp (disch := decide) only [↓ View.readCov_skip, ↓ View.readCov_cons_toLoadRect, ↓ View.readCov_fill]
  rfl

theorem t3_x0 (k : Fin (k0_t3_loop i).trips) (r q : Fin 512) :
    arg9.view.read (Elt Ideal) (arg9.view.writes (Elt Ideal) f9 ((trip_k0_t3 (F := Ideal) 𝒱 dv bd i arg3 harg3 arg4 harg4 arg5 harg5 arg6 harg6 arg7 harg7 arg8 harg8 arg9 harg9 arg10 harg10 v42 v106 v174 v175 c2w v176 v187 X3 X4 X5 k).2.2.1 f7 f8 f9 f10)) (ix3 0 r q)
      = (scoreV (arg4.view.readAt (Elt Ideal) (Rect.unit (s := S4096x1024) (k0_off41 i k) S512x256.size (k0_off41_inb i k)).toLoadRect X4)
        (arg3.view.readAt (Elt Ideal) (Rect.unit (s := S512x1024) ![0, 0] S512x256.size inb_S512x1024_S512x256_0_0).toLoadRect X3)) (ix3 0 r q) := by
  unfold trip_k0_t3
  dsimp only
  refine (writes_skip (R := 512) (C := 512) arg9.view f9 0 3 _ _ _ _ rfl (by decide) r q).trans ?_
  refine (writes_skip (R := 512) (C := 512) arg9.view f9 0 2 _ _ _ _ rfl (by decide) r q).trans ?_
  refine (writes_skip (R := 512) (C := 512) arg9.view f9 0 1 _ _ _ _ rfl (by decide) r q).trans ?_
  exact (writes_hit (R := 512) (C := 512) arg9.view f9 0 _ _ _ _ rfl r q).trans rfl

theorem t3_x1 (k : Fin (k0_t3_loop i).trips) (r q : Fin 512) :
    arg9.view.read (Elt Ideal) (arg9.view.writes (Elt Ideal) f9 ((trip_k0_t3 (F := Ideal) 𝒱 dv bd i arg3 harg3 arg4 harg4 arg5 harg5 arg6 harg6 arg7 harg7 arg8 harg8 arg9 harg9 arg10 harg10 v42 v106 v174 v175 c2w v176 v187 X3 X4 X5 k).2.2.1 f7 f8 f9 f10)) (ix3 1 r q)
      = (scoreV (arg4.view.readAt (Elt Ideal) (Rect.unit (s := S4096x1024) (k0_off42 i k) S512x256.size (k0_off42_inb i k)).toLoadRect X4)
        (arg3.view.readAt (Elt Ideal) (Rect.unit (s := S512x1024) ![0, 256] S512x256.size inb_S512x1024_S512x256_0_256).toLoadRect X3)) (ix3 0 r q) := by
  unfold trip_k0_t3
  dsimp only
  refine (writes_skip (R := 512) (C := 512) arg9.view f9 1 3 _ _ _ _ rfl (by decide) r q).trans ?_
  refine (writes_skip (R := 512) (C := 512) arg9.view f9 1 2 _ _ _ _ rfl (by decide) r q).trans ?_
  exact (writes_hit (R := 512) (C := 512) arg9.view f9 1 _ _ _ _ rfl r q).trans rfl

theorem t3_x2 (k : Fin (k0_t3_loop i).trips) (r q : Fin 512) :
    arg9.view.read (Elt Ideal) (arg9.view.writes (Elt Ideal) f9 ((trip_k0_t3 (F := Ideal) 𝒱 dv bd i arg3 harg3 arg4 harg4 arg5 harg5 arg6 harg6 arg7 harg7 arg8 harg8 arg9 harg9 arg10 harg10 v42 v106 v174 v175 c2w v176 v187 X3 X4 X5 k).2.2.1 f7 f8 f9 f10)) (ix3 2 r q)
      = (scoreV (arg4.view.readAt (Elt Ideal) (Rect.unit (s := S4096x1024) (k0_off43 i k) S512x256.size (k0_off43_inb i k)).toLoadRect X4)
        (arg3.view.readAt (Elt Ideal) (Rect.unit (s := S512x1024) ![0, 512] S512x256.size inb_S512x1024_S512x256_0_512).toLoadRect X3)) (ix3 0 r q) := by
  unfold trip_k0_t3
  dsimp only
  refine (writes_skip (R := 512) (C := 512) arg9.view f9 2 3 _ _ _ _ rfl (by decide) r q).trans ?_
  exact (writes_hit (R := 512) (C := 512) arg9.view f9 2 _ _ _ _ rfl r q).trans rfl

theorem t3_x3 (k : Fin (k0_t3_loop i).trips) (r q : Fin 512) :
    arg9.view.read (Elt Ideal) (arg9.view.writes (Elt Ideal) f9 ((trip_k0_t3 (F := Ideal) 𝒱 dv bd i arg3 harg3 arg4 harg4 arg5 harg5 arg6 harg6 arg7 harg7 arg8 harg8 arg9 harg9 arg10 harg10 v42 v106 v174 v175 c2w v176 v187 X3 X4 X5 k).2.2.1 f7 f8 f9 f10)) (ix3 3 r q)
      = (scoreV (arg4.view.readAt (Elt Ideal) (Rect.unit (s := S4096x1024) (k0_off44 i k) S512x256.size (k0_off44_inb i k)).toLoadRect X4)
        (arg3.view.readAt (Elt Ideal) (Rect.unit (s := S512x1024) ![0, 768] S512x256.size inb_S512x1024_S512x256_0_768).toLoadRect X3)) (ix3 0 r q) := by
  unfold trip_k0_t3
  dsimp only
  exact (writes_hit (R := 512) (C := 512) arg9.view f9 3 _ _ _ _ rfl r q).trans rfl

end Cert.Flash

end
-- ==== Proof.Loop3.lean ====
/- The masked loop of the attention kernel folds in its key tiles. -/
module

public import proofs.«01_k».proof.Proof.Gen.KernelIdeal.Loops
public import proofs.«01_k».proof.Proof.Trip3
public import Idealize.ShloMosaic.Lib.Pipeline.ReadBack

@[expose] public section

set_option maxRecDepth 16384

noncomputable section

namespace Cert.Flash

open Idealize.ShloMosaic Idealize.ShloMosaic.TcCoe Cert.KernelIdeal Cert.KernelIdeal.Gen

variable (𝒱 : Variants) (dv : Dev nD) (bd : Option 𝒱.V) (i : grid0.Coords)
  (arg3 : Memref sig .tc .vmem S512x1024 .bf16) (harg3 : arg3.IsWhole) (arg4 : Memref sig .tc .vmem S4096x1024 .bf16) (harg4 : arg4.IsWhole)
  (arg5 : Memref sig .tc .vmem S1x8x576x512 .bf16) (harg5 : arg5.IsWhole) (arg6 : Memref sig .tc .vmem S512x512 .bf16) (harg6 : arg6.IsWhole)
  (arg7 : Memref sig .tc .vmem S4x1x512 .f32) (harg7 : arg7.IsWhole) (arg8 : Memref sig .tc .vmem S4x144x512 .f32) (harg8 : arg8.IsWhole)
  (arg9 : Memref sig .tc .vmem S4x512x512 .f32) (harg9 : arg9.IsWhole) (arg10 : Memref sig .tc .vmem S4x512x512 .f32) (harg10 : arg10.IsWhole)
  (v42 : BitVec 32) (v106 : IVec S1x512 32) (v174 v175 c2w v176 : BitVec 32) (v187 : BitVec 1)
  (X3 : BufTy.Contents (Elt Ideal) arg3.view.ty) (X4 : BufTy.Contents (Elt Ideal) arg4.view.ty) (X5 : BufTy.Contents (Elt Ideal) arg5.view.ty)
  (f7 : BufTy.Contents (Elt Ideal) arg7.view.ty) (f8 : BufTy.Contents (Elt Ideal) arg8.view.ty)
  (f9 : BufTy.Contents (Elt Ideal) arg9.view.ty) (f10 : BufTy.Contents (Elt Ideal) arg10.view.ty)

theorem w248 : ∀ (i : grid0.Coords) (k : Fin (k0_t3_loop i).trips), trip_k0_t3.sl.v248 i (BitVec.ofNat 32 (2 * ((i 2).val / 2))) k
    = BitVec.ofNat 32 (2 * ((i 2).val / 2) + 2 * k.val) := by decide +kernel
theorem w249 : ∀ (i : grid0.Coords) (k : Fin (k0_t3_loop i).trips), trip_k0_t3.sl.v249 i (BitVec.ofNat 32 (2 * ((i 2).val / 2))) k
    = BitVec.ofNat 32 (2 * ((i 2).val / 2) + 2 * k.val + 1) := by decide +kernel

section

variable {i arg3 arg4 arg5 arg7 arg8 arg9 X3 X4 X5 f7 f8 f9 v106 v174}

theorem t3_first0 (k : Fin (k0_t3_loop i).trips) (h174 : v174 = BitVec.ofNat 32 (2 * ((i 2).val / 2))) (h106 : v106 = k0_pay293 (BitVec.ofNat 32 (512 * (i 2).val))) (hg : Good i arg3 arg4 arg5 arg7 arg8 arg9 X3 X4 X5 f7 f8 f9 (2 * ((i 2).val / 2) + 2 * k.val)) (r q : Fin 512) :
    (maskV (trip_k0_t3.sl.v248 i v174 k) v106 (castS (ldHead arg9.view f9 0))) (ix2 r q) = curS i arg3 arg4 X3 X4 0 q (2 * ((i 2).val / 2) + 2 * k.val) r := by
  have hk : k.val < (i 2).val % 2 := lt_of_lt_of_eq k.isLt (trips3 i)
  have hi : (i 2).val < 8 := (i 2).isLt
  rw [h174, h106, w248 i k, maskV_at _ _ (by omega) hi, castS_at, ldHead_at, hg.x]
  rfl

theorem t3_second0 (k : Fin (k0_t3_loop i).trips) (h174 : v174 = BitVec.ofNat 32 (2 * ((i 2).val / 2))) (h106 : v106 = k0_pay293 (BitVec.ofNat 32 (512 * (i 2).val))) (r q : Fin 512) :
    (maskV (trip_k0_t3.sl.v249 i v174 k) v106 (castS (scoreV (arg4.view.readAt (Elt Ideal) (Rect.unit (s := S4096x1024) (k0_off33 i k) S512x256.size (k0_off33_inb i k)).toLoadRect X4)
      (arg3.view.readAt (Elt Ideal) (Rect.unit (s := S512x1024) ![0, 0] S512x256.size inb_S512x1024_S512x256_0_0).toLoadRect X3)))) (ix2 r q) = curS i arg3 arg4 X3 X4 0 q (2 * ((i 2).val / 2) + 2 * k.val + 1) r := by
  have hk : k.val < (i 2).val % 2 := lt_of_lt_of_eq k.isLt (trips3 i)
  have hi : (i 2).val < 8 := (i 2).isLt
  rw [h174, h106, w249 i k, maskV_at _ _ (by omega) hi, castS_at]
  unfold curS
  refine if_congr Iff.rfl ?_ rfl
  exact score_ld 0 q (2 * ((i 2).val / 2) + 2 * k.val + 1) r _ _ _ _ (by rw [off33 i k, Nat.min_eq_left (by omega)]; rfl) rfl

theorem t3_valA0 (k : Fin (k0_t3_loop i).trips) (d : Fin 144) (r : Fin 512) :
    arg5.view.readAt (Elt Ideal) (Rect.unit (s := S1x8x576x512) (k0_off37 i k) S1x1x144x512.size (k0_off37_inb i k)).toLoadRect X5 (ix4 0 0 d r)
      = curV arg5 X5 0 d (2 * ((i 2).val / 2) + 2 * k.val) r := by
  have hk : k.val < (i 2).val % 2 := lt_of_lt_of_eq k.isLt (trips3 i)
  have hi : (i 2).val < 8 := (i 2).isLt
  exact val_ld 0 d (2 * ((i 2).val / 2) + 2 * k.val) r _ _ (by rw [off37 i k, Nat.min_eq_left (by omega)]; rfl)

theorem t3_valB0 (k : Fin (k0_t3_loop i).trips) (d : Fin 144) (r : Fin 512) :
    arg5.view.readAt (Elt Ideal) (Rect.unit (s := S1x8x576x512) (k0_off45 i k) S1x1x144x512.size (k0_off45_inb i k)).toLoadRect X5 (ix4 0 0 d r)
      = curV arg5 X5 0 d (2 * ((i 2).val / 2) + 2 * k.val + 1) r := by
  have hk : k.val < (i 2).val % 2 := lt_of_lt_of_eq k.isLt (trips3 i)
  have hi : (i 2).val < 8 := (i 2).isLt
  exact val_ld 0 d (2 * ((i 2).val / 2) + 2 * k.val + 1) r _ _ (by rw [off45 i k, Nat.min_eq_left (by omega)]; rfl)

theorem t3_first1 (k : Fin (k0_t3_loop i).trips) (h174 : v174 = BitVec.ofNat 32 (2 * ((i 2).val / 2))) (h106 : v106 = k0_pay293 (BitVec.ofNat 32 (512 * (i 2).val))) (hg : Good i arg3 arg4 arg5 arg7 arg8 arg9 X3 X4 X5 f7 f8 f9 (2 * ((i 2).val / 2) + 2 * k.val)) (r q : Fin 512) :
    (maskV (trip_k0_t3.sl.v248 i v174 k) v106 (castS (ldHead arg9.view f9 1))) (ix2 r q) = curS i arg3 arg4 X3 X4 1 q (2 * ((i 2).val / 2) + 2 * k.val) r := by
  have hk : k.val < (i 2).val % 2 := lt_of_lt_of_eq k.isLt (trips3 i)
  have hi : (i 2).val < 8 := (i 2).isLt
  rw [h174, h106, w248 i k, maskV_at _ _ (by omega) hi, castS_at, ldHead_at, hg.x]
  rfl

theorem t3_second1 (k : Fin (k0_t3_loop i).trips) (h174 : v174 = BitVec.ofNat 32 (2 * ((i 2).val / 2))) (h106 : v106 = k0_pay293 (BitVec.ofNat 32 (512 * (i 2).val))) (r q : Fin 512) :
    (maskV (trip_k0_t3.sl.v249 i v174 k) v106 (castS (scoreV (arg4.view.readAt (Elt Ideal) (Rect.unit (s := S4096x1024) (k0_off34 i k) S512x256.size (k0_off34_inb i k)).toLoadRect X4)
      (arg3.view.readAt (Elt Ideal) (Rect.unit (s := S512x1024) ![0, 256] S512x256.size inb_S512x1024_S512x256_0_256).toLoadRect X3)))) (ix2 r q) = curS i arg3 arg4 X3 X4 1 q (2 * ((i 2).val / 2) + 2 * k.val + 1) r := by
  have hk : k.val < (i 2).val % 2 := lt_of_lt_of_eq k.isLt (trips3 i)
  have hi : (i 2).val < 8 := (i 2).isLt
  rw [h174, h106, w249 i k, maskV_at _ _ (by omega) hi, castS_at]
  unfold curS
  refine if_congr Iff.rfl ?_ rfl
  exact score_ld 1 q (2 * ((i 2).val / 2) + 2 * k.val + 1) r _ _ _ _ (by rw [off34 i k, Nat.min_eq_left (by omega)]; rfl) rfl

theorem t3_valA1 (k : Fin (k0_t3_loop i).trips) (d : Fin 144) (r : Fin 512) :
    arg5.view.readAt (Elt Ideal) (Rect.unit (s := S1x8x576x512) (k0_off38 i k) S1x1x144x512.size (k0_off38_inb i k)).toLoadRect X5 (ix4 0 0 d r)
      = curV arg5 X5 1 d (2 * ((i 2).val / 2) + 2 * k.val) r := by
  have hk : k.val < (i 2).val % 2 := lt_of_lt_of_eq k.isLt (trips3 i)
  have hi : (i 2).val < 8 := (i 2).isLt
  exact val_ld 1 d (2 * ((i 2).val / 2) + 2 * k.val) r _ _ (by rw [off38 i k, Nat.min_eq_left (by omega)]; rfl)

theorem t3_valB1 (k : Fin (k0_t3_loop i).trips) (d : Fin 144) (r : Fin 512) :
    arg5.view.readAt (Elt Ideal) (Rect.unit (s := S1x8x576x512) (k0_off46 i k) S1x1x144x512.size (k0_off46_inb i k)).toLoadRect X5 (ix4 0 0 d r)
      = curV arg5 X5 1 d (2 * ((i 2).val / 2) + 2 * k.val + 1) r := by
  have hk : k.val < (i 2).val % 2 := lt_of_lt_of_eq k.isLt (trips3 i)
  have hi : (i 2).val < 8 := (i 2).isLt
  exact val_ld 1 d (2 * ((i 2).val / 2) + 2 * k.val + 1) r _ _ (by rw [off46 i k, Nat.min_eq_left (by omega)]; rfl)

theorem t3_first2 (k : Fin (k0_t3_loop i).trips) (h174 : v174 = BitVec.ofNat 32 (2 * ((i 2).val / 2))) (h106 : v106 = k0_pay293 (BitVec.ofNat 32 (512 * (i 2).val))) (hg : Good i arg3 arg4 arg5 arg7 arg8 arg9 X3 X4 X5 f7 f8 f9 (2 * ((i 2).val / 2) + 2 * k.val)) (r q : Fin 512) :
    (maskV (trip_k0_t3.sl.v248 i v174 k) v106 (castS (ldHead arg9.view f9 2))) (ix2 r q) = curS i arg3 arg4 X3 X4 2 q (2 * ((i 2).val / 2) + 2 * k.val) r := by
  have hk : k.val < (i 2).val % 2 := lt_of_lt_of_eq k.isLt (trips3 i)
  have hi : (i 2).val < 8 := (i 2).isLt
  rw [h174, h106, w248 i k, maskV_at _ _ (by omega) hi, castS_at, ldHead_at, hg.x]
  rfl

theorem t3_second2 (k : Fin (k0_t3_loop i).trips) (h174 : v174 = BitVec.ofNat 32 (2 * ((i 2).val / 2))) (h106 : v106 = k0_pay293 (BitVec.ofNat 32 (512 * (i 2).val))) (r q : Fin 512) :
    (maskV (trip_k0_t3.sl.v249 i v174 k) v106 (castS (scoreV (arg4.view.readAt (Elt Ideal) (Rect.unit (s := S4096x1024) (k0_off35 i k) S512x256.size (k0_off35_inb i k)).toLoadRect X4)
      (arg3.view.readAt (Elt Ideal) (Rect.unit (s := S512x1024) ![0, 512] S512x256.size inb_S512x1024_S512x256_0_512).toLoadRect X3)))) (ix2 r q) = curS i arg3 arg4 X3 X4 2 q (2 * ((i 2).val / 2) + 2 * k.val + 1) r := by
  have hk : k.val < (i 2).val % 2 := lt_of_lt_of_eq k.isLt (trips3 i)
  have hi : (i 2).val < 8 := (i 2).isLt
  rw [h174, h106, w249 i k, maskV_at _ _ (by omega) hi, castS_at]
  unfold curS
  refine if_congr Iff.rfl ?_ rfl
  exact score_ld 2 q (2 * ((i 2).val / 2) + 2 * k.val + 1) r _ _ _ _ (by rw [off35 i k, Nat.min_eq_left (by omega)]; rfl) rfl

theorem t3_valA2 (k : Fin (k0_t3_loop i).trips) (d : Fin 144) (r : Fin 512) :
    arg5.view.readAt (Elt Ideal) (Rect.unit (s := S1x8x576x512) (k0_off39 i k) S1x1x144x512.size (k0_off39_inb i k)).toLoadRect X5 (ix4 0 0 d r)
      = curV arg5 X5 2 d (2 * ((i 2).val / 2) + 2 * k.val) r := by
  have hk : k.val < (i 2).val % 2 := lt_of_lt_of_eq k.isLt (trips3 i)
  have hi : (i 2).val < 8 := (i 2).isLt
  exact val_ld 2 d (2 * ((i 2).val / 2) + 2 * k.val) r _ _ (by rw [off39 i k, Nat.min_eq_left (by omega)]; rfl)

theorem t3_valB2 (k : Fin (k0_t3_loop i).trips) (d : Fin 144) (r : Fin 512) :
    arg5.view.readAt (Elt Ideal) (Rect.unit (s := S1x8x576x512) (k0_off47 i k) S1x1x144x512.size (k0_off47_inb i k)).toLoadRect X5 (ix4 0 0 d r)
      = curV arg5 X5 2 d (2 * ((i 2).val / 2) + 2 * k.val + 1) r := by
  have hk : k.val < (i 2).val % 2 := lt_of_lt_of_eq k.isLt (trips3 i)
  have hi : (i 2).val < 8 := (i 2).isLt
  exact val_ld 2 d (2 * ((i 2).val / 2) + 2 * k.val + 1) r _ _ (by rw [off47 i k, Nat.min_eq_left (by omega)]; rfl)

theorem t3_first3 (k : Fin (k0_t3_loop i).trips) (h174 : v174 = BitVec.ofNat 32 (2 * ((i 2).val / 2))) (h106 : v106 = k0_pay293 (BitVec.ofNat 32 (512 * (i 2).val))) (hg : Good i arg3 arg4 arg5 arg7 arg8 arg9 X3 X4 X5 f7 f8 f9 (2 * ((i 2).val / 2) + 2 * k.val)) (r q : Fin 512) :
    (maskV (trip_k0_t3.sl.v248 i v174 k) v106 (castS (ldHead arg9.view f9 3))) (ix2 r q) = curS i arg3 arg4 X3 X4 3 q (2 * ((i 2).val / 2) + 2 * k.val) r := by
  have hk : k.val < (i 2).val % 2 := lt_of_lt_of_eq k.isLt (trips3 i)
  have hi : (i 2).val < 8 := (i 2).isLt
  rw [h174, h106, w248 i k, maskV_at _ _ (by omega) hi, castS_at, ldHead_at, hg.x]
  rfl

theorem t3_second3 (k : Fin (k0_t3_loop i).trips) (h174 : v174 = BitVec.ofNat 32 (2 * ((i 2).val / 2))) (h106 : v106 = k0_pay293 (BitVec.ofNat 32 (512 * (i 2).val))) (r q : Fin 512) :
    (maskV (trip_k0_t3.sl.v249 i v174 k) v106 (castS (scoreV (arg4.view.readAt (Elt Ideal) (Rect.unit (s := S4096x1024) (k0_off36 i k) S512x256.size (k0_off36_inb i k)).toLoadRect X4)
      (arg3.view.readAt (Elt Ideal) (Rect.unit (s := S512x1024) ![0, 768] S512x256.size inb_S512x1024_S512x256_0_768).toLoadRect X3)))) (ix2 r q) = curS i arg3 arg4 X3 X4 3 q (2 * ((i 2).val / 2) + 2 * k.val + 1) r := by
  have hk : k.val < (i 2).val % 2 := lt_of_lt_of_eq k.isLt (trips3 i)
  have hi : (i 2).val < 8 := (i 2).isLt
  rw [h174, h106, w249 i k, maskV_at _ _ (by omega) hi, castS_at]
  unfold curS
  refine if_congr Iff.rfl ?_ rfl
  exact score_ld 3 q (2 * ((i 2).val / 2) + 2 * k.val + 1) r _ _ _ _ (by rw [off36 i k, Nat.min_eq_left (by omega)]; rfl) rfl

theorem t3_valA3 (k : Fin (k0_t3_loop i).trips) (d : Fin 144) (r : Fin 512) :
    arg5.view.readAt (Elt Ideal) (Rect.unit (s := S1x8x576x512) (k0_off40 i k) S1x1x144x512.size (k0_off40_inb i k)).toLoadRect X5 (ix4 0 0 d r)
      = curV arg5 X5 3 d (2 * ((i 2).val / 2) + 2 * k.val) r := by
  have hk : k.val < (i 2).val % 2 := lt_of_lt_of_eq k.isLt (trips3 i)
  have hi : (i 2).val < 8 := (i 2).isLt
  exact val_ld 3 d (2 * ((i 2).val / 2) + 2 * k.val) r _ _ (by rw [off40 i k, Nat.min_eq_left (by omega)]; rfl)

theorem t3_valB3 (k : Fin (k0_t3_loop i).trips) (d : Fin 144) (r : Fin 512) :
    arg5.view.readAt (Elt Ideal) (Rect.unit (s := S1x8x576x512) (k0_off48 i k) S1x1x144x512.size (k0_off48_inb i k)).toLoadRect X5 (ix4 0 0 d r)
      = curV arg5 X5 3 d (2 * ((i 2).val / 2) + 2 * k.val + 1) r := by
  have hk : k.val < (i 2).val % 2 := lt_of_lt_of_eq k.isLt (trips3 i)
  have hi : (i 2).val < 8 := (i 2).isLt
  exact val_ld 3 d (2 * ((i 2).val / 2) + 2 * k.val + 1) r _ _ (by rw [off48 i k, Nat.min_eq_left (by omega)]; rfl)

end

/-- One trip is two tiles. -/
theorem t3_step (k : Fin (k0_t3_loop i).trips) (h174 : v174 = BitVec.ofNat 32 (2 * ((i 2).val / 2))) (h106 : v106 = k0_pay293 (BitVec.ofNat 32 (512 * (i 2).val))) (hg : Good i arg3 arg4 arg5 arg7 arg8 arg9 X3 X4 X5 f7 f8 f9 (2 * ((i 2).val / 2) + 2 * k.val)) :
    Good i arg3 arg4 arg5 arg7 arg8 arg9 X3 X4 X5
      (arg7.view.writes (Elt Ideal) f7 (tripL_k0_t3 (F := Ideal) 𝒱 dv bd i arg3 harg3 arg4 harg4 arg5 harg5 arg6 harg6 arg7 harg7 arg8 harg8 arg9 harg9 arg10 harg10 v42 v106 v174 v175 c2w v176 v187 X3 X4 X5 k f7 f8 f9 f10).1) (arg8.view.writes (Elt Ideal) f8 (tripL_k0_t3 (F := Ideal) 𝒱 dv bd i arg3 harg3 arg4 harg4 arg5 harg5 arg6 harg6 arg7 harg7 arg8 harg8 arg9 harg9 arg10 harg10 v42 v106 v174 v175 c2w v176 v187 X3 X4 X5 k f7 f8 f9 f10).2.1)
      (arg9.view.writes (Elt Ideal) f9 (tripL_k0_t3 (F := Ideal) 𝒱 dv bd i arg3 harg3 arg4 harg4 arg5 harg5 arg6 harg6 arg7 harg7 arg8 harg8 arg9 harg9 arg10 harg10 v42 v106 v174 v175 c2w v176 v187 X3 X4 X5 k f7 f8 f9 f10).2.2.1) (2 * ((i 2).val / 2) + 2 * k.val + 2) where
  m h q := by
    match h with
    | ⟨0, _⟩ => exact (t3_m0 𝒱 dv bd i arg3 harg3 arg4 harg4 arg5 harg5 arg6 harg6 arg7 harg7 arg8 harg8 arg9 harg9 arg10 harg10 v42 v106 v174 v175 c2w v176 v187 X3 X4 X5 f7 f8 f9 f10 k q).trans (newM_step (fun r => t3_second0 k h174 h106 r q) (newM_step (fun r => t3_first0 k h174 h106 hg r q) ((ldHead_at arg7.view f7 0 0 q).trans (hg.m 0 q))))
    | ⟨1, _⟩ => exact (t3_m1 𝒱 dv bd i arg3 harg3 arg4 harg4 arg5 harg5 arg6 harg6 arg7 harg7 arg8 harg8 arg9 harg9 arg10 harg10 v42 v106 v174 v175 c2w v176 v187 X3 X4 X5 f7 f8 f9 f10 k q).trans (newM_step (fun r => t3_second1 k h174 h106 r q) (newM_step (fun r => t3_first1 k h174 h106 hg r q) ((ldHead_at arg7.view f7 1 0 q).trans (hg.m 1 q))))
    | ⟨2, _⟩ => exact (t3_m2 𝒱 dv bd i arg3 harg3 arg4 harg4 arg5 harg5 arg6 harg6 arg7 harg7 arg8 harg8 arg9 harg9 arg10 harg10 v42 v106 v174 v175 c2w v176 v187 X3 X4 X5 f7 f8 f9 f10 k q).trans (newM_step (fun r => t3_second2 k h174 h106 r q) (newM_step (fun r => t3_first2 k h174 h106 hg r q) ((ldHead_at arg7.view f7 2 0 q).trans (hg.m 2 q))))
    | ⟨3, _⟩ => exact (t3_m3 𝒱 dv bd i arg3 harg3 arg4 harg4 arg5 harg5 arg6 harg6 arg7 harg7 arg8 harg8 arg9 harg9 arg10 harg10 v42 v106 v174 v175 c2w v176 v187 X3 X4 X5 f7 f8 f9 f10 k q).trans (newM_step (fun r => t3_second3 k h174 h106 r q) (newM_step (fun r => t3_first3 k h174 h106 hg r q) ((ldHead_at arg7.view f7 3 0 q).trans (hg.m 3 q))))
  a h d q := by
    match h with
    | ⟨0, _⟩ => exact (t3_a0 𝒱 dv bd i arg3 harg3 arg4 harg4 arg5 harg5 arg6 harg6 arg7 harg7 arg8 harg8 arg9 harg9 arg10 harg10 v42 v106 v174 v175 c2w v176 v187 X3 X4 X5 f7 f8 f9 f10 k d q).trans (newA_step (fun r => t3_second0 k h174 h106 r q) (newM_step (fun r => t3_first0 k h174 h106 hg r q) ((ldHead_at arg7.view f7 0 0 q).trans (hg.m 0 q)))
        (fun r => t3_valB0 k d r) (newA_step (fun r => t3_first0 k h174 h106 hg r q) ((ldHead_at arg7.view f7 0 0 q).trans (hg.m 0 q)) (fun r => t3_valA0 k d r) ((ldHead_at arg8.view f8 0 d q).trans (hg.a 0 d q))))
    | ⟨1, _⟩ => exact (t3_a1 𝒱 dv bd i arg3 harg3 arg4 harg4 arg5 harg5 arg6 harg6 arg7 harg7 arg8 harg8 arg9 harg9 arg10 harg10 v42 v106 v174 v175 c2w v176 v187 X3 X4 X5 f7 f8 f9 f10 k d q).trans (newA_step (fun r => t3_second1 k h174 h106 r q) (newM_step (fun r => t3_first1 k h174 h106 hg r q) ((ldHead_at arg7.view f7 1 0 q).trans (hg.m 1 q)))
        (fun r => t3_valB1 k d r) (newA_step (fun r => t3_first1 k h174 h106 hg r q) ((ldHead_at arg7.view f7 1 0 q).trans (hg.m 1 q)) (fun r => t3_valA1 k d r) ((ldHead_at arg8.view f8 1 d q).trans (hg.a 1 d q))))
    | ⟨2, _⟩ => exact (t3_a2 𝒱 dv bd i arg3 harg3 arg4 harg4 arg5 harg5 arg6 harg6 arg7 harg7 arg8 harg8 arg9 harg9 arg10 harg10 v42 v106 v174 v175 c2w v176 v187 X3 X4 X5 f7 f8 f9 f10 k d q).trans (newA_step (fun r => t3_second2 k h174 h106 r q) (newM_step (fun r => t3_first2 k h174 h106 hg r q) ((ldHead_at arg7.view f7 2 0 q).trans (hg.m 2 q)))
        (fun r => t3_valB2 k d r) (newA_step (fun r => t3_first2 k h174 h106 hg r q) ((ldHead_at arg7.view f7 2 0 q).trans (hg.m 2 q)) (fun r => t3_valA2 k d r) ((ldHead_at arg8.view f8 2 d q).trans (hg.a 2 d q))))
    | ⟨3, _⟩ => exact (t3_a3 𝒱 dv bd i arg3 harg3 arg4 harg4 arg5 harg5 arg6 harg6 arg7 harg7 arg8 harg8 arg9 harg9 arg10 harg10 v42 v106 v174 v175 c2w v176 v187 X3 X4 X5 f7 f8 f9 f10 k d q).trans (newA_step (fun r => t3_second3 k h174 h106 r q) (newM_step (fun r => t3_first3 k h174 h106 hg r q) ((ldHead_at arg7.view f7 3 0 q).trans (hg.m 3 q)))
        (fun r => t3_valB3 k d r) (newA_step (fun r => t3_first3 k h174 h106 hg r q) ((ldHead_at arg7.view f7 3 0 q).trans (hg.m 3 q)) (fun r => t3_valA3 k d r) ((ldHead_at arg8.view f8 3 d q).trans (hg.a 3 d q))))
  x h r q := by
    match h with
    | ⟨0, _⟩ => exact (t3_x0 𝒱 dv bd i arg3 harg3 arg4 harg4 arg5 harg5 arg6 harg6 arg7 harg7 arg8 harg8 arg9 harg9 arg10 harg10 v42 v106 v174 v175 c2w v176 v187 X3 X4 X5 f7 f8 f9 f10 k r q).trans (score_ld 0 q (2 * ((i 2).val / 2) + 2 * k.val + 2) r _ _ _ _ (by rw [off41 i k]; rfl) rfl)
    | ⟨1, _⟩ => exact (t3_x1 𝒱 dv bd i arg3 harg3 arg4 harg4 arg5 harg5 arg6 harg6 arg7 harg7 arg8 harg8 arg9 harg9 arg10 harg10 v42 v106 v174 v175 c2w v176 v187 X3 X4 X5 f7 f8 f9 f10 k r q).trans (score_ld 1 q (2 * ((i 2).val / 2) + 2 * k.val + 2) r _ _ _ _ (by rw [off42 i k]; rfl) rfl)
    | ⟨2, _⟩ => exact (t3_x2 𝒱 dv bd i arg3 harg3 arg4 harg4 arg5 harg5 arg6 harg6 arg7 harg7 arg8 harg8 arg9 harg9 arg10 harg10 v42 v106 v174 v175 c2w v176 v187 X3 X4 X5 f7 f8 f9 f10 k r q).trans (score_ld 2 q (2 * ((i 2).val / 2) + 2 * k.val + 2) r _ _ _ _ (by rw [off43 i k]; rfl) rfl)
    | ⟨3, _⟩ => exact (t3_x3 𝒱 dv bd i arg3 harg3 arg4 harg4 arg5 harg5 arg6 harg6 arg7 harg7 arg8 harg8 arg9 harg9 arg10 harg10 v42 v106 v174 v175 c2w v176 v187 X3 X4 X5 f7 f8 f9 f10 k r q).trans (score_ld 3 q (2 * ((i 2).val / 2) + 2 * k.val + 2) r _ _ _ _ (by rw [off44 i k]; rfl) rfl)

/-- The loop's trips, one after another. -/
theorem t3_all (h174 : v174 = BitVec.ofNat 32 (2 * ((i 2).val / 2))) (h106 : v106 = k0_pay293 (BitVec.ofNat 32 (512 * (i 2).val))) (g7 : BufTy.Contents (Elt Ideal) arg7.view.ty) (g8 : BufTy.Contents (Elt Ideal) arg8.view.ty)
    (g9 : BufTy.Contents (Elt Ideal) arg9.view.ty) (g10 : BufTy.Contents (Elt Ideal) arg10.view.ty)
    (hg : Good i arg3 arg4 arg5 arg7 arg8 arg9 X3 X4 X5 g7 g8 g9 (2 * ((i 2).val / 2))) (t : ℕ) (ht : t ≤ (k0_t3_loop i).trips) :
    Good i arg3 arg4 arg5 arg7 arg8 arg9 X3 X4 X5
      (arg7.view.writes (Elt Ideal) g7 (pb_k0_t3 (F := Ideal) 𝒱 dv bd i arg3 harg3 arg4 harg4 arg5 harg5 arg6 harg6 arg7 harg7 arg8 harg8 arg9 harg9 arg10 harg10 v42 v106 v174 v175 c2w v176 v187 X3 X4 X5 g7 g8 g9 g10 t).1) (arg8.view.writes (Elt Ideal) g8 (pb_k0_t3 (F := Ideal) 𝒱 dv bd i arg3 harg3 arg4 harg4 arg5 harg5 arg6 harg6 arg7 harg7 arg8 harg8 arg9 harg9 arg10 harg10 v42 v106 v174 v175 c2w v176 v187 X3 X4 X5 g7 g8 g9 g10 t).2.1)
      (arg9.view.writes (Elt Ideal) g9 (pb_k0_t3 (F := Ideal) 𝒱 dv bd i arg3 harg3 arg4 harg4 arg5 harg5 arg6 harg6 arg7 harg7 arg8 harg8 arg9 harg9 arg10 harg10 v42 v106 v174 v175 c2w v176 v187 X3 X4 X5 g7 g8 g9 g10 t).2.2.1) (2 * ((i 2).val / 2) + 2 * t) := by
  induction t with
  | zero => exact hg
  | succ t ih =>
    have h := ih (by omega)
    rw [pb_k0_t3_succ 𝒱 dv bd i arg3 harg3 arg4 harg4 arg5 harg5 arg6 harg6 arg7 harg7 arg8 harg8 arg9 harg9 arg10 harg10 v42 v106 v174 v175 c2w v176 v187 X3 X4 X5 g7 g8 g9 g10 ⟨t, by omega⟩]
    dsimp only
    rw [View.writes_append, View.writes_append, View.writes_append]
    exact t3_step (k := ⟨t, by omega⟩) 𝒱 dv bd i arg3 harg3 arg4 harg4 arg5 harg5 arg6 harg6 arg7 harg7 arg8 harg8 arg9 harg9 arg10 harg10 v42 v106 v174 v175 c2w v176 v187 X3 X4 X5 _ _ _ _ h174 h106 h

end Cert.Flash

end
-- ==== Proof.Body.lean ====
/- The attention kernel's body around its loops: what the buffers hold before them, the loops one after another, and how the output
   is read back. -/
module

public import proofs.«01_k».proof.Proof.Run
public import proofs.«01_k».proof.Proof.Loop1
public import proofs.«01_k».proof.Proof.Loop3

@[expose] public section

set_option maxRecDepth 16384

noncomputable section

namespace Cert.Flash

open Idealize.ShloMosaic Idealize.ShloMosaic.TcCoe Cert.KernelIdeal Cert.KernelIdeal.Gen

variable (dv : Dev nD) (i : grid0.Coords)
  (arg3 : Memref sig .tc .vmem S512x1024 .bf16) (harg3 : arg3.IsWhole) (arg4 : Memref sig .tc .vmem S4096x1024 .bf16) (harg4 : arg4.IsWhole)
  (arg5 : Memref sig .tc .vmem S1x8x576x512 .bf16) (harg5 : arg5.IsWhole) (arg6 : Memref sig .tc .vmem S512x512 .bf16) (harg6 : arg6.IsWhole)
  (arg7 : Memref sig .tc .vmem S4x1x512 .f32) (harg7 : arg7.IsWhole) (arg8 : Memref sig .tc .vmem S4x144x512 .f32) (harg8 : arg8.IsWhole)
  (arg9 : Memref sig .tc .vmem S4x512x512 .f32) (harg9 : arg9.IsWhole) (arg10 : Memref sig .tc .vmem S4x512x512 .f32) (harg10 : arg10.IsWhole)

/-! ### The words of a grid step -/

theorem cond_even : ∀ i : grid0.Coords, cond0_0 i ↔ (i 2).val % 2 = 0 := by decide +kernel
theorem lastOff0 : ∀ i : grid0.Coords, k0_off65 i = ![0, (i 2).val, 0, 0] := by decide +kernel
theorem lastOff1 : ∀ i : grid0.Coords, k0_off66 i = ![0, (i 2).val, 144, 0] := by decide +kernel
theorem lastOff2 : ∀ i : grid0.Coords, k0_off67 i = ![0, (i 2).val, 288, 0] := by decide +kernel
theorem lastOff3 : ∀ i : grid0.Coords, k0_off68 i = ![0, (i 2).val, 432, 0] := by decide +kernel
theorem wA1 : ∀ i : grid0.Coords, runA.sl.v1 i = BitVec.ofNat 32 (512 * (i 2).val) := by decide +kernel
theorem wA174 : ∀ i : grid0.Coords, runA.sl.v174 i = BitVec.ofNat 32 (2 * ((i 2).val / 2)) := by decide +kernel
theorem wA247 : ∀ i : grid0.Coords, runA.sl.v247 i = BitVec.ofNat 32 (i 2).val := by decide +kernel
theorem wB1 : ∀ i : grid0.Coords, runB.sl.v1 i = BitVec.ofNat 32 (512 * (i 2).val) := by decide +kernel
theorem wB174 : ∀ i : grid0.Coords, runB.sl.v174 i = BitVec.ofNat 32 (2 * ((i 2).val / 2)) := by decide +kernel

/-! ### The output of one head -/

theorem div_at (a : FVec Ideal S1x128x512 .f32) (l : FVec Ideal S1x1x512 .f32) (q : Fin 512) (d : Fin 128) :
    k0_pay1 (F := Ideal) a l (ix2 q d) = Ideal.div (a (ix3 0 d q)) (l (ix3 0 0 q)) := by
  pointwise [k0_pay1]

/-! ### The buffers before the loops -/

theorem start_max (f : BufTy.Contents (Elt Ideal) arg7.view.ty) (h : Fin 4) (q : Fin 512) :
    arg7.view.read (Elt Ideal) (arg7.view.writes (Elt Ideal) f
      [⟨Rect.unit (s := S4x1x512) ![0, 0, 0] S4x1x512.size inb_S4x1x512_S4x1x512_0_0_0, k0_pay294 (F := Ideal)⟩]) (ix3 h 0 q) = ⊥ := by
  refine (View.read_writes_cons_unit_of_mem arg7.view f inb_S4x1x512_S4x1x512_0_0_0 _ _ (ix3 h 0 q) (ix3 h 0 q) rfl fun a => ?_).trans ?_
  · match a with
    | ⟨0, _⟩ => exact (Nat.zero_add _).symm
    | ⟨1, _⟩ => rfl
    | ⟨2, _⟩ => exact (Nat.zero_add _).symm
  · pointwise [k0_pay294]
    exact negInf

theorem start_sum (f : BufTy.Contents (Elt Ideal) arg8.view.ty) (h : Fin 4) (d : Fin 144) (q : Fin 512) :
    arg8.view.read (Elt Ideal) (arg8.view.writes (Elt Ideal) f
      [⟨Rect.unit (s := S4x144x512) ![0, 0, 0] S4x144x512.size inb_S4x144x512_S4x144x512_0_0_0, k0_pay295 (F := Ideal)⟩]) (ix3 h d q) = 0 := by
  refine (View.read_writes_cons_unit_of_mem arg8.view f inb_S4x144x512_S4x144x512_0_0_0 _ _ (ix3 h d q) (ix3 h d q) rfl fun a => ?_).trans ?_
  · match a with
    | ⟨0, _⟩ => exact (Nat.zero_add _).symm
    | ⟨1, _⟩ => exact (Nat.zero_add _).symm
    | ⟨2, _⟩ => exact (Nat.zero_add _).symm
  · pointwise [k0_pay295]

/-- A load of some rows of head `h`, at an index. -/
theorem readAt_rows {sig : RefSig} {κ : Kind} {sp : Space} {R C m : ℕ} {e : EltTy} (v : View sig κ sp ⟨3, ![4, R, C]⟩ e)
    (f : v.ty.Contents (Elt Ideal)) (h : Fin 4) (o : ℕ) (off : Fin 3 → ℕ)
    (inb : ∀ a, off a + (![1, m, C] : Fin 3 → ℕ) a ≤ (![4, R, C] : Fin 3 → ℕ) a) (hoff : off = ![h.val, o, 0])
    (r : Fin m) (c : Fin C) (ho : o + r.val < R) :
    v.readAt (Elt Ideal) (Rect.unit (s := ⟨3, ![4, R, C]⟩) off ![1, m, C] inb).toLoadRect f (ix3 0 r c)
      = v.read (Elt Ideal) f (ix3 h ⟨o + r.val, ho⟩ c) := by
  subst hoff
  refine congrArg (v.read (Elt Ideal) f) (funext fun a => Fin.ext ?_)
  match a with
  | ⟨0, _⟩ => exact (by simp : h.val + 1 * 0 = h.val)
  | ⟨1, _⟩ => exact (by simp : o + 1 * r.val = o + r.val)
  | ⟨2, _⟩ => exact (by simp : 0 + 1 * c.val = c.val)

/-- The newest store, of a block of columns, read there. -/
theorem cols_hit (v : View sig .tc .vmem S512x512 .bf16) (f : v.ty.Contents (Elt Ideal)) (o : ℕ) (off : Fin 2 → ℕ)
    (inb : ∀ a, off a + (![512, 128] : Fin 2 → ℕ) a ≤ (![512, 512] : Fin 2 → ℕ) a) (w : S512x128.Idx → Elt Ideal .bf16)
    (L : List (View.Piece (Elt Ideal) S512x512 .bf16)) (hoff : off = ![0, o]) (q : Fin 512) (d : Fin 128) (ho : o + d.val < 512) :
    v.read (Elt Ideal) (v.writes (Elt Ideal) f ((⟨Rect.unit (s := S512x512) off ![512, 128] inb, w⟩ : View.Piece (Elt Ideal) S512x512 .bf16) :: L)) (ix2 q ⟨o + d.val, ho⟩)
      = w (ix2 q d) := by
  refine View.read_writes_cons_unit_of_mem v f inb w L (ix2 q ⟨o + d.val, ho⟩) (ix2 q d) hoff fun a => ?_
  match a with
  | ⟨0, _⟩ => exact (Nat.zero_add _).symm
  | ⟨1, _⟩ => rfl

/-- The newest store, of other columns, read past. -/
theorem cols_skip (v : View sig .tc .vmem S512x512 .bf16) (f : v.ty.Contents (Elt Ideal)) (o : ℕ) (off : Fin 2 → ℕ)
    (inb : ∀ a, off a + (![512, 128] : Fin 2 → ℕ) a ≤ (![512, 512] : Fin 2 → ℕ) a) (w : S512x128.Idx → Elt Ideal .bf16)
    (L : List (View.Piece (Elt Ideal) S512x512 .bf16)) (hoff : off = ![0, o]) (q p : Fin 512) (hp : p.val < o) :
    v.read (Elt Ideal) (v.writes (Elt Ideal) f ((⟨Rect.unit (s := S512x512) off ![512, 128] inb, w⟩ : View.Piece (Elt Ideal) S512x512 .bf16) :: L)) (ix2 q p)
      = v.read (Elt Ideal) (v.writes (Elt Ideal) f L) (ix2 q p) :=
  View.read_writes_cons_unit_of_not_mem v f inb w L (ix2 q p) hoff 1 (Or.inl hp)

/-! ### The loops, one after another -/

section Loops

variable (𝒱 : Variants) (bd : Option 𝒱.V)
  (X3 : BufTy.Contents (Elt Ideal) arg3.view.ty) (X4 : BufTy.Contents (Elt Ideal) arg4.view.ty) (X5 : BufTy.Contents (Elt Ideal) arg5.view.ty)
  (j7 : BufTy.Contents (Elt Ideal) arg7.view.ty) (j8 : BufTy.Contents (Elt Ideal) arg8.view.ty) (j9 : BufTy.Contents (Elt Ideal) arg9.view.ty)
  (g10 : BufTy.Contents (Elt Ideal) arg10.view.ty)
  (P7 : List (View.Piece (Elt Ideal) S4x1x512 .f32)) (P8 : List (View.Piece (Elt Ideal) S4x144x512 .f32)) (P9 : List (View.Piece (Elt Ideal) S4x512x512 .f32))

theorem loop1 (v42 v79 : BitVec 32) (v148 : FVec Ideal S512x512 .f32)
    (hg : Good i arg3 arg4 arg5 arg7 arg8 arg9 X3 X4 X5 (arg7.view.writes (Elt Ideal) j7 P7) (arg8.view.writes (Elt Ideal) j8 P8) (arg9.view.writes (Elt Ideal) j9 P9) (0)) :
    Good i arg3 arg4 arg5 arg7 arg8 arg9 X3 X4 X5
      (arg7.view.writes (Elt Ideal) j7 ((pb_k0_t1 (F := Ideal) 𝒱 dv bd i arg3 harg3 arg4 harg4 arg5 harg5 arg6 harg6 arg7 harg7 arg8 harg8 arg9 harg9 arg10 harg10 v42 v79 v148 X3 X4 X5 (arg7.view.writes (Elt Ideal) j7 P7) (arg8.view.writes (Elt Ideal) j8 P8) (arg9.view.writes (Elt Ideal) j9 P9) g10 (Scf.trips (k0_t1_loop i).lb (k0_t1_loop i).ub (k0_t1_loop i).st)).1 ++ P7))
      (arg8.view.writes (Elt Ideal) j8 ((pb_k0_t1 (F := Ideal) 𝒱 dv bd i arg3 harg3 arg4 harg4 arg5 harg5 arg6 harg6 arg7 harg7 arg8 harg8 arg9 harg9 arg10 harg10 v42 v79 v148 X3 X4 X5 (arg7.view.writes (Elt Ideal) j7 P7) (arg8.view.writes (Elt Ideal) j8 P8) (arg9.view.writes (Elt Ideal) j9 P9) g10 (Scf.trips (k0_t1_loop i).lb (k0_t1_loop i).ub (k0_t1_loop i).st)).2.1 ++ P8))
      (arg9.view.writes (Elt Ideal) j9 ((pb_k0_t1 (F := Ideal) 𝒱 dv bd i arg3 harg3 arg4 harg4 arg5 harg5 arg6 harg6 arg7 harg7 arg8 harg8 arg9 harg9 arg10 harg10 v42 v79 v148 X3 X4 X5 (arg7.view.writes (Elt Ideal) j7 P7) (arg8.view.writes (Elt Ideal) j8 P8) (arg9.view.writes (Elt Ideal) j9 P9) g10 (Scf.trips (k0_t1_loop i).lb (k0_t1_loop i).ub (k0_t1_loop i).st)).2.2.1 ++ P9)) (2 * ((i 2).val / 2)) := by
  rw [View.writes_append, View.writes_append, View.writes_append]
  have h := t1_all 𝒱 dv bd i arg3 harg3 arg4 harg4 arg5 harg5 arg6 harg6 arg7 harg7 arg8 harg8 arg9 harg9 arg10 harg10 v42 v79 v148 X3 X4 X5 _ _ _ g10 hg _ le_rfl
  rw [trips1 i] at h
  have e : Scf.trips (k0_t1_loop i).lb (k0_t1_loop i).ub (k0_t1_loop i).st = (i 2).val / 2 := trips1 i
  rw [e]
  exact h

theorem loop2 (n : ℕ) (v42 : BitVec 32) (v79 : BitVec 32) (v148 : FVec Ideal S512x512 .f32) (v173 : BitVec 32)
    (hg : Good i arg3 arg4 arg5 arg7 arg8 arg9 X3 X4 X5 (arg7.view.writes (Elt Ideal) j7 P7) (arg8.view.writes (Elt Ideal) j8 P8) (arg9.view.writes (Elt Ideal) j9 P9) (n)) :
    Good i arg3 arg4 arg5 arg7 arg8 arg9 X3 X4 X5
      (arg7.view.writes (Elt Ideal) j7 ((pb_k0_t2 (F := Ideal) 𝒱 dv bd i arg3 harg3 arg4 harg4 arg5 harg5 arg6 harg6 arg7 harg7 arg8 harg8 arg9 harg9 arg10 harg10 v42 v79 v148 v173 X3 X4 X5 (arg7.view.writes (Elt Ideal) j7 P7) (arg8.view.writes (Elt Ideal) j8 P8) (arg9.view.writes (Elt Ideal) j9 P9) g10 (Scf.trips (k0_t2_loop i).lb (k0_t2_loop i).ub (k0_t2_loop i).st)).1 ++ P7))
      (arg8.view.writes (Elt Ideal) j8 ((pb_k0_t2 (F := Ideal) 𝒱 dv bd i arg3 harg3 arg4 harg4 arg5 harg5 arg6 harg6 arg7 harg7 arg8 harg8 arg9 harg9 arg10 harg10 v42 v79 v148 v173 X3 X4 X5 (arg7.view.writes (Elt Ideal) j7 P7) (arg8.view.writes (Elt Ideal) j8 P8) (arg9.view.writes (Elt Ideal) j9 P9) g10 (Scf.trips (k0_t2_loop i).lb (k0_t2_loop i).ub (k0_t2_loop i).st)).2.1 ++ P8))
      (arg9.view.writes (Elt Ideal) j9 ((pb_k0_t2 (F := Ideal) 𝒱 dv bd i arg3 harg3 arg4 harg4 arg5 harg5 arg6 harg6 arg7 harg7 arg8 harg8 arg9 harg9 arg10 harg10 v42 v79 v148 v173 X3 X4 X5 (arg7.view.writes (Elt Ideal) j7 P7) (arg8.view.writes (Elt Ideal) j8 P8) (arg9.view.writes (Elt Ideal) j9 P9) g10 (Scf.trips (k0_t2_loop i).lb (k0_t2_loop i).ub (k0_t2_loop i).st)).2.2.1 ++ P9)) (n) := by
  have e : Scf.trips (k0_t2_loop i).lb (k0_t2_loop i).ub (k0_t2_loop i).st = 0 := trips2 i
  rw [e]
  exact hg

theorem loop3 (v42 : BitVec 32) (v106 : IVec S1x512 32) (v174 v175 c2w v176 : BitVec 32) (v187 : BitVec 1) (h174 : v174 = BitVec.ofNat 32 (2 * ((i 2).val / 2))) (h106 : v106 = k0_pay293 (BitVec.ofNat 32 (512 * (i 2).val)))
    (hg : Good i arg3 arg4 arg5 arg7 arg8 arg9 X3 X4 X5 (arg7.view.writes (Elt Ideal) j7 P7) (arg8.view.writes (Elt Ideal) j8 P8) (arg9.view.writes (Elt Ideal) j9 P9) (2 * ((i 2).val / 2))) :
    Good i arg3 arg4 arg5 arg7 arg8 arg9 X3 X4 X5
      (arg7.view.writes (Elt Ideal) j7 ((pb_k0_t3 (F := Ideal) 𝒱 dv bd i arg3 harg3 arg4 harg4 arg5 harg5 arg6 harg6 arg7 harg7 arg8 harg8 arg9 harg9 arg10 harg10 v42 v106 v174 v175 c2w v176 v187 X3 X4 X5 (arg7.view.writes (Elt Ideal) j7 P7) (arg8.view.writes (Elt Ideal) j8 P8) (arg9.view.writes (Elt Ideal) j9 P9) g10 (Scf.trips (k0_t3_loop i).lb (k0_t3_loop i).ub (k0_t3_loop i).st)).1 ++ P7))
      (arg8.view.writes (Elt Ideal) j8 ((pb_k0_t3 (F := Ideal) 𝒱 dv bd i arg3 harg3 arg4 harg4 arg5 harg5 arg6 harg6 arg7 harg7 arg8 harg8 arg9 harg9 arg10 harg10 v42 v106 v174 v175 c2w v176 v187 X3 X4 X5 (arg7.view.writes (Elt Ideal) j7 P7) (arg8.view.writes (Elt Ideal) j8 P8) (arg9.view.writes (Elt Ideal) j9 P9) g10 (Scf.trips (k0_t3_loop i).lb (k0_t3_loop i).ub (k0_t3_loop i).st)).2.1 ++ P8))
      (arg9.view.writes (Elt Ideal) j9 ((pb_k0_t3 (F := Ideal) 𝒱 dv bd i arg3 harg3 arg4 harg4 arg5 harg5 arg6 harg6 arg7 harg7 arg8 harg8 arg9 harg9 arg10 harg10 v42 v106 v174 v175 c2w v176 v187 X3 X4 X5 (arg7.view.writes (Elt Ideal) j7 P7) (arg8.view.writes (Elt Ideal) j8 P8) (arg9.view.writes (Elt Ideal) j9 P9) g10 (Scf.trips (k0_t3_loop i).lb (k0_t3_loop i).ub (k0_t3_loop i).st)).2.2.1 ++ P9)) (2 * ((i 2).val / 2) + 2 * ((i 2).val % 2)) := by
  rw [View.writes_append, View.writes_append, View.writes_append]
  have h := t3_all 𝒱 dv bd i arg3 harg3 arg4 harg4 arg5 harg5 arg6 harg6 arg7 harg7 arg8 harg8 arg9 harg9 arg10 harg10 v42 v106 v174 v175 c2w v176 v187 X3 X4 X5 h174 h106 _ _ _ g10 hg _ le_rfl
  rw [trips3 i] at h
  have e : Scf.trips (k0_t3_loop i).lb (k0_t3_loop i).ub (k0_t3_loop i).st = (i 2).val % 2 := trips3 i
  rw [e]
  exact h

theorem loop4 (n : ℕ) (v42 : BitVec 32) (v106 : IVec S1x512 32) (v174 : BitVec 32) (v175 : BitVec 32) (c2_i32_82 : BitVec 32) (v176 : BitVec 32) (v187 : BitVec 1) (v197 : BitVec 32)
    (hg : Good i arg3 arg4 arg5 arg7 arg8 arg9 X3 X4 X5 (arg7.view.writes (Elt Ideal) j7 P7) (arg8.view.writes (Elt Ideal) j8 P8) (arg9.view.writes (Elt Ideal) j9 P9) (n)) :
    Good i arg3 arg4 arg5 arg7 arg8 arg9 X3 X4 X5
      (arg7.view.writes (Elt Ideal) j7 ((pb_k0_t4 (F := Ideal) 𝒱 dv bd i arg3 harg3 arg4 harg4 arg5 harg5 arg6 harg6 arg7 harg7 arg8 harg8 arg9 harg9 arg10 harg10 v42 v106 v174 v175 c2_i32_82 v176 v187 v197 X3 X4 X5 (arg7.view.writes (Elt Ideal) j7 P7) (arg8.view.writes (Elt Ideal) j8 P8) (arg9.view.writes (Elt Ideal) j9 P9) g10 (Scf.trips (k0_t4_loop i).lb (k0_t4_loop i).ub (k0_t4_loop i).st)).1 ++ P7))
      (arg8.view.writes (Elt Ideal) j8 ((pb_k0_t4 (F := Ideal) 𝒱 dv bd i arg3 harg3 arg4 harg4 arg5 harg5 arg6 harg6 arg7 harg7 arg8 harg8 arg9 harg9 arg10 harg10 v42 v106 v174 v175 c2_i32_82 v176 v187 v197 X3 X4 X5 (arg7.view.writes (Elt Ideal) j7 P7) (arg8.view.writes (Elt Ideal) j8 P8) (arg9.view.writes (Elt Ideal) j9 P9) g10 (Scf.trips (k0_t4_loop i).lb (k0_t4_loop i).ub (k0_t4_loop i).st)).2.1 ++ P8))
      (arg9.view.writes (Elt Ideal) j9 ((pb_k0_t4 (F := Ideal) 𝒱 dv bd i arg3 harg3 arg4 harg4 arg5 harg5 arg6 harg6 arg7 harg7 arg8 harg8 arg9 harg9 arg10 harg10 v42 v106 v174 v175 c2_i32_82 v176 v187 v197 X3 X4 X5 (arg7.view.writes (Elt Ideal) j7 P7) (arg8.view.writes (Elt Ideal) j8 P8) (arg9.view.writes (Elt Ideal) j9 P9) g10 (Scf.trips (k0_t4_loop i).lb (k0_t4_loop i).ub (k0_t4_loop i).st)).2.2.1 ++ P9)) (n) := by
  have e : Scf.trips (k0_t4_loop i).lb (k0_t4_loop i).ub (k0_t4_loop i).st = 0 := trips4 i
  rw [e]
  exact hg

end Loops

end Cert.Flash

end
-- ==== Proof.Last.lean ====
/- What the body stores at the end of a grid step, and the fold of the last tile under the mask. -/
module

public import proofs.«01_k».proof.Proof.Body

@[expose] public section

set_option maxRecDepth 16384

noncomputable section

namespace Cert.Flash

open Idealize.ShloMosaic Idealize.ShloMosaic.TcCoe Cert.KernelIdeal Cert.KernelIdeal.Gen

variable (dv : Dev nD) (i : grid0.Coords)
  (arg3 : Memref sig .tc .vmem S512x1024 .bf16) (harg3 : arg3.IsWhole) (arg4 : Memref sig .tc .vmem S4096x1024 .bf16) (harg4 : arg4.IsWhole)
  (arg5 : Memref sig .tc .vmem S1x8x576x512 .bf16) (harg5 : arg5.IsWhole) (arg6 : Memref sig .tc .vmem S512x512 .bf16) (harg6 : arg6.IsWhole)
  (arg7 : Memref sig .tc .vmem S4x1x512 .f32) (harg7 : arg7.IsWhole) (arg8 : Memref sig .tc .vmem S4x144x512 .f32) (harg8 : arg8.IsWhole)
  (arg9 : Memref sig .tc .vmem S4x512x512 .f32) (harg9 : arg9.IsWhole) (arg10 : Memref sig .tc .vmem S4x512x512 .f32) (harg10 : arg10.IsWhole)
  (X3 : BufTy.Contents (Elt Ideal) arg3.view.ty) (X4 : BufTy.Contents (Elt Ideal) arg4.view.ty) (X5 : BufTy.Contents (Elt Ideal) arg5.view.ty)

/-- The four blocks of columns the body stores, from the sums it holds at the end. -/
def outL (g8 : BufTy.Contents (Elt Ideal) arg8.view.ty) : List (View.Piece (Elt Ideal) S512x512 .bf16) :=
  [⟨Rect.unit (s := S512x512) ![0, 384] S512x128.size inb_S512x512_S512x128_0_384, k0_pay3 (arg8.view.readAt (Elt Ideal) (Rect.unit (s := S4x144x512) ![3, 0, 0] S1x128x512.size inb_S4x144x512_S1x128x512_3_0_0).toLoadRect g8) (arg8.view.readAt (Elt Ideal) (Rect.unit (s := S4x144x512) ![3, 128, 0] S1x1x512.size inb_S4x144x512_S1x1x512_3_128_0).toLoadRect g8)⟩,
   ⟨Rect.unit (s := S512x512) ![0, 256] S512x128.size inb_S512x512_S512x128_0_256, k0_pay2 (arg8.view.readAt (Elt Ideal) (Rect.unit (s := S4x144x512) ![2, 0, 0] S1x128x512.size inb_S4x144x512_S1x128x512_2_0_0).toLoadRect g8) (arg8.view.readAt (Elt Ideal) (Rect.unit (s := S4x144x512) ![2, 128, 0] S1x1x512.size inb_S4x144x512_S1x1x512_2_128_0).toLoadRect g8)⟩,
   ⟨Rect.unit (s := S512x512) ![0, 128] S512x128.size inb_S512x512_S512x128_0_128, k0_pay1 (arg8.view.readAt (Elt Ideal) (Rect.unit (s := S4x144x512) ![1, 0, 0] S1x128x512.size inb_S4x144x512_S1x128x512_1_0_0).toLoadRect g8) (arg8.view.readAt (Elt Ideal) (Rect.unit (s := S4x144x512) ![1, 128, 0] S1x1x512.size inb_S4x144x512_S1x1x512_1_128_0).toLoadRect g8)⟩,
   ⟨Rect.unit (s := S512x512) ![0, 0] S512x128.size inb_S512x512_S512x128_0_0, k0_pay310 (arg8.view.readAt (Elt Ideal) (Rect.unit (s := S4x144x512) ![0, 0, 0] S1x128x512.size inb_S4x144x512_S1x128x512_0_0_0).toLoadRect g8) (arg8.view.readAt (Elt Ideal) (Rect.unit (s := S4x144x512) ![0, 128, 0] S1x1x512.size inb_S4x144x512_S1x1x512_0_128_0).toLoadRect g8)⟩]

/-- A row of one head's sums, loaded. -/
theorem rows_at (g8 : BufTy.Contents (Elt Ideal) arg8.view.ty) (h : Fin 4) (d : Fin 128) (q : Fin 512) (off : Fin 3 → ℕ)
    (inb : ∀ a, off a + (![1, 128, 512] : Fin 3 → ℕ) a ≤ (![4, 144, 512] : Fin 3 → ℕ) a) (hoff : off = ![h.val, 0, 0]) :
    arg8.view.readAt (Elt Ideal) (Rect.unit (s := S4x144x512) off S1x128x512.size inb).toLoadRect g8 (ix3 0 d q)
      = arg8.view.read (Elt Ideal) g8 (ix3 h ⟨d.val, by omega⟩ q) :=
  (readAt_rows (R := 144) (C := 512) (m := 128) arg8.view g8 h 0 off inb hoff d q (by omega)).trans
    (congrArg (fun z => arg8.view.read (Elt Ideal) g8 (ix3 h z q)) (Fin.ext (Nat.zero_add d.val)))

theorem row_at (g8 : BufTy.Contents (Elt Ideal) arg8.view.ty) (h : Fin 4) (q : Fin 512) (off : Fin 3 → ℕ)
    (inb : ∀ a, off a + (![1, 1, 512] : Fin 3 → ℕ) a ≤ (![4, 144, 512] : Fin 3 → ℕ) a) (hoff : off = ![h.val, 128, 0]) :
    arg8.view.readAt (Elt Ideal) (Rect.unit (s := S4x144x512) off S1x1x512.size inb).toLoadRect g8 (ix3 0 0 q)
      = arg8.view.read (Elt Ideal) g8 (ix3 h 128 q) :=
  readAt_rows (R := 144) (C := 512) (m := 1) arg8.view g8 h 128 off inb hoff 0 q (by decide)

theorem outL_at (g8 : BufTy.Contents (Elt Ideal) arg8.view.ty) (f6 : BufTy.Contents (Elt Ideal) arg6.view.ty) (h : Fin 4) (d : Fin 128) (q : Fin 512) :
    arg6.view.read (Elt Ideal) (arg6.view.writes (Elt Ideal) f6 (outL arg8 g8)) (ix2 q ⟨128 * h.val + d.val, by omega⟩)
      = Ideal.div (arg8.view.read (Elt Ideal) g8 (ix3 h ⟨d.val, by omega⟩ q)) (arg8.view.read (Elt Ideal) g8 (ix3 h 128 q)) := by
  unfold outL
  match h with
  | ⟨0, _⟩ =>
    refine (cols_skip arg6.view f6 384 _ _ _ _ rfl q _ (by show 128 * 0 + d.val < 384; omega)).trans ?_
    refine (cols_skip arg6.view f6 256 _ _ _ _ rfl q _ (by show 128 * 0 + d.val < 256; omega)).trans ?_
    refine (cols_skip arg6.view f6 128 _ _ _ _ rfl q _ (by show 128 * 0 + d.val < 128; omega)).trans ?_
    refine (cols_hit arg6.view f6 0 _ _ _ _ rfl q d (by omega)).trans ?_
    refine (div_at _ _ q d).trans ?_
    exact congrArg₂ Ideal.div (rows_at arg8 g8 0 d q _ _ rfl) (row_at arg8 g8 0 q _ _ rfl)
  | ⟨1, _⟩ =>
    refine (cols_skip arg6.view f6 384 _ _ _ _ rfl q _ (by show 128 * 1 + d.val < 384; omega)).trans ?_
    refine (cols_skip arg6.view f6 256 _ _ _ _ rfl q _ (by show 128 * 1 + d.val < 256; omega)).trans ?_
    refine (cols_hit arg6.view f6 128 _ _ _ _ rfl q d (by omega)).trans ?_
    refine (div_at _ _ q d).trans ?_
    exact congrArg₂ Ideal.div (rows_at arg8 g8 1 d q _ _ rfl) (row_at arg8 g8 1 q _ _ rfl)
  | ⟨2, _⟩ =>
    refine (cols_skip arg6.view f6 384 _ _ _ _ rfl q _ (by show 128 * 2 + d.val < 384; omega)).trans ?_
    refine (cols_hit arg6.view f6 256 _ _ _ _ rfl q d (by omega)).trans ?_
    refine (div_at _ _ q d).trans ?_
    exact congrArg₂ Ideal.div (rows_at arg8 g8 2 d q _ _ rfl) (row_at arg8 g8 2 q _ _ rfl)
  | ⟨3, _⟩ =>
    refine (cols_hit arg6.view f6 384 _ _ _ _ rfl q d (by omega)).trans ?_
    refine (div_at _ _ q d).trans ?_
    exact congrArg₂ Ideal.div (rows_at arg8 g8 3 d q _ _ rfl) (row_at arg8 g8 3 q _ _ rfl)

/-- The last tile, folded in under the mask. -/
theorem last_step (h : Fin 4) (d : Fin 144) (q : Fin 512) (x : FVec Ideal S1x512x512 .f32) (m : FVec Ideal S1x1x512 .f32) (a : FVec Ideal S1x144x512 .f32)
    (hx : ∀ r, x (ix3 0 r q) = rawS arg3 arg4 X3 X4 h q (i 2).val r)
    (hm : m (ix3 0 0 q) = mx (curS i arg3 arg4 X3 X4 h q) (i 2).val)
    (ha : a (ix3 0 d q) = ac (curS i arg3 arg4 X3 X4 h q) (curV arg5 X5 h d) (i 2).val)
    (off : Fin 4 → ℕ) (inb : ∀ a, off a + (![1, 1, 144, 512] : Fin 4 → ℕ) a ≤ (![1, 8, 576, 512] : Fin 4 → ℕ) a) (ho : off = ![0, (i 2).val, 144 * h.val, 0])
    (w1 : BitVec 32) (hw1 : w1 = BitVec.ofNat 32 (512 * (i 2).val)) (wt : BitVec 32) (hwt : wt = BitVec.ofNat 32 (i 2).val) :
    newA (maskV wt (k0_pay293 w1) (castS x)) m (arg5.view.readAt (Elt Ideal) (Rect.unit (s := S1x8x576x512) off S1x1x144x512.size inb).toLoadRect X5) a (ix3 0 d q)
      = ac (curS i arg3 arg4 X3 X4 h q) (curV arg5 X5 h d) ((i 2).val + 1) := by
  have hi : (i 2).val < 8 := (i 2).isLt
  have e7 : min (i 2).val 7 = (i 2).val := by omega
  subst hw1 hwt
  refine newA_step (fun r => ?_) hm (fun r => ?_) ha
  · rw [maskV_at _ _ hi hi, castS_at, hx]
    rfl
  · exact val_ld h d (i 2).val r off inb (by rw [e7]; exact ho)

end Cert.Flash

end
-- ==== Proof.OutA.lean ====
/- The output of the attention kernel's body where the number of tiles is odd: the last tile is folded in after the loops. -/
module

public import proofs.«01_k».proof.Proof.Last

@[expose] public section

set_option maxRecDepth 16384

noncomputable section

namespace Cert.Flash

open Idealize.ShloMosaic Idealize.ShloMosaic.TcCoe Cert.KernelIdeal Cert.KernelIdeal.Gen

variable (dv : Dev nD) (i : grid0.Coords)
  (arg3 : Memref sig .tc .vmem S512x1024 .bf16) (harg3 : arg3.IsWhole) (arg4 : Memref sig .tc .vmem S4096x1024 .bf16) (harg4 : arg4.IsWhole)
  (arg5 : Memref sig .tc .vmem S1x8x576x512 .bf16) (harg5 : arg5.IsWhole) (arg6 : Memref sig .tc .vmem S512x512 .bf16) (harg6 : arg6.IsWhole)
  (arg7 : Memref sig .tc .vmem S4x1x512 .f32) (harg7 : arg7.IsWhole) (arg8 : Memref sig .tc .vmem S4x144x512 .f32) (harg8 : arg8.IsWhole)
  (arg9 : Memref sig .tc .vmem S4x512x512 .f32) (harg9 : arg9.IsWhole) (arg10 : Memref sig .tc .vmem S4x512x512 .f32) (harg10 : arg10.IsWhole)
  (X3 : BufTy.Contents (Elt Ideal) arg3.view.ty) (X4 : BufTy.Contents (Elt Ideal) arg4.view.ty) (X5 : BufTy.Contents (Elt Ideal) arg5.view.ty)

theorem startA (j7 : BufTy.Contents (Elt Ideal) arg7.view.ty) (j8 : BufTy.Contents (Elt Ideal) arg8.view.ty) (j9 : BufTy.Contents (Elt Ideal) arg9.view.ty) :
    Good i arg3 arg4 arg5 arg7 arg8 arg9 X3 X4 X5 (arg7.view.writes (Elt Ideal) j7 (runA.sl.HS0_1 (F := Ideal))) (arg8.view.writes (Elt Ideal) j8 (runA.sl.HS1_1 (F := Ideal)))
      (arg9.view.writes (Elt Ideal) j9 (runA.sl.HS2_4 (F := Ideal) arg3 arg4 X3 X4)) 0 where
  m h q := start_max arg7 j7 h q
  a h d q := start_sum arg8 j8 h d q
  x h r q := by
    unfold runA.sl.HS2_4
    match h with
    | ⟨0, _⟩ =>
      refine (writes_skip (R := 512) (C := 512) arg9.view j9 0 3 _ _ _ _ rfl (by decide) r q).trans ?_
      refine (writes_skip (R := 512) (C := 512) arg9.view j9 0 2 _ _ _ _ rfl (by decide) r q).trans ?_
      refine (writes_skip (R := 512) (C := 512) arg9.view j9 0 1 _ _ _ _ rfl (by decide) r q).trans ?_
      refine (writes_hit (R := 512) (C := 512) arg9.view j9 0 _ _ _ _ rfl r q).trans ?_
      exact score_ld 0 q 0 r _ (inb_S4096x1024_S512x256_0_0) _ (inb_S512x1024_S512x256_0_0) rfl rfl
    | ⟨1, _⟩ =>
      refine (writes_skip (R := 512) (C := 512) arg9.view j9 1 3 _ _ _ _ rfl (by decide) r q).trans ?_
      refine (writes_skip (R := 512) (C := 512) arg9.view j9 1 2 _ _ _ _ rfl (by decide) r q).trans ?_
      refine (writes_hit (R := 512) (C := 512) arg9.view j9 1 _ _ _ _ rfl r q).trans ?_
      exact score_ld 1 q 0 r _ (inb_S4096x1024_S512x256_0_256) _ (inb_S512x1024_S512x256_0_256) rfl rfl
    | ⟨2, _⟩ =>
      refine (writes_skip (R := 512) (C := 512) arg9.view j9 2 3 _ _ _ _ rfl (by decide) r q).trans ?_
      refine (writes_hit (R := 512) (C := 512) arg9.view j9 2 _ _ _ _ rfl r q).trans ?_
      exact score_ld 2 q 0 r _ (inb_S4096x1024_S512x256_0_512) _ (inb_S512x1024_S512x256_0_512) rfl rfl
    | ⟨3, _⟩ =>
      refine (writes_hit (R := 512) (C := 512) arg9.view j9 3 _ _ _ _ rfl r q).trans ?_
      exact score_ld 3 q 0 r _ (inb_S4096x1024_S512x256_0_768) _ (inb_S512x1024_S512x256_0_768) rfl rfl

set_option maxHeartbeats 4000000 in
theorem loopsA (hc0 : cond0_0 i) (f10 : BufTy.Contents (Elt Ideal) arg10.view.ty) :
    ∃ (L7 : List (View.Piece (Elt Ideal) S4x1x512 .f32)) (L8 : List (View.Piece (Elt Ideal) S4x144x512 .f32)) (L9 : List (View.Piece (Elt Ideal) S4x512x512 .f32)),
      (Good i arg3 arg4 arg5 arg7 arg8 arg9 X3 X4 X5 (arg7.view.writes (Elt Ideal) arg7.view.junk L7) (arg8.view.writes (Elt Ideal) arg8.view.junk L8)
        (arg9.view.writes (Elt Ideal) arg9.view.junk L9) (2 * ((i 2).val / 2) + 2 * ((i 2).val % 2))) ∧
      runA.sl.HS1_1_1 dv i arg3 harg3 arg4 harg4 arg5 harg5 arg6 harg6 arg7 harg7 arg8 harg8 arg9 harg9 arg10 harg10 hc0 X3 X4 X5 f10 = ⟨Rect.unit (s := S4x144x512) ![0, 0, 0] S1x144x512.size inb_S4x144x512_S1x144x512_0_0_0, k0_pay268 (runA.sl.r_3 dv i arg3 harg3 arg4 harg4 arg5 harg5 arg6 harg6 arg7 harg7 arg8 harg8 arg9 harg9 arg10 harg10 X3 X4 X5 f10) (runA.sl.r_4 dv i arg3 harg3 arg4 harg4 arg5 harg5 arg6 harg6 arg7 harg7 arg8 harg8 arg9 harg9 arg10 harg10 X3 X4 X5 f10) (runA.sl.r_5 dv i arg3 harg3 arg4 harg4 arg5 harg5 arg6 harg6 arg7 harg7 arg8 harg8 arg9 harg9 arg10 harg10 X3 X4 X5 f10) (arg5.view.readAt (Elt Ideal) (Rect.unit (s := S1x8x576x512) (k0_off65 i) S1x1x144x512.size (k0_off65_inb i hc0)).toLoadRect X5) (runA.sl.v298 dv i arg3 harg3 arg4 harg4 arg5 harg5 arg6 harg6 arg7 harg7 arg8 harg8 arg9 harg9 arg10 harg10 X3 X4 X5 f10)⟩ :: L8 ∧
      (∃ w, runA.sl.HS0_1_1 dv i arg3 harg3 arg4 harg4 arg5 harg5 arg6 harg6 arg7 harg7 arg8 harg8 arg9 harg9 arg10 harg10 X3 X4 X5 f10 = ⟨Rect.unit (s := S4x1x512) ![0, 0, 0] S1x1x512.size inb_S4x1x512_S1x1x512_0_0_0, w⟩ :: L7) ∧
      runA.sl.v298 dv i arg3 harg3 arg4 harg4 arg5 harg5 arg6 harg6 arg7 harg7 arg8 harg8 arg9 harg9 arg10 harg10 X3 X4 X5 f10 = arg8.view.readCov L8 (Rect.unit (s := S4x144x512) ![0, 0, 0] S1x144x512.size inb_S4x144x512_S1x144x512_0_0_0).toLoadRect ∧
      runA.sl.v283 dv i arg3 harg3 arg4 harg4 arg5 harg5 arg6 harg6 arg7 harg7 arg8 harg8 arg9 harg9 arg10 harg10 X3 X4 X5 f10 = arg7.view.readCov L7 (Rect.unit (s := S4x1x512) ![0, 0, 0] S1x1x512.size inb_S4x1x512_S1x1x512_0_0_0).toLoadRect ∧
      runA.sl.v431 dv i arg3 harg3 arg4 harg4 arg5 harg5 arg6 harg6 arg7 harg7 arg8 harg8 arg9 harg9 arg10 harg10 X3 X4 X5 f10 = arg9.view.readCov L9 (Rect.unit (s := S4x512x512) ![3, 0, 0] S1x512x512.size inb_S4x512x512_S1x512x512_3_0_0).toLoadRect ∧
      runA.sl.v370 dv i arg3 harg3 arg4 harg4 arg5 harg5 arg6 harg6 arg7 harg7 arg8 harg8 arg9 harg9 arg10 harg10 X3 X4 X5 f10 = arg9.view.readCov L9 (Rect.unit (s := S4x512x512) ![2, 0, 0] S1x512x512.size inb_S4x512x512_S1x512x512_2_0_0).toLoadRect ∧
      runA.sl.v309 dv i arg3 harg3 arg4 harg4 arg5 harg5 arg6 harg6 arg7 harg7 arg8 harg8 arg9 harg9 arg10 harg10 X3 X4 X5 f10 = arg9.view.readCov L9 (Rect.unit (s := S4x512x512) ![1, 0, 0] S1x512x512.size inb_S4x512x512_S1x512x512_1_0_0).toLoadRect ∧
      runA.sl.v248 dv i arg3 harg3 arg4 harg4 arg5 harg5 arg6 harg6 arg7 harg7 arg8 harg8 arg9 harg9 arg10 harg10 X3 X4 X5 f10 = arg9.view.readCov L9 (Rect.unit (s := S4x512x512) ![0, 0, 0] S1x512x512.size inb_S4x512x512_S1x512x512_0_0_0).toLoadRect := by
  unfold runA.sl.HS1_1_1 runA.sl.HS0_1_1
  refine ⟨?L7, ?L8, ?L9, ?good, ?e1, ⟨?w2, ?e2⟩, ?e3, ?e4, ?e5, ?e6, ?e7, ?e8⟩
  case e1 => exact rfl
  case e2 => exact rfl
  case e3 => exact rfl
  case e4 => exact rfl
  case e5 => exact rfl
  case e6 => exact rfl
  case e7 => exact rfl
  case e8 => exact rfl
  case good =>
    apply loop4
    apply loop3
    · exact wA174 i
    · exact congrArg k0_pay293 (wA1 i)
    apply loop2
    apply loop1
    exact startA i arg3 arg4 arg5 arg7 arg8 arg9 X3 X4 X5 _ _ _

set_option maxHeartbeats 4000000 in
theorem accA (hc0 : cond0_0 i) (f10 : BufTy.Contents (Elt Ideal) arg10.view.ty) (h : Fin 4) (d : Fin 144) (q : Fin 512) :
    arg8.view.read (Elt Ideal) (arg8.view.writes (Elt Ideal) arg8.view.junk (runA.sl.HS1_4 dv i arg3 harg3 arg4 harg4 arg5 harg5 arg6 harg6 arg7 harg7 arg8 harg8 arg9 harg9 arg10 harg10 hc0 X3 X4 X5 f10)) (ix3 h d q)
      = ac (curS i arg3 arg4 X3 X4 h q) (curV arg5 X5 h d) ((i 2).val + 1) := by
  obtain ⟨L7, L8, L9, hg, e1, ⟨w2, e2⟩, e298, e283, e431, e370, e309, e248⟩ := loopsA dv i arg3 harg3 arg4 harg4 arg5 harg5 arg6 harg6 arg7 harg7 arg8 harg8 arg9 harg9 arg10 harg10 X3 X4 X5 hc0 f10
  have hev : (i 2).val % 2 = 0 := (cond_even i).mp hc0
  have hn : 2 * ((i 2).val / 2) + 2 * ((i 2).val % 2) = (i 2).val := by omega
  rw [hn] at hg
  match h with
  | ⟨0, _⟩ =>
    unfold runA.sl.HS1_4
    refine (writes_skip (R := 144) (C := 512) arg8.view arg8.view.junk 0 3 _ _ _ _ rfl (by decide) d q).trans ?_
    unfold runA.sl.HS1_3
    refine (writes_skip (R := 144) (C := 512) arg8.view arg8.view.junk 0 2 _ _ _ _ rfl (by decide) d q).trans ?_
    unfold runA.sl.HS1_2
    refine (writes_skip (R := 144) (C := 512) arg8.view arg8.view.junk 0 1 _ _ _ _ rfl (by decide) d q).trans ?_
    rw [e1]
    refine (writes_hit (R := 144) (C := 512) arg8.view arg8.view.junk 0 _ _ _ _ rfl d q).trans ?_
    unfold runA.sl.r_3 runA.sl.r_4 runA.sl.r_5
    refine Eq.trans (show _ = newA (maskV (runA.sl.v247 i) (k0_pay293 (runA.sl.v1 i)) (castS (runA.sl.v248 dv i arg3 harg3 arg4 harg4 arg5 harg5 arg6 harg6 arg7 harg7 arg8 harg8 arg9 harg9 arg10 harg10 X3 X4 X5 f10))) (runA.sl.v283 dv i arg3 harg3 arg4 harg4 arg5 harg5 arg6 harg6 arg7 harg7 arg8 harg8 arg9 harg9 arg10 harg10 X3 X4 X5 f10)
      (arg5.view.readAt (Elt Ideal) (Rect.unit (s := S1x8x576x512) (k0_off65 i) S1x1x144x512.size (k0_off65_inb i hc0)).toLoadRect X5) (runA.sl.v298 dv i arg3 harg3 arg4 harg4 arg5 harg5 arg6 harg6 arg7 harg7 arg8 harg8 arg9 harg9 arg10 harg10 X3 X4 X5 f10) (ix3 0 d q) from rfl) ?_
    refine last_step i arg3 arg4 arg5 X3 X4 X5 0 d q _ _ _ (fun r => ?_) ?_ ?_ _ _ (lastOff0 i) _ (wA1 i) _ (wA247 i)
    · rw [e248]
      exact (readAt_head arg9.view (arg9.view.writes (Elt Ideal) arg9.view.junk L9) 0 _ _ rfl r q).trans (hg.x 0 r q)
    · rw [e283]
      exact (readAt_head arg7.view (arg7.view.writes (Elt Ideal) arg7.view.junk L7) 0 _ _ rfl 0 q).trans (hg.m 0 q)
    · rw [e298]
      exact (readAt_head arg8.view (arg8.view.writes (Elt Ideal) arg8.view.junk L8) 0 _ _ rfl d q).trans (hg.a 0 d q)
  | ⟨1, _⟩ =>
    unfold runA.sl.HS1_4
    refine (writes_skip (R := 144) (C := 512) arg8.view arg8.view.junk 1 3 _ _ _ _ rfl (by decide) d q).trans ?_
    unfold runA.sl.HS1_3
    refine (writes_skip (R := 144) (C := 512) arg8.view arg8.view.junk 1 2 _ _ _ _ rfl (by decide) d q).trans ?_
    unfold runA.sl.HS1_2
    refine (writes_hit (R := 144) (C := 512) arg8.view arg8.view.junk 1 _ _ _ _ rfl d q).trans ?_
    unfold runA.sl.r_6 runA.sl.r_7 runA.sl.r_8 runA.sl.r_9
    refine Eq.trans (show _ = newA (maskV (runA.sl.v247 i) (k0_pay293 (runA.sl.v1 i)) (castS (runA.sl.v309 dv i arg3 harg3 arg4 harg4 arg5 harg5 arg6 harg6 arg7 harg7 arg8 harg8 arg9 harg9 arg10 harg10 X3 X4 X5 f10))) (runA.sl.v344 dv i arg3 harg3 arg4 harg4 arg5 harg5 arg6 harg6 arg7 harg7 arg8 harg8 arg9 harg9 arg10 harg10 X3 X4 X5 f10)
      (arg5.view.readAt (Elt Ideal) (Rect.unit (s := S1x8x576x512) (k0_off66 i) S1x1x144x512.size (k0_off66_inb i hc0)).toLoadRect X5) (runA.sl.v359 dv i arg3 harg3 arg4 harg4 arg5 harg5 arg6 harg6 arg7 harg7 arg8 harg8 arg9 harg9 arg10 harg10 hc0 X3 X4 X5 f10) (ix3 0 d q) from rfl) ?_
    refine last_step i arg3 arg4 arg5 X3 X4 X5 1 d q _ _ _ (fun r => ?_) ?_ ?_ _ _ (lastOff1 i) _ (wA1 i) _ (wA247 i)
    · rw [e309]
      exact (readAt_head arg9.view (arg9.view.writes (Elt Ideal) arg9.view.junk L9) 1 _ _ rfl r q).trans (hg.x 1 r q)
    · unfold runA.sl.v344
      refine (readAt_head arg7.view (arg7.view.writes (Elt Ideal) arg7.view.junk (runA.sl.HS0_1_1 dv i arg3 harg3 arg4 harg4 arg5 harg5 arg6 harg6 arg7 harg7 arg8 harg8 arg9 harg9 arg10 harg10 X3 X4 X5 f10)) 1 _ _ rfl 0 q).trans ?_
      rw [e2]
      refine (writes_skip (R := 1) (C := 512) arg7.view arg7.view.junk 1 0 _ _ _ _ rfl (by decide) 0 q).trans ?_
      exact hg.m 1 q
    · unfold runA.sl.v359
      refine (readAt_head arg8.view (arg8.view.writes (Elt Ideal) arg8.view.junk (runA.sl.HS1_1_1 dv i arg3 harg3 arg4 harg4 arg5 harg5 arg6 harg6 arg7 harg7 arg8 harg8 arg9 harg9 arg10 harg10 hc0 X3 X4 X5 f10)) 1 _ _ rfl d q).trans ?_
      rw [e1]
      refine (writes_skip (R := 144) (C := 512) arg8.view arg8.view.junk 1 0 _ _ _ _ rfl (by decide) d q).trans ?_
      exact hg.a 1 d q
  | ⟨2, _⟩ =>
    unfold runA.sl.HS1_4
    refine (writes_skip (R := 144) (C := 512) arg8.view arg8.view.junk 2 3 _ _ _ _ rfl (by decide) d q).trans ?_
    unfold runA.sl.HS1_3
    refine (writes_hit (R := 144) (C := 512) arg8.view arg8.view.junk 2 _ _ _ _ rfl d q).trans ?_
    unfold runA.sl.r_11 runA.sl.r_12 runA.sl.r_13
    refine Eq.trans (show _ = newA (maskV (runA.sl.v247 i) (k0_pay293 (runA.sl.v1 i)) (castS (runA.sl.v370 dv i arg3 harg3 arg4 harg4 arg5 harg5 arg6 harg6 arg7 harg7 arg8 harg8 arg9 harg9 arg10 harg10 X3 X4 X5 f10))) (runA.sl.v405 dv i arg3 harg3 arg4 harg4 arg5 harg5 arg6 harg6 arg7 harg7 arg8 harg8 arg9 harg9 arg10 harg10 X3 X4 X5 f10)
      (arg5.view.readAt (Elt Ideal) (Rect.unit (s := S1x8x576x512) (k0_off67 i) S1x1x144x512.size (k0_off67_inb i hc0)).toLoadRect X5) (runA.sl.v420 dv i arg3 harg3 arg4 harg4 arg5 harg5 arg6 harg6 arg7 harg7 arg8 harg8 arg9 harg9 arg10 harg10 hc0 X3 X4 X5 f10) (ix3 0 d q) from rfl) ?_
    refine last_step i arg3 arg4 arg5 X3 X4 X5 2 d q _ _ _ (fun r => ?_) ?_ ?_ _ _ (lastOff2 i) _ (wA1 i) _ (wA247 i)
    · rw [e370]
      exact (readAt_head arg9.view (arg9.view.writes (Elt Ideal) arg9.view.junk L9) 2 _ _ rfl r q).trans (hg.x 2 r q)
    · unfold runA.sl.v405
      refine (readAt_head arg7.view (arg7.view.writes (Elt Ideal) arg7.view.junk (runA.sl.HS0_2 dv i arg3 harg3 arg4 harg4 arg5 harg5 arg6 harg6 arg7 harg7 arg8 harg8 arg9 harg9 arg10 harg10 X3 X4 X5 f10)) 2 _ _ rfl 0 q).trans ?_
      unfold runA.sl.HS0_2
      refine (writes_skip (R := 1) (C := 512) arg7.view arg7.view.junk 2 1 _ _ _ _ rfl (by decide) 0 q).trans ?_
      rw [e2]
      refine (writes_skip (R := 1) (C := 512) arg7.view arg7.view.junk 2 0 _ _ _ _ rfl (by decide) 0 q).trans ?_
      exact hg.m 2 q
    · unfold runA.sl.v420
      refine (readAt_head arg8.view (arg8.view.writes (Elt Ideal) arg8.view.junk (runA.sl.HS1_2 dv i arg3 harg3 arg4 harg4 arg5 harg5 arg6 harg6 arg7 harg7 arg8 harg8 arg9 harg9 arg10 harg10 hc0 X3 X4 X5 f10)) 2 _ _ rfl d q).trans ?_
      unfold runA.sl.HS1_2
      refine (writes_skip (R := 144) (C := 512) arg8.view arg8.view.junk 2 1 _ _ _ _ rfl (by decide) d q).trans ?_
      rw [e1]
      refine (writes_skip (R := 144) (C := 512) arg8.view arg8.view.junk 2 0 _ _ _ _ rfl (by decide) d q).trans ?_
      exact hg.a 2 d q
  | ⟨3, _⟩ =>
    unfold runA.sl.HS1_4
    refine (writes_hit (R := 144) (C := 512) arg8.view arg8.view.junk 3 _ _ _ _ rfl d q).trans ?_
    unfold runA.sl.r_19 runA.sl.r_14 runA.sl.r_15 runA.sl.r_16 runA.sl.r_17
    refine Eq.trans (show _ = newA (maskV (runA.sl.v247 i) (k0_pay293 (runA.sl.v1 i)) (castS (runA.sl.v431 dv i arg3 harg3 arg4 harg4 arg5 harg5 arg6 harg6 arg7 harg7 arg8 harg8 arg9 harg9 arg10 harg10 X3 X4 X5 f10))) (runA.sl.v466 dv i arg3 harg3 arg4 harg4 arg5 harg5 arg6 harg6 arg7 harg7 arg8 harg8 arg9 harg9 arg10 harg10 X3 X4 X5 f10)
      (arg5.view.readAt (Elt Ideal) (Rect.unit (s := S1x8x576x512) (k0_off68 i) S1x1x144x512.size (k0_off68_inb i hc0)).toLoadRect X5) (runA.sl.v481 dv i arg3 harg3 arg4 harg4 arg5 harg5 arg6 harg6 arg7 harg7 arg8 harg8 arg9 harg9 arg10 harg10 hc0 X3 X4 X5 f10) (ix3 0 d q) from rfl) ?_
    refine last_step i arg3 arg4 arg5 X3 X4 X5 3 d q _ _ _ (fun r => ?_) ?_ ?_ _ _ (lastOff3 i) _ (wA1 i) _ (wA247 i)
    · rw [e431]
      exact (readAt_head arg9.view (arg9.view.writes (Elt Ideal) arg9.view.junk L9) 3 _ _ rfl r q).trans (hg.x 3 r q)
    · unfold runA.sl.v466
      refine (readAt_head arg7.view (arg7.view.writes (Elt Ideal) arg7.view.junk (runA.sl.HS0_3 dv i arg3 harg3 arg4 harg4 arg5 harg5 arg6 harg6 arg7 harg7 arg8 harg8 arg9 harg9 arg10 harg10 X3 X4 X5 f10)) 3 _ _ rfl 0 q).trans ?_
      unfold runA.sl.HS0_3
      refine (writes_skip (R := 1) (C := 512) arg7.view arg7.view.junk 3 2 _ _ _ _ rfl (by decide) 0 q).trans ?_
      unfold runA.sl.HS0_2
      refine (writes_skip (R := 1) (C := 512) arg7.view arg7.view.junk 3 1 _ _ _ _ rfl (by decide) 0 q).trans ?_
      rw [e2]
      refine (writes_skip (R := 1) (C := 512) arg7.view arg7.view.junk 3 0 _ _ _ _ rfl (by decide) 0 q).trans ?_
      exact hg.m 3 q
    · unfold runA.sl.v481
      refine (readAt_head arg8.view (arg8.view.writes (Elt Ideal) arg8.view.junk (runA.sl.HS1_3 dv i arg3 harg3 arg4 harg4 arg5 harg5 arg6 harg6 arg7 harg7 arg8 harg8 arg9 harg9 arg10 harg10 hc0 X3 X4 X5 f10)) 3 _ _ rfl d q).trans ?_
      unfold runA.sl.HS1_3
      refine (writes_skip (R := 144) (C := 512) arg8.view arg8.view.junk 3 2 _ _ _ _ rfl (by decide) d q).trans ?_
      unfold runA.sl.HS1_2
      refine (writes_skip (R := 144) (C := 512) arg8.view arg8.view.junk 3 1 _ _ _ _ rfl (by decide) d q).trans ?_
      rw [e1]
      refine (writes_skip (R := 144) (C := 512) arg8.view arg8.view.junk 3 0 _ _ _ _ rfl (by decide) d q).trans ?_
      exact hg.a 3 d q

/-- The output block of a grid step at a query and a column of a head: the quotient of the two sums. -/
theorem outA (hc0 : cond0_0 i) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f6 : BufTy.Contents (Elt Ideal) arg6.view.ty) (h : Fin 4) (d : Fin 128) (q : Fin 512) :
    arg6.view.read (Elt Ideal) (arg6.view.writes (Elt Ideal) f6 ((runA dv i arg3 harg3 arg4 harg4 arg5 harg5 arg6 harg6 arg7 harg7 arg8 harg8 arg9 harg9 arg10 harg10 hc0 X3 X4 X5).1 f7 f8 f9 f10)) (ix2 q ⟨128 * h.val + d.val, by omega⟩)
      = Ideal.div (ac (curS i arg3 arg4 X3 X4 h q) (curV arg5 X5 h ⟨d.val, by omega⟩) ((i 2).val + 1))
          (ac (curS i arg3 arg4 X3 X4 h q) (curV arg5 X5 h 128) ((i 2).val + 1)) := by
  have e : (runA dv i arg3 harg3 arg4 harg4 arg5 harg5 arg6 harg6 arg7 harg7 arg8 harg8 arg9 harg9 arg10 harg10 hc0 X3 X4 X5).1 f7 f8 f9 f10 = outL arg8 (arg8.view.writes (Elt Ideal) arg8.view.junk (runA.sl.HS1_4 dv i arg3 harg3 arg4 harg4 arg5 harg5 arg6 harg6 arg7 harg7 arg8 harg8 arg9 harg9 arg10 harg10 hc0 X3 X4 X5 f10)) := rfl
  rw [e]
  refine (outL_at arg6 arg8 _ f6 h d q).trans ?_
  rw [accA dv i arg3 harg3 arg4 harg4 arg5 harg5 arg6 harg6 arg7 harg7 arg8 harg8 arg9 harg9 arg10 harg10 X3 X4 X5 hc0 f10, accA dv i arg3 harg3 arg4 harg4 arg5 harg5 arg6 harg6 arg7 harg7 arg8 harg8 arg9 harg9 arg10 harg10 X3 X4 X5 hc0 f10]

end Cert.Flash

end
-- ==== Proof.OutB.lean ====
/- The output of the attention kernel's body where the number of tiles is even: the loops have folded in all of them. -/
module

public import proofs.«01_k».proof.Proof.Last

@[expose] public section

set_option maxRecDepth 16384

noncomputable section

namespace Cert.Flash

open Idealize.ShloMosaic Idealize.ShloMosaic.TcCoe Cert.KernelIdeal Cert.KernelIdeal.Gen

variable (dv : Dev nD) (i : grid0.Coords)
  (arg3 : Memref sig .tc .vmem S512x1024 .bf16) (harg3 : arg3.IsWhole) (arg4 : Memref sig .tc .vmem S4096x1024 .bf16) (harg4 : arg4.IsWhole)
  (arg5 : Memref sig .tc .vmem S1x8x576x512 .bf16) (harg5 : arg5.IsWhole) (arg6 : Memref sig .tc .vmem S512x512 .bf16) (harg6 : arg6.IsWhole)
  (arg7 : Memref sig .tc .vmem S4x1x512 .f32) (harg7 : arg7.IsWhole) (arg8 : Memref sig .tc .vmem S4x144x512 .f32) (harg8 : arg8.IsWhole)
  (arg9 : Memref sig .tc .vmem S4x512x512 .f32) (harg9 : arg9.IsWhole) (arg10 : Memref sig .tc .vmem S4x512x512 .f32) (harg10 : arg10.IsWhole)
  (X3 : BufTy.Contents (Elt Ideal) arg3.view.ty) (X4 : BufTy.Contents (Elt Ideal) arg4.view.ty) (X5 : BufTy.Contents (Elt Ideal) arg5.view.ty)

theorem startB (j7 : BufTy.Contents (Elt Ideal) arg7.view.ty) (j8 : BufTy.Contents (Elt Ideal) arg8.view.ty) (j9 : BufTy.Contents (Elt Ideal) arg9.view.ty) :
    Good i arg3 arg4 arg5 arg7 arg8 arg9 X3 X4 X5 (arg7.view.writes (Elt Ideal) j7 (runB.sl.HS0_1 (F := Ideal))) (arg8.view.writes (Elt Ideal) j8 (runB.sl.HS1_1 (F := Ideal)))
      (arg9.view.writes (Elt Ideal) j9 (runB.sl.HS2_4 (F := Ideal) arg3 arg4 X3 X4)) 0 where
  m h q := start_max arg7 j7 h q
  a h d q := start_sum arg8 j8 h d q
  x h r q := by
    unfold runB.sl.HS2_4
    match h with
    | ⟨0, _⟩ =>
      refine (writes_skip (R := 512) (C := 512) arg9.view j9 0 3 _ _ _ _ rfl (by decide) r q).trans ?_
      refine (writes_skip (R := 512) (C := 512) arg9.view j9 0 2 _ _ _ _ rfl (by decide) r q).trans ?_
      refine (writes_skip (R := 512) (C := 512) arg9.view j9 0 1 _ _ _ _ rfl (by decide) r q).trans ?_
      refine (writes_hit (R := 512) (C := 512) arg9.view j9 0 _ _ _ _ rfl r q).trans ?_
      exact score_ld 0 q 0 r _ (inb_S4096x1024_S512x256_0_0) _ (inb_S512x1024_S512x256_0_0) rfl rfl
    | ⟨1, _⟩ =>
      refine (writes_skip (R := 512) (C := 512) arg9.view j9 1 3 _ _ _ _ rfl (by decide) r q).trans ?_
      refine (writes_skip (R := 512) (C := 512) arg9.view j9 1 2 _ _ _ _ rfl (by decide) r q).trans ?_
      refine (writes_hit (R := 512) (C := 512) arg9.view j9 1 _ _ _ _ rfl r q).trans ?_
      exact score_ld 1 q 0 r _ (inb_S4096x1024_S512x256_0_256) _ (inb_S512x1024_S512x256_0_256) rfl rfl
    | ⟨2, _⟩ =>
      refine (writes_skip (R := 512) (C := 512) arg9.view j9 2 3 _ _ _ _ rfl (by decide) r q).trans ?_
      refine (writes_hit (R := 512) (C := 512) arg9.view j9 2 _ _ _ _ rfl r q).trans ?_
      exact score_ld 2 q 0 r _ (inb_S4096x1024_S512x256_0_512) _ (inb_S512x1024_S512x256_0_512) rfl rfl
    | ⟨3, _⟩ =>
      refine (writes_hit (R := 512) (C := 512) arg9.view j9 3 _ _ _ _ rfl r q).trans ?_
      exact score_ld 3 q 0 r _ (inb_S4096x1024_S512x256_0_768) _ (inb_S512x1024_S512x256_0_768) rfl rfl

set_option maxHeartbeats 4000000 in
theorem loopsB (hc0 : ¬cond0_0 i) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) :
    ∃ (L7 : List (View.Piece (Elt Ideal) S4x1x512 .f32)) (L8 : List (View.Piece (Elt Ideal) S4x144x512 .f32)) (L9 : List (View.Piece (Elt Ideal) S4x512x512 .f32)),
      (Good i arg3 arg4 arg5 arg7 arg8 arg9 X3 X4 X5 (arg7.view.writes (Elt Ideal) arg7.view.junk L7) (arg8.view.writes (Elt Ideal) arg8.view.junk L8)
        (arg9.view.writes (Elt Ideal) arg9.view.junk L9) (2 * ((i 2).val / 2) + 2 * ((i 2).val % 2))) ∧
      (runB dv i arg3 harg3 arg4 harg4 arg5 harg5 arg6 harg6 arg7 harg7 arg8 harg8 arg9 harg9 arg10 harg10 hc0 X3 X4 X5).1 f7 f8 f9 f10 = outL arg8 (arg8.view.writes (Elt Ideal) arg8.view.junk L8) := by
  refine ⟨?L7, ?L8, ?L9, ?good, ?e1⟩
  case e1 => exact rfl
  case good =>
    refine loop4 (hg := ?_) ..
    refine loop3 (h174 := wB174 i) (h106 := congrArg k0_pay293 (wB1 i)) (hg := ?_) ..
    refine loop2 (hg := ?_) ..
    refine loop1 (hg := ?_) ..
    exact startB i arg3 arg4 arg5 arg7 arg8 arg9 X3 X4 X5 _ _ _

/-- The output block of a grid step at a query and a column of a head: the quotient of the two sums. -/
theorem outB (hc0 : ¬cond0_0 i) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f6 : BufTy.Contents (Elt Ideal) arg6.view.ty) (h : Fin 4) (d : Fin 128) (q : Fin 512) :
    arg6.view.read (Elt Ideal) (arg6.view.writes (Elt Ideal) f6 ((runB dv i arg3 harg3 arg4 harg4 arg5 harg5 arg6 harg6 arg7 harg7 arg8 harg8 arg9 harg9 arg10 harg10 hc0 X3 X4 X5).1 f7 f8 f9 f10)) (ix2 q ⟨128 * h.val + d.val, by omega⟩)
      = Ideal.div (ac (curS i arg3 arg4 X3 X4 h q) (curV arg5 X5 h ⟨d.val, by omega⟩) ((i 2).val + 1))
          (ac (curS i arg3 arg4 X3 X4 h q) (curV arg5 X5 h 128) ((i 2).val + 1)) := by
  obtain ⟨L7, L8, L9, hg, e⟩ := loopsB dv i arg3 harg3 arg4 harg4 arg5 harg5 arg6 harg6 arg7 harg7 arg8 harg8 arg9 harg9 arg10 harg10 X3 X4 X5 hc0 f7 f8 f9 f10
  have hev : ¬(i 2).val % 2 = 0 := fun z => hc0 ((cond_even i).mpr z)
  have hn : 2 * ((i 2).val / 2) + 2 * ((i 2).val % 2) = (i 2).val + 1 := by omega
  rw [hn] at hg
  rw [e]
  refine (outL_at arg6 arg8 _ f6 h d q).trans ?_
  rw [hg.a, hg.a]

end Cert.Flash

end
-- ==== Proof.Block.lean ====
/- The block a grid step leaves in the output, as a function of the blocks it is given; the pipeline's proof data; the run of the
   kernel, with its output array named. -/
module

public import proofs.«01_k».proof.Proof.OutA
public import proofs.«01_k».proof.Proof.OutB
public import proofs.«01_k».proof.Proof.Gen.KernelIdeal.Frame.Runs
public import Idealize.ShloMosaic.Lib.Claim
public import Idealize.ShloMosaic.Lib.Pipeline.Value

@[expose] public section

set_option maxRecDepth 16384

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ### The block a grid step leaves -/

/-- The score of key `r` of tile `t` against query `q` for head `h`, under the mask, from the blocks of queries and keys. -/
def blkS (I : ℕ) (xq : Vec Ideal S512x1024 .bf16) (xk : Vec Ideal S4096x1024 .bf16) (h : Fin 4) (q : Fin 512) (t : ℕ) (r : Fin 512) : EReal :=
  if (512 * t + r.val) / 64 ≤ (512 * I + q.val) / 64 then
    ∑ j : Fin 256, xk (ix2 ⟨512 * min t 7 + r.val, by omega⟩ ⟨256 * h.val + j.val, by omega⟩) * xq (ix2 q ⟨256 * h.val + j.val, by omega⟩)
  else ⊥

/-- Row `d` of head `h`'s values for key `r` of tile `t`. -/
def blkV (xv : Vec Ideal S1x8x576x512 .bf16) (h : Fin 4) (d : Fin 144) (t : ℕ) (r : Fin 512) : EReal :=
  xv (ix4 0 ⟨min t 7, by omega⟩ ⟨144 * h.val + d.val, by omega⟩ r)

/-- The output at a query and a column of a head. -/
def blkAt (I : ℕ) (xq : Vec Ideal S512x1024 .bf16) (xk : Vec Ideal S4096x1024 .bf16) (xv : Vec Ideal S1x8x576x512 .bf16)
    (q : Fin 512) (h : Fin 4) (d : Fin 128) : EReal :=
  Ideal.div (ac (blkS I xq xk h q) (blkV xv h ⟨d.val, by omega⟩) (I + 1)) (ac (blkS I xq xk h q) (blkV xv h 128) (I + 1))

def blkOut (I : ℕ) (xq : Vec Ideal S512x1024 .bf16) (xk : Vec Ideal S4096x1024 .bf16) (xv : Vec Ideal S1x8x576x512 .bf16) : Vec Ideal S512x512 .bf16 :=
  fun j => blkAt I xq xk xv (j 0) ⟨(j 1).val / 128, by have : (j 1).val < 512 := (j 1).isLt; omega⟩ ⟨(j 1).val % 128, by omega⟩

/-- A block that has the right numbers at every query, head and column is that block. -/
theorem blkOut_ext {I : ℕ} {xq : Vec Ideal S512x1024 .bf16} {xk : Vec Ideal S4096x1024 .bf16} {xv : Vec Ideal S1x8x576x512 .bf16}
    {y : Vec Ideal S512x512 .bf16} (hy : ∀ (h : Fin 4) (d : Fin 128) (q : Fin 512), y (ix2 q ⟨128 * h.val + d.val, by omega⟩) = blkAt I xq xk xv q h d) :
    y = blkOut I xq xk xv := by
  funext j
  have hj : (j 1).val < 512 := (j 1).isLt
  have e := hy ⟨(j 1).val / 128, by omega⟩ ⟨(j 1).val % 128, by omega⟩ (j 0)
  refine Eq.trans (congrArg y (funext fun a => ?_)) e
  match a with
  | ⟨0, _⟩ => rfl
  | ⟨1, _⟩ => exact Fin.ext (by show (j 1).val = 128 * ((j 1).val / 128) + (j 1).val % 128; omega)

section Body

variable (dv : Dev nD) (i : grid0.Coords)
  (arg3 : Memref sig .tc .vmem S512x1024 .bf16) (harg3 : arg3.IsWhole) (arg4 : Memref sig .tc .vmem S4096x1024 .bf16) (harg4 : arg4.IsWhole)
  (arg5 : Memref sig .tc .vmem S1x8x576x512 .bf16) (harg5 : arg5.IsWhole) (arg6 : Memref sig .tc .vmem S512x512 .bf16) (harg6 : arg6.IsWhole)
  (arg7 : Memref sig .tc .vmem S4x1x512 .f32) (harg7 : arg7.IsWhole) (arg8 : Memref sig .tc .vmem S4x144x512 .f32) (harg8 : arg8.IsWhole)
  (arg9 : Memref sig .tc .vmem S4x512x512 .f32) (harg9 : arg9.IsWhole) (arg10 : Memref sig .tc .vmem S4x512x512 .f32) (harg10 : arg10.IsWhole)

/-- The body, given the blocks and the scratch at any contents, leaves `blkOut` in the output block. -/
theorem body_run (xq : Vec Ideal S512x1024 .bf16) (xk : Vec Ideal S4096x1024 .bf16) (xv : Vec Ideal S1x8x576x512 .bf16) (E : Set ℕ) (K : PUnit → sProp 𝕄) :
    iprop(owns (dv : Thread nD τ) arg3 fullShare xq ∗ owns (dv : Thread nD τ) arg4 fullShare xk ∗ owns (dv : Thread nD τ) arg5 fullShare xv
        ∗ (∃ d, owns (dv : Thread nD τ) arg6 fullShare d)
        ∗ (∃ d, owns (dv : Thread nD τ) arg7 fullShare d) ∗ (∃ d, owns (dv : Thread nD τ) arg8 fullShare d)
        ∗ (∃ d, owns (dv : Thread nD τ) arg9 fullShare d) ∗ (∃ d, owns (dv : Thread nD τ) arg10 fullShare d)
        ∗ (iprop(owns (dv : Thread nD τ) arg3 fullShare xq ∗ owns (dv : Thread nD τ) arg4 fullShare xk ∗ owns (dv : Thread nD τ) arg5 fullShare xv
          ∗ owns (dv : Thread nD τ) arg6 fullShare (blkOut (i 2).val xq xk xv)
          ∗ (∃ d, owns (dv : Thread nD τ) arg7 fullShare d) ∗ (∃ d, owns (dv : Thread nD τ) arg8 fullShare d)
          ∗ (∃ d, owns (dv : Thread nD τ) arg9 fullShare d) ∗ (∃ d, owns (dv : Thread nD τ) arg10 fullShare d)) -∗ K ⟨⟩))
      ⊢ wp frame (wpE (defs₀ (F := Ideal)) Variants.none dv none) E (cc0_mla_attention i arg3 harg3 arg4 harg4 arg5 harg5 arg6 harg6 arg7 harg7 arg8 harg8 arg9 harg9 arg10 harg10) K := by
  by_cases hc0 : cond0_0 i
  · unfold owns
    iintro ⟨⟨%f3, %h3, H0⟩, ⟨%f4, %h4, H1⟩, ⟨%f5, %h5, H2⟩, ⟨%d6, %f6, %h6, H3⟩, ⟨%d7, %f7, %h7, HS0⟩, ⟨%d8, %f8, %h8, HS1⟩, ⟨%d9, %f9, %h9, HS2⟩, ⟨%d10, %f10, %h10, HS3⟩, Hk⟩
    iapply ((runA dv i arg3 harg3 arg4 harg4 arg5 harg5 arg6 harg6 arg7 harg7 arg8 harg8 arg9 harg9 arg10 harg10 hc0 f3 f4 f5).2 E K f7 f8 f9 f10 f6)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H3, H0, H1, H2, ⟨%g7, HS0⟩, ⟨%g8, HS1⟩, ⟨%g9, HS2⟩, ⟨%g10, HS3⟩⟩
    iapply Hk
    isplitl [H0]
    · iexists _; isplitr
      swap; · iexact H0
      ipureintro; exact h3
    isplitl [H1]
    · iexists _; isplitr
      swap; · iexact H1
      ipureintro; exact h4
    isplitl [H2]
    · iexists _; isplitr
      swap; · iexact H2
      ipureintro; exact h5
    isplitl [H3]
    · iexists _; isplitr
      swap; · iexact H3
      ipureintro
      subst h3 h4 h5
      exact blkOut_ext fun h d q => outA dv i arg3 harg3 arg4 harg4 arg5 harg5 arg6 harg6 arg7 harg7 arg8 harg8 arg9 harg9 arg10 harg10 f3 f4 f5 hc0 f7 f8 f9 f10 f6 h d q
    isplitl [HS0]
    · iexists _; iexists _; isplitr
      swap; · iexact HS0
      ipureintro; exact rfl
    isplitl [HS1]
    · iexists _; iexists _; isplitr
      swap; · iexact HS1
      ipureintro; exact rfl
    isplitl [HS2]
    · iexists _; iexists _; isplitr
      swap; · iexact HS2
      ipureintro; exact rfl
    iexists _; iexists _; isplitr
    swap; · iexact HS3
    ipureintro; exact rfl
  · unfold owns
    iintro ⟨⟨%f3, %h3, H0⟩, ⟨%f4, %h4, H1⟩, ⟨%f5, %h5, H2⟩, ⟨%d6, %f6, %h6, H3⟩, ⟨%d7, %f7, %h7, HS0⟩, ⟨%d8, %f8, %h8, HS1⟩, ⟨%d9, %f9, %h9, HS2⟩, ⟨%d10, %f10, %h10, HS3⟩, Hk⟩
    iapply ((runB dv i arg3 harg3 arg4 harg4 arg5 harg5 arg6 harg6 arg7 harg7 arg8 harg8 arg9 harg9 arg10 harg10 hc0 f3 f4 f5).2 E K f7 f8 f9 f10 f6)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H3, H0, H1, H2, ⟨%g7, HS0⟩, ⟨%g8, HS1⟩, ⟨%g9, HS2⟩, ⟨%g10, HS3⟩⟩
    iapply Hk
    isplitl [H0]
    · iexists _; isplitr
      swap; · iexact H0
      ipureintro; exact h3
    isplitl [H1]
    · iexists _; isplitr
      swap; · iexact H1
      ipureintro; exact h4
    isplitl [H2]
    · iexists _; isplitr
      swap; · iexact H2
      ipureintro; exact h5
    isplitl [H3]
    · iexists _; isplitr
      swap; · iexact H3
      ipureintro
      subst h3 h4 h5
      exact blkOut_ext fun h d q => outB dv i arg3 harg3 arg4 harg4 arg5 harg5 arg6 harg6 arg7 harg7 arg8 harg8 arg9 harg9 arg10 harg10 f3 f4 f5 hc0 f7 f8 f9 f10 f6 h d q
    isplitl [HS0]
    · iexists _; iexists _; isplitr
      swap; · iexact HS0
      ipureintro; exact rfl
    isplitl [HS1]
    · iexists _; iexists _; isplitr
      swap; · iexact HS1
      ipureintro; exact rfl
    isplitl [HS2]
    · iexists _; iexists _; isplitr
      swap; · iexact HS2
      ipureintro; exact rfl
    iexists _; iexists _; isplitr
    swap; · iexact HS3
    ipureintro; exact rfl

end Body

/-! ### The pipeline's proof data and the body at every point -/

variable (m : (ℓ : Loc nD τ sig) → Buf (Elt Ideal) ℓ) (ρ : Dev nD → PrngReg)

/-- The output block of a grid step, from the arrays the kernel is called with. -/
def outBlk (c : Dev nD) (t : Fin cfg0.N) : Vec Ideal S512x512 .bf16 :=
  blkOut ((grid0.coords t) 2).val (iblk m c 0 t) (iblk m c 1 t) (iblk m c 2 t)

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outBlk m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem body_sound (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = Pipeline.ΦA spec0 c from rfl, PhiA0_eq]
  unfold outBlk
  iintro ⟨⟨⟨HS0, HS1, HS2, HS3⟩, Hg⟩, Ho, ⟨%d0, H0⟩, ⟨%d1, H1⟩, ⟨%d2, H2⟩, ⟨%d3, H3⟩⟩
  iapply (body_run c (grid0.coords t) _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  iexact H3

theorem body_row (t : Fin cfg0.N) :
    defs₀ (F := Ideal) .tc cfg0.body (cfg0.bodyArgs t (cfg0.slots t)) = bodyAt0 t := by
  unfold defs₀; rw [Defs.onTc_tc]

theorem body_all (c : Dev nD) : BodyObligation (dats m 0 c) (defs₀ (F := Ideal)) Variants.none () Set.univ := fun t => by
  rw [bigSep_W0, bigSep_W0, body_row]
  exact triple_restated (body_sound m c t) rfl .rfl fun _ => .rfl

/-! ### The run -/

set_option backward.isDefEq.respectTransparency.types false in
/-- Every fair run of the kernel ends, with every array of the pipeline as the proof data say and every counter at zero. -/
theorem run_all : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_all m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := Ideal))) (s₀ m ρ) (Pipeline.FramePost cfgs (dats m) 0 (V m)) :=
  (θ_run defs _ _).mono (fun _ h => h.1) (run_all m ρ)

/-- The kernel leaves its arguments as they were, and every counter at zero. -/
theorem kernel_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_post m ρ)) ((θ_run defs _ _).mono (fun _ h => h.2) (run_all m ρ))

/-! ### The output array -/

theorem idx_inj : ∀ t u : Fin cfg0.N, win0_3.index t = win0_3.index u → t = u :=
  (by decide +kernel : ∀ t u : Fin grid0.N, win0_3.index t = win0_3.index u → t = u)

theorem blk_disjoint : ∀ t u : Fin cfg0.N, (cfg0.win 3).flush t = true → (cfg0.win 3).flush u = true → t ≠ u →
    Disjoint ((cfg0.win 3).blk t).view.set ((cfg0.win 3).blk u).view.set :=
  fun t u _ _ hne => (cfg0.win 3).disjoint_blk fun h => hne (idx_inj t u h)

/-- Block `t` of the final array is what step `t` left. -/
theorem blk_out (c : Dev nD) (t : Fin cfg0.N) (hf : (cfg0.win 3).flush t = true) :
    ((cfg0.win 3).blk t).view.read (Elt Ideal) ((dats m 0 c).arrAt 3 cfg0.N) = outBlk m c t := by
  refine ((dats m 0 c).read_blk_arrAt_eq_flushed 3 blk_disjoint cfg0.N t t.isLt hf).trans ?_
  show (cfg0.win 3).cut (grid0.coords t) ((dats m 0 c).after 3 t) = _
  rw [after_3]
  rfl

/-- The run, with the output array named and the arguments kept. -/
theorem kernel_run : θ_run defs (onTc (τ := τ) (main (F := Ideal))) ⟨m, fun _ => 0, ρ⟩ fun r => ∀ c : Dev nD,
      r.2.mem ((c : Thread nD τ).loc main_v57) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 3,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_post m ρ)

end Cert.Flash

end
-- ==== Proof.Host.lean ====
/- The arrays the attention call is given, as functions of the arguments, at an index: the packed queries (content, rotary
   pair by cosines, swapped pair by sines), the packed keys, and the transposed values with their rows of ones. -/
module

public import proofs.«01_k».proof.Proof.RefAt
public import proofs.«01_k».proof.Proof.Block
public import Idealize.ShloMosaic.Lib.StableHlo.ReadAt
public import Idealize.ShloMosaic.Lib.Pipeline.ValueKit

@[expose] public section

set_option maxRecDepth 16384

noncomputable section

namespace Cert.Flash.Host

open Idealize.ShloMosaic Idealize.ShloMosaic.TcCoe Cert.KernelIdeal
open Cert.KernelIdeal.Facts₀ Cert.KernelIdeal.Facts

abbrev A (s : Shape) := FVec Ideal s .f32

/-! ### The stages -/

/-- Angles, position by pair. -/
def angT : A S4096x32 :=
  mulf
    (broadcastInDim S4096x32 ![0, 1] bcast_S4096x1_S4096x32_0_1 (broadcastInDim S4096x1 ![0] bcast_S4096_S4096x1_0
      (sitofp .f32 (addi (broadcastInDim S4096 ![] bcast_S_S4096 (constantI S_ 32 0#32)) (iotaInDim S4096 32 0)))))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- Two halves side by side, repeated for each sequence. -/
def both (x y : A S4096x32) : A S8192x64 :=
  shapeCast S8192x64 (broadcastInDim S2x4096x1x64 ![0, 1, 2, 3] bcast_S1x4096x1x64_S2x4096x1x64_0_1_2_3
    (shapeCast S1x4096x1x64 (concatenate S4096x64 1 [⟨S4096x32, x⟩, ⟨S4096x32, y⟩] concatenates_S4096x32_S4096x32_S4096x64_d1)
      shapeCasts_S4096x64_S1x4096x1x64)) shapeCasts_S2x4096x1x64_S8192x64

/-- The scale, with the change of base. -/
def scaleT : A S_ := Host.divf (constant S_ .f32 0x3D93CD3A#32) (Host.log (constant S_ .f32 0x40000000#32))

/-- Cosines beside signed sines, scaled. -/
def tabT : A S8192x128 :=
  mulf (concatenate S8192x128 1 [⟨S8192x64, both (Host.cos angT) (Host.cos angT)⟩, ⟨S8192x64, both (Host.negf (Host.sin angT)) (Host.sin angT)⟩]
      concatenates_S8192x64_S8192x64_S8192x128_d1) (broadcastInDim S8192x128 ![] bcast_S_S8192x128 scaleT)

/-- Rotary parts by row. -/
def rowsT (A1 : A S2x4096x16x64) : A S8192x16x64 := shapeCast S8192x16x64 A1 shapeCasts_S2x4096x16x64_S8192x16x64

/-- Rotary parts with their halves exchanged. -/
def swapT (A1 : A S2x4096x16x64) : A S8192x16x64 :=
  concatenate S8192x16x64 2 [⟨S8192x16x32, extractStridedSlice S8192x16x32 ![0, 0, 32] (rowsT A1) slices_S8192x16x64_S8192x16x32_0_0_32⟩,
    ⟨S8192x16x32, extractStridedSlice S8192x16x32 ![0, 0, 0] (rowsT A1) slices_S8192x16x64_S8192x16x32_0_0_0⟩]
    concatenates_S8192x16x32_S8192x16x32_S8192x16x64_d2

/-- Rotary parts, plain and exchanged, by the table. -/
def turnT (A1 : A S2x4096x16x64) : A S8192x16x128 :=
  mulf (concatenate S8192x16x128 2 [⟨S8192x16x64, rowsT A1⟩, ⟨S8192x16x64, swapT A1⟩] concatenates_S8192x16x64_S8192x16x64_S8192x16x128_d2)
    (broadcastInDim S8192x16x128 ![0, 1, 2] bcast_S8192x1x128_S8192x16x128_0_1_2
      (broadcastInDim S8192x1x128 ![0, 2] bcast_S8192x128_S8192x1x128_0_2 tabT))

/-- Content parts, scaled, by row. -/
def plainT (A0 : A S2x4096x16x128) : A S8192x16x128 :=
  shapeCast S8192x16x128 (mulf A0 (broadcastInDim S2x4096x16x128 ![] bcast_S_S2x4096x16x128 scaleT)) shapeCasts_S2x4096x16x128_S8192x16x128

/-- The packed queries. -/
def qT (A0 : A S2x4096x16x128) (A1 : A S2x4096x16x64) : FVec Ideal S8192x4096 .bf16 :=
  truncf .bf16 (shapeCast S8192x4096 (concatenate S8192x16x256 2 [⟨S8192x16x128, plainT A0⟩, ⟨S8192x16x128, turnT A1⟩]
    concatenates_S8192x16x128_S8192x16x128_S8192x16x256_d2) shapeCasts_S8192x16x256_S8192x4096) bitsLt_bf16_f32

/-- The packed keys. -/
def kT (A2 : A S2x4096x16x128) (A3 : A S2x4096x64) : FVec Ideal S8192x4096 .bf16 :=
  truncf .bf16 (shapeCast S8192x4096 (concatenate S2x4096x16x256 3 [⟨S2x4096x16x128, A2⟩, ⟨S2x4096x16x128,
    broadcastInDim S2x4096x16x128 ![0, 1, 2, 3] bcast_S2x4096x1x128_S2x4096x16x128_0_1_2_3
      (broadcastInDim S2x4096x1x128 ![0, 1, 3] bcast_S2x4096x128_S2x4096x1x128_0_1_3
        (concatenate S2x4096x128 2 [⟨S2x4096x64, A3⟩, ⟨S2x4096x64, A3⟩] concatenates_S2x4096x64_S2x4096x64_S2x4096x128_d2))⟩]
    concatenates_S2x4096x16x128_S2x4096x16x128_S2x4096x16x256_d3) shapeCasts_S2x4096x16x256_S8192x4096) bitsLt_bf16_f32

/-- The transposed values, each head followed by sixteen rows of ones. -/
def vT (A4 : A S2x4096x16x128) : FVec Ideal S2x8x2304x512 .bf16 :=
  shapeCast S2x8x2304x512 (concatenate S2x8x16x144x512 3 [⟨S2x8x16x128x512,
      truncf .bf16 (transpose S2x8x16x128x512 [0, 1, 3, 4, 2] (shapeCast S2x8x512x16x128 A4 shapeCasts_S2x4096x16x128_S2x8x512x16x128)
        transposes_S2x8x512x16x128_S2x8x16x128x512_0_1_3_4_2) bitsLt_bf16_f32⟩,
    ⟨S2x8x16x16x512, broadcastInDim S2x8x16x16x512 ![] bcast_S_S2x8x16x16x512 (constant S_ .bf16 0x3F80#16)⟩]
    concatenates_S2x8x16x128x512_S2x8x16x16x512_S2x8x16x144x512_d3) shapeCasts_S2x8x16x144x512_S2x8x2304x512

/-! ### The call's operands are these -/

theorem V_q (m : (ℓ : Loc nD τ sig) → Buf (Elt Ideal) ℓ) (c : Dev nD) :
    Gen.V m c main_v44 = qT (m ((c.tc : Thread nD τ).loc main_arg0)) (m ((c.tc : Thread nD τ).loc main_arg1)) := by
  unfold Gen.V
  after_reads_simp
  rfl

theorem V_k (m : (ℓ : Loc nD τ sig) → Buf (Elt Ideal) ℓ) (c : Dev nD) :
    Gen.V m c main_v50 = kT (m ((c.tc : Thread nD τ).loc main_arg2)) (m ((c.tc : Thread nD τ).loc main_arg3)) := by
  unfold Gen.V
  after_reads_simp
  rfl

theorem V_v (m : (ℓ : Loc nD τ sig) → Buf (Elt Ideal) ℓ) (c : Dev nD) :
    Gen.V m c main_v56 = vT (m ((c.tc : Thread nD τ).loc main_arg4)) := by
  unfold Gen.V
  after_reads_simp
  rfl

/-! ### The stages at an index -/

theorem ang_word : ∀ q : Fin 4096, IntOp.addi 0#32 (BitVec.ofNat 32 q.val) = BitVec.ofNat 32 q.val := by decide +kernel

theorem angT_at (q : Fin 4096) (j : Fin 32) : angT (ix2 q j) = Ref.ang q j := by
  pointwise [angT]
  rw [ang_word]
  rfl

theorem both_lo (x y : A S4096x32) (b : Fin 2) (q : Fin 4096) (j : Fin 32) :
    both x y (ix2 ⟨4096 * b.val + q.val, by omega⟩ ⟨j, by omega⟩) = x (ix2 q j) := by
  have e2 : (4096 * b.val + q.val) % 4096 = q.val := by omega
  pointwise [both]

theorem both_hi (x y : A S4096x32) (b : Fin 2) (q : Fin 4096) (j : Fin 32) :
    both x y (ix2 ⟨4096 * b.val + q.val, by omega⟩ ⟨32 + j, by omega⟩) = y (ix2 q j) := by
  have e2 : (4096 * b.val + q.val) % 4096 = q.val := by omega
  pointwise [both]

/-- The scale as a number. -/
def sc : EReal := Ideal.div (Ideal.ofBits .f32 0x3D93CD3A#32) (Ideal.log (Ideal.ofBits .f32 0x40000000#32))

theorem tab_cos (b : Fin 2) (q : Fin 4096) (e : Fin 64) (j : Fin 32) (he : e.val % 32 = j.val) :
    tabT (ix2 ⟨4096 * b.val + q.val, by omega⟩ ⟨e, by omega⟩) = Ideal.cos (Ref.ang q j) * sc := by
  have h : both (Host.cos angT) (Host.cos angT) (ix2 ⟨4096 * b.val + q.val, by omega⟩ e) = Ideal.cos (Ref.ang q j) := by
    rw [← angT_at]
    rcases lt_or_ge e.val 32 with h | h
    · rw [show e = ⟨j, by omega⟩ by apply Fin.ext; simp only; omega, both_lo]; rfl
    · rw [show e = ⟨32 + j, by omega⟩ by apply Fin.ext; simp only; omega, both_hi]; rfl
  pointwise [tabT]
  rw [h]
  rfl

theorem tab_sin_lo (b : Fin 2) (q : Fin 4096) (j : Fin 32) :
    tabT (ix2 ⟨4096 * b.val + q.val, by omega⟩ ⟨64 + j, by omega⟩) = -Ideal.sin (Ref.ang q j) * sc := by
  have h := both_lo (Host.negf (Host.sin angT)) (Host.sin angT) b q j
  pointwise [tabT]
  rw [h, ← angT_at]
  rfl

theorem tab_sin_hi (b : Fin 2) (q : Fin 4096) (j : Fin 32) :
    tabT (ix2 ⟨4096 * b.val + q.val, by omega⟩ ⟨64 + (32 + j), by omega⟩) = Ideal.sin (Ref.ang q j) * sc := by
  have h := both_hi (Host.negf (Host.sin angT)) (Host.sin angT) b q j
  pointwise [tabT]
  rw [h, ← angT_at]
  rfl

theorem rows_at (A1 : A S2x4096x16x64) (b : Fin 2) (q : Fin 4096) (h : Fin 16) (e : Fin 64) :
    rowsT A1 (ix3 ⟨4096 * b.val + q.val, by omega⟩ h e) = A1 (ix4 b q h e) := by
  have e1 : (4096 * b.val + q.val) / 4096 = b.val := by omega
  have e2 : (4096 * b.val + q.val) % 4096 = q.val := by omega
  pointwise [rowsT]

theorem swap_lo (A1 : A S2x4096x16x64) (b : Fin 2) (q : Fin 4096) (h : Fin 16) (j : Fin 32) :
    swapT A1 (ix3 ⟨4096 * b.val + q.val, by omega⟩ h ⟨j, by omega⟩) = A1 (ix4 b q h ⟨32 + j, by omega⟩) := by
  rw [← rows_at A1]
  pointwise [swapT]

theorem swap_hi (A1 : A S2x4096x16x64) (b : Fin 2) (q : Fin 4096) (h : Fin 16) (j : Fin 32) :
    swapT A1 (ix3 ⟨4096 * b.val + q.val, by omega⟩ h ⟨32 + j, by omega⟩) = A1 (ix4 b q h ⟨j, by omega⟩) := by
  rw [← rows_at A1]
  pointwise [swapT]

theorem turn_cos (A1 : A S2x4096x16x64) (b : Fin 2) (q : Fin 4096) (h : Fin 16) (e : Fin 64) (j : Fin 32) (he : e.val % 32 = j.val) :
    turnT A1 (ix3 ⟨4096 * b.val + q.val, by omega⟩ h ⟨e, by omega⟩) = A1 (ix4 b q h e) * (Ideal.cos (Ref.ang q j) * sc) := by
  rw [← tab_cos b q e j he, ← rows_at A1]
  pointwise [turnT]

theorem turn_sin_lo (A1 : A S2x4096x16x64) (b : Fin 2) (q : Fin 4096) (h : Fin 16) (j : Fin 32) :
    turnT A1 (ix3 ⟨4096 * b.val + q.val, by omega⟩ h ⟨64 + j, by omega⟩)
      = A1 (ix4 b q h ⟨32 + j, by omega⟩) * (-Ideal.sin (Ref.ang q j) * sc) := by
  rw [← tab_sin_lo b q j, ← swap_lo A1]
  pointwise [turnT]

theorem turn_sin_hi (A1 : A S2x4096x16x64) (b : Fin 2) (q : Fin 4096) (h : Fin 16) (j : Fin 32) :
    turnT A1 (ix3 ⟨4096 * b.val + q.val, by omega⟩ h ⟨64 + (32 + j), by omega⟩)
      = A1 (ix4 b q h ⟨j, by omega⟩) * (Ideal.sin (Ref.ang q j) * sc) := by
  rw [← tab_sin_hi b q j, ← swap_hi A1]
  pointwise [turnT]

theorem plain_at (A0 : A S2x4096x16x128) (b : Fin 2) (q : Fin 4096) (h : Fin 16) (j : Fin 128) :
    plainT A0 (ix3 ⟨4096 * b.val + q.val, by omega⟩ h j) = A0 (ix4 b q h j) * sc := by
  have e1 : (4096 * b.val + q.val) / 4096 = b.val := by omega
  have e2 : (4096 * b.val + q.val) % 4096 = q.val := by omega
  pointwise [plainT]
  rfl

/-! ### The operands at an index -/

theorem q_lo (A0 : A S2x4096x16x128) (A1 : A S2x4096x16x64) (b : Fin 2) (q : Fin 4096) (h : Fin 16) (j : Fin 128) :
    qT A0 A1 (ix2 ⟨4096 * b.val + q.val, by omega⟩ ⟨256 * h.val + j.val, by omega⟩) = A0 (ix4 b q h j) * sc := by
  have e3 : (256 * h.val + j.val) / 256 = h.val := by omega
  have e4 : (256 * h.val + j.val) % 256 = j.val := by omega
  have hj := j.isLt
  rw [← plain_at A0]
  pointwise [qT]
  simp only [e3, e4, Fin.eta, dif_pos hj]

theorem q_hi (A0 : A S2x4096x16x128) (A1 : A S2x4096x16x64) (b : Fin 2) (q : Fin 4096) (h : Fin 16) (j : Fin 128) :
    qT A0 A1 (ix2 ⟨4096 * b.val + q.val, by omega⟩ ⟨256 * h.val + (128 + j.val), by omega⟩)
      = turnT A1 (ix3 ⟨4096 * b.val + q.val, by omega⟩ h j) := by
  have e3 : (256 * h.val + (128 + j.val)) / 256 = h.val := by omega
  have e4 : (256 * h.val + (128 + j.val)) % 256 = 128 + j.val := by omega
  pointwise [qT]
  simp only [e3, e4, Fin.eta, dif_neg (show ¬128 + j.val < 128 by omega), Nat.add_sub_cancel_left]

theorem k_lo (A2 : A S2x4096x16x128) (A3 : A S2x4096x64) (b : Fin 2) (q : Fin 4096) (h : Fin 16) (j : Fin 128) :
    kT A2 A3 (ix2 ⟨4096 * b.val + q.val, by omega⟩ ⟨256 * h.val + j.val, by omega⟩) = A2 (ix4 b q h j) := by
  have e4 : (256 * h.val + j.val) % 256 = j.val := by omega
  have hj := j.isLt
  pointwise [kT]
  simp only [e4, dif_pos hj, Fin.eta]

theorem k_hi (A2 : A S2x4096x16x128) (A3 : A S2x4096x64) (b : Fin 2) (q : Fin 4096) (h : Fin 16) (i : Fin 2) (e : Fin 64) :
    kT A2 A3 (ix2 ⟨4096 * b.val + q.val, by omega⟩ ⟨256 * h.val + (128 + (64 * i.val + e.val)), by omega⟩) = A3 (ix3 b q e) := by
  have e4 : (256 * h.val + (128 + (64 * i.val + e.val))) % 256 = 128 + (64 * i.val + e.val) := by omega
  pointwise [kT]
  simp only [e4, dif_neg (show ¬128 + (64 * i.val + e.val) < 128 by omega), Nat.add_sub_cancel_left]
  split
  · exact congrArg A3 (congrArg (ix3 b q) (Fin.ext (by simp only; omega)))
  · exact congrArg A3 (congrArg (ix3 b q) (Fin.ext (by simp only; omega)))

theorem v_lo (A4 : A S2x4096x16x128) (b : Fin 2) (t : Fin 8) (h : Fin 16) (d : Fin 128) (r : Fin 512) :
    vT A4 (ix4 b t ⟨144 * h.val + d.val, by omega⟩ r) = A4 (ix4 b ⟨512 * t.val + r.val, by omega⟩ h d) := by
  have e4 : (144 * h.val + d.val) % 144 = d.val := by omega
  have hd := d.isLt
  have e1 : t.val * 512 + r.val = 512 * t.val + r.val := by omega
  pointwise [vT]
  simp only [e4, dif_pos hd, Fin.eta, e1]

theorem v_one (A4 : A S2x4096x16x128) (b : Fin 2) (t : Fin 8) (h : Fin 16) (r : Fin 512) :
    vT A4 (ix4 b t ⟨144 * h.val + 128, by omega⟩ r) = 1 := by
  pointwise [vT]
  rw [dif_neg (by omega)]

end Cert.Flash.Host

end
-- ==== Proof.Score.lean ====
/- One score, two ways: the product of a packed query with a packed key, times `log 2`, is the reference's score with its rotation
   and its scale. Over the real numbers, which the arguments are under the precondition. -/
module

public import proofs.«01_k».proof.Proof.Host

@[expose] public section

set_option maxRecDepth 16384

noncomputable section

namespace Cert.Flash

open Idealize.ShloMosaic Idealize.ShloMosaic.TcCoe

/-! ### Sums of real numbers -/

theorem sum_coe {ι : Type} [Fintype ι] (f : ι → ℝ) : ∑ i, ((f i : ℝ) : EReal) = ((∑ i, f i : ℝ) : EReal) :=
  (map_sum (⟨⟨Real.toEReal, rfl⟩, EReal.coe_add⟩ : ℝ →+ EReal) f Finset.univ).symm

theorem sum_64 {M : Type} [AddCommMonoid M] (f : Fin 64 → M) :
    ∑ j, f j = ∑ j : Fin 32, f ⟨j.val, by omega⟩ + ∑ j : Fin 32, f ⟨32 + j.val, by omega⟩ :=
  Fin.sum_univ_add (a := 32) (b := 32) f

theorem sum_128 {M : Type} [AddCommMonoid M] (f : Fin 128 → M) :
    ∑ j, f j = ∑ j : Fin 64, f ⟨j.val, by omega⟩ + ∑ j : Fin 64, f ⟨64 + j.val, by omega⟩ :=
  Fin.sum_univ_add (a := 64) (b := 64) f

theorem sum_256 {M : Type} [AddCommMonoid M] (f : Fin 256 → M) :
    ∑ j, f j = ∑ j : Fin 128, f ⟨j.val, by omega⟩ + ∑ j : Fin 128, f ⟨128 + j.val, by omega⟩ :=
  Fin.sum_univ_add (a := 128) (b := 128) f

/-! ### The real numbers at hand -/

theorem ten_thousand : Ideal.ofBits .f32 1176256512#32 = ((10000 : ℝ) : EReal) := by
  simp [Ideal.ofBits, Ideal.ieee]; rw [← EReal.coe_mul]; norm_num

theorem thirty_two : Ideal.ofBits .f32 1107296256#32 = ((32 : ℝ) : EReal) := by
  simp [Ideal.ofBits, Ideal.ieee]; rw [← EReal.coe_mul]; norm_num

theorem two : Ideal.ofBits .f32 0x40000000#32 = ((2 : ℝ) : EReal) := by
  simp [Ideal.ofBits, Ideal.ieee]; rw [← EReal.coe_mul]; norm_num

theorem scale_real : ∃ s : ℝ, Ideal.ofBits .f32 1033096506#32 = (s : EReal) := by
  simp only [Ideal.ofBits, Ideal.ieee]
  simp
  exact ⟨_, (EReal.coe_mul _ _).symm⟩

theorem ang_real (q : Fin 4096) (j : Fin 32) : ∃ a : ℝ, Ref.ang q j = (a : EReal) := by
  unfold Ref.ang
  rw [ten_thousand, thirty_two]
  have e1 : FloatOps.sitofp (F := Ideal) .f32 (BitVec.ofNat 32 q.val) = (((BitVec.ofNat 32 q.val).toInt : ℝ) : EReal) := rfl
  have e2 : FloatOps.sitofp (F := Ideal) .f32 (BitVec.ofNat 32 j.val) = (((BitVec.ofNat 32 j.val).toInt : ℝ) : EReal) := rfl
  rw [e1, e2, ← EReal.coe_neg, Ideal.div_coe (by norm_num), ← EReal.coe_mul, Ideal.pow_coe_coe, ← EReal.coe_mul]
  exact ⟨_, rfl⟩

theorem sc_real {s : ℝ} (hs : Ideal.ofBits .f32 1033096506#32 = (s : EReal)) : Host.sc = ((s / Real.log 2 : ℝ) : EReal) := by
  unfold Host.sc
  rw [two, Ideal.log_coe, if_neg (by norm_num), hs, Ideal.div_coe (Real.log_pos (by norm_num)).ne', ← EReal.coe_mul, mul_one_div]

/-! ### The score -/

/-- The score before its scale, over the reals. -/
def raw (kn qn : Fin 128 → ℝ) (kr y : Fin 64 → ℝ) (co si : Fin 32 → ℝ) : ℝ :=
  ∑ x, qn x * kn x + ∑ j : Fin 32, (kr ⟨j.val, by omega⟩ * (y ⟨j.val, by omega⟩ * co j - y ⟨32 + j.val, by omega⟩ * si j)
    + kr ⟨32 + j.val, by omega⟩ * (y ⟨j.val, by omega⟩ * si j + y ⟨32 + j.val, by omega⟩ * co j))

variable {A0 : FVec Ideal KernelIdeal.S2x4096x16x128 .f32} {A1 : FVec Ideal KernelIdeal.S2x4096x16x64 .f32}
  {A2 : FVec Ideal KernelIdeal.S2x4096x16x128 .f32} {A3 : FVec Ideal KernelIdeal.S2x4096x64 .f32}
  {b : Fin 2} {h : Fin 16} {q k : Fin 4096} {kn qn : Fin 128 → ℝ} {kr y : Fin 64 → ℝ} {co si : Fin 32 → ℝ} {s : ℝ}

theorem ref_score (hqn : ∀ x, A0 (ix4 b q h x) = (qn x : EReal)) (hy : ∀ x, A1 (ix4 b q h x) = (y x : EReal))
    (hkn : ∀ x, A2 (ix4 b k h x) = (kn x : EReal)) (hkr : ∀ x, A3 (ix3 b k x) = (kr x : EReal))
    (hco : ∀ j, Ideal.cos (Ref.ang q j) = (co j : EReal)) (hsi : ∀ j, Ideal.sin (Ref.ang q j) = (si j : EReal))
    (hs : Ideal.ofBits .f32 1033096506#32 = (s : EReal)) :
    Ref.score A0 A1 A2 A3 b h q k = ((raw kn qn kr y co si * s : ℝ) : EReal) := by
  unfold Ref.score
  rw [hs, sum_64 fun x => A3 (ix3 b k x) * Ref.ropeT A1 (ix4 b q h x)]
  simp only [Ref.ropeT_lo, Ref.ropeT_hi, hqn, hy, hkn, hkr, hco, hsi, ← EReal.coe_mul, ← EReal.coe_add, ← EReal.coe_sub, sum_coe]
  rw [raw, Finset.sum_add_distrib]

theorem packed_score (hqn : ∀ x, A0 (ix4 b q h x) = (qn x : EReal)) (hy : ∀ x, A1 (ix4 b q h x) = (y x : EReal))
    (hkn : ∀ x, A2 (ix4 b k h x) = (kn x : EReal)) (hkr : ∀ x, A3 (ix3 b k x) = (kr x : EReal))
    (hco : ∀ j, Ideal.cos (Ref.ang q j) = (co j : EReal)) (hsi : ∀ j, Ideal.sin (Ref.ang q j) = (si j : EReal))
    (hs : Ideal.ofBits .f32 1033096506#32 = (s : EReal)) :
    ∑ j : Fin 256, Host.kT A2 A3 (ix2 ⟨4096 * b.val + k.val, by omega⟩ ⟨256 * h.val + j.val, by omega⟩)
        * Host.qT A0 A1 (ix2 ⟨4096 * b.val + q.val, by omega⟩ ⟨256 * h.val + j.val, by omega⟩)
      = ((raw kn qn kr y co si * (s / Real.log 2) : ℝ) : EReal) := by
  have k0 : ∀ e : Fin 64, Host.kT A2 A3 (ix2 ⟨4096 * b.val + k.val, by omega⟩ ⟨256 * h.val + (128 + e.val), by omega⟩) = (kr e : EReal) := fun e =>
    (congrArg (Host.kT A2 A3) (congrArg (ix2 _) (Fin.ext (by simp only [Fin.val_zero]; omega)))).trans ((Host.k_hi A2 A3 b k h 0 e).trans (hkr e))
  have k1 : ∀ e : Fin 64, Host.kT A2 A3 (ix2 ⟨4096 * b.val + k.val, by omega⟩ ⟨256 * h.val + (128 + (64 + e.val)), by omega⟩) = (kr e : EReal) := fun e =>
    (congrArg (Host.kT A2 A3) (congrArg (ix2 _) (Fin.ext (by simp only [Fin.val_one])))).trans ((Host.k_hi A2 A3 b k h 1 e).trans (hkr e))
  have q0 : ∀ j : Fin 32, Host.turnT A1 (ix3 ⟨4096 * b.val + q.val, by omega⟩ h ⟨j.val, by omega⟩) = ((y ⟨j.val, by omega⟩ * (co j * (s / Real.log 2)) : ℝ) : EReal) := fun j => by
    rw [EReal.coe_mul, EReal.coe_mul, ← hy, ← hco, ← sc_real hs]
    exact Host.turn_cos A1 b q h ⟨j.val, by omega⟩ j (by simp only; omega)
  have q1 : ∀ j : Fin 32, Host.turnT A1 (ix3 ⟨4096 * b.val + q.val, by omega⟩ h ⟨32 + j.val, by omega⟩) = ((y ⟨32 + j.val, by omega⟩ * (co j * (s / Real.log 2)) : ℝ) : EReal) := fun j => by
    rw [EReal.coe_mul, EReal.coe_mul, ← hy, ← hco, ← sc_real hs]
    exact Host.turn_cos A1 b q h ⟨32 + j.val, by omega⟩ j (by simp only; omega)
  have q2 : ∀ j : Fin 32, Host.turnT A1 (ix3 ⟨4096 * b.val + q.val, by omega⟩ h ⟨64 + j.val, by omega⟩) = ((y ⟨32 + j.val, by omega⟩ * (-si j * (s / Real.log 2)) : ℝ) : EReal) := fun j => by
    rw [EReal.coe_mul, EReal.coe_mul, EReal.coe_neg, ← hy, ← hsi, ← sc_real hs]
    exact Host.turn_sin_lo A1 b q h j
  have q3 : ∀ j : Fin 32, Host.turnT A1 (ix3 ⟨4096 * b.val + q.val, by omega⟩ h ⟨64 + (32 + j.val), by omega⟩) = ((y ⟨j.val, by omega⟩ * (si j * (s / Real.log 2)) : ℝ) : EReal) := fun j => by
    rw [EReal.coe_mul, EReal.coe_mul, ← hy, ← hsi, ← sc_real hs]
    exact Host.turn_sin_hi A1 b q h j
  rw [sum_256, sum_128 fun j : Fin 128 => Host.kT A2 A3 (ix2 ⟨4096 * b.val + k.val, by omega⟩ ⟨256 * h.val + (128 + j.val), by omega⟩)
        * Host.qT A0 A1 (ix2 ⟨4096 * b.val + q.val, by omega⟩ ⟨256 * h.val + (128 + j.val), by omega⟩)]
  have hq : ∀ j : Fin 128, Host.qT A0 A1 (ix2 ⟨4096 * b.val + q.val, by omega⟩ ⟨256 * h.val + (128 + j.val), by omega⟩)
      = Host.turnT A1 (ix3 ⟨4096 * b.val + q.val, by omega⟩ h j) := Host.q_hi A0 A1 b q h
  have s0 : ∑ e : Fin 64, Host.kT A2 A3 (ix2 ⟨4096 * b.val + k.val, by omega⟩ ⟨256 * h.val + (128 + e.val), by omega⟩)
        * Host.qT A0 A1 (ix2 ⟨4096 * b.val + q.val, by omega⟩ ⟨256 * h.val + (128 + e.val), by omega⟩)
      = ((∑ j : Fin 32, kr ⟨j.val, by omega⟩ * (y ⟨j.val, by omega⟩ * (co j * (s / Real.log 2)))
          + ∑ j : Fin 32, kr ⟨32 + j.val, by omega⟩ * (y ⟨32 + j.val, by omega⟩ * (co j * (s / Real.log 2))) : ℝ) : EReal) := by
    have e : ∀ e : Fin 64, Host.qT A0 A1 (ix2 ⟨4096 * b.val + q.val, by omega⟩ ⟨256 * h.val + (128 + e.val), by omega⟩)
        = Host.turnT A1 (ix3 ⟨4096 * b.val + q.val, by omega⟩ h ⟨e.val, by omega⟩) := fun e => hq ⟨e.val, by omega⟩
    simp only [k0, e]
    rw [sum_64 fun e : Fin 64 => (kr e : EReal) * Host.turnT A1 (ix3 ⟨4096 * b.val + q.val, by omega⟩ h ⟨e.val, by omega⟩)]
    simp only [q0, q1, ← EReal.coe_mul, sum_coe, ← EReal.coe_add]
  have s1 : ∑ e : Fin 64, Host.kT A2 A3 (ix2 ⟨4096 * b.val + k.val, by omega⟩ ⟨256 * h.val + (128 + (64 + e.val)), by omega⟩)
        * Host.qT A0 A1 (ix2 ⟨4096 * b.val + q.val, by omega⟩ ⟨256 * h.val + (128 + (64 + e.val)), by omega⟩)
      = ((∑ j : Fin 32, kr ⟨j.val, by omega⟩ * (y ⟨32 + j.val, by omega⟩ * (-si j * (s / Real.log 2)))
          + ∑ j : Fin 32, kr ⟨32 + j.val, by omega⟩ * (y ⟨j.val, by omega⟩ * (si j * (s / Real.log 2))) : ℝ) : EReal) := by
    have e : ∀ e : Fin 64, Host.qT A0 A1 (ix2 ⟨4096 * b.val + q.val, by omega⟩ ⟨256 * h.val + (128 + (64 + e.val)), by omega⟩)
        = Host.turnT A1 (ix3 ⟨4096 * b.val + q.val, by omega⟩ h ⟨64 + e.val, by omega⟩) := fun e => hq ⟨64 + e.val, by omega⟩
    simp only [k1, e]
    rw [sum_64 fun e : Fin 64 => (kr e : EReal) * Host.turnT A1 (ix3 ⟨4096 * b.val + q.val, by omega⟩ h ⟨64 + e.val, by omega⟩)]
    simp only [q2, q3, ← EReal.coe_mul, sum_coe, ← EReal.coe_add]
  have s2 : ∑ x : Fin 128, Host.kT A2 A3 (ix2 ⟨4096 * b.val + k.val, by omega⟩ ⟨256 * h.val + x.val, by omega⟩)
        * Host.qT A0 A1 (ix2 ⟨4096 * b.val + q.val, by omega⟩ ⟨256 * h.val + x.val, by omega⟩)
      = ((∑ x : Fin 128, kn x * (qn x * (s / Real.log 2)) : ℝ) : EReal) := by
    simp only [Host.k_lo, Host.q_lo, hkn, hqn, sc_real hs, ← EReal.coe_mul, sum_coe]
  rw [s2, s0, s1, ← EReal.coe_add, ← EReal.coe_add]
  refine congrArg Real.toEReal ?_
  rw [raw, add_mul, Finset.sum_mul, Finset.sum_mul, add_assoc, ← Finset.sum_add_distrib, ← Finset.sum_add_distrib, ← Finset.sum_add_distrib]
  exact congrArg₂ (· + ·) (Finset.sum_congr rfl fun x _ => by ring) (Finset.sum_congr rfl fun x _ => by ring)

/-- `log 2` times the packed product is the reference's score, and both are real. -/
theorem score_eq (h0 : ∀ i, ∃ x : ℝ, A0 i = (x : EReal)) (h1 : ∀ i, ∃ x : ℝ, A1 i = (x : EReal)) (h2 : ∀ i, ∃ x : ℝ, A2 i = (x : EReal))
    (h3 : ∀ i, ∃ x : ℝ, A3 i = (x : EReal)) (b : Fin 2) (h : Fin 16) (q k : Fin 4096) :
    ∃ S : ℝ, ∑ j : Fin 256, Host.kT A2 A3 (ix2 ⟨4096 * b.val + k.val, by omega⟩ ⟨256 * h.val + j.val, by omega⟩)
        * Host.qT A0 A1 (ix2 ⟨4096 * b.val + q.val, by omega⟩ ⟨256 * h.val + j.val, by omega⟩) = (S : EReal)
      ∧ Ref.score A0 A1 A2 A3 b h q k = ((Real.log 2 : ℝ) : EReal) * (S : EReal) := by
  choose f0 e0 using h0
  choose f1 e1 using h1
  choose f2 e2 using h2
  choose f3 e3 using h3
  choose a ea using ang_real q
  obtain ⟨s, hs⟩ := scale_real
  have hco : ∀ j, Ideal.cos (Ref.ang q j) = ((Real.cos (a j) : ℝ) : EReal) := fun j => by rw [ea, Ideal.cos_coe]
  have hsi : ∀ j, Ideal.sin (Ref.ang q j) = ((Real.sin (a j) : ℝ) : EReal) := fun j => by rw [ea, Ideal.sin_coe]
  refine ⟨_, packed_score (fun x => e0 (ix4 b q h x)) (fun x => e1 (ix4 b q h x)) (fun x => e2 (ix4 b k h x)) (fun x => e3 (ix3 b k x)) hco hsi hs, ?_⟩
  rw [ref_score (fun x => e0 (ix4 b q h x)) (fun x => e1 (ix4 b q h x)) (fun x => e2 (ix4 b k h x)) (fun x => e3 (ix3 b k x)) hco hsi hs, ← EReal.coe_mul]
  refine congrArg Real.toEReal ?_
  have hl : Real.log 2 ≠ 0 := (Real.log_pos (by norm_num)).ne'
  field_simp

end Cert.Flash

end
-- ==== Proof.Blocks.lean ====
/- Where each grid step reads and writes: the blocks of the three inputs, and the block of the result, of a step. -/
module

public import proofs.«01_k».proof.Proof.Score

@[expose] public section

set_option maxRecDepth 16384

noncomputable section

namespace Cert.Flash

open Cert.KernelIdeal Cert.KernelIdeal.Gen
open Idealize.ShloMosaic Idealize.ShloMosaic.TcCoe
open Idealize.ShloMosaic.Pipeline (Dat Cfg Window)

/-! ### Where a grid step reads and writes -/

/-- A step's sequence. -/
def tb (t : Fin cfg0.N) : Fin 2 := ⟨t.val / 32, by have : t.val < 64 := t.isLt; omega⟩
/-- A step's group of four heads. -/
def tp (t : Fin cfg0.N) : Fin 4 := ⟨t.val / 8 % 4, by omega⟩
/-- A step's block of queries. -/
def ti (t : Fin cfg0.N) : Fin 8 := ⟨t.val % 8, by omega⟩

theorem coord_ti : ∀ t : Fin cfg0.N, ((grid0.coords t) 2).val = (ti t).val := by
  show ∀ t : Fin grid0.N, _
  decide +kernel

theorem idx : ∀ t : Fin cfg0.N, win0_0.index t = ![8 * (tb t).val + (ti t).val, (tp t).val] ∧ win0_1.index t = ![(tb t).val, (tp t).val]
    ∧ win0_2.index t = ![(tb t).val, 0, (tp t).val, 0] ∧ win0_3.index t = ![8 * (tb t).val + (ti t).val, (tp t).val] := by
  show ∀ t : Fin grid0.N, _
  decide +kernel

variable (m : (ℓ : Loc nD τ sig) → Buf (Elt Ideal) ℓ) (c : Dev nD) (t : Fin cfg0.N)

theorem read_q (x : Fin 512) (p : Fin 1024) :
    iblk m c 0 t (ix2 x p) = V m c main_v44 (ix2 ⟨512 * (8 * (tb t).val + (ti t).val) + x.val, by omega⟩ ⟨1024 * (tp t).val + p.val, by omega⟩) := by
  blk_ext [iblk, (idx t).1]

theorem read_k (x : Fin 4096) (p : Fin 1024) :
    iblk m c 1 t (ix2 x p) = V m c main_v50 (ix2 ⟨4096 * (tb t).val + x.val, by omega⟩ ⟨1024 * (tp t).val + p.val, by omega⟩) := by
  refine congrArg (V m c main_v50) (funext fun a => Fin.ext ?_)
  have e := (idx t).2.1
  match a with
  | ⟨0, _⟩ =>
    refine (Pipeline.Window.rect_emb_val win0_1 t (ix2 x p) 0 rfl).trans ?_
    rw [e]
    show (tb t).val * 4096 + x.val = 4096 * (tb t).val + x.val
    rw [Nat.mul_comm]
  | ⟨1, _⟩ =>
    refine (Pipeline.Window.rect_emb_val win0_1 t (ix2 x p) 1 rfl).trans ?_
    rw [e]
    show (tp t).val * 1024 + p.val = 1024 * (tp t).val + p.val
    rw [Nat.mul_comm]

/-- A step's block of values, of any array of values. -/
theorem blk_v (f : FVec Ideal S2x8x2304x512 .bf16) (y : Fin 8) (p : Fin 576) (r : Fin 512) :
    ((cfg0.win 2).blk t).view.read (Elt Ideal) f (ix4 0 y p r) = f (ix4 (tb t) y ⟨576 * (tp t).val + p.val, by omega⟩ r) := by
  refine congrArg f (funext fun a => Fin.ext ?_)
  have e := (idx t).2.2.1
  match a with
  | ⟨0, _⟩ =>
    refine (Pipeline.Window.rect_emb_val win0_2 t (ix4 0 y p r) 0 rfl).trans ?_
    rw [e]
    show (tb t).val * 1 + 0 = (tb t).val
    rw [Nat.mul_one, Nat.add_zero]
  | ⟨1, _⟩ =>
    refine (Pipeline.Window.rect_emb_val win0_2 t (ix4 0 y p r) 1 rfl).trans ?_
    rw [e]
    show 0 * 8 + y.val = y.val
    rw [Nat.zero_mul, Nat.zero_add]
  | ⟨2, _⟩ =>
    refine (Pipeline.Window.rect_emb_val win0_2 t (ix4 0 y p r) 2 rfl).trans ?_
    rw [e]
    show (tp t).val * 576 + p.val = 576 * (tp t).val + p.val
    rw [Nat.mul_comm]
  | ⟨3, _⟩ =>
    refine (Pipeline.Window.rect_emb_val win0_2 t (ix4 0 y p r) 3 rfl).trans ?_
    rw [e]
    show 0 * 512 + r.val = r.val
    rw [Nat.zero_mul, Nat.zero_add]

theorem read_v (y : Fin 8) (p : Fin 576) (r : Fin 512) :
    iblk m c 2 t (ix4 0 y p r) = V m c main_v56 (ix4 (tb t) y ⟨576 * (tp t).val + p.val, by omega⟩ r) :=
  blk_v t (V m c main_v56) y p r

end Cert.Flash

end
-- ==== Proof.Value.lean ====
/- The array the kernel leaves is the reference's, under the precondition: each block it writes is the reference's result at the
   block's rows and columns, and the blocks cover the array. -/
module

public import proofs.«01_k».proof.Proof.Blocks

@[expose] public section

set_option maxRecDepth 16384

noncomputable section

namespace Cert.Flash

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ) (c : Dev nD) (t : Fin cfg0.N)

/-! ### A block at a query and a column -/

/-- The arguments. -/
abbrev a0 : FVec Ideal S2x4096x16x128 .f32 := m ((c.tc : Thread nD τ).loc main_arg0)
abbrev a1 : FVec Ideal S2x4096x16x64 .f32 := m ((c.tc : Thread nD τ).loc main_arg1)
abbrev a2 : FVec Ideal S2x4096x16x128 .f32 := m ((c.tc : Thread nD τ).loc main_arg2)
abbrev a3 : FVec Ideal S2x4096x64 .f32 := m ((c.tc : Thread nD τ).loc main_arg3)
abbrev a4 : FVec Ideal S2x4096x16x128 .f32 := m ((c.tc : Thread nD τ).loc main_arg4)

/-- A head's number among the sixteen. -/
def hd (h : Fin 4) : Fin 16 := ⟨4 * (tp t).val + h.val, by omega⟩
/-- A query's place in its sequence. -/
def qp (x : Fin 512) : Fin 4096 := ⟨512 * (ti t).val + x.val, by omega⟩

theorem blkS_at (h : Fin 4) (x : Fin 512) (u : ℕ) (r : Fin 512) :
    blkS (ti t).val (iblk m c 0 t) (iblk m c 1 t) h x u r = if (512 * u + r.val) / 64 ≤ (qp t x).val / 64 then
      ∑ j : Fin 256, Host.kT (a2 m c) (a3 m c) (ix2 ⟨4096 * (tb t).val + (512 * min u 7 + r.val), by omega⟩ ⟨256 * (hd t h).val + j.val, by omega⟩)
        * Host.qT (a0 m c) (a1 m c) (ix2 ⟨4096 * (tb t).val + (qp t x).val, by omega⟩ ⟨256 * (hd t h).val + j.val, by omega⟩) else ⊥ := by
  unfold blkS
  refine if_congr Iff.rfl (Finset.sum_congr rfl fun j _ => ?_) rfl
  rw [read_q, read_k, Host.V_q, Host.V_k]
  refine congrArg₂ (· * ·) (congrArg _ (congrArg₂ ix2 rfl (Fin.ext ?_))) (congrArg _ (congrArg₂ ix2 (Fin.ext ?_) (Fin.ext ?_))) <;>
    simp only [hd, qp] <;> omega

theorem blkV_at (h : Fin 4) (d : Fin 128) (u : Fin 8) (r : Fin 512) :
    blkV (iblk m c 2 t) h ⟨d.val, by omega⟩ u.val r = a4 m c (ix4 (tb t) (key u r) (hd t h) d) := by
  unfold blkV
  rw [read_v, Host.V_v]
  refine Eq.trans (congrArg _ ?_) (Host.v_lo (a4 m c) (tb t) u (hd t h) d r)
  refine congrArg₂ (fun y z => ix4 (tb t) y z r) (Fin.ext ?_) (Fin.ext ?_) <;> simp only [hd] <;> omega

theorem blkV_one (h : Fin 4) : blkV (iblk m c 2 t) h 128 = fun _ _ => 1 := by
  funext u r
  unfold blkV
  rw [read_v, Host.V_v]
  refine Eq.trans (congrArg _ ?_) (Host.v_one (a4 m c) (tb t) ⟨min u 7, by omega⟩ (hd t h) r)
  refine congrArg (fun z => ix4 (tb t) _ z r) (Fin.ext ?_)
  simp only [hd]
  show 576 * (tp t).val + (144 * h.val + 128) = _
  omega

variable (h0 : ∀ i, ∃ x : ℝ, a0 m c i = (x : EReal)) (h1 : ∀ i, ∃ x : ℝ, a1 m c i = (x : EReal))
  (h2 : ∀ i, ∃ x : ℝ, a2 m c i = (x : EReal)) (h3 : ∀ i, ∃ x : ℝ, a3 m c i = (x : EReal))

include h0 h1 h2 h3

/-- A score of the block is real where it is seen. -/
theorem blkS_real (h : Fin 4) (x : Fin 512) (u : ℕ) (r : Fin 512) :
    ∃ S : ℝ, blkS (ti t).val (iblk m c 0 t) (iblk m c 1 t) h x u r = if (512 * u + r.val) / 64 ≤ (qp t x).val / 64 then (S : EReal) else ⊥ := by
  obtain ⟨S, e, -⟩ := score_eq h0 h1 h2 h3 (tb t) (hd t h) (qp t x) ⟨512 * min u 7 + r.val, by omega⟩
  exact ⟨S, (blkS_at m c t h x u r).trans (if_congr Iff.rfl e rfl)⟩

/-- The block at a query and a column is the reference there. -/
theorem blkAt_eq (x : Fin 512) (h : Fin 4) (d : Fin 128) :
    blkAt (ti t).val (iblk m c 0 t) (iblk m c 1 t) (iblk m c 2 t) x h d
      = Ref.outT (a0 m c) (a1 m c) (a2 m c) (a3 m c) (a4 m c) (ix2 ⟨4096 * (tb t).val + (qp t x).val, by omega⟩ ⟨128 * (hd t h).val + d.val, by omega⟩) := by
  rw [Ref.outT_at]
  unfold blkAt
  rw [blkV_one]
  refine softmax_eq (n := (ti t).val + 1) ?_ (by omega) ?_ ?_ (fun k => a4 m c (ix4 (tb t) k (hd t h) d)) _ (blkV_at m c t h d)
    (Ref.sig (a0 m c) (a1 m c) (a2 m c) (a3 m c) (tb t) (hd t h) (qp t x)) ?_
  · intro u r
    obtain ⟨S, e⟩ := blkS_real m c t h0 h1 h2 h3 h x u r
    rw [e]
    split
    · exact EReal.coe_ne_top S
    · exact bot_ne_top
  · intro u r hu
    obtain ⟨S, e⟩ := blkS_real m c t h0 h1 h2 h3 h x u r
    rw [e, if_neg]
    simp only [qp]
    omega
  · refine ⟨0, by omega, 0, ?_⟩
    obtain ⟨S, e⟩ := blkS_real m c t h0 h1 h2 h3 h x 0 0
    rw [e, if_pos (by simp)]
    exact EReal.coe_ne_bot S
  · intro u r
    obtain ⟨S, e, e2⟩ := score_eq h0 h1 h2 h3 (tb t) (hd t h) (qp t x) (key u r)
    rw [blkS_at]
    have hk : (⟨4096 * (tb t).val + (512 * min u.val 7 + r.val), by omega⟩ : Fin 8192) = ⟨4096 * (tb t).val + (key u r).val, by omega⟩ :=
      Fin.ext (by simp only [key]; omega)
    unfold Ref.sig
    by_cases hv : (key u r).val / 64 ≤ (qp t x).val / 64
    · rw [if_pos hv, if_pos (show (512 * u.val + r.val) / 64 ≤ (qp t x).val / 64 from hv), hk, e, e2]
    · rw [if_neg hv, if_neg (show ¬(512 * u.val + r.val) / 64 ≤ (qp t x).val / 64 from hv), EReal.coe_mul_bot_of_pos (Real.log_pos (by norm_num))]

/-! ### The array -/

theorem arr_eq : (dats m 0 c).arrAt 3 cfg0.N = Ref.outT (a0 m c) (a1 m c) (a2 m c) (a3 m c) (a4 m c) := by
  refine (dats m 0 c).arrAt_eq_of_covers 3 _ (by decide +kernel) fun t hf y => ?_
  blk_simp
  rw [after_3]
  have hy0 : (y 0).val < 512 := (y 0).isLt
  have hy1 : (y 1).val < 512 := (y 1).isLt
  unfold outBlk
  rw [coord_ti]
  refine (blkAt_eq m c t h0 h1 h2 h3 (y 0) ⟨(y 1).val / 128, by omega⟩ ⟨(y 1).val % 128, by omega⟩).trans (congrArg _ ?_)
  simp only [hd, qp]
  blk_ext [(idx t).2.2.2]

end Cert.Flash

end
-- ==== Proof.FfnMath.lean ====
/- The feed-forward layer at one position, over the extended reals: its normalised row, its filter over three positions, and its
   gate. -/
module

public import Idealize.ShloMosaic.Lib.Pointwise

@[expose] public section

noncomputable section

namespace Cert.Ffn

open Idealize.ShloMosaic Idealize.ShloMosaic.TcCoe

/-- Entry `d` of a row over its root mean square, times the gain. -/
def rms (v g : Fin 2048 → EReal) (d : Fin 2048) : EReal :=
  v d * Ideal.rsqrt (Ideal.div (∑ e, v e * v e) (Ideal.ofBits .f32 0x45000000#32) + Ideal.ofBits .f32 0x358637BD#32) * g d

/-- The filter over three positions, with its bias. -/
def conv (b c0 c1 c2 u0 u1 u2 : EReal) : EReal := b + c0 * u0 + c1 * u1 + c2 * u2

/-- A gate through its sigmoid, times the value. -/
def act (g v : EReal) : EReal :=
  g * Ideal.div 1 (1 + Ideal.exp (-g)) * v

theorem zeroF : Ideal.ofBits .f32 0x00000000#32 = 0 := by simp [Ideal.ofBits, Ideal.ieee]

end Cert.Ffn

end
-- ==== Proof.FfnRef.lean ====
/- The reference's feed-forward layer: the array it returns, cut into the stages its source has, and each stage at a point of its
   index set. -/
module

public import proofs.«01_k».proof.Proof.Gen.Reference2Ideal.Run
public import proofs.«01_k».proof.Proof.FfnMath

@[expose] public section

set_option maxRecDepth 16384

noncomputable section

namespace Cert.Ffn.Ref

open Idealize.ShloMosaic Idealize.ShloMosaic.TcCoe Cert.Reference2Ideal
open Cert.Reference2Ideal.Facts₀ Cert.Reference2Ideal.Facts

/-- The normalised rows. -/
def hnT (A0 : FVec Ideal S2x4096x2048 .f32) (A1 : FVec Ideal S2048 .f32) : FVec Ideal S2x4096x2048 .f32 :=
  (mulf (mulf A0 (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf A0 A0) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 A1)))

/-- Their projection. -/
def uT (A0 : FVec Ideal S2x4096x2048 .f32) (A1 : FVec Ideal S2048 .f32) (A2 : FVec Ideal S2048x11264 .f32) : FVec Ideal S2x4096x11264 .f32 :=
  (Host.dotGeneral dot_S2x4096x2048_S2048x11264_S2x4096x11264_2_0_01_1_n_n none (hnT A0 A1) A2)

/-- The projection after the two rows given. -/
def padT (A0 : FVec Ideal S2x4096x2048 .f32) (A1 : FVec Ideal S2048 .f32) (A2 : FVec Ideal S2048x11264 .f32) (A6 : FVec Ideal S2x2x11264 .f32) : FVec Ideal S2x4098x11264 .f32 :=
  (concatenate S2x4098x11264 1 [⟨S2x2x11264, A6⟩, ⟨S2x4096x11264, (uT A0 A1 A2)⟩] concatenates_S2x2x11264_S2x4096x11264_S2x4098x11264_d1)

/-- The filter over three positions. -/
def convT (A3 : FVec Ideal S3x11264 .f32) (A4 : FVec Ideal S11264 .f32) (U : FVec Ideal S2x4098x11264 .f32) : FVec Ideal S2x4096x11264 .f32 :=
  (addf (addf (addf (broadcastInDim S2x4096x11264 ![0, 1, 2] bcast_S1x1x11264_S2x4096x11264_0_1_2 (broadcastInDim S1x1x11264 ![2] bcast_S11264_S1x1x11264_2 A4)) (mulf (broadcastInDim S2x4096x11264 ![0, 1, 2] bcast_S1x1x11264_S2x4096x11264_0_1_2 (broadcastInDim S1x1x11264 ![2] bcast_S11264_S1x1x11264_2 (shapeCast _ (extractStridedSlice S1x11264 ![0, 0] A3 slices_S3x11264_S1x11264_0_0) shapeCasts_S1x11264_S11264))) (extractStridedSlice S2x4096x11264 ![0, 0, 0] U slices_S2x4098x11264_S2x4096x11264_0_0_0))) (mulf (broadcastInDim S2x4096x11264 ![0, 1, 2] bcast_S1x1x11264_S2x4096x11264_0_1_2 (broadcastInDim S1x1x11264 ![2] bcast_S11264_S1x1x11264_2 (shapeCast _ (extractStridedSlice S1x11264 ![1, 0] A3 slices_S3x11264_S1x11264_1_0) shapeCasts_S1x11264_S11264))) (extractStridedSlice S2x4096x11264 ![0, 1, 0] U slices_S2x4098x11264_S2x4096x11264_0_1_0))) (mulf (broadcastInDim S2x4096x11264 ![0, 1, 2] bcast_S1x1x11264_S2x4096x11264_0_1_2 (broadcastInDim S1x1x11264 ![2] bcast_S11264_S1x1x11264_2 (shapeCast _ (extractStridedSlice S1x11264 ![2, 0] A3 slices_S3x11264_S1x11264_2_0) shapeCasts_S1x11264_S11264))) (extractStridedSlice S2x4096x11264 ![0, 2, 0] U slices_S2x4098x11264_S2x4096x11264_0_2_0)))

/-- The gated half. -/
def actT (C : FVec Ideal S2x4096x11264 .f32) : FVec Ideal S2x4096x5632 .f32 :=
  (mulf (mulf (extractStridedSlice S2x4096x5632 ![0, 0, 0] C slices_S2x4096x11264_S2x4096x5632_0_0_0) (Host.divf (broadcastInDim S2x4096x5632 ![] bcast_S_S2x4096x5632 (constant S_ .f32 0x3F800000#32)) (addf (broadcastInDim S2x4096x5632 ![] bcast_S_S2x4096x5632 (constant S_ .f32 0x3F800000#32)) (Host.exp (Host.negf (extractStridedSlice S2x4096x5632 ![0, 0, 0] C slices_S2x4096x11264_S2x4096x5632_0_0_0)))))) (extractStridedSlice S2x4096x5632 ![0, 0, 5632] C slices_S2x4096x11264_S2x4096x5632_0_0_5632))

/-- The layer. -/
def outT (A0 : FVec Ideal S2x4096x2048 .f32) (A1 : FVec Ideal S2048 .f32) (A2 : FVec Ideal S2048x11264 .f32) (A3 : FVec Ideal S3x11264 .f32) (A4 : FVec Ideal S11264 .f32) (A5 : FVec Ideal S5632x2048 .f32) (A6 : FVec Ideal S2x2x11264 .f32) : FVec Ideal S2x4096x2048 .f32 :=
  addf A0 (Host.dotGeneral dot_S2x4096x5632_S5632x2048_S2x4096x2048_2_0_01_1_n_n none (actT (convT A3 A4 (padT A0 A1 A2 A6))) A5)

theorem res_eq (m : (ℓ : Loc nD τ sig) → Buf (Elt Ideal) ℓ) (c : Dev nD) :
    Value.res_out0 m c = outT (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

theorem hnT_at (A0 : FVec Ideal S2x4096x2048 .f32) (A1 : FVec Ideal S2048 .f32) (b : Fin 2) (t : Fin 4096) (d : Fin 2048) :
    hnT A0 A1 (ix3 b t d) = rms (fun e => A0 (ix3 b t e)) (fun e => A1 (ix1 e)) d := by
  pointwise [hnT]
  rfl

theorem uT_at (A0 : FVec Ideal S2x4096x2048 .f32) (A1 : FVec Ideal S2048 .f32) (A2 : FVec Ideal S2048x11264 .f32) (b : Fin 2) (t : Fin 4096) (n : Fin 11264) :
    uT A0 A1 A2 (ix3 b t n) = ∑ d, hnT A0 A1 (ix3 b t d) * A2 (ix2 d n) := by
  unfold uT
  generalize hnT A0 A1 = H
  pointwise

theorem padT_lo (A0 : FVec Ideal S2x4096x2048 .f32) (A1 : FVec Ideal S2048 .f32) (A2 : FVec Ideal S2048x11264 .f32) (A6 : FVec Ideal S2x2x11264 .f32)
    (b : Fin 2) (t : Fin 2) (n : Fin 11264) : padT A0 A1 A2 A6 (ix3 b ⟨t.val, by omega⟩ n) = A6 (ix3 b t n) := by
  unfold padT
  generalize uT A0 A1 A2 = U
  pointwise

theorem padT_hi (A0 : FVec Ideal S2x4096x2048 .f32) (A1 : FVec Ideal S2048 .f32) (A2 : FVec Ideal S2048x11264 .f32) (A6 : FVec Ideal S2x2x11264 .f32)
    (b : Fin 2) (t : Fin 4096) (n : Fin 11264) : padT A0 A1 A2 A6 (ix3 b ⟨2 + t.val, by omega⟩ n) = uT A0 A1 A2 (ix3 b t n) := by
  unfold padT
  generalize uT A0 A1 A2 = U
  pointwise

theorem convT_at (A3 : FVec Ideal S3x11264 .f32) (A4 : FVec Ideal S11264 .f32) (U : FVec Ideal S2x4098x11264 .f32) (b : Fin 2) (t : Fin 4096) (n : Fin 11264) :
    convT A3 A4 U (ix3 b t n) = conv (A4 (ix1 n)) (A3 (ix2 0 n)) (A3 (ix2 1 n)) (A3 (ix2 2 n)) (U (ix3 b ⟨t.val, by omega⟩ n))
      (U (ix3 b ⟨1 + t.val, by omega⟩ n)) (U (ix3 b ⟨2 + t.val, by omega⟩ n)) := by
  pointwise [convT]
  rfl

theorem actT_at (C : FVec Ideal S2x4096x11264 .f32) (b : Fin 2) (t : Fin 4096) (k : Fin 5632) :
    actT C (ix3 b t k) = act (C (ix3 b t ⟨k.val, by omega⟩)) (C (ix3 b t ⟨5632 + k.val, by omega⟩)) := by
  pointwise [actT]
  rfl

/-- THE REFERENCE AT AN INDEX. -/
theorem outT_at (A0 : FVec Ideal S2x4096x2048 .f32) (A1 : FVec Ideal S2048 .f32) (A2 : FVec Ideal S2048x11264 .f32) (A3 : FVec Ideal S3x11264 .f32)
    (A4 : FVec Ideal S11264 .f32) (A5 : FVec Ideal S5632x2048 .f32) (A6 : FVec Ideal S2x2x11264 .f32) (b : Fin 2) (t : Fin 4096) (e : Fin 2048) :
    outT A0 A1 A2 A3 A4 A5 A6 (ix3 b t e) = A0 (ix3 b t e)
      + ∑ k, actT (convT A3 A4 (padT A0 A1 A2 A6)) (ix3 b t k) * A5 (ix2 k e) := by
  unfold outT
  generalize actT (convT A3 A4 (padT A0 A1 A2 A6)) = C
  pointwise

end Cert.Ffn.Ref

end
-- ==== Proof.FfnTile.lean ====
/- One grid step of the feed-forward kernel as vectors: each value it stores, at an index. -/
module

public import proofs.«01_k».proof.Proof.Gen.Kernel2Ideal.Skeleton
public import proofs.«01_k».proof.Proof.FfnMath
public import Idealize.ShloMosaic.Lib.WritesUnit

@[expose] public section

set_option maxRecDepth 16384

noncomputable section

namespace Cert.Ffn

open Idealize.ShloMosaic Idealize.ShloMosaic.TcCoe Cert.Kernel2Ideal Cert.Kernel2Ideal.Gen

theorem pay5_at (g : FVec Ideal S1x2048 .f32) (x : FVec Ideal S1x16x2048 .f32) (r : Fin 16) (d : Fin 2048) :
    k0_pay5 (F := Ideal) g x (ix3 0 r d) = rms (fun e => x (ix3 0 r e)) (fun e => g (ix2 0 e)) d := by
  pointwise [k0_pay5, k0_pay4]
  try rfl

theorem pay6_at (g : FVec Ideal S1x2048 .f32) (x : FVec Ideal S1x512x2048 .f32) (r : Fin 512) (d : Fin 2048) :
    k0_pay6 (F := Ideal) g x (ix3 0 r d) = rms (fun e => x (ix3 0 r e)) (fun e => g (ix2 0 e)) d := by
  pointwise [k0_pay6, k0_pay4]
  try rfl

/-- A row of the projection of a tile. -/
def up (H : FVec Ideal S1x528x2048 .bf16) (W : FVec Ideal S2048x512 .bf16) (r : Fin 528) (n : Fin 512) : EReal :=
  ∑ d, H (ix3 0 r d) * W (ix2 d n)

theorem pay8_at (H : FVec Ideal S1x528x2048 .bf16) (W : FVec Ideal S2048x512 .bf16) (r : Fin 528) (n : Fin 512) :
    k0_pay8 (F := Ideal) H W (ix3 0 r n) = up H W r n := by
  pointwise [k0_pay8, k0_pay7]
  try rfl

theorem pay14_at (H : FVec Ideal S1x528x2048 .bf16) (W : FVec Ideal S2048x512 .bf16) (r : Fin 528) (n : Fin 512) :
    k0_pay14 (F := Ideal) (k0_pay7 H) W (ix3 0 r n) = up H W r n := by
  pointwise [k0_pay14, k0_pay7]
  try rfl

theorem first_word : ∀ k : Fin 8, Scalar.cmpi .eq (BitVec.ofNat 32 k.val) 0#32 = if k.val = 0 then 1#1 else 0#1 := by decide +kernel

theorem select_first (i : grid0.Coords) {A : Type} (x y : A) :
    Scalar.select (Scalar.cmpi .eq (BitVec.ofNat 32 (i 1).val) 0#32) x y = if (i 1).val = 0 then x else y := by
  have h := first_word ⟨(i 1).val, (i 1).isLt⟩
  dsimp only at h
  rw [h]
  split <;> rfl

theorem pay15_at (i : grid0.Coords) (P : FVec Ideal S1x2x1x512 .f32) (u : FVec Ideal S1x2x512 .f32) (a : Fin 2) (n : Fin 512) :
    k0_pay15 (F := Ideal) (Scalar.cmpi .eq (BitVec.ofNat 32 (i 1).val) 0#32) P u (ix3 0 a n)
      = if (i 1).val = 0 then P (ix4 0 a 0 n) else u (ix3 0 a n) := by
  unfold k0_pay15
  rw [select_first]
  split <;> pointwise

theorem pay9_at (i : grid0.Coords) (P : FVec Ideal S1x2x1x512 .f32) (u : FVec Ideal S1x2x512 .f32) (a : Fin 2) (n : Fin 512) :
    k0_pay9 (F := Ideal) i P u (ix3 0 a n) = if (i 1).val = 0 then P (ix4 0 a 0 n) else u (ix3 0 a n) := pay15_at i P u a n

theorem gate_at (b c0 c1 c2 : FVec Ideal S1x1x512 .f32) (u0 u1 u2 : FVec Ideal S1x512x512 .f32) (q n : Fin 512) :
    k0_pay12 (F := Ideal) (k0_pay10 b) (k0_pay11 c0) u0 c1 u1 c2 u2 (ix3 0 q n)
      = conv (b (ix3 0 0 n)) (c0 (ix3 0 0 n)) (c1 (ix3 0 0 n)) (c2 (ix3 0 0 n)) (u0 (ix3 0 q n)) (u1 (ix3 0 q n)) (u2 (ix3 0 q n)) := by
  pointwise [k0_pay12, k0_pay10, k0_pay11]
  rfl

theorem act_at (G : FVec Ideal S1x512x512 .f32) (b c0 c1 c2 : FVec Ideal S1x1x512 .f32) (u0 u1 u2 : FVec Ideal S1x512x512 .f32) (q n : Fin 512) :
    k0_pay19 (F := Ideal) G (k0_pay16 b c0 u0 c1 u1) (k0_pay17 c2) u2 (ix2 q n)
      = act (G (ix3 0 q n)) (conv (b (ix3 0 0 n)) (c0 (ix3 0 0 n)) (c1 (ix3 0 0 n)) (c2 (ix3 0 0 n)) (u0 (ix3 0 q n)) (u1 (ix3 0 q n)) (u2 (ix3 0 q n))) := by
  pointwise [k0_pay19, k0_pay16, k0_pay17]
  rw [zero_sub]
  rfl

theorem strip_at (A : FVec Ideal S512x512 .bf16) (o : FVec Ideal S1x512x512 .f32) (W : FVec Ideal S512x512 .bf16) (q e : Fin 512) :
    k0_pay2 (F := Ideal) A o W (ix3 0 q e) = o (ix3 0 q e) + ∑ n, A (ix2 q n) * W (ix2 n e) := by
  pointwise [k0_pay2]
  try rfl

section Views

variable {sig : RefSig} {κ : Kind} {sp : Space}

/-- A load of a box of rows `o …` and columns `p …`, at an index. -/
theorem box_load {M N R C : ℕ} {e : EltTy} (v : View sig κ sp ⟨3, ![1, M, N]⟩ e) (f : v.ty.Contents (Elt Ideal)) (o p : ℕ)
    (off : Fin 3 → ℕ) (inb : ∀ a, off a + (![1, R, C] : Fin 3 → ℕ) a ≤ (![1, M, N] : Fin 3 → ℕ) a) (hoff : off = ![0, o, p]) (r : Fin R) (c : Fin C)
    (ho : o + r.val < M) (hp : p + c.val < N) :
    v.readAt (Elt Ideal) (Rect.unit (s := ⟨3, ![1, M, N]⟩) off ![1, R, C] inb).toLoadRect f (ix3 0 r c)
      = v.read (Elt Ideal) f (ix3 0 ⟨o + r.val, ho⟩ ⟨p + c.val, hp⟩) := by
  subst hoff
  refine congrArg (v.read (Elt Ideal) f) (funext fun a => Fin.ext ?_)
  match a with
  | ⟨0, _⟩ => rfl
  | ⟨1, _⟩ => exact (by simp : o + 1 * r.val = o + r.val)
  | ⟨2, _⟩ => exact (by simp : p + 1 * c.val = p + c.val)

/-- The newest store, of a box, read there. -/
theorem box_hit {M N R C : ℕ} {e : EltTy} (v : View sig κ sp ⟨3, ![1, M, N]⟩ e) (f : v.ty.Contents (Elt Ideal)) (o p : ℕ)
    (off : Fin 3 → ℕ) (inb : ∀ a, off a + (![1, R, C] : Fin 3 → ℕ) a ≤ (![1, M, N] : Fin 3 → ℕ) a)
    (w : (⟨3, ![1, R, C]⟩ : Shape).Idx → Elt Ideal e) (L : List (View.Piece (Elt Ideal) ⟨3, ![1, M, N]⟩ e)) (hoff : off = ![0, o, p])
    (y : Fin M) (z : Fin N) (r : Fin R) (c : Fin C) (hy : y.val = o + r.val) (hz : z.val = p + c.val) :
    v.read (Elt Ideal) (v.writes (Elt Ideal) f ((⟨Rect.unit (s := ⟨3, ![1, M, N]⟩) off ![1, R, C] inb, w⟩ : View.Piece (Elt Ideal) ⟨3, ![1, M, N]⟩ e) :: L)) (ix3 0 y z)
      = w (ix3 0 r c) := by
  refine View.read_writes_cons_unit_of_mem v f inb w L (ix3 0 y z) (ix3 0 r c) hoff fun a => ?_
  match a with
  | ⟨0, _⟩ => rfl
  | ⟨1, _⟩ => exact hy
  | ⟨2, _⟩ => exact hz

/-- The newest store, of a box elsewhere, read past. -/
theorem box_skip {M N R C : ℕ} {e : EltTy} (v : View sig κ sp ⟨3, ![1, M, N]⟩ e) (f : v.ty.Contents (Elt Ideal)) (o p : ℕ)
    (off : Fin 3 → ℕ) (inb : ∀ a, off a + (![1, R, C] : Fin 3 → ℕ) a ≤ (![1, M, N] : Fin 3 → ℕ) a)
    (w : (⟨3, ![1, R, C]⟩ : Shape).Idx → Elt Ideal e) (L : List (View.Piece (Elt Ideal) ⟨3, ![1, M, N]⟩ e)) (hoff : off = ![0, o, p])
    (y : Fin M) (z : Fin N) (h : (y.val < o ∨ o + R ≤ y.val) ∨ (z.val < p ∨ p + C ≤ z.val)) :
    v.read (Elt Ideal) (v.writes (Elt Ideal) f ((⟨Rect.unit (s := ⟨3, ![1, M, N]⟩) off ![1, R, C] inb, w⟩ : View.Piece (Elt Ideal) ⟨3, ![1, M, N]⟩ e) :: L)) (ix3 0 y z)
      = v.read (Elt Ideal) (v.writes (Elt Ideal) f L) (ix3 0 y z) := by
  rcases h with h | h
  · exact View.read_writes_cons_unit_of_not_mem v f inb w L (ix3 0 y z) hoff 1 h
  · exact View.read_writes_cons_unit_of_not_mem v f inb w L (ix3 0 y z) hoff 2 h

/-- A load of a block of a matrix, at an index. -/
theorem mat_load {M N m n : ℕ} {e : EltTy} (v : View sig κ sp ⟨2, ![M, N]⟩ e) (f : v.ty.Contents (Elt Ideal)) (o p : ℕ)
    (off : Fin 2 → ℕ) (inb : ∀ a, off a + (![m, n] : Fin 2 → ℕ) a ≤ (![M, N] : Fin 2 → ℕ) a) (hoff : off = ![o, p]) (r : Fin m) (c : Fin n) (ho : o + r.val < M) (hp : p + c.val < N) :
    v.readAt (Elt Ideal) (Rect.unit (s := ⟨2, ![M, N]⟩) off ![m, n] inb).toLoadRect f (ix2 r c) = v.read (Elt Ideal) f (ix2 ⟨o + r.val, ho⟩ ⟨p + c.val, hp⟩) := by
  subst hoff
  refine congrArg (v.read (Elt Ideal) f) (funext fun a => Fin.ext ?_)
  match a with
  | ⟨0, _⟩ => exact (by simp : o + 1 * r.val = o + r.val)
  | ⟨1, _⟩ => exact (by simp : p + 1 * c.val = p + c.val)

end Views

end Cert.Ffn

end
-- ==== Proof.FfnLoad.lean ====
/- One grid step of the feed-forward kernel: its loads and stores read against the blocks it is given. -/
module

public import proofs.«01_k».proof.Proof.FfnTile
public import proofs.«01_k».proof.Proof.Gen.Kernel2Ideal.Value
public import Idealize.ShloMosaic.Lib.WholeRead

@[expose] public section

set_option maxRecDepth 16384

noncomputable section

namespace Cert.Ffn

open Idealize.ShloMosaic Idealize.ShloMosaic.TcCoe Cert.Kernel2Ideal Cert.Kernel2Ideal.Gen

section Loads

variable {sig : RefSig} {κ : Kind} {sp : Space}

/-- A load of one row of a block held at given contents. -/
theorem load3 {d0 d1 d2 n0 n1 n2 : ℕ} {e : EltTy} {v : Memref sig κ sp ⟨3, ![d0, d1, d2]⟩ e} (h : v.IsWhole) (X : (⟨3, ![d0, d1, d2]⟩ : Shape).Idx → Elt Ideal e)
    (o0 o1 o2 : ℕ) (off : Fin 3 → ℕ) (inb : ∀ a, off a + (![n0, n1, n2] : Fin 3 → ℕ) a ≤ (![d0, d1, d2] : Fin 3 → ℕ) a) (hoff : off = ![o0, o1, o2])
    (a : Fin n0) (b : Fin n1) (c : Fin n2) (a' : Fin d0) (b' : Fin d1) (c' : Fin d2) (ha : a'.val = o0 + a.val) (hb : b'.val = o1 + b.val) (hc : c'.val = o2 + c.val) :
    v.view.readAt (Elt Ideal) (Rect.unit (s := ⟨3, ![d0, d1, d2]⟩) off ![n0, n1, n2] inb).toLoadRect (h.unread X) (ix3 a b c) = X (ix3 a' b' c') := by
  subst hoff
  refine (Memref.IsWhole.readAt_unread (Val := Elt Ideal) h X _ _).trans (congrArg X (funext fun x => Fin.ext ?_))
  match x with
  | ⟨0, _⟩ => exact (by simp : o0 + 1 * a.val = o0 + a.val).trans ha.symm
  | ⟨1, _⟩ => exact (by simp : o1 + 1 * b.val = o1 + b.val).trans hb.symm
  | ⟨2, _⟩ => exact (by simp : o2 + 1 * c.val = o2 + c.val).trans hc.symm

theorem load2 {d0 d1 n0 n1 : ℕ} {e : EltTy} {v : Memref sig κ sp ⟨2, ![d0, d1]⟩ e} (h : v.IsWhole) (X : (⟨2, ![d0, d1]⟩ : Shape).Idx → Elt Ideal e)
    (o0 o1 : ℕ) (off : Fin 2 → ℕ) (inb : ∀ a, off a + (![n0, n1] : Fin 2 → ℕ) a ≤ (![d0, d1] : Fin 2 → ℕ) a) (hoff : off = ![o0, o1])
    (a : Fin n0) (b : Fin n1) (a' : Fin d0) (b' : Fin d1) (ha : a'.val = o0 + a.val) (hb : b'.val = o1 + b.val) :
    v.view.readAt (Elt Ideal) (Rect.unit (s := ⟨2, ![d0, d1]⟩) off ![n0, n1] inb).toLoadRect (h.unread X) (ix2 a b) = X (ix2 a' b') := by
  subst hoff
  refine (Memref.IsWhole.readAt_unread (Val := Elt Ideal) h X _ _).trans (congrArg X (funext fun x => Fin.ext ?_))
  match x with
  | ⟨0, _⟩ => exact (by simp : o0 + 1 * a.val = o0 + a.val).trans ha.symm
  | ⟨1, _⟩ => exact (by simp : o1 + 1 * b.val = o1 + b.val).trans hb.symm

/-- The two rows given, of one half. -/
theorem load4 {v : Memref sig κ sp S1x2x2x512 .f32} (h : v.IsWhole) (X : FVec Ideal S1x2x2x512 .f32) (hf : Fin 2) (off : Fin 4 → ℕ)
    (inb : ∀ a, off a + S1x2x1x512.size a ≤ S1x2x2x512.size a) (hoff : off = ![0, 0, hf.val, 0]) (a : Fin 2) (n : Fin 512) :
    v.view.readAt (Elt Ideal) (Rect.unit (s := S1x2x2x512) off S1x2x1x512.size inb).toLoadRect (h.unread X) (ix4 0 a 0 n) = X (ix4 0 a hf n) := by
  subst hoff
  refine (Memref.IsWhole.readAt_unread (Val := Elt Ideal) h X _ _).trans (congrArg X (funext fun x => Fin.ext ?_))
  match x with
  | ⟨0, _⟩ => rfl
  | ⟨1, _⟩ => exact (by simp : 0 + 1 * a.val = a.val)
  | ⟨2, _⟩ => exact (by simp : hf.val + 1 * 0 = hf.val)
  | ⟨3, _⟩ => exact (by simp : 0 + 1 * n.val = n.val)

end Loads

/-- Row `r` of a tile's projection, where the first tile's two rows before its own are the rows given. -/
def tap (i : grid0.Coords) (H : FVec Ideal S1x528x2048 .bf16) (W : FVec Ideal S2048x512 .bf16) (P : FVec Ideal S1x2x2x512 .f32) (hf : Fin 2)
    (r : Fin 528) (n : Fin 512) : EReal :=
  if (i 1).val = 0 ∧ r.val < 16 then P (ix4 0 ⟨(r.val - 14) % 2, by omega⟩ hf n) else up H W r n

/-- One half of the filter of a tile. -/
def cv (i : grid0.Coords) (H : FVec Ideal S1x528x2048 .bf16) (W : FVec Ideal S2048x512 .bf16) (C : FVec Ideal S3x2x512 .f32) (B : FVec Ideal S1x2x512 .f32)
    (P : FVec Ideal S1x2x2x512 .f32) (hf : Fin 2) (q n : Fin 512) : EReal :=
  conv (B (ix3 0 hf n)) (C (ix3 0 hf n)) (C (ix3 1 hf n)) (C (ix3 2 hf n)) (tap i H W P hf ⟨14 + q.val, by omega⟩ n) (tap i H W P hf ⟨15 + q.val, by omega⟩ n)
    (tap i H W P hf ⟨16 + q.val, by omega⟩ n)

/-- The gated entries of a tile. -/
def ac (i : grid0.Coords) (H : FVec Ideal S1x528x2048 .bf16) (Wg Wv : FVec Ideal S2048x512 .bf16) (C : FVec Ideal S3x2x512 .f32) (B : FVec Ideal S1x2x512 .f32)
    (P : FVec Ideal S1x2x2x512 .f32) (q n : Fin 512) : EReal :=
  act (cv i H Wg C B P 0 q n) (cv i H Wv C B P 1 q n)

theorem up_congr {H H' : FVec Ideal S1x528x2048 .bf16} {W W' : FVec Ideal S2048x512 .bf16} (hH : ∀ r d, H (ix3 0 r d) = H' (ix3 0 r d))
    (hW : ∀ d n, W (ix2 d n) = W' (ix2 d n)) (r : Fin 528) (n : Fin 512) : up H W r n = up H' W' r n :=
  Finset.sum_congr rfl fun d _ => congrArg₂ (· * ·) (hH r d) (hW d n)

section Views

variable {sig : RefSig} {κ : Kind} {sp : Space}

/-- A load of 512 rows of a projection buffer, from its row `o`. -/
theorem tap_load (v : View sig κ sp S1x528x512 .f32) (i : grid0.Coords) {H H' : FVec Ideal S1x528x2048 .bf16} {W W' : FVec Ideal S2048x512 .bf16}
    {P : FVec Ideal S1x2x1x512 .f32} {P' : FVec Ideal S1x2x2x512 .f32} (hf : Fin 2) (hH : ∀ r d, H (ix3 0 r d) = H' (ix3 0 r d))
    (hW : ∀ d n, W (ix2 d n) = W' (ix2 d n)) (hP : ∀ a n, P (ix4 0 a 0 n) = P' (ix4 0 a hf n)) (o : ℕ) (h14 : 14 ≤ o) (h16 : o ≤ 16)
    (off : Fin 3 → ℕ) (hoff : off = ![0, o, 0]) (inb : ∀ a, off a + S1x512x512.size a ≤ S1x528x512.size a)
    (inb1 : ∀ a, (![0, 14, 0] : Fin 3 → ℕ) a + S1x2x512.size a ≤ S1x528x512.size a) (inb2 : ∀ a, (![0, 0, 0] : Fin 3 → ℕ) a + S1x528x512.size a ≤ S1x528x512.size a)
    (q n : Fin 512) :
    v.readCov (Val := Elt Ideal) [⟨Rect.unit (s := S1x528x512) ![0, 14, 0] S1x2x512.size inb1, k0_pay15 (F := Ideal) (Scalar.cmpi .eq (BitVec.ofNat 32 (i 1).val) 0#32) P
        (v.readCov (Val := Elt Ideal) [⟨Rect.unit (s := S1x528x512) ![0, 0, 0] S1x528x512.size inb2, k0_pay14 (F := Ideal) (k0_pay7 H) W⟩] (Rect.unit (s := S1x528x512) ![0, 14, 0] S1x2x512.size inb1).toLoadRect)⟩,
      ⟨Rect.unit (s := S1x528x512) ![0, 0, 0] S1x528x512.size inb2, k0_pay14 (F := Ideal) (k0_pay7 H) W⟩] (Rect.unit (s := S1x528x512) off S1x512x512.size inb).toLoadRect (ix3 0 q n)
      = tap i H' W' P' hf ⟨o + q.val, by omega⟩ n := by
  refine (box_load (M := 528) (N := 512) (R := 512) (C := 512) v _ o 0 off inb hoff q n (by omega) (by omega)).trans ?_
  unfold tap
  dsimp only
  by_cases hr : o + q.val < 16
  · refine (box_hit (M := 528) (N := 512) (R := 2) (C := 512) v _ 14 0 _ inb1 _ _ rfl _ _ ⟨o + q.val - 14, by omega⟩ n (by show o + q.val = 14 + (o + q.val - 14); omega) rfl).trans ?_
    rw [pay15_at]
    have e : (⟨(o + q.val - 14) % 2, by omega⟩ : Fin 2) = ⟨o + q.val - 14, by omega⟩ := Fin.ext (Nat.mod_eq_of_lt (by omega))
    by_cases h0 : (i 1).val = 0
    · rw [if_pos h0, if_pos ⟨h0, hr⟩, hP, e]
    · rw [if_neg h0, if_neg fun z => h0 z.1]
      refine (box_load (M := 528) (N := 512) (R := 2) (C := 512) v _ 14 0 _ inb1 rfl _ n (by show 14 + (o + q.val - 14) < 528; omega) (by omega)).trans ?_
      refine (box_hit (M := 528) (N := 512) (R := 528) (C := 512) v _ 0 0 _ inb2 _ _ rfl _ _ ⟨o + q.val, by omega⟩ n (by show 14 + (o + q.val - 14) = 0 + (o + q.val); omega) (by show 0 + n.val = 0 + n.val; rfl)).trans ?_
      rw [pay14_at]
      exact up_congr hH hW _ n
  · rw [if_neg fun z => hr z.2]
    refine (box_skip (M := 528) (N := 512) (R := 2) (C := 512) v _ 14 0 _ inb1 _ _ rfl _ _ (Or.inl (Or.inr (by show 14 + 2 ≤ o + q.val; omega)))).trans ?_
    refine (box_hit (M := 528) (N := 512) (R := 528) (C := 512) v _ 0 0 _ inb2 _ _ rfl _ _ ⟨o + q.val, by omega⟩ n (by show o + q.val = 0 + (o + q.val); omega) (by show 0 + n.val = 0 + n.val; rfl)).trans ?_
    rw [pay14_at]
    exact up_congr hH hW _ n

/-- The same for the buffer of the gate. -/
theorem tap_load9 (v : View sig κ sp S1x528x512 .f32) (i : grid0.Coords) {H H' : FVec Ideal S1x528x2048 .bf16} {W W' : FVec Ideal S2048x512 .bf16}
    {P : FVec Ideal S1x2x1x512 .f32} {P' : FVec Ideal S1x2x2x512 .f32} (hf : Fin 2) (hH : ∀ r d, H (ix3 0 r d) = H' (ix3 0 r d))
    (hW : ∀ d n, W (ix2 d n) = W' (ix2 d n)) (hP : ∀ a n, P (ix4 0 a 0 n) = P' (ix4 0 a hf n)) (o : ℕ) (h14 : 14 ≤ o) (h16 : o ≤ 16)
    (off : Fin 3 → ℕ) (hoff : off = ![0, o, 0]) (inb : ∀ a, off a + S1x512x512.size a ≤ S1x528x512.size a)
    (inb1 : ∀ a, (![0, 14, 0] : Fin 3 → ℕ) a + S1x2x512.size a ≤ S1x528x512.size a) (inb2 : ∀ a, (![0, 0, 0] : Fin 3 → ℕ) a + S1x528x512.size a ≤ S1x528x512.size a)
    (q n : Fin 512) :
    v.readCov (Val := Elt Ideal) [⟨Rect.unit (s := S1x528x512) ![0, 14, 0] S1x2x512.size inb1, k0_pay9 (F := Ideal) i P
        (v.readCov (Val := Elt Ideal) [⟨Rect.unit (s := S1x528x512) ![0, 0, 0] S1x528x512.size inb2, k0_pay8 (F := Ideal) H W⟩] (Rect.unit (s := S1x528x512) ![0, 14, 0] S1x2x512.size inb1).toLoadRect)⟩,
      ⟨Rect.unit (s := S1x528x512) ![0, 0, 0] S1x528x512.size inb2, k0_pay8 (F := Ideal) H W⟩] (Rect.unit (s := S1x528x512) off S1x512x512.size inb).toLoadRect (ix3 0 q n)
      = tap i H' W' P' hf ⟨o + q.val, by omega⟩ n :=
  tap_load v i hf hH hW hP o h14 h16 off hoff inb inb1 inb2 q n

/-- The gated entry, from what its loads bring. -/
theorem act_core {i : grid0.Coords} {H : FVec Ideal S1x528x2048 .bf16} {Wg Wv : FVec Ideal S2048x512 .bf16} {C : FVec Ideal S3x2x512 .f32} {B : FVec Ideal S1x2x512 .f32}
    {P : FVec Ideal S1x2x2x512 .f32} {b c0 c1 c2 b' c0' c1' c2' : FVec Ideal S1x1x512 .f32} {u0 u1 u2 v0 v1 v2 : FVec Ideal S1x512x512 .f32} {q n : Fin 512}
    (hb : b (ix3 0 0 n) = B (ix3 0 0 n)) (h0 : c0 (ix3 0 0 n) = C (ix3 0 0 n)) (h1 : c1 (ix3 0 0 n) = C (ix3 1 0 n)) (h2 : c2 (ix3 0 0 n) = C (ix3 2 0 n))
    (hb' : b' (ix3 0 0 n) = B (ix3 0 1 n)) (h0' : c0' (ix3 0 0 n) = C (ix3 0 1 n)) (h1' : c1' (ix3 0 0 n) = C (ix3 1 1 n)) (h2' : c2' (ix3 0 0 n) = C (ix3 2 1 n))
    (hu0 : u0 (ix3 0 q n) = tap i H Wg P 0 ⟨14 + q.val, by omega⟩ n) (hu1 : u1 (ix3 0 q n) = tap i H Wg P 0 ⟨15 + q.val, by omega⟩ n)
    (hu2 : u2 (ix3 0 q n) = tap i H Wg P 0 ⟨16 + q.val, by omega⟩ n)
    (hv0 : v0 (ix3 0 q n) = tap i H Wv P 1 ⟨14 + q.val, by omega⟩ n) (hv1 : v1 (ix3 0 q n) = tap i H Wv P 1 ⟨15 + q.val, by omega⟩ n)
    (hv2 : v2 (ix3 0 q n) = tap i H Wv P 1 ⟨16 + q.val, by omega⟩ n) :
    k0_pay19 (F := Ideal) (k0_pay12 (k0_pay10 b) (k0_pay11 c0) u0 c1 u1 c2 u2) (k0_pay16 b' c0' v0 c1' v1) (k0_pay17 c2') v2 (ix2 q n) = ac i H Wg Wv C B P q n := by
  rw [act_at, gate_at, hb, h0, h1, h2, hb', h0', h1', h2', hu0, hu1, hu2, hv0, hv1, hv2]
  rfl

/-- A block stored in four strips of columns. -/
theorem strips (v : View sig κ sp S1x512x2048 .f32) (f : v.ty.Contents (Elt Ideal)) (w0 w1 w2 w3 : FVec Ideal S1x512x512 .f32) (L : List (View.Piece (Elt Ideal) S1x512x2048 .f32))
    (i0 : ∀ a, (![0, 0, 0] : Fin 3 → ℕ) a + (![1, 512, 512] : Fin 3 → ℕ) a ≤ S1x512x2048.size a) (i1 : ∀ a, (![0, 0, 512] : Fin 3 → ℕ) a + (![1, 512, 512] : Fin 3 → ℕ) a ≤ S1x512x2048.size a)
    (i2 : ∀ a, (![0, 0, 1024] : Fin 3 → ℕ) a + (![1, 512, 512] : Fin 3 → ℕ) a ≤ S1x512x2048.size a) (i3 : ∀ a, (![0, 0, 1536] : Fin 3 → ℕ) a + (![1, 512, 512] : Fin 3 → ℕ) a ≤ S1x512x2048.size a)
    (T : Fin 2048 → EReal) (q : Fin 512) (h0 : ∀ e : Fin 512, w0 (ix3 0 q e) = T ⟨0 + e.val, by omega⟩) (h1 : ∀ e : Fin 512, w1 (ix3 0 q e) = T ⟨512 + e.val, by omega⟩)
    (h2 : ∀ e : Fin 512, w2 (ix3 0 q e) = T ⟨1024 + e.val, by omega⟩) (h3 : ∀ e : Fin 512, w3 (ix3 0 q e) = T ⟨1536 + e.val, by omega⟩) (e : Fin 2048) :
    v.read (Elt Ideal) (v.writes (Elt Ideal) f (⟨Rect.unit (s := S1x512x2048) ![0, 0, 1536] ![1, 512, 512] i3, w3⟩ :: ⟨Rect.unit (s := S1x512x2048) ![0, 0, 1024] ![1, 512, 512] i2, w2⟩
      :: ⟨Rect.unit (s := S1x512x2048) ![0, 0, 512] ![1, 512, 512] i1, w1⟩ :: ⟨Rect.unit (s := S1x512x2048) ![0, 0, 0] ![1, 512, 512] i0, w0⟩ :: L)) (ix3 0 q e) = T e := by
  have skip : ∀ (o : ℕ) (w : FVec Ideal S1x512x512 .f32) (inb : ∀ a, (![0, 0, o] : Fin 3 → ℕ) a + (![1, 512, 512] : Fin 3 → ℕ) a ≤ S1x512x2048.size a) (L : List (View.Piece (Elt Ideal) S1x512x2048 .f32)), e.val < o →
      v.read (Elt Ideal) (v.writes (Elt Ideal) f (⟨Rect.unit (s := S1x512x2048) ![0, 0, o] ![1, 512, 512] inb, w⟩ :: L)) (ix3 0 q e) = v.read (Elt Ideal) (v.writes (Elt Ideal) f L) (ix3 0 q e) :=
    fun o w inb L h => box_skip (M := 512) (N := 2048) (R := 512) (C := 512) v f 0 o _ inb w L rfl q e (Or.inr (Or.inl h))
  have hit : ∀ (o : ℕ) (w : FVec Ideal S1x512x512 .f32) (inb : ∀ a, (![0, 0, o] : Fin 3 → ℕ) a + (![1, 512, 512] : Fin 3 → ℕ) a ≤ S1x512x2048.size a) (L : List (View.Piece (Elt Ideal) S1x512x2048 .f32)) (h : o ≤ e.val) (h' : e.val < o + 512),
      v.read (Elt Ideal) (v.writes (Elt Ideal) f (⟨Rect.unit (s := S1x512x2048) ![0, 0, o] ![1, 512, 512] inb, w⟩ :: L)) (ix3 0 q e) = w (ix3 0 q ⟨e.val - o, by omega⟩) :=
    fun o w inb L h h' => box_hit (M := 512) (N := 2048) (R := 512) (C := 512) v f 0 o _ inb w L rfl q e q ⟨e.val - o, by omega⟩ (Nat.zero_add _).symm (by show e.val = o + (e.val - o); omega)
  by_cases a3 : 1536 ≤ e.val
  · rw [hit 1536 w3 i3 _ a3 (by omega), h3]
    exact congrArg T (Fin.ext (by show 1536 + (e.val - 1536) = e.val; omega))
  rw [skip 1536 w3 i3 _ (by omega)]
  by_cases a2 : 1024 ≤ e.val
  · rw [hit 1024 w2 i2 _ a2 (by omega), h2]
    exact congrArg T (Fin.ext (by show 1024 + (e.val - 1024) = e.val; omega))
  rw [skip 1024 w2 i2 _ (by omega)]
  by_cases a1 : 512 ≤ e.val
  · rw [hit 512 w1 i1 _ a1 (by omega), h1]
    exact congrArg T (Fin.ext (by show 512 + (e.val - 512) = e.val; omega))
  rw [skip 512 w1 i1 _ (by omega), hit 0 w0 i0 _ (by omega) (by omega), h0]
  exact congrArg T (Fin.ext (by show 0 + (e.val - 0) = e.val; omega))

/-- A strip stored, from what its loads bring. -/
theorem strip_core {A : FVec Ideal S512x512 .bf16} {o : FVec Ideal S1x512x512 .f32} {W : FVec Ideal S512x512 .bf16} {X : FVec Ideal S1x512x2048 .f32} {D : FVec Ideal S512x2048 .bf16}
    {a : Fin 512 → EReal} {q e : Fin 512} {z : Fin 2048} (ha : ∀ n, A (ix2 q n) = a n) (ho : o (ix3 0 q e) = X (ix3 0 q z)) (hW : ∀ n, W (ix2 n e) = D (ix2 n z)) :
    k0_pay2 (F := Ideal) A o W (ix3 0 q e) = X (ix3 0 q z) + ∑ n, a n * D (ix2 n z) := by
  rw [strip_at, ho]
  simp only [ha, hW]

theorem strip_core1 {A : FVec Ideal S512x512 .bf16} {o : FVec Ideal S1x512x512 .f32} {W : FVec Ideal S512x512 .bf16} {X : FVec Ideal S1x512x2048 .f32} {D : FVec Ideal S512x2048 .bf16}
    {a : Fin 512 → EReal} {q e : Fin 512} {z : Fin 2048} (ha : ∀ n, A (ix2 q n) = a n) (ho : o (ix3 0 q e) = X (ix3 0 q z)) (hW : ∀ n, W (ix2 n e) = D (ix2 n z)) :
    k0_pay1 (F := Ideal) A (k0_pay21 o) (k0_pay22 W) (constant S512x512 .f32 0x00000000#32) (ix3 0 q e) = X (ix3 0 q z) + ∑ n, a n * D (ix2 n z) :=
  strip_core ha ho hW

theorem strip_core3 {A : FVec Ideal S512x512 .bf16} {o : FVec Ideal S1x512x512 .f32} {W : FVec Ideal S512x512 .bf16} {X : FVec Ideal S1x512x2048 .f32} {D : FVec Ideal S512x2048 .bf16}
    {a : Fin 512 → EReal} {q e : Fin 512} {z : Fin 2048} (ha : ∀ n, A (ix2 q n) = a n) (ho : o (ix3 0 q e) = X (ix3 0 q z)) (hW : ∀ n, W (ix2 n e) = D (ix2 n z)) :
    k0_pay3 (F := Ideal) A o W (ix3 0 q e) = X (ix3 0 q z) + ∑ n, a n * D (ix2 n z) :=
  strip_core ha ho hW

theorem strip_core0 {g v : FVec Ideal S1x512x512 .f32} {c : FVec Ideal S1x1x512 .f32} {u : FVec Ideal S1x512x512 .f32} {o : FVec Ideal S1x512x512 .f32} {W : FVec Ideal S512x512 .bf16} {X : FVec Ideal S1x512x2048 .f32} {D : FVec Ideal S512x2048 .bf16}
    {a : Fin 512 → EReal} {q e : Fin 512} {z : Fin 2048} (ha : ∀ n, k0_pay19 (F := Ideal) g v c u (ix2 q n) = a n) (ho : o (ix3 0 q e) = X (ix3 0 q z)) (hW : ∀ n, W (ix2 n e) = D (ix2 n z)) :
    k0_pay20 (F := Ideal) g v c u o W (ix3 0 q e) = X (ix3 0 q z) + ∑ n, a n * D (ix2 n z) :=
  strip_core ha ho hW

end Views

end Cert.Ffn

end
-- ==== Proof.FfnBodyA.lean ====
/- A grid step of the feed-forward kernel that starts a tile. -/
module

public import proofs.«01_k».proof.Proof.FfnLoad

@[expose] public section

set_option maxRecDepth 16384

noncomputable section

namespace Cert.Ffn

open Idealize.ShloMosaic Idealize.ShloMosaic.TcCoe Cert.Kernel2Ideal Cert.Kernel2Ideal.Gen

variable (c : Dev nD) (i : grid0.Coords) (arg3 : Memref sig .tc .vmem S1x512x2048 .f32) (harg3 : arg3.IsWhole) (arg4 : Memref sig .tc .vmem S1x16x2048 .f32) (harg4 : arg4.IsWhole)
  (arg5 : Memref sig .tc .vmem S1x2048 .f32) (harg5 : arg5.IsWhole) (arg6 : Memref sig .tc .vmem S2048x512 .bf16) (harg6 : arg6.IsWhole)
  (arg7 : Memref sig .tc .vmem S2048x512 .bf16) (harg7 : arg7.IsWhole) (arg8 : Memref sig .tc .vmem S3x2x512 .f32) (harg8 : arg8.IsWhole)
  (arg9 : Memref sig .tc .vmem S1x2x512 .f32) (harg9 : arg9.IsWhole) (arg10 : Memref sig .tc .vmem S512x2048 .bf16) (harg10 : arg10.IsWhole)
  (arg11 : Memref sig .tc .vmem S1x2x2x512 .f32) (harg11 : arg11.IsWhole) (arg12 : Memref sig .tc .vmem S1x512x2048 .f32) (harg12 : arg12.IsWhole)
  (arg13 : Memref sig .tc .vmem S1x1x2x2x512 .f32) (harg13 : arg13.IsWhole) (arg14 : Memref sig .tc .vmem S1x528x2048 .bf16) (harg14 : arg14.IsWhole)
  (arg15 : Memref sig .tc .vmem S1x528x512 .f32) (harg15 : arg15.IsWhole) (arg16 : Memref sig .tc .vmem S1x528x512 .f32) (harg16 : arg16.IsWhole)
  (x0 : FVec Ideal S1x512x2048 .f32) (x1 : FVec Ideal S1x16x2048 .f32) (x2 : FVec Ideal S1x2048 .f32) (x3 : FVec Ideal S2048x512 .bf16) (x4 : FVec Ideal S2048x512 .bf16)
  (x5 : FVec Ideal S3x2x512 .f32) (x6 : FVec Ideal S1x2x512 .f32) (x7 : FVec Ideal S512x2048 .bf16) (x8 : FVec Ideal S1x2x2x512 .f32) (xo9 : FVec Ideal S1x512x2048 .f32) (xs0 : FVec Ideal S1x528x2048 .bf16)

/-- The normalised rows of a tile: the last 16 before it, then its own. -/
def hnA (x0 : FVec Ideal S1x512x2048 .f32) (x1 : FVec Ideal S1x16x2048 .f32) (x2 : FVec Ideal S1x2048 .f32) : FVec Ideal S1x528x2048 .bf16 := fun y =>
  if h : (y 1).val < 16 then rms (fun e => x1 (ix3 0 ⟨(y 1).val, h⟩ e)) (fun e => x2 (ix2 0 e)) (y 2)
  else rms (fun e => x0 (ix3 0 ⟨(y 1).val - 16, by have : (y 1).val < 528 := (y 1).isLt; omega⟩ e)) (fun e => x2 (ix2 0 e)) (y 2)

/-- What the store of the normalised rows leaves. -/
theorem rowsA {κ : Kind} {sp : Space} (v : View sig κ sp S1x528x2048 .bf16) (f : v.ty.Contents (Elt Ideal)) (r : Fin 528) (d : Fin 2048) :
    v.read (Elt Ideal) (v.writes (Elt Ideal) f (kernelRun0_A.sl.HS0_2 (F := Ideal) c arg3 harg3 arg4 harg4 arg5 harg5 x0 x1 x2)) (ix3 0 r d) = hnA x0 x1 x2 (ix3 0 r d) := by
  unfold kernelRun0_A.sl.HS0_2 hnA
  by_cases hr : r.val < 16
  · refine (box_skip (M := 528) (N := 2048) (R := 512) (C := 2048) v f 16 0 _ _ _ _ rfl r d (Or.inl (Or.inl hr))).trans ?_
    refine (box_hit (M := 528) (N := 2048) (R := 16) (C := 2048) v f 0 0 _ _ _ _ rfl r d ⟨r.val, hr⟩ d (Nat.zero_add _).symm (Nat.zero_add _).symm).trans ?_
    refine (pay5_at _ _ ⟨r.val, hr⟩ d).trans ?_
    refine Eq.trans ?_ (dif_pos hr).symm
    refine congrArg₂ (fun a b => rms a b d) (funext fun e => ?_) (funext fun e => ?_)
    · exact load3 harg4 x1 0 0 0 _ _ rfl 0 ⟨r.val, hr⟩ e 0 ⟨r.val, hr⟩ e rfl (Nat.zero_add _).symm (Nat.zero_add _).symm
    · exact load2 harg5 x2 0 0 _ _ rfl 0 e 0 e rfl (Nat.zero_add _).symm
  · refine (box_hit (M := 528) (N := 2048) (R := 512) (C := 2048) v f 16 0 _ _ _ _ rfl r d ⟨r.val - 16, by omega⟩ d (by show r.val = 16 + (r.val - 16); omega) (Nat.zero_add _).symm).trans ?_
    refine (pay6_at _ _ ⟨r.val - 16, by omega⟩ d).trans ?_
    refine Eq.trans ?_ (dif_neg hr).symm
    refine congrArg₂ (fun a b => rms a b d) (funext fun e => ?_) (funext fun e => ?_)
    · exact load3 harg3 x0 0 0 0 _ _ rfl 0 ⟨r.val - 16, by omega⟩ e 0 ⟨r.val - 16, by omega⟩ e rfl (Nat.zero_add _).symm (Nat.zero_add _).symm
    · exact load2 harg5 x2 0 0 _ _ rfl 0 e 0 e rfl (Nat.zero_add _).symm

theorem rowsA_load (r : Fin 528) (d : Fin 2048) :
    kernelRun0_A.sl.v4 (F := Ideal) c arg3 harg3 arg4 harg4 arg5 harg5 arg14 x0 x1 x2 (ix3 0 r d) = hnA x0 x1 x2 (ix3 0 r d) := by
  unfold kernelRun0_A.sl.v4
  refine (box_load (M := 528) (N := 2048) (R := 528) (C := 2048) arg14.view _ 0 0 _ _ rfl r d (by omega) (by omega)).trans ?_
  refine Eq.trans ?_ (rowsA c arg3 harg3 arg4 harg4 arg5 harg5 x0 x1 x2 arg14.view arg14.view.junk r d)
  exact congrArg _ (congrArg₂ (ix3 0) (Fin.ext (Nat.zero_add _)) (Fin.ext (Nat.zero_add _)))

theorem gatedA (q n : Fin 512) :
    kernelRun0_A.sl.r_7 (F := Ideal) c i arg3 harg3 arg4 harg4 arg5 harg5 arg6 harg6 arg7 harg7 arg8 harg8 arg9 harg9 arg11 harg11 arg14 arg15 arg16 x0 x1 x2 x3 x4 x5 x6 x8 (ix2 q n) = ac i (hnA x0 x1 x2) x3 x4 x5 x6 x8 q n := by
  unfold kernelRun0_A.sl.r_7 kernelRun0_A.sl.r_3 kernelRun0_A.sl.r_5 kernelRun0_A.sl.r_6 kernelRun0_A.sl.r_1 kernelRun0_A.sl.r_2
  refine act_core ?_ ?_ ?_ ?_ ?_ ?_ ?_ ?_ ?_ ?_ ?_ ?_ ?_ ?_
  · exact load3 harg9 x6 0 0 0 _ _ rfl 0 0 n 0 0 n rfl rfl (Nat.zero_add _).symm
  · exact load3 harg8 x5 0 0 0 _ _ rfl 0 0 n 0 0 n rfl rfl (Nat.zero_add _).symm
  · exact load3 harg8 x5 1 0 0 _ _ rfl 0 0 n 1 0 n rfl rfl (Nat.zero_add _).symm
  · exact load3 harg8 x5 2 0 0 _ _ rfl 0 0 n 2 0 n rfl rfl (Nat.zero_add _).symm
  · exact load3 harg9 x6 0 1 0 _ _ rfl 0 0 n 0 1 n rfl rfl (Nat.zero_add _).symm
  · exact load3 harg8 x5 0 1 0 _ _ rfl 0 0 n 0 1 n rfl rfl (Nat.zero_add _).symm
  · exact load3 harg8 x5 1 1 0 _ _ rfl 0 0 n 1 1 n rfl rfl (Nat.zero_add _).symm
  · exact load3 harg8 x5 2 1 0 _ _ rfl 0 0 n 2 1 n rfl rfl (Nat.zero_add _).symm
  · unfold kernelRun0_A.sl.v26
    unfold kernelRun0_A.sl.HS1_2 kernelRun0_A.sl.v15 kernelRun0_A.sl.HS1_1
    exact tap_load9 arg15.view i 0 (rowsA_load c arg3 harg3 arg4 harg4 arg5 harg5 arg14 x0 x1 x2) (fun d n => load2 harg6 x3 0 0 _ _ rfl d n d n (Nat.zero_add _).symm (Nat.zero_add _).symm) (fun a n => load4 harg11 x8 0 _ _ rfl a n) 14 (by omega) (by omega) _ rfl _ _ _ q n
  · unfold kernelRun0_A.sl.v34
    unfold kernelRun0_A.sl.HS1_2 kernelRun0_A.sl.v15 kernelRun0_A.sl.HS1_1
    exact tap_load9 arg15.view i 0 (rowsA_load c arg3 harg3 arg4 harg4 arg5 harg5 arg14 x0 x1 x2) (fun d n => load2 harg6 x3 0 0 _ _ rfl d n d n (Nat.zero_add _).symm (Nat.zero_add _).symm) (fun a n => load4 harg11 x8 0 _ _ rfl a n) 15 (by omega) (by omega) _ rfl _ _ _ q n
  · unfold kernelRun0_A.sl.v41
    unfold kernelRun0_A.sl.HS1_2 kernelRun0_A.sl.v15 kernelRun0_A.sl.HS1_1
    exact tap_load9 arg15.view i 0 (rowsA_load c arg3 harg3 arg4 harg4 arg5 harg5 arg14 x0 x1 x2) (fun d n => load2 harg6 x3 0 0 _ _ rfl d n d n (Nat.zero_add _).symm (Nat.zero_add _).symm) (fun a n => load4 harg11 x8 0 _ _ rfl a n) 16 (by omega) (by omega) _ rfl _ _ _ q n
  · unfold kernelRun0_A.sl.v69
    unfold kernelRun0_A.sl.HS2_2 kernelRun0_A.sl.v58 kernelRun0_A.sl.HS2_1 kernelRun0_A.sl.r_4 kernelRun0_A.sl.r kernelRun0_A.sl.v0
    exact tap_load arg16.view i 1 (rowsA_load c arg3 harg3 arg4 harg4 arg5 harg5 arg14 x0 x1 x2) (fun d n => load2 harg7 x4 0 0 _ _ rfl d n d n (Nat.zero_add _).symm (Nat.zero_add _).symm) (fun a n => load4 harg11 x8 1 _ _ rfl a n) 14 (by omega) (by omega) _ rfl _ _ _ q n
  · unfold kernelRun0_A.sl.v77
    unfold kernelRun0_A.sl.HS2_2 kernelRun0_A.sl.v58 kernelRun0_A.sl.HS2_1 kernelRun0_A.sl.r_4 kernelRun0_A.sl.r kernelRun0_A.sl.v0
    exact tap_load arg16.view i 1 (rowsA_load c arg3 harg3 arg4 harg4 arg5 harg5 arg14 x0 x1 x2) (fun d n => load2 harg7 x4 0 0 _ _ rfl d n d n (Nat.zero_add _).symm (Nat.zero_add _).symm) (fun a n => load4 harg11 x8 1 _ _ rfl a n) 15 (by omega) (by omega) _ rfl _ _ _ q n
  · unfold kernelRun0_A.sl.v84
    unfold kernelRun0_A.sl.HS2_2 kernelRun0_A.sl.v58 kernelRun0_A.sl.HS2_1 kernelRun0_A.sl.r_4 kernelRun0_A.sl.r kernelRun0_A.sl.v0
    exact tap_load arg16.view i 1 (rowsA_load c arg3 harg3 arg4 harg4 arg5 harg5 arg14 x0 x1 x2) (fun d n => load2 harg7 x4 0 0 _ _ rfl d n d n (Nat.zero_add _).symm (Nat.zero_add _).symm) (fun a n => load4 harg11 x8 1 _ _ rfl a n) 16 (by omega) (by omega) _ rfl _ _ _ q n

set_option maxHeartbeats 4000000 in
/-- The block of the result after the step. -/
theorem outA (hc0 : cond0_0 i) (q : Fin 512) (e : Fin 2048) :
    out0_A_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix3 0 q e) = x0 (ix3 0 q e) + ∑ n, ac i (hnA x0 x1 x2) x3 x4 x5 x6 x8 q n * x7 (ix2 n e) := by
  refine strips VO0_9 VO0_9.junk _ _ _ _ _ _ _ _ _ (fun e => x0 (ix3 0 q e) + ∑ n, ac i (hnA x0 x1 x2) x3 x4 x5 x6 x8 q n * x7 (ix2 n e)) q ?_ ?_ ?_ ?_ e
  · intro e
    refine strip_core0 (fun n => gatedA c i arg3 harg3 arg4 harg4 arg5 harg5 arg6 harg6 arg7 harg7 arg8 harg8 arg9 harg9 arg11 harg11 arg14 arg15 arg16 x0 x1 x2 x3 x4 x5 x6 x8 q n) ?_ (fun n => load2 harg10 x7 0 0 _ _ rfl n e n ⟨0 + e.val, by omega⟩ (Nat.zero_add _).symm rfl)
    refine (box_load (M := 512) (N := 2048) (R := 512) (C := 512) arg12.view _ 0 0 _ _ rfl q e (by omega) (by omega)).trans ?_
    refine (box_hit (M := 512) (N := 2048) (R := 512) (C := 2048) arg12.view _ 0 0 _ _ _ _ rfl _ _ q ⟨0 + e.val, by omega⟩ rfl (Nat.zero_add _).symm).trans ?_
    exact load3 harg3 x0 0 0 0 _ _ rfl 0 q _ 0 q _ rfl (Nat.zero_add _).symm (Nat.zero_add _).symm
  · intro e
    unfold kernelRun0_A.sl.r_8 kernelRun0_A.sl.r_9 kernelRun0_A.sl.cst_103
    refine strip_core1 (fun n => gatedA c i arg3 harg3 arg4 harg4 arg5 harg5 arg6 harg6 arg7 harg7 arg8 harg8 arg9 harg9 arg11 harg11 arg14 arg15 arg16 x0 x1 x2 x3 x4 x5 x6 x8 q n) ?_ (fun n => load2 harg10 x7 0 512 _ _ rfl n e n ⟨512 + e.val, by omega⟩ (Nat.zero_add _).symm rfl)
    refine (box_load (M := 512) (N := 2048) (R := 512) (C := 512) arg12.view _ 0 512 _ _ rfl q e (by omega) (by omega)).trans ?_
    refine (box_skip (M := 512) (N := 2048) (R := 512) (C := 512) arg12.view _ 0 0 _ _ _ _ rfl _ _ (Or.inr (Or.inr (by show 0 + 512 ≤ 512 + e.val; omega)))).trans ?_
    refine (box_hit (M := 512) (N := 2048) (R := 512) (C := 2048) arg12.view _ 0 0 _ _ _ _ rfl _ _ q ⟨512 + e.val, by omega⟩ rfl (Nat.zero_add _).symm).trans ?_
    exact load3 harg3 x0 0 0 0 _ _ rfl 0 q _ 0 q _ rfl (Nat.zero_add _).symm (Nat.zero_add _).symm
  · intro e
    refine strip_core (fun n => gatedA c i arg3 harg3 arg4 harg4 arg5 harg5 arg6 harg6 arg7 harg7 arg8 harg8 arg9 harg9 arg11 harg11 arg14 arg15 arg16 x0 x1 x2 x3 x4 x5 x6 x8 q n) ?_ (fun n => load2 harg10 x7 0 1024 _ _ rfl n e n ⟨1024 + e.val, by omega⟩ (Nat.zero_add _).symm rfl)
    refine (box_load (M := 512) (N := 2048) (R := 512) (C := 512) arg12.view _ 0 1024 _ _ rfl q e (by omega) (by omega)).trans ?_
    refine (box_skip (M := 512) (N := 2048) (R := 512) (C := 512) arg12.view _ 0 512 _ _ _ _ rfl _ _ (Or.inr (Or.inr (by show 512 + 512 ≤ 1024 + e.val; omega)))).trans ?_
    refine (box_skip (M := 512) (N := 2048) (R := 512) (C := 512) arg12.view _ 0 0 _ _ _ _ rfl _ _ (Or.inr (Or.inr (by show 0 + 512 ≤ 1024 + e.val; omega)))).trans ?_
    refine (box_hit (M := 512) (N := 2048) (R := 512) (C := 2048) arg12.view _ 0 0 _ _ _ _ rfl _ _ q ⟨1024 + e.val, by omega⟩ rfl (Nat.zero_add _).symm).trans ?_
    exact load3 harg3 x0 0 0 0 _ _ rfl 0 q _ 0 q _ rfl (Nat.zero_add _).symm (Nat.zero_add _).symm
  · intro e
    refine strip_core3 (fun n => gatedA c i arg3 harg3 arg4 harg4 arg5 harg5 arg6 harg6 arg7 harg7 arg8 harg8 arg9 harg9 arg11 harg11 arg14 arg15 arg16 x0 x1 x2 x3 x4 x5 x6 x8 q n) ?_ (fun n => load2 harg10 x7 0 1536 _ _ rfl n e n ⟨1536 + e.val, by omega⟩ (Nat.zero_add _).symm rfl)
    refine (box_load (M := 512) (N := 2048) (R := 512) (C := 512) arg12.view _ 0 1536 _ _ rfl q e (by omega) (by omega)).trans ?_
    refine (box_skip (M := 512) (N := 2048) (R := 512) (C := 512) arg12.view _ 0 1024 _ _ _ _ rfl _ _ (Or.inr (Or.inr (by show 1024 + 512 ≤ 1536 + e.val; omega)))).trans ?_
    refine (box_skip (M := 512) (N := 2048) (R := 512) (C := 512) arg12.view _ 0 512 _ _ _ _ rfl _ _ (Or.inr (Or.inr (by show 512 + 512 ≤ 1536 + e.val; omega)))).trans ?_
    refine (box_skip (M := 512) (N := 2048) (R := 512) (C := 512) arg12.view _ 0 0 _ _ _ _ rfl _ _ (Or.inr (Or.inr (by show 0 + 512 ≤ 1536 + e.val; omega)))).trans ?_
    refine (box_hit (M := 512) (N := 2048) (R := 512) (C := 2048) arg12.view _ 0 0 _ _ _ _ rfl _ _ q ⟨1536 + e.val, by omega⟩ rfl (Nat.zero_add _).symm).trans ?_
    exact load3 harg3 x0 0 0 0 _ _ rfl 0 q _ 0 q _ rfl (Nat.zero_add _).symm (Nat.zero_add _).symm

/-- The normalised rows after the step. -/
theorem soutA (hc0 : cond0_0 i) (r : Fin 528) (d : Fin 2048) :
    sout0_A_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix3 0 r d) = hnA x0 x1 x2 (ix3 0 r d) :=
  rowsA c arg3 harg3 arg4 harg4 arg5 harg5 x0 x1 x2 VS0_0 VS0_0.junk r d

end Cert.Ffn

end
-- ==== Proof.FfnBodyB.lean ====
/- A grid step of the feed-forward kernel after a tile's first. -/
module

public import proofs.«01_k».proof.Proof.FfnLoad

@[expose] public section

set_option maxRecDepth 16384

noncomputable section

namespace Cert.Ffn

open Idealize.ShloMosaic Idealize.ShloMosaic.TcCoe Cert.Kernel2Ideal Cert.Kernel2Ideal.Gen

variable (c : Dev nD) (i : grid0.Coords) (arg3 : Memref sig .tc .vmem S1x512x2048 .f32) (harg3 : arg3.IsWhole) (arg4 : Memref sig .tc .vmem S1x16x2048 .f32) (harg4 : arg4.IsWhole)
  (arg5 : Memref sig .tc .vmem S1x2048 .f32) (harg5 : arg5.IsWhole) (arg6 : Memref sig .tc .vmem S2048x512 .bf16) (harg6 : arg6.IsWhole)
  (arg7 : Memref sig .tc .vmem S2048x512 .bf16) (harg7 : arg7.IsWhole) (arg8 : Memref sig .tc .vmem S3x2x512 .f32) (harg8 : arg8.IsWhole)
  (arg9 : Memref sig .tc .vmem S1x2x512 .f32) (harg9 : arg9.IsWhole) (arg10 : Memref sig .tc .vmem S512x2048 .bf16) (harg10 : arg10.IsWhole)
  (arg11 : Memref sig .tc .vmem S1x2x2x512 .f32) (harg11 : arg11.IsWhole) (arg12 : Memref sig .tc .vmem S1x512x2048 .f32) (harg12 : arg12.IsWhole)
  (arg13 : Memref sig .tc .vmem S1x1x2x2x512 .f32) (harg13 : arg13.IsWhole) (arg14 : Memref sig .tc .vmem S1x528x2048 .bf16) (harg14 : arg14.IsWhole)
  (arg15 : Memref sig .tc .vmem S1x528x512 .f32) (harg15 : arg15.IsWhole) (arg16 : Memref sig .tc .vmem S1x528x512 .f32) (harg16 : arg16.IsWhole)
  (x0 : FVec Ideal S1x512x2048 .f32) (x1 : FVec Ideal S1x16x2048 .f32) (x2 : FVec Ideal S1x2048 .f32) (x3 : FVec Ideal S2048x512 .bf16) (x4 : FVec Ideal S2048x512 .bf16)
  (x5 : FVec Ideal S3x2x512 .f32) (x6 : FVec Ideal S1x2x512 .f32) (x7 : FVec Ideal S512x2048 .bf16) (x8 : FVec Ideal S1x2x2x512 .f32) (xo9 : FVec Ideal S1x512x2048 .f32) (xs0 : FVec Ideal S1x528x2048 .bf16)

theorem rowsB_load (r : Fin 528) (d : Fin 2048) :
    View.readAt (Elt Ideal) arg14.view (Rect.unit (s := S1x528x2048) ![0, 0, 0] S1x528x2048.size inb_S1x528x2048_S1x528x2048_0_0_0).toLoadRect (harg14.unread xs0) (ix3 0 r d) = xs0 (ix3 0 r d) :=
  load3 harg14 xs0 0 0 0 _ _ rfl 0 r d 0 r d rfl (Nat.zero_add _).symm (Nat.zero_add _).symm

theorem gatedB (q n : Fin 512) :
    kernelRun0_B.sl.r_7 (F := Ideal) c i arg6 harg6 arg7 harg7 arg8 harg8 arg9 harg9 arg11 harg11 arg14 harg14 arg15 arg16 x3 x4 x5 x6 x8 xs0 (ix2 q n) = ac i xs0 x3 x4 x5 x6 x8 q n := by
  unfold kernelRun0_B.sl.r_7 kernelRun0_B.sl.r_3 kernelRun0_B.sl.r_5 kernelRun0_B.sl.r_6 kernelRun0_B.sl.r_1 kernelRun0_B.sl.r_2
  refine act_core ?_ ?_ ?_ ?_ ?_ ?_ ?_ ?_ ?_ ?_ ?_ ?_ ?_ ?_
  · exact load3 harg9 x6 0 0 0 _ _ rfl 0 0 n 0 0 n rfl rfl (Nat.zero_add _).symm
  · exact load3 harg8 x5 0 0 0 _ _ rfl 0 0 n 0 0 n rfl rfl (Nat.zero_add _).symm
  · exact load3 harg8 x5 1 0 0 _ _ rfl 0 0 n 1 0 n rfl rfl (Nat.zero_add _).symm
  · exact load3 harg8 x5 2 0 0 _ _ rfl 0 0 n 2 0 n rfl rfl (Nat.zero_add _).symm
  · exact load3 harg9 x6 0 1 0 _ _ rfl 0 0 n 0 1 n rfl rfl (Nat.zero_add _).symm
  · exact load3 harg8 x5 0 1 0 _ _ rfl 0 0 n 0 1 n rfl rfl (Nat.zero_add _).symm
  · exact load3 harg8 x5 1 1 0 _ _ rfl 0 0 n 1 1 n rfl rfl (Nat.zero_add _).symm
  · exact load3 harg8 x5 2 1 0 _ _ rfl 0 0 n 2 1 n rfl rfl (Nat.zero_add _).symm
  · unfold kernelRun0_B.sl.v26
    unfold kernelRun0_B.sl.HS1_2 kernelRun0_B.sl.v15 kernelRun0_B.sl.HS1_1
    exact tap_load9 arg15.view i 0 (rowsB_load arg14 harg14 xs0) (fun d n => load2 harg6 x3 0 0 _ _ rfl d n d n (Nat.zero_add _).symm (Nat.zero_add _).symm) (fun a n => load4 harg11 x8 0 _ _ rfl a n) 14 (by omega) (by omega) _ rfl _ _ _ q n
  · unfold kernelRun0_B.sl.v34
    unfold kernelRun0_B.sl.HS1_2 kernelRun0_B.sl.v15 kernelRun0_B.sl.HS1_1
    exact tap_load9 arg15.view i 0 (rowsB_load arg14 harg14 xs0) (fun d n => load2 harg6 x3 0 0 _ _ rfl d n d n (Nat.zero_add _).symm (Nat.zero_add _).symm) (fun a n => load4 harg11 x8 0 _ _ rfl a n) 15 (by omega) (by omega) _ rfl _ _ _ q n
  · unfold kernelRun0_B.sl.v41
    unfold kernelRun0_B.sl.HS1_2 kernelRun0_B.sl.v15 kernelRun0_B.sl.HS1_1
    exact tap_load9 arg15.view i 0 (rowsB_load arg14 harg14 xs0) (fun d n => load2 harg6 x3 0 0 _ _ rfl d n d n (Nat.zero_add _).symm (Nat.zero_add _).symm) (fun a n => load4 harg11 x8 0 _ _ rfl a n) 16 (by omega) (by omega) _ rfl _ _ _ q n
  · unfold kernelRun0_B.sl.v69
    unfold kernelRun0_B.sl.HS2_2 kernelRun0_B.sl.v58 kernelRun0_B.sl.HS2_1 kernelRun0_B.sl.r_4 kernelRun0_B.sl.r kernelRun0_B.sl.v0
    exact tap_load arg16.view i 1 (rowsB_load arg14 harg14 xs0) (fun d n => load2 harg7 x4 0 0 _ _ rfl d n d n (Nat.zero_add _).symm (Nat.zero_add _).symm) (fun a n => load4 harg11 x8 1 _ _ rfl a n) 14 (by omega) (by omega) _ rfl _ _ _ q n
  · unfold kernelRun0_B.sl.v77
    unfold kernelRun0_B.sl.HS2_2 kernelRun0_B.sl.v58 kernelRun0_B.sl.HS2_1 kernelRun0_B.sl.r_4 kernelRun0_B.sl.r kernelRun0_B.sl.v0
    exact tap_load arg16.view i 1 (rowsB_load arg14 harg14 xs0) (fun d n => load2 harg7 x4 0 0 _ _ rfl d n d n (Nat.zero_add _).symm (Nat.zero_add _).symm) (fun a n => load4 harg11 x8 1 _ _ rfl a n) 15 (by omega) (by omega) _ rfl _ _ _ q n
  · unfold kernelRun0_B.sl.v84
    unfold kernelRun0_B.sl.HS2_2 kernelRun0_B.sl.v58 kernelRun0_B.sl.HS2_1 kernelRun0_B.sl.r_4 kernelRun0_B.sl.r kernelRun0_B.sl.v0
    exact tap_load arg16.view i 1 (rowsB_load arg14 harg14 xs0) (fun d n => load2 harg7 x4 0 0 _ _ rfl d n d n (Nat.zero_add _).symm (Nat.zero_add _).symm) (fun a n => load4 harg11 x8 1 _ _ rfl a n) 16 (by omega) (by omega) _ rfl _ _ _ q n

set_option maxHeartbeats 4000000 in
/-- The block of the result after the step. -/
theorem outB (hc0 : ¬cond0_0 i) (q : Fin 512) (e : Fin 2048) :
    out0_B_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo9 xs0 (ix3 0 q e) = xo9 (ix3 0 q e) + ∑ n, ac i xs0 x3 x4 x5 x6 x8 q n * x7 (ix2 n e) := by
  refine strips VO0_9 VO0_9.junk _ _ _ _ _ _ _ _ _ (fun e => xo9 (ix3 0 q e) + ∑ n, ac i xs0 x3 x4 x5 x6 x8 q n * x7 (ix2 n e)) q ?_ ?_ ?_ ?_ e
  · intro e
    refine strip_core0 (fun n => gatedB c i arg6 harg6 arg7 harg7 arg8 harg8 arg9 harg9 arg11 harg11 arg14 harg14 arg15 arg16 x3 x4 x5 x6 x8 xs0 q n) ?_ (fun n => load2 harg10 x7 0 0 _ _ rfl n e n ⟨0 + e.val, by omega⟩ (Nat.zero_add _).symm rfl)
    exact load3 harg12 xo9 0 0 0 _ _ rfl 0 q e 0 q ⟨0 + e.val, by omega⟩ rfl (Nat.zero_add _).symm rfl
  · intro e
    unfold kernelRun0_B.sl.r_8 kernelRun0_B.sl.r_9 kernelRun0_B.sl.cst_103
    unfold kernelRun0_B.sl.v111
    refine strip_core1 (fun n => gatedB c i arg6 harg6 arg7 harg7 arg8 harg8 arg9 harg9 arg11 harg11 arg14 harg14 arg15 arg16 x3 x4 x5 x6 x8 xs0 q n) ?_ (fun n => load2 harg10 x7 0 512 _ _ rfl n e n ⟨512 + e.val, by omega⟩ (Nat.zero_add _).symm rfl)
    exact load3 harg12 xo9 0 0 512 _ _ rfl 0 q e 0 q ⟨512 + e.val, by omega⟩ rfl (Nat.zero_add _).symm rfl
  · intro e
    unfold kernelRun0_B.sl.v119
    refine strip_core (fun n => gatedB c i arg6 harg6 arg7 harg7 arg8 harg8 arg9 harg9 arg11 harg11 arg14 harg14 arg15 arg16 x3 x4 x5 x6 x8 xs0 q n) ?_ (fun n => load2 harg10 x7 0 1024 _ _ rfl n e n ⟨1024 + e.val, by omega⟩ (Nat.zero_add _).symm rfl)
    exact load3 harg12 xo9 0 0 1024 _ _ rfl 0 q e 0 q ⟨1024 + e.val, by omega⟩ rfl (Nat.zero_add _).symm rfl
  · intro e
    unfold kernelRun0_B.sl.v127
    refine strip_core3 (fun n => gatedB c i arg6 harg6 arg7 harg7 arg8 harg8 arg9 harg9 arg11 harg11 arg14 harg14 arg15 arg16 x3 x4 x5 x6 x8 xs0 q n) ?_ (fun n => load2 harg10 x7 0 1536 _ _ rfl n e n ⟨1536 + e.val, by omega⟩ (Nat.zero_add _).symm rfl)
    exact load3 harg12 xo9 0 0 1536 _ _ rfl 0 q e 0 q ⟨1536 + e.val, by omega⟩ rfl (Nat.zero_add _).symm rfl

end Cert.Ffn

end
-- ==== Proof.FfnHost.lean ====
/- The arrays the feed-forward call is given, as functions of the arguments, and the blocks of a grid step. -/
module

public import proofs.«01_k».proof.Proof.FfnBodyA
public import proofs.«01_k».proof.Proof.FfnBodyB
public import Idealize.ShloMosaic.Lib.StableHlo.ReadAt
public import Idealize.ShloMosaic.Lib.Pipeline.ValueKit

@[expose] public section

set_option maxRecDepth 16384

noncomputable section

namespace Cert.Ffn

open Cert.Kernel2Ideal Cert.Kernel2Ideal.Gen
open Idealize.ShloMosaic Idealize.ShloMosaic.TcCoe

variable (m : (ℓ : Loc nD τ sig) → Buf (Elt Ideal) ℓ) (c : Dev nD)

/-- The arguments. -/
abbrev a0 : FVec Ideal S2x4096x2048 .f32 := m ((c.tc : Thread nD τ).loc main_arg0)
abbrev a1 : FVec Ideal S2048 .f32 := m ((c.tc : Thread nD τ).loc main_arg1)
abbrev a2 : FVec Ideal S2048x11264 .f32 := m ((c.tc : Thread nD τ).loc main_arg2)
abbrev a3 : FVec Ideal S3x11264 .f32 := m ((c.tc : Thread nD τ).loc main_arg3)
abbrev a4 : FVec Ideal S11264 .f32 := m ((c.tc : Thread nD τ).loc main_arg4)
abbrev a5 : FVec Ideal S5632x2048 .f32 := m ((c.tc : Thread nD τ).loc main_arg5)
abbrev a6 : FVec Ideal S2x2x11264 .f32 := m ((c.tc : Thread nD τ).loc main_arg6)

/-! ### The call's operands -/

theorem V_x : Gen.V m c main_arg0 = a0 m c := by
  unfold Gen.V
  after_reads_simp <;> rfl

/-- The gate's half of the weights. -/
def wgT (A : FVec Ideal S2048x11264 .f32) : FVec Ideal S2048x5632 .bf16 :=
  truncf .bf16 (extractStridedSlice S2048x5632 ![0, 0] A slices_S2048x11264_S2048x5632_0_0) bitsLt_bf16_f32
/-- The value's. -/
def wvT (A : FVec Ideal S2048x11264 .f32) : FVec Ideal S2048x5632 .bf16 :=
  truncf .bf16 (extractStridedSlice S2048x5632 ![0, 5632] A slices_S2048x11264_S2048x5632_0_5632) bitsLt_bf16_f32
def wdT (A : FVec Ideal S5632x2048 .f32) : FVec Ideal S5632x2048 .bf16 := truncf .bf16 A bitsLt_bf16_f32
def gainT (A : FVec Ideal S2048 .f32) : FVec Ideal S1x2048 .f32 := shapeCast S1x2048 A shapeCasts_S2048_S1x2048
def filtT (A : FVec Ideal S3x11264 .f32) : FVec Ideal S3x2x5632 .f32 := shapeCast S3x2x5632 A shapeCasts_S3x11264_S3x2x5632
def biasT (A : FVec Ideal S11264 .f32) : FVec Ideal S1x2x5632 .f32 := shapeCast S1x2x5632 A shapeCasts_S11264_S1x2x5632
def prevT (A : FVec Ideal S2x2x11264 .f32) : FVec Ideal S2x2x2x5632 .f32 := shapeCast S2x2x2x5632 A shapeCasts_S2x2x11264_S2x2x2x5632

theorem V_wg : Gen.V m c main_v1 = wgT (a2 m c) := by
  unfold Gen.V
  after_reads_simp
  rfl

theorem V_wv : Gen.V m c main_v3 = wvT (a2 m c) := by
  unfold Gen.V
  after_reads_simp
  rfl

theorem V_wd : Gen.V m c main_v4 = wdT (a5 m c) := by
  unfold Gen.V
  after_reads_simp
  rfl

theorem V_gain : Gen.V m c main_v5 = gainT (a1 m c) := by
  unfold Gen.V
  after_reads_simp
  rfl

theorem V_filt : Gen.V m c main_v6 = filtT (a3 m c) := by
  unfold Gen.V
  after_reads_simp
  rfl

theorem V_bias : Gen.V m c main_v7 = biasT (a4 m c) := by
  unfold Gen.V
  after_reads_simp
  rfl

theorem V_prev : Gen.V m c main_v8 = prevT (a6 m c) := by
  unfold Gen.V
  after_reads_simp
  rfl

theorem wgT_at (A : FVec Ideal S2048x11264 .f32) (d : Fin 2048) (n : Fin 5632) : wgT A (ix2 d n) = A (ix2 d ⟨n.val, by omega⟩) := by
  pointwise [wgT]

theorem wvT_at (A : FVec Ideal S2048x11264 .f32) (d : Fin 2048) (n : Fin 5632) : wvT A (ix2 d n) = A (ix2 d ⟨5632 + n.val, by omega⟩) := by
  pointwise [wvT]

theorem wdT_at (A : FVec Ideal S5632x2048 .f32) (k : Fin 5632) (e : Fin 2048) : wdT A (ix2 k e) = A (ix2 k e) := by
  pointwise [wdT]

theorem gainT_at (A : FVec Ideal S2048 .f32) (e : Fin 2048) : gainT A (ix2 0 e) = A (ix1 e) := by
  pointwise [gainT]

theorem filtT_at (A : FVec Ideal S3x11264 .f32) (k : Fin 3) (h : Fin 2) (n : Fin 5632) :
    filtT A (ix3 k h n) = A (ix2 k ⟨5632 * h.val + n.val, by omega⟩) := by
  pointwise [filtT]
  refine congrArg A (congrArg₂ ix2 (Fin.ext ?_) (Fin.ext ?_)) <;> dsimp only <;> omega

theorem biasT_at (A : FVec Ideal S11264 .f32) (h : Fin 2) (n : Fin 5632) : biasT A (ix3 0 h n) = A (ix1 ⟨5632 * h.val + n.val, by omega⟩) := by
  pointwise [biasT]
  refine congrArg A (congrArg ix1 (Fin.ext ?_)) <;> dsimp only <;> omega

theorem prevT_at (A : FVec Ideal S2x2x11264 .f32) (b a : Fin 2) (h : Fin 2) (n : Fin 5632) :
    prevT A (ix4 b a h n) = A (ix3 b a ⟨5632 * h.val + n.val, by omega⟩) := by
  pointwise [prevT]
  have e : ∀ (x x' y y' : Fin 2) (z z' : Fin 11264), x = x' → y = y' → z = z' → A (ix3 x y z) = A (ix3 x' y' z') := by
    rintro _ _ _ _ _ _ rfl rfl rfl; rfl
  refine e _ _ _ _ _ _ (Fin.ext ?_) (Fin.ext ?_) (Fin.ext ?_) <;> dsimp only <;> omega

/-! ### Where a grid step reads -/

/-- A step's sequence, its tile of rows, and its share of the columns. -/
def tb (t : Fin cfg0.N) : Fin 2 := ⟨t.val / 88, by have : t.val < 176 := lt_of_lt_of_eq t.isLt N_0; omega⟩
def ti (t : Fin cfg0.N) : Fin 8 := ⟨t.val / 11 % 8, by omega⟩
def tj (t : Fin cfg0.N) : Fin 11 := ⟨t.val % 11, by omega⟩

theorem coord_ti : ∀ t : Fin cfg0.N, ((grid0.coords t) 1).val = (ti t).val := by
  show ∀ t : Fin grid0.N, _
  decide +kernel

theorem idx : ∀ t : Fin cfg0.N, win0_0.index t = ![(tb t).val, (ti t).val, 0] ∧ win0_1.index t = ![(tb t).val, 32 * (ti t).val - 1, 0]
    ∧ win0_2.index t = ![0, 0] ∧ win0_3.index t = ![0, (tj t).val] ∧ win0_4.index t = ![0, (tj t).val] ∧ win0_5.index t = ![0, 0, (tj t).val]
    ∧ win0_6.index t = ![0, 0, (tj t).val] ∧ win0_7.index t = ![(tj t).val, 0] ∧ win0_8.index t = ![(tb t).val, 0, 0, (tj t).val] := by
  show ∀ t : Fin grid0.N, _
  decide +kernel

variable (t : Fin cfg0.N)

theorem blk_0 (f : FVec Ideal S2x4096x2048 .f32) (r : Fin 512) (e : Fin 2048) :
    ((cfg0.win 0).blk t).view.read (Elt Ideal) f (ix3 0 r e) = f (ix3 (tb t) ⟨512 * (ti t).val + r.val, by omega⟩ e) := by
  refine congrArg f (funext fun x => Fin.ext ?_)
  have e0 := (idx t).1
  match x with
  | ⟨0, _⟩ =>
    refine (Pipeline.Window.rect_emb_val win0_0 t (ix3 0 r e) 0 rfl).trans ?_
    rw [e0]
    show (tb t).val * 1 + 0 = (tb t).val
    omega
  | ⟨1, _⟩ =>
    refine (Pipeline.Window.rect_emb_val win0_0 t (ix3 0 r e) 1 rfl).trans ?_
    rw [e0]
    show (ti t).val * 512 + r.val = 512 * (ti t).val + r.val
    omega
  | ⟨2, _⟩ =>
    refine (Pipeline.Window.rect_emb_val win0_0 t (ix3 0 r e) 2 rfl).trans ?_
    rw [e0]
    show 0 * 2048 + e.val = e.val
    omega

theorem blk_1 (f : FVec Ideal S2x4096x2048 .f32) (r : Fin 16) (e : Fin 2048) :
    ((cfg0.win 1).blk t).view.read (Elt Ideal) f (ix3 0 r e) = f (ix3 (tb t) ⟨16 * (32 * (ti t).val - 1) + r.val, by omega⟩ e) := by
  refine congrArg f (funext fun x => Fin.ext ?_)
  have e1 := (idx t).2.1
  match x with
  | ⟨0, _⟩ =>
    refine (Pipeline.Window.rect_emb_val win0_1 t (ix3 0 r e) 0 rfl).trans ?_
    rw [e1]
    show (tb t).val * 1 + 0 = (tb t).val
    omega
  | ⟨1, _⟩ =>
    refine (Pipeline.Window.rect_emb_val win0_1 t (ix3 0 r e) 1 rfl).trans ?_
    rw [e1]
    show (32 * (ti t).val - 1) * 16 + r.val = 16 * (32 * (ti t).val - 1) + r.val
    omega
  | ⟨2, _⟩ =>
    refine (Pipeline.Window.rect_emb_val win0_1 t (ix3 0 r e) 2 rfl).trans ?_
    rw [e1]
    show 0 * 2048 + e.val = e.val
    omega

theorem blk_2 (f : FVec Ideal S1x2048 .f32) (e : Fin 2048) :
    ((cfg0.win 2).blk t).view.read (Elt Ideal) f (ix2 0 e) = f (ix2 0 e) := by
  refine congrArg f (funext fun x => Fin.ext ?_)
  have e2 := (idx t).2.2.1
  match x with
  | ⟨0, _⟩ =>
    refine (Pipeline.Window.rect_emb_val win0_2 t (ix2 0 e) 0 rfl).trans ?_
    rw [e2]
    show 0 * 1 + 0 = 0
    omega
  | ⟨1, _⟩ =>
    refine (Pipeline.Window.rect_emb_val win0_2 t (ix2 0 e) 1 rfl).trans ?_
    rw [e2]
    show 0 * 2048 + e.val = e.val
    omega

theorem blk_3 (f : FVec Ideal S2048x5632 .bf16) (d : Fin 2048) (n : Fin 512) :
    ((cfg0.win 3).blk t).view.read (Elt Ideal) f (ix2 d n) = f (ix2 d ⟨512 * (tj t).val + n.val, by omega⟩) := by
  refine congrArg f (funext fun x => Fin.ext ?_)
  have e3 := (idx t).2.2.2.1
  match x with
  | ⟨0, _⟩ =>
    refine (Pipeline.Window.rect_emb_val win0_3 t (ix2 d n) 0 rfl).trans ?_
    rw [e3]
    show 0 * 2048 + d.val = d.val
    omega
  | ⟨1, _⟩ =>
    refine (Pipeline.Window.rect_emb_val win0_3 t (ix2 d n) 1 rfl).trans ?_
    rw [e3]
    show (tj t).val * 512 + n.val = 512 * (tj t).val + n.val
    omega

theorem blk_4 (f : FVec Ideal S2048x5632 .bf16) (d : Fin 2048) (n : Fin 512) :
    ((cfg0.win 4).blk t).view.read (Elt Ideal) f (ix2 d n) = f (ix2 d ⟨512 * (tj t).val + n.val, by omega⟩) := by
  refine congrArg f (funext fun x => Fin.ext ?_)
  have e4 := (idx t).2.2.2.2.1
  match x with
  | ⟨0, _⟩ =>
    refine (Pipeline.Window.rect_emb_val win0_4 t (ix2 d n) 0 rfl).trans ?_
    rw [e4]
    show 0 * 2048 + d.val = d.val
    omega
  | ⟨1, _⟩ =>
    refine (Pipeline.Window.rect_emb_val win0_4 t (ix2 d n) 1 rfl).trans ?_
    rw [e4]
    show (tj t).val * 512 + n.val = 512 * (tj t).val + n.val
    omega

theorem blk_5 (f : FVec Ideal S3x2x5632 .f32) (k : Fin 3) (h : Fin 2) (n : Fin 512) :
    ((cfg0.win 5).blk t).view.read (Elt Ideal) f (ix3 k h n) = f (ix3 k h ⟨512 * (tj t).val + n.val, by omega⟩) := by
  refine congrArg f (funext fun x => Fin.ext ?_)
  have e5 := (idx t).2.2.2.2.2.1
  match x with
  | ⟨0, _⟩ =>
    refine (Pipeline.Window.rect_emb_val win0_5 t (ix3 k h n) 0 rfl).trans ?_
    rw [e5]
    show 0 * 3 + k.val = k.val
    omega
  | ⟨1, _⟩ =>
    refine (Pipeline.Window.rect_emb_val win0_5 t (ix3 k h n) 1 rfl).trans ?_
    rw [e5]
    show 0 * 2 + h.val = h.val
    omega
  | ⟨2, _⟩ =>
    refine (Pipeline.Window.rect_emb_val win0_5 t (ix3 k h n) 2 rfl).trans ?_
    rw [e5]
    show (tj t).val * 512 + n.val = 512 * (tj t).val + n.val
    omega

theorem blk_6 (f : FVec Ideal S1x2x5632 .f32) (h : Fin 2) (n : Fin 512) :
    ((cfg0.win 6).blk t).view.read (Elt Ideal) f (ix3 0 h n) = f (ix3 0 h ⟨512 * (tj t).val + n.val, by omega⟩) := by
  refine congrArg f (funext fun x => Fin.ext ?_)
  have e6 := (idx t).2.2.2.2.2.2.1
  match x with
  | ⟨0, _⟩ =>
    refine (Pipeline.Window.rect_emb_val win0_6 t (ix3 0 h n) 0 rfl).trans ?_
    rw [e6]
    show 0 * 1 + 0 = 0
    omega
  | ⟨1, _⟩ =>
    refine (Pipeline.Window.rect_emb_val win0_6 t (ix3 0 h n) 1 rfl).trans ?_
    rw [e6]
    show 0 * 2 + h.val = h.val
    omega
  | ⟨2, _⟩ =>
    refine (Pipeline.Window.rect_emb_val win0_6 t (ix3 0 h n) 2 rfl).trans ?_
    rw [e6]
    show (tj t).val * 512 + n.val = 512 * (tj t).val + n.val
    omega

theorem blk_7 (f : FVec Ideal S5632x2048 .bf16) (n : Fin 512) (e : Fin 2048) :
    ((cfg0.win 7).blk t).view.read (Elt Ideal) f (ix2 n e) = f (ix2 ⟨512 * (tj t).val + n.val, by omega⟩ e) := by
  refine congrArg f (funext fun x => Fin.ext ?_)
  have e7 := (idx t).2.2.2.2.2.2.2.1
  match x with
  | ⟨0, _⟩ =>
    refine (Pipeline.Window.rect_emb_val win0_7 t (ix2 n e) 0 rfl).trans ?_
    rw [e7]
    show (tj t).val * 512 + n.val = 512 * (tj t).val + n.val
    omega
  | ⟨1, _⟩ =>
    refine (Pipeline.Window.rect_emb_val win0_7 t (ix2 n e) 1 rfl).trans ?_
    rw [e7]
    show 0 * 2048 + e.val = e.val
    omega

theorem blk_8 (f : FVec Ideal S2x2x2x5632 .f32) (a : Fin 2) (h : Fin 2) (n : Fin 512) :
    ((cfg0.win 8).blk t).view.read (Elt Ideal) f (ix4 0 a h n) = f (ix4 (tb t) a h ⟨512 * (tj t).val + n.val, by omega⟩) := by
  refine congrArg f (funext fun x => Fin.ext ?_)
  have e8 := (idx t).2.2.2.2.2.2.2.2
  match x with
  | ⟨0, _⟩ =>
    refine (Pipeline.Window.rect_emb_val win0_8 t (ix4 0 a h n) 0 rfl).trans ?_
    rw [e8]
    show (tb t).val * 1 + 0 = (tb t).val
    omega
  | ⟨1, _⟩ =>
    refine (Pipeline.Window.rect_emb_val win0_8 t (ix4 0 a h n) 1 rfl).trans ?_
    rw [e8]
    show 0 * 2 + a.val = a.val
    omega
  | ⟨2, _⟩ =>
    refine (Pipeline.Window.rect_emb_val win0_8 t (ix4 0 a h n) 2 rfl).trans ?_
    rw [e8]
    show 0 * 2 + h.val = h.val
    omega
  | ⟨3, _⟩ =>
    refine (Pipeline.Window.rect_emb_val win0_8 t (ix4 0 a h n) 3 rfl).trans ?_
    rw [e8]
    show (tj t).val * 512 + n.val = 512 * (tj t).val + n.val
    omega

end Cert.Ffn

end
-- ==== Proof.FfnValue.lean ====
/- The array the feed-forward kernel leaves is the reference's: the tiles' rows are the reference's rows, and each step of a tile adds
   its share of the columns. -/
module

public import proofs.«01_k».proof.Proof.FfnRef
public import proofs.«01_k».proof.Proof.FfnHost

@[expose] public section

set_option maxRecDepth 16384

noncomputable section

namespace Cert.Ffn

open Cert.Kernel2Ideal Cert.Kernel2Ideal.Gen Cert.Kernel2Ideal.Value
open Idealize.ShloMosaic Idealize.ShloMosaic.TcCoe

variable (m : (ℓ : Loc nD τ sig) → Buf (Elt Ideal) ℓ) (c : Dev nD) (t : Fin cfg0.N)

/-! ### One step against the reference's stages -/

/-- The reference's projected rows, after the two given. -/
abbrev pad : FVec Ideal Cert.Reference2Ideal.S2x4098x11264 .f32 := Ref.padT (a0 m c) (a1 m c) (a2 m c) (a6 m c)
/-- Its filter. -/
abbrev fil : FVec Ideal Cert.Reference2Ideal.S2x4096x11264 .f32 := Ref.convT (a3 m c) (a4 m c) (pad m c)
/-- Its gated half. -/
abbrev gat : FVec Ideal Cert.Reference2Ideal.S2x4096x5632 .f32 := Ref.actT (fil m c)

/-- Normalised rows of a tile: the reference's, where the sequence has them. -/
def Rows (b : Fin 2) (i : Fin 8) (H : FVec Ideal S1x528x2048 .bf16) : Prop :=
  ∀ (r : Fin 528) (d : Fin 2048) (h : 16 ≤ 512 * i.val + r.val), H (ix3 0 r d) = Ref.hnT (a0 m c) (a1 m c) (ix3 b ⟨512 * i.val + r.val - 16, by omega⟩ d)

theorem blk_x (r : Fin 512) (e : Fin 2048) : iblk m c 0 t (ix3 0 r e) = a0 m c (ix3 (tb t) ⟨512 * (ti t).val + r.val, by omega⟩ e) :=
  (blk_0 t (V m c main_arg0) r e).trans (congrFun (V_x m c) _)

theorem blk_h (r : Fin 16) (e : Fin 2048) : iblk m c 1 t (ix3 0 r e) = a0 m c (ix3 (tb t) ⟨16 * (32 * (ti t).val - 1) + r.val, by omega⟩ e) :=
  (blk_1 t (V m c main_arg0) r e).trans (congrFun (V_x m c) _)

theorem blk_gain (e : Fin 2048) : iblk m c 2 t (ix2 0 e) = a1 m c (ix1 e) :=
  (blk_2 t (V m c main_v5) e).trans ((congrFun (V_gain m c) _).trans (gainT_at _ e))

theorem blk_wg (d : Fin 2048) (n : Fin 512) : iblk m c 3 t (ix2 d n) = a2 m c (ix2 d ⟨512 * (tj t).val + n.val, by omega⟩) :=
  (blk_3 t (V m c main_v1) d n).trans ((congrFun (V_wg m c) _).trans (wgT_at _ d _))

theorem blk_wv (d : Fin 2048) (n : Fin 512) : iblk m c 4 t (ix2 d n) = a2 m c (ix2 d ⟨5632 + (512 * (tj t).val + n.val), by omega⟩) :=
  (blk_4 t (V m c main_v3) d n).trans ((congrFun (V_wv m c) _).trans (wvT_at _ d _))

theorem blk_filt (k : Fin 3) (h : Fin 2) (n : Fin 512) : iblk m c 5 t (ix3 k h n) = a3 m c (ix2 k ⟨5632 * h.val + (512 * (tj t).val + n.val), by omega⟩) :=
  (blk_5 t (V m c main_v6) k h n).trans ((congrFun (V_filt m c) _).trans (filtT_at _ k h _))

theorem blk_bias (h : Fin 2) (n : Fin 512) : iblk m c 6 t (ix3 0 h n) = a4 m c (ix1 ⟨5632 * h.val + (512 * (tj t).val + n.val), by omega⟩) :=
  (blk_6 t (V m c main_v7) h n).trans ((congrFun (V_bias m c) _).trans (biasT_at _ h _))

theorem blk_wd (n : Fin 512) (e : Fin 2048) : iblk m c 7 t (ix2 n e) = a5 m c (ix2 ⟨512 * (tj t).val + n.val, by omega⟩ e) :=
  (blk_7 t (V m c main_v4) n e).trans ((congrFun (V_wd m c) _).trans (wdT_at _ _ e))

theorem blk_prev (a h : Fin 2) (n : Fin 512) : iblk m c 8 t (ix4 0 a h n) = a6 m c (ix3 (tb t) a ⟨5632 * h.val + (512 * (tj t).val + n.val), by omega⟩) :=
  (blk_8 t (V m c main_v8) a h n).trans ((congrFun (V_prev m c) _).trans (prevT_at _ _ a h _))

/-- The rows a tile's first step makes. -/
theorem rows_first : Rows m c (tb t) (ti t) (hnA (iblk m c 0 t) (iblk m c 1 t) (iblk m c 2 t)) := by
  intro r d h
  rw [Ref.hnT_at]
  unfold hnA
  by_cases hr : r.val < 16
  · refine (dif_pos hr).trans ?_
    refine congrArg₂ (fun a b => rms a b d) (funext fun e => ?_) (funext fun e => blk_gain m c t e)
    refine (blk_h m c t ⟨r.val, hr⟩ e).trans (congrArg (fun z => a0 m c (ix3 (tb t) z e)) (Fin.ext ?_))
    dsimp only
    omega
  · refine (dif_neg hr).trans ?_
    refine congrArg₂ (fun a b => rms a b d) (funext fun e => ?_) (funext fun e => blk_gain m c t e)
    refine (blk_x m c t ⟨r.val - 16, by omega⟩ e).trans (congrArg (fun z => a0 m c (ix3 (tb t) z e)) (Fin.ext ?_))
    dsimp only
    omega

variable {m c t} in
/-- A row of a tile's projection, of either half, is the reference's. -/
theorem tap_eq {H : FVec Ideal S1x528x2048 .bf16} (hH : Rows m c (tb t) (ti t) H) {W : FVec Ideal S2048x512 .bf16} (hf : Fin 2)
    (hW : ∀ d n, W (ix2 d n) = a2 m c (ix2 d ⟨5632 * hf.val + (512 * (tj t).val + n.val), by omega⟩)) (r : Fin 528) (n : Fin 512) (h14 : 14 ≤ r.val) :
    tap (grid0.coords t) H W (iblk m c 8 t) hf r n
      = pad m c (ix3 (tb t) ⟨512 * (ti t).val + r.val - 14, by omega⟩ ⟨5632 * hf.val + (512 * (tj t).val + n.val), by omega⟩) := by
  unfold tap
  rw [coord_ti]
  by_cases h : (ti t).val = 0 ∧ r.val < 16
  · rw [if_pos h, blk_prev]
    refine (Ref.padT_lo ..).symm.trans (congrArg (fun z => pad m c (ix3 (tb t) z _)) (Fin.ext ?_))
    dsimp only
    omega
  · rw [if_neg h]
    have e : (⟨512 * (ti t).val + r.val - 14, by omega⟩ : Fin 4098) = ⟨2 + (⟨512 * (ti t).val + r.val - 16, by omega⟩ : Fin 4096).val, by dsimp only; omega⟩ :=
      Fin.ext (by dsimp only; omega)
    unfold pad
    rw [e, Ref.padT_hi, Ref.uT_at]
    unfold up
    refine Finset.sum_congr rfl fun d _ => congrArg₂ (· * ·) ?_ (hW d n)
    exact hH r d (by omega)

variable {m c t} in
theorem cv_eq {H : FVec Ideal S1x528x2048 .bf16} (hH : Rows m c (tb t) (ti t) H) {W : FVec Ideal S2048x512 .bf16} (hf : Fin 2)
    (hW : ∀ d n, W (ix2 d n) = a2 m c (ix2 d ⟨5632 * hf.val + (512 * (tj t).val + n.val), by omega⟩)) (q n : Fin 512) :
    cv (grid0.coords t) H W (iblk m c 5 t) (iblk m c 6 t) (iblk m c 8 t) hf q n
      = fil m c (ix3 (tb t) ⟨512 * (ti t).val + q.val, by omega⟩ ⟨5632 * hf.val + (512 * (tj t).val + n.val), by omega⟩) := by
  unfold cv fil
  rw [Ref.convT_at, blk_bias, blk_filt, blk_filt, blk_filt, tap_eq hH hf hW _ n (by dsimp only; omega), tap_eq hH hf hW _ n (by dsimp only; omega), tap_eq hH hf hW _ n (by dsimp only; omega)]
  have e : ∀ x x' y y' z z' : Fin 4098, x = x' → y = y' → z = z' → ∀ (b : Fin 2) (k : Fin 11264) (s0 s1 s2 s3 : EReal),
      conv s0 s1 s2 s3 (pad m c (ix3 b x k)) (pad m c (ix3 b y k)) (pad m c (ix3 b z k)) = conv s0 s1 s2 s3 (pad m c (ix3 b x' k)) (pad m c (ix3 b y' k)) (pad m c (ix3 b z' k)) := by
    rintro _ _ _ _ _ _ rfl rfl rfl _ _ _ _ _ _; rfl
  exact e _ _ _ _ _ _ (Fin.ext (by dsimp only; omega)) (Fin.ext (by dsimp only; omega)) (Fin.ext (by dsimp only; omega)) _ _ _ _ _ _

variable {m c t} in
/-- A gated entry of a step is the reference's. -/
theorem ac_eq {H : FVec Ideal S1x528x2048 .bf16} (hH : Rows m c (tb t) (ti t) H) (q n : Fin 512) :
    ac (grid0.coords t) H (iblk m c 3 t) (iblk m c 4 t) (iblk m c 5 t) (iblk m c 6 t) (iblk m c 8 t) q n
      = gat m c (ix3 (tb t) ⟨512 * (ti t).val + q.val, by omega⟩ ⟨512 * (tj t).val + n.val, by omega⟩) := by
  unfold ac gat
  rw [Ref.actT_at]
  refine congrArg₂ act ((cv_eq hH 0 (fun d n => ?_) q n).trans (congrArg (fun z => fil m c (ix3 _ _ z)) (Fin.ext ?_)))
    ((cv_eq hH 1 (fun d n => ?_) q n).trans (congrArg (fun z => fil m c (ix3 _ _ z)) (Fin.ext ?_)))
  · exact (blk_wg m c t d n).trans (congrArg (fun z => a2 m c (ix2 d z)) (Fin.ext (by simp)))
  · simp
  · exact (blk_wv m c t d n).trans (congrArg (fun z => a2 m c (ix2 d z)) (Fin.ext (by simp)))
  · simp

/-! ### A tile's steps -/

/-- What step `k` of a tile adds. -/
def part (b : Fin 2) (s : Fin 4096) (e : Fin 2048) (k : ℕ) : EReal :=
  ∑ n : Fin 512, gat m c (ix3 b s ⟨512 * (k % 11) + n.val, by omega⟩) * a5 m c (ix2 ⟨512 * (k % 11) + n.val, by omega⟩ e)

variable {m c t} in
theorem part_eq {H : FVec Ideal S1x528x2048 .bf16} (hH : Rows m c (tb t) (ti t) H) (q : Fin 512) (e : Fin 2048) (k : ℕ) (hk : k = (tj t).val) :
    ∑ n, ac (grid0.coords t) H (iblk m c 3 t) (iblk m c 4 t) (iblk m c 5 t) (iblk m c 6 t) (iblk m c 8 t) q n * iblk m c 7 t (ix2 n e)
      = part m c (tb t) ⟨512 * (ti t).val + q.val, by omega⟩ e k := by
  subst hk
  unfold part
  refine Finset.sum_congr rfl fun n _ => ?_
  rw [ac_eq hH, blk_wd]
  have h : (tj t).val % 11 = (tj t).val := Nat.mod_eq_of_lt (tj t).isLt
  simp only [h]

/-- The result's block and the rows kept, after step `j` of tile `g`. -/
theorem outs (g : Fin 16) (b : Fin 2) (i : Fin 8) (hg : g.val = 8 * b.val + i.val) : ∀ (j : ℕ) (hj : j < 11) (hn : 11 * g.val + j < cfg0.N),
    (∀ (q : Fin 512) (e : Fin 2048), (outsAt0 m c (11 * g.val + j) hn).1 (ix3 0 q e) = a0 m c (ix3 b ⟨512 * i.val + q.val, by omega⟩ e)
      + ∑ k ∈ Finset.range (j + 1), part m c b ⟨512 * i.val + q.val, by omega⟩ e k) ∧ Rows m c b i (outsAt0 m c (11 * g.val + j) hn).2.2
  | 0, hj, hn => by
    have h0 : (⟨11 * g.val + 0, hn⟩ : Fin cfg0.N).val % 11 = 0 := by dsimp only; omega
    have eb : tb ⟨11 * g.val + 0, hn⟩ = b := Fin.ext (by simp only [tb]; omega)
    have ei : ti ⟨11 * g.val + 0, hn⟩ = i := Fin.ext (by simp only [ti]; omega)
    have e0 := outsAt0_A m c ⟨11 * g.val + 0, hn⟩ h0
    have hR := rows_first m c ⟨11 * g.val + 0, hn⟩
    subst eb ei
    refine ⟨fun q e => ?_, fun r d h => ?_⟩
    · have e1 := congrFun (congrArg Prod.fst e0) (ix3 0 q e)
      dsimp only at e1
      rw [outA] at e1
      refine e1.trans ?_
      rw [part_eq hR q e 0 (by simp only [tj]; omega), blk_x]
      simp
    · have e1 := congrFun (congrArg (fun z => z.2.2) e0) (ix3 0 r d)
      dsimp only at e1
      rw [soutA] at e1
      refine e1.trans ?_
      exact hR r d h
  | j + 1, hj, hn => by
    have h0 : ¬(⟨11 * g.val + (j + 1), hn⟩ : Fin cfg0.N).val % 11 = 0 := by dsimp only; omega
    have eb : tb ⟨11 * g.val + (j + 1), hn⟩ = b := Fin.ext (by simp only [tb]; omega)
    have ei : ti ⟨11 * g.val + (j + 1), hn⟩ = i := Fin.ext (by simp only [ti]; omega)
    have ih := outs g b i hg j (by omega) (Nat.lt_of_succ_lt hn)
    have e0 := (outsAt0_succ m c (11 * g.val + j) hn).trans (stAt0_B m c ⟨11 * g.val + (j + 1), hn⟩ (outsAt0 m c (11 * g.val + j) (Nat.lt_of_succ_lt hn)) h0)
    generalize outsAt0 m c (11 * g.val + j) (Nat.lt_of_succ_lt hn) = acc at ih e0
    subst eb ei
    refine ⟨fun q e => ?_, fun r d h => ?_⟩
    · have e1 := congrFun (congrArg Prod.fst e0) (ix3 0 q e)
      dsimp only at e1
      rw [outB] at e1
      refine e1.trans ?_
      rw [part_eq ih.2 q e (j + 1) (by simp only [tj]; omega), ih.1, Finset.sum_range_succ _ (j + 1), add_assoc]
    · have e1 := congrFun (congrArg (fun z => z.2.2) e0) (ix3 0 r d)
      dsimp only at e1
      refine e1.trans ?_
      exact ih.2 r d h

/-- A tile's eleven steps sum over all the columns. -/
theorem sum_cols (f : Fin 5632 → EReal) :
    ∑ k ∈ Finset.range 11, ∑ n : Fin 512, f ⟨512 * (k % 11) + n.val, by omega⟩ = ∑ k, f k := by
  rw [Finset.sum_range fun k => ∑ n : Fin 512, f ⟨512 * (k % 11) + n.val, by omega⟩, ← Fintype.sum_prod_type']
  refine Fintype.sum_equiv (finProdFinEquiv (m := 11) (n := 512)) _ _ fun p => congrArg f (Fin.ext ?_)
  have : p.1.val % 11 = p.1.val := Nat.mod_eq_of_lt p.1.isLt
  simp only [finProdFinEquiv, Equiv.coe_fn_mk]
  omega

/-- THE ARRAY THE KERNEL LEAVES is the reference's. -/
theorem arr_eq : (dats m 0 c).arrAt 9 cfg0.N = Ref.outT (a0 m c) (a1 m c) (a2 m c) (a3 m c) (a4 m c) (a5 m c) (a6 m c) := by
  rw [final9]
  funext y
  obtain ⟨b, s, e, rfl⟩ : ∃ (b : Fin 2) (s : Fin 4096) (e : Fin 2048), y = ix3 b s e :=
    ⟨y 0, y 1, y 2, funext fun a => match a with | ⟨0, _⟩ => rfl | ⟨1, _⟩ => rfl | ⟨2, _⟩ => rfl⟩
  have hb := b.isLt
  have hs := s.isLt
  have hp : pt9Of (ix3 b s e) = 11 * (8 * b.val + s.val / 512) + 10 := by
    show 11 * (8 * (b.val / 1 - 0) + 1 * (s.val / 512 - 0) + 1 * (e.val / 2048 - 0)) + 10 = _
    have := e.isLt
    omega
  have hlt : pt9Of (ix3 b s e) < cfg0.N := by rw [hp]; exact lt_of_lt_of_eq (by omega) N_0.symm
  refine (dif_pos hlt).trans ?_
  rw [← outsAt0_sweep m c _ hlt]
  have hl : loc9Of (ix3 b s e) = ix3 0 ⟨s.val % 512, by omega⟩ e := funext fun a => match a with
    | ⟨0, _⟩ => Fin.ext (Nat.mod_one _)
    | ⟨1, _⟩ => rfl
    | ⟨2, _⟩ => Fin.ext (Nat.mod_eq_of_lt e.isLt)
  rw [hl]
  have key := (outs m c ⟨8 * b.val + s.val / 512, by omega⟩ b ⟨s.val / 512, by omega⟩ rfl 10 (by omega) (by rw [← hp]; exact hlt)).1 ⟨s.val % 512, by omega⟩ e
  have es : (⟨512 * (s.val / 512) + s.val % 512, by omega⟩ : Fin 4096) = s := Fin.ext (by dsimp only; omega)
  dsimp only at key
  rw [es] at key
  have step : ∀ (n n' : ℕ) (h : n < cfg0.N) (h' : n' < cfg0.N), n = n' → outsAt0 m c n h = outsAt0 m c n' h' := by
    intro n n' h h' hn; subst hn; rfl
  rw [step _ _ hlt (by rw [← hp]; exact hlt) hp, key, Ref.outT_at]
  exact congrArg (a0 m c (ix3 b s e) + ·) (sum_cols fun k => gat m c (ix3 b s k) * a5 m c (ix2 k e))

end Cert.Ffn

end
-- ==== Proof.lean ====
module

public import proofs.«01_k».proof.Defs
public import proofs.«01_k».proof.Proof.Gen.Kernel
public import proofs.«01_k».proof.Proof.Machine
public import proofs.«01_k».proof.Proof.Gen.KernelIdeal
public import proofs.«01_k».proof.Proof.Gen.ReferenceIdeal
public import proofs.«01_k».proof.Proof.Gen.ReferenceIdeal.Run
public import proofs.«01_k».proof.Proof.Finite
public import proofs.«01_k».proof.Proof.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.FfnValue
public import Idealize.ShloMosaic.Lib.Quiescent

@[expose] public section

noncomputable section

namespace Cert.Proof

open Idealize.ShloMosaic Idealize.SL.Sem

theorem reference_frame : @Cert.quiescent_ReferenceIdeal Cert.ReferenceIdeal.Gen.facts := fun m ρ _ =>
  (θ_run _ _ _).mono (fun r h => ⟨fun c => (h c).2, sem_eq_zero_of_no_sems (by decide) r.2⟩) (Cert.ReferenceIdeal.Value.run m ρ)

theorem same_array (m : (ℓ : Loc Cert.KernelIdeal.nD Cert.KernelIdeal.τ Cert.KernelIdeal.sig) → Buf (Elt Ideal) ℓ)
    (h : @Cert.Pre_KernelIdeal_finite_scores Cert.Flash.pre_facts m) (c : Dev Cert.KernelIdeal.nD) :
    (Cert.Flash.dats m 0 c).arrAt 3 Cert.KernelIdeal.cfg0.N
      = Cert.Flash.Ref.outT (Cert.Flash.a0 m c) (Cert.Flash.a1 m c) (Cert.Flash.a2 m c) (Cert.Flash.a3 m c) (Cert.Flash.a4 m c) :=
  Cert.Flash.arr_eq m c (Cert.Flash.real_of_lt (h c).1) (Cert.Flash.real_of_lt (h c).2.1) (Cert.Flash.real_of_lt (h c).2.2.1) (Cert.Flash.real_of_lt (h c).2.2.2)

theorem algebraic : @Cert.algebraic_KernelIdeal_ReferenceIdeal_pre_finite_scores Cert.KernelIdeal.Gen.facts Cert.ReferenceIdeal.Gen.facts Cert.Flash.pre_facts :=
  fun m g m2 g2 hp he =>
    ⟨fun c => Cert.Flash.Ref.outT (Cert.Flash.a0 m c) (Cert.Flash.a1 m c) (Cert.Flash.a2 m c) (Cert.Flash.a3 m c) (Cert.Flash.a4 m c),
      (θ_run _ _ _).mono (fun r h c => ⟨(h c).1.trans (same_array m hp c), (h c).2⟩) (Cert.Flash.kernel_run m g),
      (θ_run _ _ _).mono (fun r h c => ⟨by
        obtain ⟨e0, e1, e2, e3, e4⟩ := he c
        refine (h c).1.trans ((Cert.Flash.Ref.res_eq m2 c).trans ?_)
        rw [e0, e1, e2, e3, e4], (h c).2⟩) (Cert.ReferenceIdeal.Value.run m2 g2)⟩

theorem reference_frame2 : @Cert.quiescent_Reference2Ideal Cert.Reference2Ideal.Gen.facts := fun m ρ _ =>
  (θ_run _ _ _).mono (fun r h => ⟨fun c => (h c).2, sem_eq_zero_of_no_sems (by decide) r.2⟩) (Cert.Reference2Ideal.Value.run m ρ)

theorem algebraic2 : @Cert.algebraic_Kernel2Ideal_Reference2Ideal Cert.Kernel2Ideal.Gen.facts Cert.Reference2Ideal.Gen.facts :=
  fun m g m2 g2 _ he =>
    ⟨fun c => Cert.Ffn.Ref.outT (Cert.Ffn.a0 m c) (Cert.Ffn.a1 m c) (Cert.Ffn.a2 m c) (Cert.Ffn.a3 m c) (Cert.Ffn.a4 m c) (Cert.Ffn.a5 m c) (Cert.Ffn.a6 m c),
      (θ_run _ _ _).mono (fun r h c => ⟨(h c).1.trans (Cert.Ffn.arr_eq m c), (h c).2.2⟩) (Cert.Kernel2Ideal.Value.run_blocks m g),
      (θ_run _ _ _).mono (fun r h c => ⟨by
        obtain ⟨e0, e1, e2, e3, e4, e5, e6⟩ := he c
        refine (h c).1.trans ((Cert.Ffn.Ref.res_eq m2 c).trans ?_)
        rw [e0, e1, e2, e3, e4, e5, e6], (h c).2⟩) (Cert.Reference2Ideal.Value.run m2 g2)⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Flash.pre_facts,
    fun m ρ _ => Cert.Flash.Machine.kernel_frame m ρ, fun m ρ _ => Cert.Flash.kernel_frame m ρ, fun m ρ _ => Cert.Flash.kernel_frame m ρ,
    reference_frame, fun m ρ _ => reference_frame m ρ trivial,
    fun m ρ _ => Cert.Kernel2.Gen.frame m ρ, fun m ρ _ => Cert.Kernel2Ideal.Gen.frame m ρ, reference_frame2,
    trivial, algebraic, trivial, algebraic2⟩

end Cert.Proof

end
